-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def preserves_Kernel_KernelIdeal : Prop :=
  IdealRules.named_const.Statement Cert.KernelIdeal.κ "ortho" .f32 0x3AB504F3#32 (((Real.sqrt 524288)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v125)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v125) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S16384x9216 : Shape := ⟨2, ![16384, 9216]⟩
abbrev S8x128x128 : Shape := ⟨3, ![8, 128, 128]⟩
abbrev S16384x1024 : Shape := ⟨2, ![16384, 1024]⟩
abbrev S_ : Shape := ⟨0, ![]⟩

class Facts : Prop where
  slices_S16384x9216_S16384x1024_0_8192 : S16384x9216.Slices ![0, 8192] S16384x1024
  bitsLt_bf16_f32 : FTy.bits .bf16 < FTy.bits .f32
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_

variable [Facts]

def fn {F : FTy → Type} [FloatOps F] (main_arg0 : FVec F S16384x9216 .bf16) (main_arg1 : FVec F S8x128x128 .f32) : IVec S_ 1 :=
  let main_v0 : FVec F S16384x1024 .bf16 := (extractStridedSlice S16384x1024 ![0, 8192] · slices_S16384x9216_S16384x1024_0_8192) main_arg0
  let main_v1 : FVec F S16384x1024 .f32 := (extf .f32 · bitsLt_bf16_f32) main_v0
  let main_v2 : FVec F S16384x1024 .f32 := Host.absf main_v1
  let main_cst : FVec F S_ .f32 := constant S_ .f32 0x7F800000#32
  let main_v3 : FVec F S16384x1024 .f32 := broadcastInDim S16384x1024 ![] bcast_S_S16384x1024 main_cst
  let main_v4 : IVec S16384x1024 1 := cmpf .olt main_v2 main_v3
  let main_c : IVec S_ 1 := constantI S_ 1 1#1
  let main_v5 : IVec S_ 1 := (fun x v => Host.reduce IntOp.andi x v reducesTo_S16384x1024_S_d0_1 h_S_) main_v4 main_c
  let main_v6 : FVec F S8x128x128 .f32 := Host.absf main_arg1
  let main_cst_0 : FVec F S_ .f32 := constant S_ .f32 0x7F800000#32
  let main_v7 : FVec F S8x128x128 .f32 := broadcastInDim S8x128x128 ![] bcast_S_S8x128x128 main_cst_0
  let main_v8 : IVec S8x128x128 1 := cmpf .olt main_v6 main_v7
  let main_c_1 : IVec S_ 1 := constantI S_ 1 1#1
  let main_v9 : IVec S_ 1 := (fun x v => Host.reduce IntOp.andi x v reducesTo_S8x128x128_S_d0_1_2 h_S_) main_v8 main_c_1
  let main_v10 : IVec S_ 1 := andi main_v5 main_v9
  main_v10
-- ==== Kernel.lean ====
abbrev S16384x9216 : Shape := ⟨2, ![16384, 9216]⟩
abbrev S8x128x128 : Shape := ⟨3, ![8, 128, 128]⟩
abbrev S128 : Shape := ⟨1, ![128]⟩
abbrev S1x128 : Shape := ⟨2, ![1, 128]⟩
abbrev S16 : Shape := ⟨1, ![16]⟩
abbrev S16x1 : Shape := ⟨2, ![16, 1]⟩
abbrev S8 : Shape := ⟨1, ![8]⟩
abbrev S8x1 : Shape := ⟨2, ![8, 1]⟩
abbrev S16x128 : Shape := ⟨2, ![16, 128]⟩
abbrev S_ : Shape := ⟨0, ![]⟩
abbrev S8x128 : Shape := ⟨2, ![8, 128]⟩
abbrev S16x1x128 : Shape := ⟨3, ![16, 1, 128]⟩
abbrev S1x8x128 : Shape := ⟨3, ![1, 8, 128]⟩
abbrev S16x8x128 : Shape := ⟨3, ![16, 8, 128]⟩
abbrev S128x128 : Shape := ⟨2, ![128, 128]⟩
abbrev S1024 : Shape := ⟨1, ![1024]⟩
abbrev S1x1024 : Shape := ⟨2, ![1, 1024]⟩
abbrev S32 : Shape := ⟨1, ![32]⟩
abbrev S32x1 : Shape := ⟨2, ![32, 1]⟩
abbrev S32x1024 : Shape := ⟨2, ![32, 1024]⟩
abbrev S32x1x1024 : Shape := ⟨3, ![32, 1, 1024]⟩
abbrev S1x32x1024 : Shape := ⟨3, ![1, 32, 1024]⟩
abbrev S32x32x1024 : Shape := ⟨3, ![32, 32, 1024]⟩
abbrev S1024x1024 : Shape := ⟨2, ![1024, 1024]⟩
abbrev S1024x2048 : Shape := ⟨2, ![1024, 2048]⟩
abbrev S3 : Shape := ⟨1, ![3]⟩
abbrev S3x1 : Shape := ⟨2, ![3, 1]⟩
abbrev S3x1024 : Shape := ⟨2, ![3, 1024]⟩
abbrev S3x1024x1 : Shape := ⟨3, ![3, 1024, 1]⟩
abbrev S3x1024x128 : Shape := ⟨3, ![3, 1024, 128]⟩
abbrev S16384x1024 : Shape := ⟨2, ![16384, 1024]⟩
abbrev S4096x256 : Shape := ⟨2, ![4096, 256]⟩
abbrev S2x4096x256 : Shape := ⟨3, ![2, 4096, 256]⟩
abbrev S2x4096x128 : Shape := ⟨3, ![2, 4096, 128]⟩
abbrev S1x128x128 : Shape := ⟨3, ![1, 128, 128]⟩
abbrev S4096x128 : Shape := ⟨2, ![4096, 128]⟩
abbrev S1x4096x128 : Shape := ⟨3, ![1, 4096, 128]⟩
abbrev S1x1024x256 : Shape := ⟨3, ![1, 1024, 256]⟩
abbrev S1024x256 : Shape := ⟨2, ![1024, 256]⟩
abbrev S2048x256 : Shape := ⟨2, ![2048, 256]⟩
abbrev S1024x128 : Shape := ⟨2, ![1024, 128]⟩
abbrev S1x1024x128 : Shape := ⟨3, ![1, 1024, 128]⟩

abbrev nBuf : Space → Nat
  | .hbm => 225
  | .vmem => 12
  | .smem => 0
  | _ => 0

abbrev hbmTy0_0 (i : Nat) : BufTy := match i % 128 with
  | 0 => ⟨S16384x9216, .bf16⟩
  | 1 => ⟨S8x128x128, .f32⟩
  | 2 => ⟨S128, .i32⟩
  | 3 => ⟨S1x128, .i32⟩
  | 4 => ⟨S16, .i32⟩
  | 5 => ⟨S16x1, .i32⟩
  | 6 => ⟨S8, .i32⟩
  | 7 => ⟨S8x1, .i32⟩
  | 8 => ⟨S16x128, .i32⟩
  | 9 => ⟨S16x128, .i32⟩
  | 10 => ⟨S16x128, .i32⟩
  | 11 => ⟨S_, .i32⟩
  | 12 => ⟨S16x128, .i32⟩
  | 13 => ⟨S16x128, .i32⟩
  | 14 => ⟨S_, .i32⟩
  | 15 => ⟨S_, .i32⟩
  | 16 => ⟨S_, .i32⟩
  | 17 => ⟨S_, .i1⟩
  | 18 => ⟨S_, .i32⟩
  | 19 => ⟨S_, .i32⟩
  | 20 => ⟨S16x128, .i32⟩
  | 21 => ⟨S16x128, .i32⟩
  | 22 => ⟨S_, .i32⟩
  | 23 => ⟨S16x128, .i32⟩
  | 24 => ⟨S16x128, .i1⟩
  | 25 => ⟨S_, .i32⟩
  | 26 => ⟨S16x128, .i32⟩
  | 27 => ⟨S16x128, .i1⟩
  | 28 => ⟨S_, .i32⟩
  | 29 => ⟨S_, .i1⟩
  | 30 => ⟨S16x128, .i1⟩
  | 31 => ⟨S16x128, .i1⟩
  | 32 => ⟨S16x128, .i1⟩
  | 33 => ⟨S16x128, .i32⟩
  | 34 => ⟨S16x128, .i32⟩
  | 35 => ⟨S16x128, .i32⟩
  | 36 => ⟨S16x128, .f32⟩
  | 37 => ⟨S_, .f32⟩
  | 38 => ⟨S_, .f32⟩
  | 39 => ⟨S_, .f32⟩
  | 40 => ⟨S_, .f32⟩
  | 41 => ⟨S16x128, .f32⟩
  | 42 => ⟨S16x128, .f32⟩
  | 43 => ⟨S8x128, .i32⟩
  | 44 => ⟨S8x128, .i32⟩
  | 45 => ⟨S8x128, .i32⟩
  | 46 => ⟨S_, .i32⟩
  | 47 => ⟨S_, .i32⟩
  | 48 => ⟨S_, .i32⟩
  | 49 => ⟨S_, .i1⟩
  | 50 => ⟨S_, .i32⟩
  | 51 => ⟨S_, .i32⟩
  | 52 => ⟨S8x128, .i32⟩
  | 53 => ⟨S8x128, .i32⟩
  | 54 => ⟨S_, .i32⟩
  | 55 => ⟨S8x128, .i32⟩
  | 56 => ⟨S8x128, .i1⟩
  | 57 => ⟨S_, .i32⟩
  | 58 => ⟨S8x128, .i32⟩
  | 59 => ⟨S8x128, .i1⟩
  | 60 => ⟨S_, .i32⟩
  | 61 => ⟨S_, .i1⟩
  | 62 => ⟨S8x128, .i1⟩
  | 63 => ⟨S8x128, .i1⟩
  | 64 => ⟨S8x128, .i1⟩
  | 65 => ⟨S8x128, .i32⟩
  | 66 => ⟨S8x128, .i32⟩
  | 67 => ⟨S8x128, .i32⟩
  | 68 => ⟨S8x128, .f32⟩
  | 69 => ⟨S_, .f32⟩
  | 70 => ⟨S_, .f32⟩
  | 71 => ⟨S_, .f32⟩
  | 72 => ⟨S_, .f32⟩
  | 73 => ⟨S8x128, .f32⟩
  | 74 => ⟨S8x128, .f32⟩
  | 75 => ⟨S16x128, .f32⟩
  | 76 => ⟨S16x1x128, .f32⟩
  | 77 => ⟨S16x128, .f32⟩
  | 78 => ⟨S16x1x128, .f32⟩
  | 79 => ⟨S8x128, .f32⟩
  | 80 => ⟨S1x8x128, .f32⟩
  | 81 => ⟨S8x128, .f32⟩
  | 82 => ⟨S1x8x128, .f32⟩
  | 83 => ⟨S16x8x128, .f32⟩
  | 84 => ⟨S16x8x128, .f32⟩
  | 85 => ⟨S16x8x128, .f32⟩
  | 86 => ⟨S16x8x128, .f32⟩
  | 87 => ⟨S16x8x128, .f32⟩
  | 88 => ⟨S16x8x128, .f32⟩
  | 89 => ⟨S16x8x128, .f32⟩
  | 90 => ⟨S128x128, .f32⟩
  | 91 => ⟨S16x8x128, .f32⟩
  | 92 => ⟨S16x8x128, .f32⟩
  | 93 => ⟨S16x8x128, .f32⟩
  | 94 => ⟨S16x8x128, .f32⟩
  | 95 => ⟨S16x8x128, .f32⟩
  | 96 => ⟨S16x8x128, .f32⟩
  | 97 => ⟨S16x8x128, .f32⟩
  | 98 => ⟨S128x128, .f32⟩
  | 99 => ⟨S1024, .i32⟩
  | 100 => ⟨S1x1024, .i32⟩
  | 101 => ⟨S32, .i32⟩
  | 102 => ⟨S32x1, .i32⟩
  | 103 => ⟨S32, .i32⟩
  | 104 => ⟨S32x1, .i32⟩
  | 105 => ⟨S32x1024, .i32⟩
  | 106 => ⟨S32x1024, .i32⟩
  | 107 => ⟨S32x1024, .i32⟩
  | 108 => ⟨S_, .i32⟩
  | 109 => ⟨S32x1024, .i32⟩
  | 110 => ⟨S32x1024, .i32⟩
  | 111 => ⟨S_, .i32⟩
  | 112 => ⟨S_, .i32⟩
  | 113 => ⟨S_, .i32⟩
  | 114 => ⟨S_, .i1⟩
  | 115 => ⟨S_, .i32⟩
  | 116 => ⟨S_, .i32⟩
  | 117 => ⟨S32x1024, .i32⟩
  | 118 => ⟨S32x1024, .i32⟩
  | 119 => ⟨S_, .i32⟩
  | 120 => ⟨S32x1024, .i32⟩
  | 121 => ⟨S32x1024, .i1⟩
  | 122 => ⟨S_, .i32⟩
  | 123 => ⟨S32x1024, .i32⟩
  | 124 => ⟨S32x1024, .i1⟩
  | 125 => ⟨S_, .i32⟩
  | 126 => ⟨S_, .i1⟩
  | 127 => ⟨S32x1024, .i1⟩
  | _ => ⟨S16384x9216, .bf16⟩

abbrev hbmTy0_1 (i : Nat) : BufTy := match i % 128 with
  | 0 => ⟨S32x1024, .i1⟩
  | 1 => ⟨S32x1024, .i1⟩
  | 2 => ⟨S32x1024, .i32⟩
  | 3 => ⟨S32x1024, .i32⟩
  | 4 => ⟨S32x1024, .i32⟩
  | 5 => ⟨S32x1024, .f32⟩
  | 6 => ⟨S_, .f32⟩
  | 7 => ⟨S_, .f32⟩
  | 8 => ⟨S_, .f32⟩
  | 9 => ⟨S_, .f32⟩
  | 10 => ⟨S32x1024, .f32⟩
  | 11 => ⟨S32x1024, .f32⟩
  | 12 => ⟨S32x1024, .i32⟩
  | 13 => ⟨S32x1024, .i32⟩
  | 14 => ⟨S32x1024, .i32⟩
  | 15 => ⟨S_, .i32⟩
  | 16 => ⟨S_, .i32⟩
  | 17 => ⟨S_, .i32⟩
  | 18 => ⟨S_, .i1⟩
  | 19 => ⟨S_, .i32⟩
  | 20 => ⟨S_, .i32⟩
  | 21 => ⟨S32x1024, .i32⟩
  | 22 => ⟨S32x1024, .i32⟩
  | 23 => ⟨S_, .i32⟩
  | 24 => ⟨S32x1024, .i32⟩
  | 25 => ⟨S32x1024, .i1⟩
  | 26 => ⟨S_, .i32⟩
  | 27 => ⟨S32x1024, .i32⟩
  | 28 => ⟨S32x1024, .i1⟩
  | 29 => ⟨S_, .i32⟩
  | 30 => ⟨S_, .i1⟩
  | 31 => ⟨S32x1024, .i1⟩
  | 32 => ⟨S32x1024, .i1⟩
  | 33 => ⟨S32x1024, .i1⟩
  | 34 => ⟨S32x1024, .i32⟩
  | 35 => ⟨S32x1024, .i32⟩
  | 36 => ⟨S32x1024, .i32⟩
  | 37 => ⟨S32x1024, .f32⟩
  | 38 => ⟨S_, .f32⟩
  | 39 => ⟨S_, .f32⟩
  | 40 => ⟨S_, .f32⟩
  | 41 => ⟨S_, .f32⟩
  | 42 => ⟨S32x1024, .f32⟩
  | 43 => ⟨S32x1024, .f32⟩
  | 44 => ⟨S32x1024, .f32⟩
  | 45 => ⟨S32x1x1024, .f32⟩
  | 46 => ⟨S32x1024, .f32⟩
  | 47 => ⟨S32x1x1024, .f32⟩
  | 48 => ⟨S32x1024, .f32⟩
  | 49 => ⟨S1x32x1024, .f32⟩
  | 50 => ⟨S32x1024, .f32⟩
  | 51 => ⟨S1x32x1024, .f32⟩
  | 52 => ⟨S32x32x1024, .f32⟩
  | 53 => ⟨S32x32x1024, .f32⟩
  | 54 => ⟨S32x32x1024, .f32⟩
  | 55 => ⟨S32x32x1024, .f32⟩
  | 56 => ⟨S32x32x1024, .f32⟩
  | 57 => ⟨S32x32x1024, .f32⟩
  | 58 => ⟨S32x32x1024, .f32⟩
  | 59 => ⟨S1024x1024, .f32⟩
  | 60 => ⟨S32x32x1024, .f32⟩
  | 61 => ⟨S32x32x1024, .f32⟩
  | 62 => ⟨S32x32x1024, .f32⟩
  | 63 => ⟨S32x32x1024, .f32⟩
  | 64 => ⟨S32x32x1024, .f32⟩
  | 65 => ⟨S32x32x1024, .f32⟩
  | 66 => ⟨S32x32x1024, .f32⟩
  | 67 => ⟨S1024x1024, .f32⟩
  | 68 => ⟨S1024x2048, .f32⟩
  | 69 => ⟨S1024x2048, .bf16⟩
  | 70 => ⟨S3, .i32⟩
  | 71 => ⟨S_, .i32⟩
  | 72 => ⟨S3, .i32⟩
  | 73 => ⟨S3, .i32⟩
  | 74 => ⟨S3x1, .i32⟩
  | 75 => ⟨S1024, .i32⟩
  | 76 => ⟨S1x1024, .i32⟩
  | 77 => ⟨S3x1024, .i32⟩
  | 78 => ⟨S3x1024, .i32⟩
  | 79 => ⟨S3x1024, .i32⟩
  | 80 => ⟨S3x1024, .f32⟩
  | 81 => ⟨S_, .f32⟩
  | 82 => ⟨S_, .f32⟩
  | 83 => ⟨S_, .f32⟩
  | 84 => ⟨S_, .f32⟩
  | 85 => ⟨S3x1024, .f32⟩
  | 86 => ⟨S3x1024, .f32⟩
  | 87 => ⟨S3x1024, .f32⟩
  | 88 => ⟨S3x1024x1, .f32⟩
  | 89 => ⟨S3x1024x128, .f32⟩
  | 90 => ⟨S3x1024, .f32⟩
  | 91 => ⟨S3x1024x1, .f32⟩
  | 92 => ⟨S3x1024x128, .f32⟩
  | 93 => ⟨S128x128, .bf16⟩
  | 94 => ⟨S128x128, .bf16⟩
  | 95 => ⟨S8x128x128, .bf16⟩
  | 96 => ⟨S16384x1024, .bf16⟩
  | _ => ⟨S16384x9216, .bf16⟩

abbrev hbmTy (i : Nat) : BufTy := match i / 128 with
  | 0 => hbmTy0_0 i
  | 1 => hbmTy0_1 i
  | _ => ⟨S16384x9216, .bf16⟩

abbrev bufTy : (tb : Table) → Fin (tcTables nBuf tb) → BufTy
  | .hbm, ⟨i, _⟩ => hbmTy i
  | .local _ .vmem, ⟨0, _⟩ => ⟨S4096x256, .bf16⟩
  | .local _ .vmem, ⟨1, _⟩ => ⟨S4096x256, .bf16⟩
  | .local _ .vmem, ⟨2, _⟩ => ⟨S128x128, .bf16⟩
  | .local _ .vmem, ⟨3, _⟩ => ⟨S128x128, .bf16⟩
  | .local _ .vmem, ⟨4, _⟩ => ⟨S8x128x128, .bf16⟩
  | .local _ .vmem, ⟨5, _⟩ => ⟨S1024x2048, .bf16⟩
  | .local _ .vmem, ⟨6, _⟩ => ⟨S3x1024x128, .f32⟩
  | .local _ .vmem, ⟨7, _⟩ => ⟨S3x1024x128, .f32⟩
  | .local _ .vmem, ⟨8, _⟩ => ⟨S4096x256, .bf16⟩
  | .local _ .vmem, ⟨9, _⟩ => ⟨S4096x256, .bf16⟩
  | .local _ .vmem, ⟨10, _⟩ => ⟨S2x4096x256, .f32⟩
  | .local _ .vmem, ⟨11, _⟩ => ⟨S2x4096x128, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_v9 : Ref sig .tc := ⟨.hbm, 12, rfl⟩
abbrev main_v10 : Ref sig .tc := ⟨.hbm, 13, rfl⟩
abbrev main_c_0 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_c_1 : Ref sig .tc := ⟨.hbm, 22, rfl⟩
abbrev main_call0_v5 : Ref sig .tc := ⟨.hbm, 23, rfl⟩
abbrev main_call0_v6 : Ref sig .tc := ⟨.hbm, 24, rfl⟩
abbrev main_call0_c_2 : Ref sig .tc := ⟨.hbm, 25, rfl⟩
abbrev main_call0_v7 : Ref sig .tc := ⟨.hbm, 26, rfl⟩
abbrev main_call0_v8 : Ref sig .tc := ⟨.hbm, 27, rfl⟩
abbrev main_call0_c_3 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_c_2 : Ref sig .tc := ⟨.hbm, 46, rfl⟩
abbrev main_call1_v0 : Ref sig .tc := ⟨.hbm, 47, rfl⟩
abbrev main_call1_c : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_c_1 : Ref sig .tc := ⟨.hbm, 54, rfl⟩
abbrev main_call1_v5 : Ref sig .tc := ⟨.hbm, 55, rfl⟩
abbrev main_call1_v6 : Ref sig .tc := ⟨.hbm, 56, rfl⟩
abbrev main_call1_c_2 : Ref sig .tc := ⟨.hbm, 57, rfl⟩
abbrev main_call1_v7 : Ref sig .tc := ⟨.hbm, 58, rfl⟩
abbrev main_call1_v8 : Ref sig .tc := ⟨.hbm, 59, rfl⟩
abbrev main_call1_c_3 : Ref sig .tc := ⟨.hbm, 60, rfl⟩
abbrev main_call1_v9 : Ref sig .tc := ⟨.hbm, 61, rfl⟩
abbrev main_call1_v10 : Ref sig .tc := ⟨.hbm, 62, rfl⟩
abbrev main_call1_v11 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_v20 : Ref sig .tc := ⟨.hbm, 67, rfl⟩
abbrev main_v21 : Ref sig .tc := ⟨.hbm, 68, rfl⟩
abbrev main_cst_3 : Ref sig .tc := ⟨.hbm, 69, rfl⟩
abbrev main_v22 : Ref sig .tc := ⟨.hbm, 70, rfl⟩
abbrev main_cst_4 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_5 : Ref sig .tc := ⟨.hbm, 108, rfl⟩
abbrev main_v59 : Ref sig .tc := ⟨.hbm, 109, rfl⟩
abbrev main_v60 : Ref sig .tc := ⟨.hbm, 110, rfl⟩
abbrev main_c_6 : Ref sig .tc := ⟨.hbm, 111, rfl⟩
abbrev main_call2_v0 : Ref sig .tc := ⟨.hbm, 112, rfl⟩
abbrev main_call2_c : Ref sig .tc := ⟨.hbm, 113, rfl⟩
abbrev main_call2_v1 : Ref sig .tc := ⟨.hbm, 114, rfl⟩
abbrev main_call2_c_0 : Ref sig .tc := ⟨.hbm, 115, rfl⟩
abbrev main_call2_v2 : Ref sig .tc := ⟨.hbm, 116, rfl⟩
abbrev main_call2_v3 : Ref sig .tc := ⟨.hbm, 117, rfl⟩
abbrev main_call2_v4 : Ref sig .tc := ⟨.hbm, 118, rfl⟩
abbrev main_call2_c_1 : Ref sig .tc := ⟨.hbm, 119, rfl⟩
abbrev main_call2_v5 : Ref sig .tc := ⟨.hbm, 120, rfl⟩
abbrev main_call2_v6 : Ref sig .tc := ⟨.hbm, 121, rfl⟩
abbrev main_call2_c_2 : Ref sig .tc := ⟨.hbm, 122, rfl⟩
abbrev main_call2_v7 : Ref sig .tc := ⟨.hbm, 123, rfl⟩
abbrev main_call2_v8 : Ref sig .tc := ⟨.hbm, 124, rfl⟩
abbrev main_call2_c_3 : Ref sig .tc := ⟨.hbm, 125, rfl⟩
abbrev main_call2_v9 : Ref sig .tc := ⟨.hbm, 126, rfl⟩
abbrev main_call2_v10 : Ref sig .tc := ⟨.hbm, 127, rfl⟩
abbrev main_call2_v11 : Ref sig .tc := ⟨.hbm, 128, rfl⟩
abbrev main_call2_v12 : Ref sig .tc := ⟨.hbm, 129, rfl⟩
abbrev main_call2_v13 : Ref sig .tc := ⟨.hbm, 130, rfl⟩
abbrev main_call2_v14 : Ref sig .tc := ⟨.hbm, 131, rfl⟩
abbrev main_v61 : Ref sig .tc := ⟨.hbm, 132, rfl⟩
abbrev main_v62 : Ref sig .tc := ⟨.hbm, 133, rfl⟩
abbrev main_cst_7 : Ref sig .tc := ⟨.hbm, 134, rfl⟩
abbrev main_v63 : Ref sig .tc := ⟨.hbm, 135, rfl⟩
abbrev main_cst_8 : Ref sig .tc := ⟨.hbm, 136, rfl⟩
abbrev main_v64 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_v68 : Ref sig .tc := ⟨.hbm, 141, rfl⟩
abbrev main_v69 : Ref sig .tc := ⟨.hbm, 142, rfl⟩
abbrev main_c_9 : Ref sig .tc := ⟨.hbm, 143, rfl⟩
abbrev main_call3_v0 : Ref sig .tc := ⟨.hbm, 144, rfl⟩
abbrev main_call3_c : Ref sig .tc := ⟨.hbm, 145, rfl⟩
abbrev main_call3_v1 : Ref sig .tc := ⟨.hbm, 146, rfl⟩
abbrev main_call3_c_0 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_c_1 : Ref sig .tc := ⟨.hbm, 151, rfl⟩
abbrev main_call3_v5 : Ref sig .tc := ⟨.hbm, 152, rfl⟩
abbrev main_call3_v6 : Ref sig .tc := ⟨.hbm, 153, rfl⟩
abbrev main_call3_c_2 : Ref sig .tc := ⟨.hbm, 154, rfl⟩
abbrev main_call3_v7 : Ref sig .tc := ⟨.hbm, 155, rfl⟩
abbrev main_call3_v8 : Ref sig .tc := ⟨.hbm, 156, rfl⟩
abbrev main_call3_c_3 : Ref sig .tc := ⟨.hbm, 157, rfl⟩
abbrev main_call3_v9 : Ref sig .tc := ⟨.hbm, 158, rfl⟩
abbrev main_call3_v10 : Ref sig .tc := ⟨.hbm, 159, rfl⟩
abbrev main_call3_v11 : Ref sig .tc := ⟨.hbm, 160, rfl⟩
abbrev main_call3_v12 : Ref sig .tc := ⟨.hbm, 161, rfl⟩
abbrev main_call3_v13 : Ref sig .tc := ⟨.hbm, 162, rfl⟩
abbrev main_call3_v14 : Ref sig .tc := ⟨.hbm, 163, rfl⟩
abbrev main_v70 : Ref sig .tc := ⟨.hbm, 164, rfl⟩
abbrev main_v71 : Ref sig .tc := ⟨.hbm, 165, rfl⟩
abbrev main_cst_10 : Ref sig .tc := ⟨.hbm, 166, rfl⟩
abbrev main_v72 : Ref sig .tc := ⟨.hbm, 167, rfl⟩
abbrev main_cst_11 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_v96 : Ref sig .tc := ⟨.hbm, 192, rfl⟩
abbrev main_v97 : Ref sig .tc := ⟨.hbm, 193, rfl⟩
abbrev main_v98 : Ref sig .tc := ⟨.hbm, 194, rfl⟩
abbrev main_v99 : Ref sig .tc := ⟨.hbm, 195, rfl⟩
abbrev main_v100 : Ref sig .tc := ⟨.hbm, 196, rfl⟩
abbrev main_v101 : Ref sig .tc := ⟨.hbm, 197, rfl⟩
abbrev main_v102 : Ref sig .tc := ⟨.hbm, 198, rfl⟩
abbrev main_c_12 : Ref sig .tc := ⟨.hbm, 199, rfl⟩
abbrev main_v103 : Ref sig .tc := ⟨.hbm, 200, rfl⟩
abbrev main_v104 : Ref sig .tc := ⟨.hbm, 201, rfl⟩
abbrev main_v105 : Ref sig .tc := ⟨.hbm, 202, rfl⟩
abbrev main_v106 : Ref sig .tc := ⟨.hbm, 203, rfl⟩
abbrev main_v107 : Ref sig .tc := ⟨.hbm, 204, rfl⟩
abbrev main_v108 : Ref sig .tc := ⟨.hbm, 205, rfl⟩
abbrev main_v109 : Ref sig .tc := ⟨.hbm, 206, rfl⟩
abbrev main_v110 : Ref sig .tc := ⟨.hbm, 207, rfl⟩
abbrev main_v111 : Ref sig .tc := ⟨.hbm, 208, rfl⟩
abbrev main_cst_13 : Ref sig .tc := ⟨.hbm, 209, rfl⟩
abbrev main_v112 : Ref sig .tc := ⟨.hbm, 210, rfl⟩
abbrev main_cst_14 : Ref sig .tc := ⟨.hbm, 211, rfl⟩
abbrev main_v113 : Ref sig .tc := ⟨.hbm, 212, rfl⟩
abbrev main_v114 : Ref sig .tc := ⟨.hbm, 213, rfl⟩
abbrev main_v115 : Ref sig .tc := ⟨.hbm, 214, rfl⟩
abbrev main_v116 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![4, 4], ![false, false]⟩

def k0_off1 (i : grid0.Coords) (c0_i32 : BitVec 32) : Fin 3 → Nat :=
  let arg1 : BitVec 32 := BitVec.ofNat 32 (i 1).val
  let c2_i32 : BitVec 32 := 2#32
  let v0 : BitVec 32 := Scalar.muli arg1 c2_i32
  let v1 : BitVec 32 := Scalar.addi v0 c0_i32
  let v2 : Index := Scalar.indexCast v1
  let c0 : Index := 0#32
  let c0_0 : Index := 0#32
  ![v2.toNat, 0, 0]
def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== KernelIdeal.lean ====
variable {F : FTy → Type} [FloatOps F] [Named F]
def κ : String → Option EReal := fun
  | "ortho" => some (((Real.sqrt 524288)⁻¹ : ℝ) : EReal)
  | _ => none
-- ==== ReferenceIdeal.lean ====
abbrev S16384x9216 : Shape := ⟨2, ![16384, 9216]⟩
abbrev S8x128x128 : Shape := ⟨3, ![8, 128, 128]⟩
abbrev S16384x1024 : Shape := ⟨2, ![16384, 1024]⟩
abbrev S4x4096x8x128 : Shape := ⟨4, ![4, 4096, 8, 128]⟩
abbrev S_ : Shape := ⟨0, ![]⟩
abbrev S4096x4096 : Shape := ⟨2, ![4096, 4096]⟩
abbrev S128x128 : Shape := ⟨2, ![128, 128]⟩
abbrev S4x8x128x4096 : Shape := ⟨4, ![4, 8, 128, 4096]⟩
abbrev S8x128x4x4096 : Shape := ⟨4, ![8, 128, 4, 4096]⟩

abbrev nBuf : Space → Nat
  | .hbm => 42
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S8x128x128, .f32⟩
  | .hbm, ⟨2, _⟩ => ⟨S16384x1024, .bf16⟩
  | .hbm, ⟨3, _⟩ => ⟨S16384x1024, .f32⟩
  | .hbm, ⟨4, _⟩ => ⟨S4x4096x8x128, .f32⟩
  | .hbm, ⟨5, _⟩ => ⟨S_, .f32⟩
  | .hbm, ⟨6, _⟩ => ⟨S_, .f32⟩
  | .hbm, ⟨7, _⟩ => ⟨S4096x4096, .i32⟩
  | .hbm, ⟨8, _⟩ => ⟨S4096x4096, .i32⟩
  | .hbm, ⟨9, _⟩ => ⟨S4096x4096, .i32⟩
  | .hbm, ⟨10, _⟩ => ⟨S4096x4096, .f32⟩
  | .hbm, ⟨11, _⟩ => ⟨S_, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .f32⟩
  | .hbm, ⟨19, _⟩ => ⟨S_, .f32⟩
  | .hbm, ⟨20, _⟩ => ⟨S_, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S4x4096x8x128, .f32⟩
  | .hbm, ⟨25, _⟩ => ⟨S128x128, .f32⟩
  | .hbm, ⟨26, _⟩ => ⟨S4x4096x8x128, .f32⟩
  | .hbm, ⟨27, _⟩ => ⟨S4096x4096, .f32⟩
  | .hbm, ⟨28, _⟩ => ⟨S4x8x128x4096, .f32⟩
  | .hbm, ⟨29, _⟩ => ⟨S4x4096x8x128, .f32⟩
  | .hbm, ⟨30, _⟩ => ⟨S4096x4096, .f32⟩
  | .hbm, ⟨31, _⟩ => ⟨S4x8x128x4096, .f32⟩
  | .hbm, ⟨32, _⟩ => ⟨S4x4096x8x128, .f32⟩
  | .hbm, ⟨33, _⟩ => ⟨S4x4096x8x128, .f32⟩
  | .hbm, ⟨34, _⟩ => ⟨S_, .f32⟩
  | .hbm, ⟨35, _⟩ => ⟨S_, .f32⟩
  | .hbm, ⟨36, _⟩ => ⟨S4x4096x8x128, .f32⟩
  | .hbm, ⟨37, _⟩ => ⟨S4x4096x8x128, .f32⟩
  | .hbm, ⟨38, _⟩ => ⟨S8x128x4x4096, .f32⟩
  | .hbm, ⟨39, _⟩ => ⟨S4x4096x8x128, .f32⟩
  | .hbm, ⟨40, _⟩ => ⟨S16384x1024, .f32⟩
  | .hbm, ⟨41, _⟩ => ⟨S16384x1024, .bf16⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_2 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S16384x5632 : Shape := ⟨2, ![16384, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1056x2048 : Shape := ⟨2, ![1056, 2048]⟩
abbrev S16 : Shape := ⟨1, ![16]⟩
abbrev S16x1 : Shape := ⟨2, ![16, 1]⟩
abbrev S128x2048 : Shape := ⟨2, ![128, 2048]⟩
abbrev S128 : Shape := ⟨1, ![128]⟩
abbrev S128x1 : Shape := ⟨2, ![128, 1]⟩
abbrev S1056x512 : Shape := ⟨2, ![1056, 512]⟩

abbrev nBuf : Space → Nat
  | .hbm => 6
  | .vmem => 22
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .f32⟩
  | .hbm, ⟨3, _⟩ => ⟨S3x11264, .f32⟩
  | .hbm, ⟨4, _⟩ => ⟨S1x11264, .f32⟩
  | .hbm, ⟨5, _⟩ => ⟨S16384x5632, .bf16⟩
  | .local _ .vmem, ⟨0, _⟩ => ⟨S1024x2048, .f32⟩
  | .local _ .vmem, ⟨1, _⟩ => ⟨S1024x2048, .f32⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x2048, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S2048x512, .f32⟩
  | .local _ .vmem, ⟨11, _⟩ => ⟨S3x512, .f32⟩
  | .local _ .vmem, ⟨12, _⟩ => ⟨S3x512, .f32⟩
  | .local _ .vmem, ⟨13, _⟩ => ⟨S3x512, .f32⟩
  | .local _ .vmem, ⟨14, _⟩ => ⟨S3x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1056x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_60 : BitVec 32 := 0#32
  let c8_i32 : BitVec 32 := 8#32
  let v120 : BitVec 32 := Scalar.addi c0_i32_60 c8_i32
  let c1_i32_61 : BitVec 32 := 1#32
  ⟨c0_i32_60, v120, c1_i32_61⟩
def k0_mult1 (k0_t1 : Fin k0_t1_loop.trips) : BitVec 32 :=
  let c0_i32_60 : BitVec 32 := 0#32
  let c1_i32_61 : BitVec 32 := 1#32
  let arg14 : BitVec 32 := Scf.iv c0_i32_60 c1_i32_61 k0_t1
  let c128_i32 : BitVec 32 := 128#32
  let v121 : BitVec 32 := Scalar.muli arg14 c128_i32
  v121
def k0_off1 (k0_t1 : Fin k0_t1_loop.trips) : Fin 2 → Nat :=
  let c0_i32_60 : BitVec 32 := 0#32
  let c1_i32_61 : BitVec 32 := 1#32
  let arg14 : BitVec 32 := Scf.iv c0_i32_60 c1_i32_61 k0_t1
  let c128_i32 : BitVec 32 := 128#32
  let v121 : BitVec 32 := Scalar.muli arg14 c128_i32
  let v122 : BitVec 32 := v121
  let v123 : Index := Scalar.indexCast v122
  let c0_63 : Index := 0#32
  ![v123.toNat, 0]
def k0_off2 (k0_t1 : Fin k0_t1_loop.trips) : Fin 2 → Nat :=
  let c16_i32 : BitVec 32 := 16#32
  let c0_i32_60 : BitVec 32 := 0#32
  let c1_i32_61 : BitVec 32 := 1#32
  let arg14 : BitVec 32 := Scf.iv c0_i32_60 c1_i32_61 k0_t1
  let c128_i32 : BitVec 32 := 128#32
  let v121 : BitVec 32 := Scalar.muli arg14 c128_i32
  let v122 : BitVec 32 := v121
  let v139 : BitVec 32 := Scalar.addi c16_i32 v122
  let v140 : Index := Scalar.indexCast v139
  let c0_69 : Index := 0#32
  ![v140.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S3x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S16384x2048 : Shape := ⟨2, ![16384, 2048]⟩
abbrev S1x2048 : Shape := ⟨2, ![1, 2048]⟩
abbrev S2048x11264 : Shape := ⟨2, ![2048, 11264]⟩
abbrev S3x11264 : Shape := ⟨2, ![3, 11264]⟩
abbrev S1x11264 : Shape := ⟨2, ![1, 11264]⟩
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x11264 : Shape := ⟨3, ![4, 4096, 11264]⟩
abbrev S4x4098x11264 : Shape := ⟨3, ![4, 4098, 11264]⟩
abbrev S11264 : Shape := ⟨1, ![11264]⟩
abbrev S1x1x11264 : Shape := ⟨3, ![1, 1, 11264]⟩
abbrev S4x4096x5632 : Shape := ⟨3, ![4, 4096, 5632]⟩
abbrev S16384x5632 : Shape := ⟨2, ![16384, 5632]⟩

abbrev nBuf : Space → Nat
  | .hbm => 63
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x11264, .f32⟩
  | .hbm, ⟨3, _⟩ => ⟨S3x11264, .f32⟩
  | .hbm, ⟨4, _⟩ => ⟨S1x11264, .f32⟩
  | .hbm, ⟨5, _⟩ => ⟨S4x4096x2048, .f32⟩
  | .hbm, ⟨6, _⟩ => ⟨S4x4096x2048, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S4x4096x1, .f32⟩
  | .hbm, ⟨17, _⟩ => ⟨S4x4096x2048, .f32⟩
  | .hbm, ⟨18, _⟩ => ⟨S4x4096x2048, .f32⟩
  | .hbm, ⟨19, _⟩ => ⟨S1x1x2048, .f32⟩
  | .hbm, ⟨20, _⟩ => ⟨S4x4096x2048, .f32⟩
  | .hbm, ⟨21, _⟩ => ⟨S4x4096x2048, .f32⟩
  | .hbm, ⟨22, _⟩ => ⟨S4x4096x11264, .f32⟩
  | .hbm, ⟨23, _⟩ => ⟨S_, .i32⟩
  | .hbm, ⟨24, _⟩ => ⟨S_, .f32⟩
  | .hbm, ⟨25, _⟩ => ⟨S4x4098x11264, .f32⟩
  | .hbm, ⟨26, _⟩ => ⟨S4x4096x11264, .f32⟩
  | .hbm, ⟨27, _⟩ => ⟨S1x11264, .f32⟩
  | .hbm, ⟨28, _⟩ => ⟨S11264, .f32⟩
  | .hbm, ⟨29, _⟩ => ⟨S1x1x11264, .f32⟩
  | .hbm, ⟨30, _⟩ => ⟨S4x4096x11264, .f32⟩
  | .hbm, ⟨31, _⟩ => ⟨S4x4096x11264, .f32⟩
  | .hbm, ⟨32, _⟩ => ⟨S4x4096x11264, .f32⟩
  | .hbm, ⟨33, _⟩ => ⟨S1x11264, .f32⟩
  | .hbm, ⟨34, _⟩ => ⟨S11264, .f32⟩
  | .hbm, ⟨35, _⟩ => ⟨S1x1x11264, .f32⟩
  | .hbm, ⟨36, _⟩ => ⟨S4x4096x11264, .f32⟩
  | .hbm, ⟨37, _⟩ => ⟨S4x4096x11264, .f32⟩
  | .hbm, ⟨38, _⟩ => ⟨S4x4096x11264, .f32⟩
  | .hbm, ⟨39, _⟩ => ⟨S4x4096x11264, .f32⟩
  | .hbm, ⟨40, _⟩ => ⟨S1x11264, .f32⟩
  | .hbm, ⟨41, _⟩ => ⟨S11264, .f32⟩
  | .hbm, ⟨42, _⟩ => ⟨S1x1x11264, .f32⟩
  | .hbm, ⟨43, _⟩ => ⟨S4x4096x11264, .f32⟩
  | .hbm, ⟨44, _⟩ => ⟨S4x4096x11264, .f32⟩
  | .hbm, ⟨45, _⟩ => ⟨S4x4096x11264, .f32⟩
  | .hbm, ⟨46, _⟩ => ⟨S1x1x11264, .f32⟩
  | .hbm, ⟨47, _⟩ => ⟨S4x4096x11264, .f32⟩
  | .hbm, ⟨48, _⟩ => ⟨S4x4096x11264, .f32⟩
  | .hbm, ⟨49, _⟩ => ⟨S4x4096x5632, .f32⟩
  | .hbm, ⟨50, _⟩ => ⟨S4x4096x5632, .f32⟩
  | .hbm, ⟨51, _⟩ => ⟨S4x4096x5632, .f32⟩
  | .hbm, ⟨52, _⟩ => ⟨S4x4096x5632, .f32⟩
  | .hbm, ⟨53, _⟩ => ⟨S_, .f32⟩
  | .hbm, ⟨54, _⟩ => ⟨S4x4096x5632, .f32⟩
  | .hbm, ⟨55, _⟩ => ⟨S4x4096x5632, .f32⟩
  | .hbm, ⟨56, _⟩ => ⟨S_, .f32⟩
  | .hbm, ⟨57, _⟩ => ⟨S4x4096x5632, .f32⟩
  | .hbm, ⟨58, _⟩ => ⟨S4x4096x5632, .f32⟩
  | .hbm, ⟨59, _⟩ => ⟨S4x4096x5632, .f32⟩
  | .hbm, ⟨60, _⟩ => ⟨S4x4096x5632, .f32⟩
  | .hbm, ⟨61, _⟩ => ⟨S16384x5632, .f32⟩
  | .hbm, ⟨62, _⟩ => ⟨S16384x5632, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_c : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Kernel3.lean ====
abbrev S16384x2048 : Shape := ⟨2, ![16384, 2048]⟩
abbrev S16384x5632 : Shape := ⟨2, ![16384, 5632]⟩
abbrev S5632x2048 : Shape := ⟨2, ![5632, 2048]⟩
abbrev S1x2048 : Shape := ⟨2, ![1, 2048]⟩
abbrev S256x2048 : Shape := ⟨2, ![256, 2048]⟩
abbrev S256x5632 : Shape := ⟨2, ![256, 5632]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S5632x2048, .f32⟩
  | .hbm, ⟨3, _⟩ => ⟨S1x2048, .f32⟩
  | .hbm, ⟨4, _⟩ => ⟨S5632x2048, .bf16⟩
  | .hbm, ⟨5, _⟩ => ⟨S16384x2048, .f32⟩
  | .local _ .vmem, ⟨0, _⟩ => ⟨S256x2048, .f32⟩
  | .local _ .vmem, ⟨1, _⟩ => ⟨S256x2048, .f32⟩
  | .local _ .vmem, ⟨2, _⟩ => ⟨S256x5632, .bf16⟩
  | .local _ .vmem, ⟨3, _⟩ => ⟨S256x5632, .bf16⟩
  | .local _ .vmem, ⟨4, _⟩ => ⟨S5632x2048, .bf16⟩
  | .local _ .vmem, ⟨5, _⟩ => ⟨S1x2048, .f32⟩
  | .local _ .vmem, ⟨6, _⟩ => ⟨S256x2048, .f32⟩
  | .local _ .vmem, ⟨7, _⟩ => ⟨S256x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S5632x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S16384x2048 : Shape := ⟨2, ![16384, 2048]⟩
abbrev S16384x5632 : Shape := ⟨2, ![16384, 5632]⟩
abbrev S5632x2048 : Shape := ⟨2, ![5632, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x5632, .bf16⟩
  | .hbm, ⟨2, _⟩ => ⟨S5632x2048, .f32⟩
  | .hbm, ⟨3, _⟩ => ⟨S1x2048, .f32⟩
  | .hbm, ⟨4, _⟩ => ⟨S16384x5632, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S16384x2048, .f32⟩
  | .hbm, ⟨21, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Kernel4.lean ====
abbrev S16384x2048 : Shape := ⟨2, ![16384, 2048]⟩
abbrev S16384x1024 : Shape := ⟨2, ![16384, 1024]⟩
abbrev S16384x3072 : Shape := ⟨2, ![16384, 3072]⟩
abbrev S4096x2048 : Shape := ⟨2, ![4096, 2048]⟩
abbrev S512x2048 : Shape := ⟨2, ![512, 2048]⟩
abbrev S512x1024 : Shape := ⟨2, ![512, 1024]⟩
abbrev S512x3072 : Shape := ⟨2, ![512, 3072]⟩
abbrev S1024x2048 : Shape := ⟨2, ![1024, 2048]⟩
abbrev S3072x2048 : Shape := ⟨2, ![3072, 2048]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x3072, .bf16⟩
  | .hbm, ⟨3, _⟩ => ⟨S4096x2048, .f32⟩
  | .hbm, ⟨4, _⟩ => ⟨S4096x2048, .bf16⟩
  | .hbm, ⟨5, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x3072, .bf16⟩
  | .local _ .vmem, ⟨5, _⟩ => ⟨S512x3072, .bf16⟩
  | .local _ .vmem, ⟨6, _⟩ => ⟨S4096x2048, .bf16⟩
  | .local _ .vmem, ⟨7, _⟩ => ⟨S512x2048, .f32⟩
  | .local _ .vmem, ⟨8, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4096x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S16384x2048 : Shape := ⟨2, ![16384, 2048]⟩
abbrev S16384x1024 : Shape := ⟨2, ![16384, 1024]⟩
abbrev S16384x3072 : Shape := ⟨2, ![16384, 3072]⟩
abbrev S4096x2048 : Shape := ⟨2, ![4096, 2048]⟩
abbrev S16384x4096 : Shape := ⟨2, ![16384, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x3072, .bf16⟩
  | .hbm, ⟨3, _⟩ => ⟨S4096x2048, .f32⟩
  | .hbm, ⟨4, _⟩ => ⟨S16384x4096, .bf16⟩
  | .hbm, ⟨5, _⟩ => ⟨S16384x4096, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel5.lean ====
abbrev S16384x2048 : Shape := ⟨2, ![16384, 2048]⟩
abbrev S1x2048 : Shape := ⟨2, ![1, 2048]⟩
abbrev S2048x9264 : Shape := ⟨2, ![2048, 9264]⟩
abbrev S2048x48 : Shape := ⟨2, ![2048, 48]⟩
abbrev S2048x8x6 : Shape := ⟨3, ![2048, 8, 6]⟩
abbrev S_ : Shape := ⟨0, ![]⟩
abbrev S2048x8x8 : Shape := ⟨3, ![2048, 8, 8]⟩
abbrev S2048x64 : Shape := ⟨2, ![2048, 64]⟩
abbrev S2048x128 : Shape := ⟨2, ![2048, 128]⟩
abbrev S16384x9216 : Shape := ⟨2, ![16384, 9216]⟩
abbrev S64x16384 : Shape := ⟨2, ![64, 16384]⟩
abbrev S1024x2048 : Shape := ⟨2, ![1024, 2048]⟩
abbrev S2048x1024 : Shape := ⟨2, ![2048, 1024]⟩
abbrev S1024x1024 : Shape := ⟨2, ![1024, 1024]⟩
abbrev S64x1024 : Shape := ⟨2, ![64, 1024]⟩
abbrev S128x2048 : Shape := ⟨2, ![128, 2048]⟩
abbrev S128 : Shape := ⟨1, ![128]⟩
abbrev S128x1 : Shape := ⟨2, ![128, 1]⟩
abbrev S1024x128 : Shape := ⟨2, ![1024, 128]⟩
abbrev S128x128 : Shape := ⟨2, ![128, 128]⟩
abbrev S64x128 : Shape := ⟨2, ![64, 128]⟩

abbrev nBuf : Space → Nat
  | .hbm => 16
  | .vmem => 11
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9264, .f32⟩
  | .hbm, ⟨3, _⟩ => ⟨S2048x48, .f32⟩
  | .hbm, ⟨4, _⟩ => ⟨S2048x8x6, .f32⟩
  | .hbm, ⟨5, _⟩ => ⟨S_, .i32⟩
  | .hbm, ⟨6, _⟩ => ⟨S_, .f32⟩
  | .hbm, ⟨7, _⟩ => ⟨S2048x8x8, .f32⟩
  | .hbm, ⟨8, _⟩ => ⟨S2048x64, .f32⟩
  | .hbm, ⟨9, _⟩ => ⟨S_, .i32⟩
  | .hbm, ⟨10, _⟩ => ⟨S_, .f32⟩
  | .hbm, ⟨11, _⟩ => ⟨S2048x128, .f32⟩
  | .hbm, ⟨12, _⟩ => ⟨S2048x128, .bf16⟩
  | .hbm, ⟨13, _⟩ => ⟨S2048x9264, .bf16⟩
  | .hbm, ⟨14, _⟩ => ⟨S16384x9216, .bf16⟩
  | .hbm, ⟨15, _⟩ => ⟨S64x16384, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x128, .bf16⟩
  | .local _ .vmem, ⟨6, _⟩ => ⟨S1024x1024, .bf16⟩
  | .local _ .vmem, ⟨7, _⟩ => ⟨S1024x1024, .bf16⟩
  | .local _ .vmem, ⟨8, _⟩ => ⟨S64x1024, .f32⟩
  | .local _ .vmem, ⟨9, _⟩ => ⟨S64x1024, .f32⟩
  | .local _ .vmem, ⟨10, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call1_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_6 : BitVec 32 := 0#32
  let c8_i32 : BitVec 32 := 8#32
  let v9 : BitVec 32 := Scalar.addi c0_i32_6 c8_i32
  let c1_i32 : BitVec 32 := 1#32
  ⟨c0_i32_6, v9, c1_i32⟩
def k0_mult1 (k0_t1 : Fin k0_t1_loop.trips) : BitVec 32 :=
  let c0_i32_6 : BitVec 32 := 0#32
  let c1_i32 : BitVec 32 := 1#32
  let arg9 : BitVec 32 := Scf.iv c0_i32_6 c1_i32 k0_t1
  let c128_i32 : BitVec 32 := 128#32
  let v46 : BitVec 32 := Scalar.muli arg9 c128_i32
  v46
def k0_off1 (k0_t1 : Fin k0_t1_loop.trips) : Fin 2 → Nat :=
  let c0_i32_6 : BitVec 32 := 0#32
  let c1_i32 : BitVec 32 := 1#32
  let arg9 : BitVec 32 := Scf.iv c0_i32_6 c1_i32 k0_t1
  let c128_i32 : BitVec 32 := 128#32
  let v46 : BitVec 32 := Scalar.muli arg9 c128_i32
  let v47 : BitVec 32 := v46
  let v48 : Index := Scalar.indexCast v47
  let c0_22 : Index := 0#32
  ![v48.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c9_i32 : BitVec 32 := 9#32
  let c0_i32 : BitVec 32 := 0#32
  let v1 : BitVec 1 := Scalar.cmpi .eq c9_i32 c0_i32
  let c1_i32_0 : BitVec 32 := 1#32
  let v2 : BitVec 32 := Scalar.select v1 c1_i32_0 c9_i32
  let v3 : BitVec 32 := Scalar.remsi v0 v2
  let c0_i32_1 : BitVec 32 := 0#32
  let v4 : BitVec 1 := Scalar.cmpi .ne v3 c0_i32_1
  let c0_i32_2 : BitVec 32 := 0#32
  let v5 : BitVec 1 := Scalar.cmpi .slt v3 c0_i32_2
  let c0_i32_3 : BitVec 32 := 0#32
  let v6 : BitVec 1 := Scalar.cmpi .slt v2 c0_i32_3
  let v7 : BitVec 1 := Scalar.xori v5 v6
  let v8 : BitVec 1 := Scalar.andi v7 v4
  let v9 : BitVec 32 := Scalar.addi v3 v2
  let v10 : BitVec 32 := Scalar.select v8 v9 v3
  let c0_i32_4 : BitVec 32 := 0#32
  let c0_i32_5 : BitVec 32 := 0#32
  ![c0_i32_4.toNat, v10.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S16384x2048 : Shape := ⟨2, ![16384, 2048]⟩
abbrev S1x2048 : Shape := ⟨2, ![1, 2048]⟩
abbrev S2048x9264 : Shape := ⟨2, ![2048, 9264]⟩
abbrev S_ : Shape := ⟨0, ![]⟩
abbrev S16384 : Shape := ⟨1, ![16384]⟩
abbrev S16384x1 : Shape := ⟨2, ![16384, 1]⟩
abbrev S16384x9264 : Shape := ⟨2, ![16384, 9264]⟩
abbrev S16384x8192 : Shape := ⟨2, ![16384, 8192]⟩
abbrev S16384x1024 : Shape := ⟨2, ![16384, 1024]⟩
abbrev S16384x9216 : Shape := ⟨2, ![16384, 9216]⟩
abbrev S16384x48 : Shape := ⟨2, ![16384, 48]⟩
abbrev S16384x8x6 : Shape := ⟨3, ![16384, 8, 6]⟩
abbrev S16384x8x8 : Shape := ⟨3, ![16384, 8, 8]⟩
abbrev S16384x64 : Shape := ⟨2, ![16384, 64]⟩
abbrev S64x16384 : Shape := ⟨2, ![64, 16384]⟩

abbrev nBuf : Space → Nat
  | .hbm => 30
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x9264, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x9264, .f32⟩
  | .hbm, ⟨19, _⟩ => ⟨S16384x8192, .f32⟩
  | .hbm, ⟨20, _⟩ => ⟨S16384x1024, .f32⟩
  | .hbm, ⟨21, _⟩ => ⟨S16384x9216, .f32⟩
  | .hbm, ⟨22, _⟩ => ⟨S16384x9216, .bf16⟩
  | .hbm, ⟨23, _⟩ => ⟨S16384x48, .f32⟩
  | .hbm, ⟨24, _⟩ => ⟨S16384x8x6, .f32⟩
  | .hbm, ⟨25, _⟩ => ⟨S_, .i32⟩
  | .hbm, ⟨26, _⟩ => ⟨S_, .f32⟩
  | .hbm, ⟨27, _⟩ => ⟨S16384x8x8, .f32⟩
  | .hbm, ⟨28, _⟩ => ⟨S16384x64, .f32⟩
  | .hbm, ⟨29, _⟩ => ⟨S64x16384, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c : Ref sig .tc := ⟨.hbm, 25, rfl⟩
abbrev main_call0_v0 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel6.lean ====
abbrev S16384x9216 : Shape := ⟨2, ![16384, 9216]⟩
abbrev S64x16384 : Shape := ⟨2, ![64, 16384]⟩
abbrev S5x5120 : Shape := ⟨2, ![5, 5120]⟩
abbrev S5120 : Shape := ⟨1, ![5120]⟩
abbrev S48 : Shape := ⟨1, ![48]⟩
abbrev S3072 : Shape := ⟨1, ![3072]⟩
abbrev S2x128x768 : Shape := ⟨3, ![2, 128, 768]⟩
abbrev S512x160 : Shape := ⟨2, ![512, 160]⟩
abbrev S48x1 : Shape := ⟨2, ![48, 1]⟩
abbrev S48x4 : Shape := ⟨2, ![48, 4]⟩
abbrev S8x6x4 : Shape := ⟨3, ![8, 6, 4]⟩
abbrev S_ : Shape := ⟨0, ![]⟩
abbrev S8x8x4 : Shape := ⟨3, ![8, 8, 4]⟩
abbrev S48x64 : Shape := ⟨2, ![48, 64]⟩
abbrev S8x1x384 : Shape := ⟨3, ![8, 1, 384]⟩
abbrev S1x5120 : Shape := ⟨2, ![1, 5120]⟩
abbrev S16384x3072 : Shape := ⟨2, ![16384, 3072]⟩
abbrev S4096x384 : Shape := ⟨2, ![4096, 384]⟩
abbrev S4096x128 : Shape := ⟨2, ![4096, 128]⟩
abbrev S8x4096 : Shape := ⟨2, ![8, 4096]⟩
abbrev S5x384 : Shape := ⟨2, ![5, 384]⟩
abbrev S5x128 : Shape := ⟨2, ![5, 128]⟩
abbrev S1x384 : Shape := ⟨2, ![1, 384]⟩
abbrev S1x128 : Shape := ⟨2, ![1, 128]⟩
abbrev S1x8x4 : Shape := ⟨3, ![1, 8, 4]⟩
abbrev S1x1x384 : Shape := ⟨3, ![1, 1, 384]⟩
abbrev S4096x640 : Shape := ⟨2, ![4096, 640]⟩
abbrev S384x4096 : Shape := ⟨2, ![384, 4096]⟩
abbrev S8x256x128 : Shape := ⟨3, ![8, 256, 128]⟩
abbrev S2x384x128 : Shape := ⟨3, ![2, 384, 128]⟩
abbrev S2x128x128 : Shape := ⟨3, ![2, 128, 128]⟩
abbrev S5x640 : Shape := ⟨2, ![5, 640]⟩
abbrev S1x640 : Shape := ⟨2, ![1, 640]⟩
abbrev S128x128 : Shape := ⟨2, ![128, 128]⟩
abbrev S8x4 : Shape := ⟨2, ![8, 4]⟩
abbrev S8x1 : Shape := ⟨2, ![8, 1]⟩
abbrev S128x384 : Shape := ⟨2, ![128, 384]⟩
abbrev S128x640 : Shape := ⟨2, ![128, 640]⟩
abbrev S16x384 : Shape := ⟨2, ![16, 384]⟩
abbrev S16x128 : Shape := ⟨2, ![16, 128]⟩
abbrev S16x640 : Shape := ⟨2, ![16, 640]⟩
abbrev S160x640 : Shape := ⟨2, ![160, 640]⟩
abbrev S512x640 : Shape := ⟨2, ![512, 640]⟩
abbrev S384x128 : Shape := ⟨2, ![384, 128]⟩
abbrev S8x128 : Shape := ⟨2, ![8, 128]⟩
abbrev S256x128 : Shape := ⟨2, ![256, 128]⟩
abbrev S768x128 : Shape := ⟨2, ![768, 128]⟩
abbrev S256x1 : Shape := ⟨2, ![256, 1]⟩
abbrev S1x256x128 : Shape := ⟨3, ![1, 256, 128]⟩
abbrev S80x128 : Shape := ⟨2, ![80, 128]⟩
abbrev S1x128x768 : Shape := ⟨3, ![1, 128, 768]⟩
abbrev S128x768 : Shape := ⟨2, ![128, 768]⟩
abbrev S1x128x128 : Shape := ⟨3, ![1, 128, 128]⟩
abbrev S1x8x128 : Shape := ⟨3, ![1, 8, 128]⟩
abbrev S1x384x128 : Shape := ⟨3, ![1, 384, 128]⟩
abbrev S64x128 : Shape := ⟨2, ![64, 128]⟩
abbrev S128 : Shape := ⟨1, ![128]⟩
abbrev S128x1 : Shape := ⟨2, ![128, 1]⟩

abbrev nBuf : Space → Nat
  | .hbm => 27
  | .vmem => 40
  | .smem => 0
  | _ => 0

abbrev bufTy : (tb : Table) → Fin (tcTables nBuf tb) → BufTy
  | .hbm, ⟨0, _⟩ => ⟨S16384x9216, .bf16⟩
  | .hbm, ⟨1, _⟩ => ⟨S64x16384, .f32⟩
  | .hbm, ⟨2, _⟩ => ⟨S5x5120, .f32⟩
  | .hbm, ⟨3, _⟩ => ⟨S5120, .f32⟩
  | .hbm, ⟨4, _⟩ => ⟨S48, .f32⟩
  | .hbm, ⟨5, _⟩ => ⟨S48, .f32⟩
  | .hbm, ⟨6, _⟩ => ⟨S48, .f32⟩
  | .hbm, ⟨7, _⟩ => ⟨S48, .f32⟩
  | .hbm, ⟨8, _⟩ => ⟨S48, .f32⟩
  | .hbm, ⟨9, _⟩ => ⟨S3072, .f32⟩
  | .hbm, ⟨10, _⟩ => ⟨S2x128x768, .bf16⟩
  | .hbm, ⟨11, _⟩ => ⟨S512x160, .bf16⟩
  | .hbm, ⟨12, _⟩ => ⟨S48x1, .f32⟩
  | .hbm, ⟨13, _⟩ => ⟨S48x1, .f32⟩
  | .hbm, ⟨14, _⟩ => ⟨S48x1, .f32⟩
  | .hbm, ⟨15, _⟩ => ⟨S48x1, .f32⟩
  | .hbm, ⟨16, _⟩ => ⟨S48x4, .f32⟩
  | .hbm, ⟨17, _⟩ => ⟨S8x6x4, .f32⟩
  | .hbm, ⟨18, _⟩ => ⟨S_, .i32⟩
  | .hbm, ⟨19, _⟩ => ⟨S_, .f32⟩
  | .hbm, ⟨20, _⟩ => ⟨S8x8x4, .f32⟩
  | .hbm, ⟨21, _⟩ => ⟨S48x64, .f32⟩
  | .hbm, ⟨22, _⟩ => ⟨S3072, .f32⟩
  | .hbm, ⟨23, _⟩ => ⟨S8x1x384, .f32⟩
  | .hbm, ⟨24, _⟩ => ⟨S1x5120, .f32⟩
  | .hbm, ⟨25, _⟩ => ⟨S8x1x384, .f32⟩
  | .hbm, ⟨26, _⟩ => ⟨S16384x3072, .bf16⟩
  | .local _ .vmem, ⟨0, _⟩ => ⟨S4096x384, .bf16⟩
  | .local _ .vmem, ⟨1, _⟩ => ⟨S4096x384, .bf16⟩
  | .local _ .vmem, ⟨2, _⟩ => ⟨S4096x384, .bf16⟩
  | .local _ .vmem, ⟨3, _⟩ => ⟨S4096x384, .bf16⟩
  | .local _ .vmem, ⟨4, _⟩ => ⟨S4096x128, .bf16⟩
  | .local _ .vmem, ⟨5, _⟩ => ⟨S4096x128, .bf16⟩
  | .local _ .vmem, ⟨6, _⟩ => ⟨S4096x128, .bf16⟩
  | .local _ .vmem, ⟨7, _⟩ => ⟨S4096x128, .bf16⟩
  | .local _ .vmem, ⟨8, _⟩ => ⟨S8x4096, .f32⟩
  | .local _ .vmem, ⟨9, _⟩ => ⟨S8x4096, .f32⟩
  | .local _ .vmem, ⟨10, _⟩ => ⟨S5x384, .f32⟩
  | .local _ .vmem, ⟨11, _⟩ => ⟨S5x384, .f32⟩
  | .local _ .vmem, ⟨12, _⟩ => ⟨S5x128, .f32⟩
  | .local _ .vmem, ⟨13, _⟩ => ⟨S5x128, .f32⟩
  | .local _ .vmem, ⟨14, _⟩ => ⟨S5x128, .f32⟩
  | .local _ .vmem, ⟨15, _⟩ => ⟨S5x128, .f32⟩
  | .local _ .vmem, ⟨16, _⟩ => ⟨S1x384, .f32⟩
  | .local _ .vmem, ⟨17, _⟩ => ⟨S1x384, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x8x4, .f32⟩
  | .local _ .vmem, ⟨23, _⟩ => ⟨S1x8x4, .f32⟩
  | .local _ .vmem, ⟨24, _⟩ => ⟨S1x1x384, .f32⟩
  | .local _ .vmem, ⟨25, _⟩ => ⟨S1x1x384, .f32⟩
  | .local _ .vmem, ⟨26, _⟩ => ⟨S1x1x384, .f32⟩
  | .local _ .vmem, ⟨27, _⟩ => ⟨S1x1x384, .f32⟩
  | .local _ .vmem, ⟨28, _⟩ => ⟨S2x128x768, .bf16⟩
  | .local _ .vmem, ⟨29, _⟩ => ⟨S512x160, .bf16⟩
  | .local _ .vmem, ⟨30, _⟩ => ⟨S4096x384, .bf16⟩
  | .local _ .vmem, ⟨31, _⟩ => ⟨S4096x384, .bf16⟩
  | .local _ .vmem, ⟨32, _⟩ => ⟨S4096x640, .bf16⟩
  | .local _ .vmem, ⟨33, _⟩ => ⟨S384x4096, .bf16⟩
  | .local _ .vmem, ⟨34, _⟩ => ⟨S4096x128, .bf16⟩
  | .local _ .vmem, ⟨35, _⟩ => ⟨S8x256x128, .f32⟩
  | .local _ .vmem, ⟨36, _⟩ => ⟨S4096x384, .f32⟩
  | .local _ .vmem, ⟨37, _⟩ => ⟨S2x384x128, .f32⟩
  | .local _ .vmem, ⟨38, _⟩ => ⟨S2x128x768, .f32⟩
  | .local _ .vmem, ⟨39, _⟩ => ⟨S2x128x128, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call0_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg15_0 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_scratch6 : Ref sig .tc := ⟨.vmem, 38, rfl⟩
abbrev cc0_scratch7 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem15_0 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32 : BitVec 32 := 0#32
  let c2_i32 : BitVec 32 := 2#32
  let v35 : BitVec 32 := Scalar.addi c0_i32 c2_i32
  let c1_i32 : BitVec 32 := 1#32
  ⟨c0_i32, v35, c1_i32⟩
def k0_mult1 (k0_t1 : Fin k0_t1_loop.trips) : BitVec 32 :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let c0_i32_126 : BitVec 32 := 0#32
  let v626 : BitVec 32 := Scalar.addi v625 c0_i32_126
  let c128_i32 : BitVec 32 := 128#32
  let v627 : BitVec 32 := Scalar.muli v626 c128_i32
  v627
def k0_off1 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let v629 : Index := Scalar.indexCast v628
  let c0_127 : Index := 0#32
  ![v629.toNat, 0]
def k0_off2 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let v631 : Index := Scalar.indexCast v628
  let c0_128 : Index := 0#32
  ![v631.toNat, 0]
def k0_mult2 (k0_t1 : Fin k0_t1_loop.trips) : BitVec 32 :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let c0_i32_126 : BitVec 32 := 0#32
  let v626 : BitVec 32 := Scalar.addi v625 c0_i32_126
  let c128_i32 : BitVec 32 := 128#32
  let v627 : BitVec 32 := Scalar.muli v626 c128_i32
  let v628 : BitVec 32 := v627
  let c16_i32_130 : BitVec 32 := 16#32
  let v636 : BitVec 32 := Scalar.subi v628 c16_i32_130
  let c0_i32_131 : BitVec 32 := 0#32
  let v637 : BitVec 32 := Scalar.maxsi v636 c0_i32_131
  v637
def k0_mult3 (k0_t1 : Fin k0_t1_loop.trips) : BitVec 32 :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let c0_i32_126 : BitVec 32 := 0#32
  let v626 : BitVec 32 := Scalar.addi v625 c0_i32_126
  let c128_i32 : BitVec 32 := 128#32
  let v627 : BitVec 32 := Scalar.muli v626 c128_i32
  let v628 : BitVec 32 := v627
  let c128_i32_132 : BitVec 32 := 128#32
  let v639 : BitVec 32 := Scalar.addi v628 c128_i32_132
  let c4080_i32 : BitVec 32 := 4080#32
  let v640 : BitVec 32 := Scalar.minsi v639 c4080_i32
  v640
def k0_off3 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let c16_i32_130 : BitVec 32 := 16#32
  let v636 : BitVec 32 := Scalar.subi v628 c16_i32_130
  let c0_i32_131 : BitVec 32 := 0#32
  let v637 : BitVec 32 := Scalar.maxsi v636 c0_i32_131
  let v638 : BitVec 32 := v637
  let v642 : Index := Scalar.indexCast v638
  let c0_133 : Index := 0#32
  ![v642.toNat, 0]
def k0_off4 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let c16_i32_130 : BitVec 32 := 16#32
  let v636 : BitVec 32 := Scalar.subi v628 c16_i32_130
  let c0_i32_131 : BitVec 32 := 0#32
  let v637 : BitVec 32 := Scalar.maxsi v636 c0_i32_131
  let v638 : BitVec 32 := v637
  let v644 : Index := Scalar.indexCast v638
  let c0_134 : Index := 0#32
  ![v644.toNat, 0]
def k0_off5 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let c128_i32_132 : BitVec 32 := 128#32
  let v639 : BitVec 32 := Scalar.addi v628 c128_i32_132
  let c4080_i32 : BitVec 32 := 4080#32
  let v640 : BitVec 32 := Scalar.minsi v639 c4080_i32
  let v641 : BitVec 32 := v640
  let v649 : Index := Scalar.indexCast v641
  let c0_136 : Index := 0#32
  ![v649.toNat, 0]
def k0_off6 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let c128_i32_132 : BitVec 32 := 128#32
  let v639 : BitVec 32 := Scalar.addi v628 c128_i32_132
  let c4080_i32 : BitVec 32 := 4080#32
  let v640 : BitVec 32 := Scalar.minsi v639 c4080_i32
  let v641 : BitVec 32 := v640
  let v651 : Index := Scalar.indexCast v641
  let c0_137 : Index := 0#32
  ![v651.toNat, 0]
def k0_off7 (k0_t1 : Fin k0_t1_loop.trips) (c0_i32_126 : BitVec 32) : Fin 2 → Nat :=
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let v698 : Index := Scalar.indexCast v628
  let c0_147 : Index := 0#32
  ![v698.toNat, 0]
def k0_off8 (k0_t1 : Fin k0_t1_loop.trips) (c0_i32_126 : BitVec 32) : Fin 2 → Nat :=
  let c0_148 : Index := 0#32
  let c16_i32 : BitVec 32 := 16#32
  let c0_i32 : BitVec 32 := 0#32
  let c1_i32 : BitVec 32 := 1#32
  let arg27 : BitVec 32 := Scf.iv c0_i32 c1_i32 k0_t1
  let v625 : BitVec 32 := Scalar.muli c16_i32 arg27
  let v626 : BitVec 32 := Scalar.addi v625 c0_i32_126
  let c128_i32 : BitVec 32 := 128#32
  let v627 : BitVec 32 := Scalar.muli v626 c128_i32
  let v628 : BitVec 32 := v627
  let v710 : Index := Scalar.indexCast v628
  ![0, v710.toNat]
def k0_mult4 (k0_t1 : Fin k0_t1_loop.trips) : BitVec 32 :=
  let c16_i32_149 : BitVec 32 := 16#32
  let c0_i32 : BitVec 32 := 0#32
  let c1_i32 : BitVec 32 := 1#32
  let arg27 : BitVec 32 := Scf.iv c0_i32 c1_i32 k0_t1
  let v714 : BitVec 32 := Scalar.muli c16_i32_149 arg27
  let c1_i32_150 : BitVec 32 := 1#32
  let v715 : BitVec 32 := Scalar.addi v714 c1_i32_150
  let c128_i32_151 : BitVec 32 := 128#32
  let v716 : BitVec 32 := Scalar.muli v715 c128_i32_151
  v716
def k0_mult5 (k0_t1 : Fin k0_t1_loop.trips) : BitVec 32 :=
  let c16_i32_149 : BitVec 32 := 16#32
  let c0_i32 : BitVec 32 := 0#32
  let c1_i32 : BitVec 32 := 1#32
  let arg27 : BitVec 32 := Scf.iv c0_i32 c1_i32 k0_t1
  let v714 : BitVec 32 := Scalar.muli c16_i32_149 arg27
  let c1_i32_150 : BitVec 32 := 1#32
  let v715 : BitVec 32 := Scalar.addi v714 c1_i32_150
  let c128_i32_151 : BitVec 32 := 128#32
  let v716 : BitVec 32 := Scalar.muli v715 c128_i32_151
  let v717 : BitVec 32 := v716
  let c16_i32_155 : BitVec 32 := 16#32
  let v725 : BitVec 32 := Scalar.subi v717 c16_i32_155
  let c0_i32_156 : BitVec 32 := 0#32
  let v726 : BitVec 32 := Scalar.maxsi v725 c0_i32_156
  v726
def k0_mult6 (k0_t1 : Fin k0_t1_loop.trips) : BitVec 32 :=
  let c16_i32_149 : BitVec 32 := 16#32
  let c0_i32 : BitVec 32 := 0#32
  let c1_i32 : BitVec 32 := 1#32
  let arg27 : BitVec 32 := Scf.iv c0_i32 c1_i32 k0_t1
  let v714 : BitVec 32 := Scalar.muli c16_i32_149 arg27
  let c1_i32_150 : BitVec 32 := 1#32
  let v715 : BitVec 32 := Scalar.addi v714 c1_i32_150
  let c128_i32_151 : BitVec 32 := 128#32
  let v716 : BitVec 32 := Scalar.muli v715 c128_i32_151
  let v717 : BitVec 32 := v716
  let c128_i32_157 : BitVec 32 := 128#32
  let v728 : BitVec 32 := Scalar.addi v717 c128_i32_157
  let c4080_i32_158 : BitVec 32 := 4080#32
  let v729 : BitVec 32 := Scalar.minsi v728 c4080_i32_158
  v729
def k0_mult7 (k0_t1 : Fin k0_t1_loop.trips) : BitVec 32 :=
  let c16_i32_176 : BitVec 32 := 16#32
  let c0_i32 : BitVec 32 := 0#32
  let c1_i32 : BitVec 32 := 1#32
  let arg27 : BitVec 32 := Scf.iv c0_i32 c1_i32 k0_t1
  let v803 : BitVec 32 := Scalar.muli c16_i32_176 arg27
  let c2_i32_177 : BitVec 32 := 2#32
  let v804 : BitVec 32 := Scalar.addi v803 c2_i32_177
  let c128_i32_178 : BitVec 32 := 128#32
  let v805 : BitVec 32 := Scalar.muli v804 c128_i32_178
  v805
def k0_mult8 (k0_t1 : Fin k0_t1_loop.trips) : BitVec 32 :=
  let c16_i32_176 : BitVec 32 := 16#32
  let c0_i32 : BitVec 32 := 0#32
  let c1_i32 : BitVec 32 := 1#32
  let arg27 : BitVec 32 := Scf.iv c0_i32 c1_i32 k0_t1
  let v803 : BitVec 32 := Scalar.muli c16_i32_176 arg27
  let c2_i32_177 : BitVec 32 := 2#32
  let v804 : BitVec 32 := Scalar.addi v803 c2_i32_177
  let c128_i32_178 : BitVec 32 := 128#32
  let v805 : BitVec 32 := Scalar.muli v804 c128_i32_178
  let v806 : BitVec 32 := v805
  let c16_i32_182 : BitVec 32 := 16#32
  let v814 : BitVec 32 := Scalar.subi v806 c16_i32_182
  let c0_i32_183 : BitVec 32 := 0#32
  let v815 : BitVec 32 := Scalar.maxsi v814 c0_i32_183
  v815
def k0_mult9 (k0_t1 : Fin k0_t1_loop.trips) : BitVec 32 :=
  let c16_i32_176 : BitVec 32 := 16#32
  let c0_i32 : BitVec 32 := 0#32
  let c1_i32 : BitVec 32 := 1#32
  let arg27 : BitVec 32 := Scf.iv c0_i32 c1_i32 k0_t1
  let v803 : BitVec 32 := Scalar.muli c16_i32_176 arg27
  let c2_i32_177 : BitVec 32 := 2#32
  let v804 : BitVec 32 := Scalar.addi v803 c2_i32_177
  let c128_i32_178 : BitVec 32 := 128#32
  let v805 : BitVec 32 := Scalar.muli v804 c128_i32_178
  let v806 : BitVec 32 := v805
  let c128_i32_184 : BitVec 32 := 128#32
  let v817 : BitVec 32 := Scalar.addi v806 c128_i32_184
  let c4080_i32_185 : BitVec 32 := 4080#32
  let v818 : BitVec 32 := Scalar.minsi v817 c4080_i32_185
  v818
def k0_mult10 (k0_t1 : Fin k0_t1_loop.trips) : BitVec 32 :=
  let c16_i32_203 : BitVec 32 := 16#32
  let c0_i32 : BitVec 32 := 0#32
  let c1_i32 : BitVec 32 := 1#32
  let arg27 : BitVec 32 := Scf.iv c0_i32 c1_i32 k0_t1
  let v892 : BitVec 32 := Scalar.muli c16_i32_203 arg27
  let c3_i32 : BitVec 32 := 3#32
  let v893 : BitVec 32 := Scalar.addi v892 c3_i32
  let c128_i32_204 : BitVec 32 := 128#32
  let v894 : BitVec 32 := Scalar.muli v893 c128_i32_204
  v894
def k0_mult11 (k0_t1 : Fin k0_t1_loop.trips) : BitVec 32 :=
  let c16_i32_203 : BitVec 32 := 16#32
  let c0_i32 : BitVec 32 := 0#32
  let c1_i32 : BitVec 32 := 1#32
  let arg27 : BitVec 32 := Scf.iv c0_i32 c1_i32 k0_t1
  let v892 : BitVec 32 := Scalar.muli c16_i32_203 arg27
  let c3_i32 : BitVec 32 := 3#32
  let v893 : BitVec 32 := Scalar.addi v892 c3_i32
  let c128_i32_204 : BitVec 32 := 128#32
  let v894 : BitVec 32 := Scalar.muli v893 c128_i32_204
  let v895 : BitVec 32 := v894
  let c16_i32_208 : BitVec 32 := 16#32
  let v903 : BitVec 32 := Scalar.subi v895 c16_i32_208
  let c0_i32_209 : BitVec 32 := 0#32
  let v904 : BitVec 32 := Scalar.maxsi v903 c0_i32_209
  v904
def k0_mult12 (k0_t1 : Fin k0_t1_loop.trips) : BitVec 32 :=
  let c16_i32_203 : BitVec 32 := 16#32
  let c0_i32 : BitVec 32 := 0#32
  let c1_i32 : BitVec 32 := 1#32
  let arg27 : BitVec 32 := Scf.iv c0_i32 c1_i32 k0_t1
  let v892 : BitVec 32 := Scalar.muli c16_i32_203 arg27
  let c3_i32 : BitVec 32 := 3#32
  let v893 : BitVec 32 := Scalar.addi v892 c3_i32
  let c128_i32_204 : BitVec 32 := 128#32
  let v894 : BitVec 32 := Scalar.muli v893 c128_i32_204
  let v895 : BitVec 32 := v894
  let c128_i32_210 : BitVec 32 := 128#32
  let v906 : BitVec 32 := Scalar.addi v895 c128_i32_210
  let c4080_i32_211 : BitVec 32 := 4080#32
  let v907 : BitVec 32 := Scalar.minsi v906 c4080_i32_211
  v907
def k0_mult13 (k0_t1 : Fin k0_t1_loop.trips) : BitVec 32 :=
  let c16_i32_229 : BitVec 32 := 16#32
  let c0_i32 : BitVec 32 := 0#32
  let c1_i32 : BitVec 32 := 1#32
  let arg27 : BitVec 32 := Scf.iv c0_i32 c1_i32 k0_t1
  let v981 : BitVec 32 := Scalar.muli c16_i32_229 arg27
  let c4_i32 : BitVec 32 := 4#32
  let v982 : BitVec 32 := Scalar.addi v981 c4_i32
  let c128_i32_230 : BitVec 32 := 128#32
  let v983 : BitVec 32 := Scalar.muli v982 c128_i32_230
  v983
def k0_mult14 (k0_t1 : Fin k0_t1_loop.trips) : BitVec 32 :=
  let c16_i32_229 : BitVec 32 := 16#32
  let c0_i32 : BitVec 32 := 0#32
  let c1_i32 : BitVec 32 := 1#32
  let arg27 : BitVec 32 := Scf.iv c0_i32 c1_i32 k0_t1
  let v981 : BitVec 32 := Scalar.muli c16_i32_229 arg27
  let c4_i32 : BitVec 32 := 4#32
  let v982 : BitVec 32 := Scalar.addi v981 c4_i32
  let c128_i32_230 : BitVec 32 := 128#32
  let v983 : BitVec 32 := Scalar.muli v982 c128_i32_230
  let v984 : BitVec 32 := v983
  let c16_i32_234 : BitVec 32 := 16#32
  let v992 : BitVec 32 := Scalar.subi v984 c16_i32_234
  let c0_i32_235 : BitVec 32 := 0#32
  let v993 : BitVec 32 := Scalar.maxsi v992 c0_i32_235
  v993
def k0_mult15 (k0_t1 : Fin k0_t1_loop.trips) : BitVec 32 :=
  let c16_i32_229 : BitVec 32 := 16#32
  let c0_i32 : BitVec 32 := 0#32
  let c1_i32 : BitVec 32 := 1#32
  let arg27 : BitVec 32 := Scf.iv c0_i32 c1_i32 k0_t1
  let v981 : BitVec 32 := Scalar.muli c16_i32_229 arg27
  let c4_i32 : BitVec 32 := 4#32
  let v982 : BitVec 32 := Scalar.addi v981 c4_i32
  let c128_i32_230 : BitVec 32 := 128#32
  let v983 : BitVec 32 := Scalar.muli v982 c128_i32_230
  let v984 : BitVec 32 := v983
  let c128_i32_236 : BitVec 32 := 128#32
  let v995 : BitVec 32 := Scalar.addi v984 c128_i32_236
  let c4080_i32_237 : BitVec 32 := 4080#32
  let v996 : BitVec 32 := Scalar.minsi v995 c4080_i32_237
  v996
def k0_mult16 (k0_t1 : Fin k0_t1_loop.trips) : BitVec 32 :=
  let c16_i32_255 : BitVec 32 := 16#32
  let c0_i32 : BitVec 32 := 0#32
  let c1_i32 : BitVec 32 := 1#32
  let arg27 : BitVec 32 := Scf.iv c0_i32 c1_i32 k0_t1
  let v1070 : BitVec 32 := Scalar.muli c16_i32_255 arg27
  let c5_i32 : BitVec 32 := 5#32
  let v1071 : BitVec 32 := Scalar.addi v1070 c5_i32
  let c128_i32_256 : BitVec 32 := 128#32
  let v1072 : BitVec 32 := Scalar.muli v1071 c128_i32_256
  v1072
def k0_mult17 (k0_t1 : Fin k0_t1_loop.trips) : BitVec 32 :=
  let c16_i32_255 : BitVec 32 := 16#32
  let c0_i32 : BitVec 32 := 0#32
  let c1_i32 : BitVec 32 := 1#32
  let arg27 : BitVec 32 := Scf.iv c0_i32 c1_i32 k0_t1
  let v1070 : BitVec 32 := Scalar.muli c16_i32_255 arg27
  let c5_i32 : BitVec 32 := 5#32
  let v1071 : BitVec 32 := Scalar.addi v1070 c5_i32
  let c128_i32_256 : BitVec 32 := 128#32
  let v1072 : BitVec 32 := Scalar.muli v1071 c128_i32_256
  let v1073 : BitVec 32 := v1072
  let c16_i32_260 : BitVec 32 := 16#32
  let v1081 : BitVec 32 := Scalar.subi v1073 c16_i32_260
  let c0_i32_261 : BitVec 32 := 0#32
  let v1082 : BitVec 32 := Scalar.maxsi v1081 c0_i32_261
  v1082
def k0_mult18 (k0_t1 : Fin k0_t1_loop.trips) : BitVec 32 :=
  let c16_i32_255 : BitVec 32 := 16#32
  let c0_i32 : BitVec 32 := 0#32
  let c1_i32 : BitVec 32 := 1#32
  let arg27 : BitVec 32 := Scf.iv c0_i32 c1_i32 k0_t1
  let v1070 : BitVec 32 := Scalar.muli c16_i32_255 arg27
  let c5_i32 : BitVec 32 := 5#32
  let v1071 : BitVec 32 := Scalar.addi v1070 c5_i32
  let c128_i32_256 : BitVec 32 := 128#32
  let v1072 : BitVec 32 := Scalar.muli v1071 c128_i32_256
  let v1073 : BitVec 32 := v1072
  let c128_i32_262 : BitVec 32 := 128#32
  let v1084 : BitVec 32 := Scalar.addi v1073 c128_i32_262
  let c4080_i32_263 : BitVec 32 := 4080#32
  let v1085 : BitVec 32 := Scalar.minsi v1084 c4080_i32_263
  v1085
def k0_mult19 (k0_t1 : Fin k0_t1_loop.trips) : BitVec 32 :=
  let c16_i32_281 : BitVec 32 := 16#32
  let c0_i32 : BitVec 32 := 0#32
  let c1_i32 : BitVec 32 := 1#32
  let arg27 : BitVec 32 := Scf.iv c0_i32 c1_i32 k0_t1
  let v1159 : BitVec 32 := Scalar.muli c16_i32_281 arg27
  let c6_i32 : BitVec 32 := 6#32
  let v1160 : BitVec 32 := Scalar.addi v1159 c6_i32
  let c128_i32_282 : BitVec 32 := 128#32
  let v1161 : BitVec 32 := Scalar.muli v1160 c128_i32_282
  v1161
def k0_mult20 (k0_t1 : Fin k0_t1_loop.trips) : BitVec 32 :=
  let c16_i32_281 : BitVec 32 := 16#32
  let c0_i32 : BitVec 32 := 0#32
  let c1_i32 : BitVec 32 := 1#32
  let arg27 : BitVec 32 := Scf.iv c0_i32 c1_i32 k0_t1
  let v1159 : BitVec 32 := Scalar.muli c16_i32_281 arg27
  let c6_i32 : BitVec 32 := 6#32
  let v1160 : BitVec 32 := Scalar.addi v1159 c6_i32
  let c128_i32_282 : BitVec 32 := 128#32
  let v1161 : BitVec 32 := Scalar.muli v1160 c128_i32_282
  let v1162 : BitVec 32 := v1161
  let c16_i32_286 : BitVec 32 := 16#32
  let v1170 : BitVec 32 := Scalar.subi v1162 c16_i32_286
  let c0_i32_287 : BitVec 32 := 0#32
  let v1171 : BitVec 32 := Scalar.maxsi v1170 c0_i32_287
  v1171
def k0_mult21 (k0_t1 : Fin k0_t1_loop.trips) : BitVec 32 :=
  let c16_i32_281 : BitVec 32 := 16#32
  let c0_i32 : BitVec 32 := 0#32
  let c1_i32 : BitVec 32 := 1#32
  let arg27 : BitVec 32 := Scf.iv c0_i32 c1_i32 k0_t1
  let v1159 : BitVec 32 := Scalar.muli c16_i32_281 arg27
  let c6_i32 : BitVec 32 := 6#32
  let v1160 : BitVec 32 := Scalar.addi v1159 c6_i32
  let c128_i32_282 : BitVec 32 := 128#32
  let v1161 : BitVec 32 := Scalar.muli v1160 c128_i32_282
  let v1162 : BitVec 32 := v1161
  let c128_i32_288 : BitVec 32 := 128#32
  let v1173 : BitVec 32 := Scalar.addi v1162 c128_i32_288
  let c4080_i32_289 : BitVec 32 := 4080#32
  let v1174 : BitVec 32 := Scalar.minsi v1173 c4080_i32_289
  v1174
def k0_mult22 (k0_t1 : Fin k0_t1_loop.trips) : BitVec 32 :=
  let c16_i32_307 : BitVec 32 := 16#32
  let c0_i32 : BitVec 32 := 0#32
  let c1_i32 : BitVec 32 := 1#32
  let arg27 : BitVec 32 := Scf.iv c0_i32 c1_i32 k0_t1
  let v1248 : BitVec 32 := Scalar.muli c16_i32_307 arg27
  let c7_i32 : BitVec 32 := 7#32
  let v1249 : BitVec 32 := Scalar.addi v1248 c7_i32
  let c128_i32_308 : BitVec 32 := 128#32
  let v1250 : BitVec 32 := Scalar.muli v1249 c128_i32_308
  v1250
def k0_mult23 (k0_t1 : Fin k0_t1_loop.trips) : BitVec 32 :=
  let c16_i32_307 : BitVec 32 := 16#32
  let c0_i32 : BitVec 32 := 0#32
  let c1_i32 : BitVec 32 := 1#32
  let arg27 : BitVec 32 := Scf.iv c0_i32 c1_i32 k0_t1
  let v1248 : BitVec 32 := Scalar.muli c16_i32_307 arg27
  let c7_i32 : BitVec 32 := 7#32
  let v1249 : BitVec 32 := Scalar.addi v1248 c7_i32
  let c128_i32_308 : BitVec 32 := 128#32
  let v1250 : BitVec 32 := Scalar.muli v1249 c128_i32_308
  let v1251 : BitVec 32 := v1250
  let c16_i32_312 : BitVec 32 := 16#32
  let v1259 : BitVec 32 := Scalar.subi v1251 c16_i32_312
  let c0_i32_313 : BitVec 32 := 0#32
  let v1260 : BitVec 32 := Scalar.maxsi v1259 c0_i32_313
  v1260
def k0_mult24 (k0_t1 : Fin k0_t1_loop.trips) : BitVec 32 :=
  let c16_i32_307 : BitVec 32 := 16#32
  let c0_i32 : BitVec 32 := 0#32
  let c1_i32 : BitVec 32 := 1#32
  let arg27 : BitVec 32 := Scf.iv c0_i32 c1_i32 k0_t1
  let v1248 : BitVec 32 := Scalar.muli c16_i32_307 arg27
  let c7_i32 : BitVec 32 := 7#32
  let v1249 : BitVec 32 := Scalar.addi v1248 c7_i32
  let c128_i32_308 : BitVec 32 := 128#32
  let v1250 : BitVec 32 := Scalar.muli v1249 c128_i32_308
  let v1251 : BitVec 32 := v1250
  let c128_i32_314 : BitVec 32 := 128#32
  let v1262 : BitVec 32 := Scalar.addi v1251 c128_i32_314
  let c4080_i32_315 : BitVec 32 := 4080#32
  let v1263 : BitVec 32 := Scalar.minsi v1262 c4080_i32_315
  v1263
def k0_mult25 (k0_t1 : Fin k0_t1_loop.trips) : BitVec 32 :=
  let c16_i32_333 : BitVec 32 := 16#32
  let c0_i32 : BitVec 32 := 0#32
  let c1_i32 : BitVec 32 := 1#32
  let arg27 : BitVec 32 := Scf.iv c0_i32 c1_i32 k0_t1
  let v1337 : BitVec 32 := Scalar.muli c16_i32_333 arg27
  let c8_i32 : BitVec 32 := 8#32
  let v1338 : BitVec 32 := Scalar.addi v1337 c8_i32
  let c128_i32_334 : BitVec 32 := 128#32
  let v1339 : BitVec 32 := Scalar.muli v1338 c128_i32_334
  v1339
def k0_mult26 (k0_t1 : Fin k0_t1_loop.trips) : BitVec 32 :=
  let c16_i32_333 : BitVec 32 := 16#32
  let c0_i32 : BitVec 32 := 0#32
  let c1_i32 : BitVec 32 := 1#32
  let arg27 : BitVec 32 := Scf.iv c0_i32 c1_i32 k0_t1
  let v1337 : BitVec 32 := Scalar.muli c16_i32_333 arg27
  let c8_i32 : BitVec 32 := 8#32
  let v1338 : BitVec 32 := Scalar.addi v1337 c8_i32
  let c128_i32_334 : BitVec 32 := 128#32
  let v1339 : BitVec 32 := Scalar.muli v1338 c128_i32_334
  let v1340 : BitVec 32 := v1339
  let c16_i32_338 : BitVec 32 := 16#32
  let v1348 : BitVec 32 := Scalar.subi v1340 c16_i32_338
  let c0_i32_339 : BitVec 32 := 0#32
  let v1349 : BitVec 32 := Scalar.maxsi v1348 c0_i32_339
  v1349
def k0_mult27 (k0_t1 : Fin k0_t1_loop.trips) : BitVec 32 :=
  let c16_i32_333 : BitVec 32 := 16#32
  let c0_i32 : BitVec 32 := 0#32
  let c1_i32 : BitVec 32 := 1#32
  let arg27 : BitVec 32 := Scf.iv c0_i32 c1_i32 k0_t1
  let v1337 : BitVec 32 := Scalar.muli c16_i32_333 arg27
  let c8_i32 : BitVec 32 := 8#32
  let v1338 : BitVec 32 := Scalar.addi v1337 c8_i32
  let c128_i32_334 : BitVec 32 := 128#32
  let v1339 : BitVec 32 := Scalar.muli v1338 c128_i32_334
  let v1340 : BitVec 32 := v1339
  let c128_i32_340 : BitVec 32 := 128#32
  let v1351 : BitVec 32 := Scalar.addi v1340 c128_i32_340
  let c4080_i32_341 : BitVec 32 := 4080#32
  let v1352 : BitVec 32 := Scalar.minsi v1351 c4080_i32_341
  v1352
def k0_mult28 (k0_t1 : Fin k0_t1_loop.trips) : BitVec 32 :=
  let c16_i32_359 : BitVec 32 := 16#32
  let c0_i32 : BitVec 32 := 0#32
  let c1_i32 : BitVec 32 := 1#32
  let arg27 : BitVec 32 := Scf.iv c0_i32 c1_i32 k0_t1
  let v1426 : BitVec 32 := Scalar.muli c16_i32_359 arg27
  let c9_i32 : BitVec 32 := 9#32
  let v1427 : BitVec 32 := Scalar.addi v1426 c9_i32
  let c128_i32_360 : BitVec 32 := 128#32
  let v1428 : BitVec 32 := Scalar.muli v1427 c128_i32_360
  v1428
def k0_mult29 (k0_t1 : Fin k0_t1_loop.trips) : BitVec 32 :=
  let c16_i32_359 : BitVec 32 := 16#32
  let c0_i32 : BitVec 32 := 0#32
  let c1_i32 : BitVec 32 := 1#32
  let arg27 : BitVec 32 := Scf.iv c0_i32 c1_i32 k0_t1
  let v1426 : BitVec 32 := Scalar.muli c16_i32_359 arg27
  let c9_i32 : BitVec 32 := 9#32
  let v1427 : BitVec 32 := Scalar.addi v1426 c9_i32
  let c128_i32_360 : BitVec 32 := 128#32
  let v1428 : BitVec 32 := Scalar.muli v1427 c128_i32_360
  let v1429 : BitVec 32 := v1428
  let c16_i32_364 : BitVec 32 := 16#32
  let v1437 : BitVec 32 := Scalar.subi v1429 c16_i32_364
  let c0_i32_365 : BitVec 32 := 0#32
  let v1438 : BitVec 32 := Scalar.maxsi v1437 c0_i32_365
  v1438
def k0_mult30 (k0_t1 : Fin k0_t1_loop.trips) : BitVec 32 :=
  let c16_i32_359 : BitVec 32 := 16#32
  let c0_i32 : BitVec 32 := 0#32
  let c1_i32 : BitVec 32 := 1#32
  let arg27 : BitVec 32 := Scf.iv c0_i32 c1_i32 k0_t1
  let v1426 : BitVec 32 := Scalar.muli c16_i32_359 arg27
  let c9_i32 : BitVec 32 := 9#32
  let v1427 : BitVec 32 := Scalar.addi v1426 c9_i32
  let c128_i32_360 : BitVec 32 := 128#32
  let v1428 : BitVec 32 := Scalar.muli v1427 c128_i32_360
  let v1429 : BitVec 32 := v1428
  let c128_i32_366 : BitVec 32 := 128#32
  let v1440 : BitVec 32 := Scalar.addi v1429 c128_i32_366
  let c4080_i32_367 : BitVec 32 := 4080#32
  let v1441 : BitVec 32 := Scalar.minsi v1440 c4080_i32_367
  v1441
def k0_mult31 (k0_t1 : Fin k0_t1_loop.trips) : BitVec 32 :=
  let c16_i32_385 : BitVec 32 := 16#32
  let c0_i32 : BitVec 32 := 0#32
  let c1_i32 : BitVec 32 := 1#32
  let arg27 : BitVec 32 := Scf.iv c0_i32 c1_i32 k0_t1
  let v1515 : BitVec 32 := Scalar.muli c16_i32_385 arg27
  let c10_i32 : BitVec 32 := 10#32
  let v1516 : BitVec 32 := Scalar.addi v1515 c10_i32
  let c128_i32_386 : BitVec 32 := 128#32
  let v1517 : BitVec 32 := Scalar.muli v1516 c128_i32_386
  v1517
def k0_mult32 (k0_t1 : Fin k0_t1_loop.trips) : BitVec 32 :=
  let c16_i32_385 : BitVec 32 := 16#32
  let c0_i32 : BitVec 32 := 0#32
  let c1_i32 : BitVec 32 := 1#32
  let arg27 : BitVec 32 := Scf.iv c0_i32 c1_i32 k0_t1
  let v1515 : BitVec 32 := Scalar.muli c16_i32_385 arg27
  let c10_i32 : BitVec 32 := 10#32
  let v1516 : BitVec 32 := Scalar.addi v1515 c10_i32
  let c128_i32_386 : BitVec 32 := 128#32
  let v1517 : BitVec 32 := Scalar.muli v1516 c128_i32_386
  let v1518 : BitVec 32 := v1517
  let c16_i32_390 : BitVec 32 := 16#32
  let v1526 : BitVec 32 := Scalar.subi v1518 c16_i32_390
  let c0_i32_391 : BitVec 32 := 0#32
  let v1527 : BitVec 32 := Scalar.maxsi v1526 c0_i32_391
  v1527
def k0_mult33 (k0_t1 : Fin k0_t1_loop.trips) : BitVec 32 :=
  let c16_i32_385 : BitVec 32 := 16#32
  let c0_i32 : BitVec 32 := 0#32
  let c1_i32 : BitVec 32 := 1#32
  let arg27 : BitVec 32 := Scf.iv c0_i32 c1_i32 k0_t1
  let v1515 : BitVec 32 := Scalar.muli c16_i32_385 arg27
  let c10_i32 : BitVec 32 := 10#32
  let v1516 : BitVec 32 := Scalar.addi v1515 c10_i32
  let c128_i32_386 : BitVec 32 := 128#32
  let v1517 : BitVec 32 := Scalar.muli v1516 c128_i32_386
  let v1518 : BitVec 32 := v1517
  let c128_i32_392 : BitVec 32 := 128#32
  let v1529 : BitVec 32 := Scalar.addi v1518 c128_i32_392
  let c4080_i32_393 : BitVec 32 := 4080#32
  let v1530 : BitVec 32 := Scalar.minsi v1529 c4080_i32_393
  v1530
def k0_mult34 (k0_t1 : Fin k0_t1_loop.trips) : BitVec 32 :=
  let c16_i32_411 : BitVec 32 := 16#32
  let c0_i32 : BitVec 32 := 0#32
  let c1_i32 : BitVec 32 := 1#32
  let arg27 : BitVec 32 := Scf.iv c0_i32 c1_i32 k0_t1
  let v1604 : BitVec 32 := Scalar.muli c16_i32_411 arg27
  let c11_i32 : BitVec 32 := 11#32
  let v1605 : BitVec 32 := Scalar.addi v1604 c11_i32
  let c128_i32_412 : BitVec 32 := 128#32
  let v1606 : BitVec 32 := Scalar.muli v1605 c128_i32_412
  v1606
def k0_mult35 (k0_t1 : Fin k0_t1_loop.trips) : BitVec 32 :=
  let c16_i32_411 : BitVec 32 := 16#32
  let c0_i32 : BitVec 32 := 0#32
  let c1_i32 : BitVec 32 := 1#32
  let arg27 : BitVec 32 := Scf.iv c0_i32 c1_i32 k0_t1
  let v1604 : BitVec 32 := Scalar.muli c16_i32_411 arg27
  let c11_i32 : BitVec 32 := 11#32
  let v1605 : BitVec 32 := Scalar.addi v1604 c11_i32
  let c128_i32_412 : BitVec 32 := 128#32
  let v1606 : BitVec 32 := Scalar.muli v1605 c128_i32_412
  let v1607 : BitVec 32 := v1606
  let c16_i32_416 : BitVec 32 := 16#32
  let v1615 : BitVec 32 := Scalar.subi v1607 c16_i32_416
  let c0_i32_417 : BitVec 32 := 0#32
  let v1616 : BitVec 32 := Scalar.maxsi v1615 c0_i32_417
  v1616
def k0_mult36 (k0_t1 : Fin k0_t1_loop.trips) : BitVec 32 :=
  let c16_i32_411 : BitVec 32 := 16#32
  let c0_i32 : BitVec 32 := 0#32
  let c1_i32 : BitVec 32 := 1#32
  let arg27 : BitVec 32 := Scf.iv c0_i32 c1_i32 k0_t1
  let v1604 : BitVec 32 := Scalar.muli c16_i32_411 arg27
  let c11_i32 : BitVec 32 := 11#32
  let v1605 : BitVec 32 := Scalar.addi v1604 c11_i32
  let c128_i32_412 : BitVec 32 := 128#32
  let v1606 : BitVec 32 := Scalar.muli v1605 c128_i32_412
  let v1607 : BitVec 32 := v1606
  let c128_i32_418 : BitVec 32 := 128#32
  let v1618 : BitVec 32 := Scalar.addi v1607 c128_i32_418
  let c4080_i32_419 : BitVec 32 := 4080#32
  let v1619 : BitVec 32 := Scalar.minsi v1618 c4080_i32_419
  v1619
def k0_mult37 (k0_t1 : Fin k0_t1_loop.trips) : BitVec 32 :=
  let c16_i32_437 : BitVec 32 := 16#32
  let c0_i32 : BitVec 32 := 0#32
  let c1_i32 : BitVec 32 := 1#32
  let arg27 : BitVec 32 := Scf.iv c0_i32 c1_i32 k0_t1
  let v1693 : BitVec 32 := Scalar.muli c16_i32_437 arg27
  let c12_i32 : BitVec 32 := 12#32
  let v1694 : BitVec 32 := Scalar.addi v1693 c12_i32
  let c128_i32_438 : BitVec 32 := 128#32
  let v1695 : BitVec 32 := Scalar.muli v1694 c128_i32_438
  v1695
def k0_mult38 (k0_t1 : Fin k0_t1_loop.trips) : BitVec 32 :=
  let c16_i32_437 : BitVec 32 := 16#32
  let c0_i32 : BitVec 32 := 0#32
  let c1_i32 : BitVec 32 := 1#32
  let arg27 : BitVec 32 := Scf.iv c0_i32 c1_i32 k0_t1
  let v1693 : BitVec 32 := Scalar.muli c16_i32_437 arg27
  let c12_i32 : BitVec 32 := 12#32
  let v1694 : BitVec 32 := Scalar.addi v1693 c12_i32
  let c128_i32_438 : BitVec 32 := 128#32
  let v1695 : BitVec 32 := Scalar.muli v1694 c128_i32_438
  let v1696 : BitVec 32 := v1695
  let c16_i32_442 : BitVec 32 := 16#32
  let v1704 : BitVec 32 := Scalar.subi v1696 c16_i32_442
  let c0_i32_443 : BitVec 32 := 0#32
  let v1705 : BitVec 32 := Scalar.maxsi v1704 c0_i32_443
  v1705
def k0_mult39 (k0_t1 : Fin k0_t1_loop.trips) : BitVec 32 :=
  let c16_i32_437 : BitVec 32 := 16#32
  let c0_i32 : BitVec 32 := 0#32
  let c1_i32 : BitVec 32 := 1#32
  let arg27 : BitVec 32 := Scf.iv c0_i32 c1_i32 k0_t1
  let v1693 : BitVec 32 := Scalar.muli c16_i32_437 arg27
  let c12_i32 : BitVec 32 := 12#32
  let v1694 : BitVec 32 := Scalar.addi v1693 c12_i32
  let c128_i32_438 : BitVec 32 := 128#32
  let v1695 : BitVec 32 := Scalar.muli v1694 c128_i32_438
  let v1696 : BitVec 32 := v1695
  let c128_i32_444 : BitVec 32 := 128#32
  let v1707 : BitVec 32 := Scalar.addi v1696 c128_i32_444
  let c4080_i32_445 : BitVec 32 := 4080#32
  let v1708 : BitVec 32 := Scalar.minsi v1707 c4080_i32_445
  v1708
def k0_mult40 (k0_t1 : Fin k0_t1_loop.trips) : BitVec 32 :=
  let c16_i32_463 : BitVec 32 := 16#32
  let c0_i32 : BitVec 32 := 0#32
  let c1_i32 : BitVec 32 := 1#32
  let arg27 : BitVec 32 := Scf.iv c0_i32 c1_i32 k0_t1
  let v1782 : BitVec 32 := Scalar.muli c16_i32_463 arg27
  let c13_i32 : BitVec 32 := 13#32
  let v1783 : BitVec 32 := Scalar.addi v1782 c13_i32
  let c128_i32_464 : BitVec 32 := 128#32
  let v1784 : BitVec 32 := Scalar.muli v1783 c128_i32_464
  v1784
def k0_mult41 (k0_t1 : Fin k0_t1_loop.trips) : BitVec 32 :=
  let c16_i32_463 : BitVec 32 := 16#32
  let c0_i32 : BitVec 32 := 0#32
  let c1_i32 : BitVec 32 := 1#32
  let arg27 : BitVec 32 := Scf.iv c0_i32 c1_i32 k0_t1
  let v1782 : BitVec 32 := Scalar.muli c16_i32_463 arg27
  let c13_i32 : BitVec 32 := 13#32
  let v1783 : BitVec 32 := Scalar.addi v1782 c13_i32
  let c128_i32_464 : BitVec 32 := 128#32
  let v1784 : BitVec 32 := Scalar.muli v1783 c128_i32_464
  let v1785 : BitVec 32 := v1784
  let c16_i32_468 : BitVec 32 := 16#32
  let v1793 : BitVec 32 := Scalar.subi v1785 c16_i32_468
  let c0_i32_469 : BitVec 32 := 0#32
  let v1794 : BitVec 32 := Scalar.maxsi v1793 c0_i32_469
  v1794
def k0_mult42 (k0_t1 : Fin k0_t1_loop.trips) : BitVec 32 :=
  let c16_i32_463 : BitVec 32 := 16#32
  let c0_i32 : BitVec 32 := 0#32
  let c1_i32 : BitVec 32 := 1#32
  let arg27 : BitVec 32 := Scf.iv c0_i32 c1_i32 k0_t1
  let v1782 : BitVec 32 := Scalar.muli c16_i32_463 arg27
  let c13_i32 : BitVec 32 := 13#32
  let v1783 : BitVec 32 := Scalar.addi v1782 c13_i32
  let c128_i32_464 : BitVec 32 := 128#32
  let v1784 : BitVec 32 := Scalar.muli v1783 c128_i32_464
  let v1785 : BitVec 32 := v1784
  let c128_i32_470 : BitVec 32 := 128#32
  let v1796 : BitVec 32 := Scalar.addi v1785 c128_i32_470
  let c4080_i32_471 : BitVec 32 := 4080#32
  let v1797 : BitVec 32 := Scalar.minsi v1796 c4080_i32_471
  v1797
def k0_mult43 (k0_t1 : Fin k0_t1_loop.trips) : BitVec 32 :=
  let c16_i32_489 : BitVec 32 := 16#32
  let c0_i32 : BitVec 32 := 0#32
  let c1_i32 : BitVec 32 := 1#32
  let arg27 : BitVec 32 := Scf.iv c0_i32 c1_i32 k0_t1
  let v1871 : BitVec 32 := Scalar.muli c16_i32_489 arg27
  let c14_i32 : BitVec 32 := 14#32
  let v1872 : BitVec 32 := Scalar.addi v1871 c14_i32
  let c128_i32_490 : BitVec 32 := 128#32
  let v1873 : BitVec 32 := Scalar.muli v1872 c128_i32_490
  v1873
def k0_mult44 (k0_t1 : Fin k0_t1_loop.trips) : BitVec 32 :=
  let c16_i32_489 : BitVec 32 := 16#32
  let c0_i32 : BitVec 32 := 0#32
  let c1_i32 : BitVec 32 := 1#32
  let arg27 : BitVec 32 := Scf.iv c0_i32 c1_i32 k0_t1
  let v1871 : BitVec 32 := Scalar.muli c16_i32_489 arg27
  let c14_i32 : BitVec 32 := 14#32
  let v1872 : BitVec 32 := Scalar.addi v1871 c14_i32
  let c128_i32_490 : BitVec 32 := 128#32
  let v1873 : BitVec 32 := Scalar.muli v1872 c128_i32_490
  let v1874 : BitVec 32 := v1873
  let c16_i32_494 : BitVec 32 := 16#32
  let v1882 : BitVec 32 := Scalar.subi v1874 c16_i32_494
  let c0_i32_495 : BitVec 32 := 0#32
  let v1883 : BitVec 32 := Scalar.maxsi v1882 c0_i32_495
  v1883
def k0_mult45 (k0_t1 : Fin k0_t1_loop.trips) : BitVec 32 :=
  let c16_i32_489 : BitVec 32 := 16#32
  let c0_i32 : BitVec 32 := 0#32
  let c1_i32 : BitVec 32 := 1#32
  let arg27 : BitVec 32 := Scf.iv c0_i32 c1_i32 k0_t1
  let v1871 : BitVec 32 := Scalar.muli c16_i32_489 arg27
  let c14_i32 : BitVec 32 := 14#32
  let v1872 : BitVec 32 := Scalar.addi v1871 c14_i32
  let c128_i32_490 : BitVec 32 := 128#32
  let v1873 : BitVec 32 := Scalar.muli v1872 c128_i32_490
  let v1874 : BitVec 32 := v1873
  let c128_i32_496 : BitVec 32 := 128#32
  let v1885 : BitVec 32 := Scalar.addi v1874 c128_i32_496
  let c4080_i32_497 : BitVec 32 := 4080#32
  let v1886 : BitVec 32 := Scalar.minsi v1885 c4080_i32_497
  v1886
def k0_mult46 (k0_t1 : Fin k0_t1_loop.trips) : BitVec 32 :=
  let c16_i32_515 : BitVec 32 := 16#32
  let c0_i32 : BitVec 32 := 0#32
  let c1_i32 : BitVec 32 := 1#32
  let arg27 : BitVec 32 := Scf.iv c0_i32 c1_i32 k0_t1
  let v1960 : BitVec 32 := Scalar.muli c16_i32_515 arg27
  let c15_i32 : BitVec 32 := 15#32
  let v1961 : BitVec 32 := Scalar.addi v1960 c15_i32
  let c128_i32_516 : BitVec 32 := 128#32
  let v1962 : BitVec 32 := Scalar.muli v1961 c128_i32_516
  v1962
def k0_mult47 (k0_t1 : Fin k0_t1_loop.trips) : BitVec 32 :=
  let c16_i32_515 : BitVec 32 := 16#32
  let c0_i32 : BitVec 32 := 0#32
  let c1_i32 : BitVec 32 := 1#32
  let arg27 : BitVec 32 := Scf.iv c0_i32 c1_i32 k0_t1
  let v1960 : BitVec 32 := Scalar.muli c16_i32_515 arg27
  let c15_i32 : BitVec 32 := 15#32
  let v1961 : BitVec 32 := Scalar.addi v1960 c15_i32
  let c128_i32_516 : BitVec 32 := 128#32
  let v1962 : BitVec 32 := Scalar.muli v1961 c128_i32_516
  let v1963 : BitVec 32 := v1962
  let c16_i32_520 : BitVec 32 := 16#32
  let v1971 : BitVec 32 := Scalar.subi v1963 c16_i32_520
  let c0_i32_521 : BitVec 32 := 0#32
  let v1972 : BitVec 32 := Scalar.maxsi v1971 c0_i32_521
  v1972
def k0_mult48 (k0_t1 : Fin k0_t1_loop.trips) : BitVec 32 :=
  let c16_i32_515 : BitVec 32 := 16#32
  let c0_i32 : BitVec 32 := 0#32
  let c1_i32 : BitVec 32 := 1#32
  let arg27 : BitVec 32 := Scf.iv c0_i32 c1_i32 k0_t1
  let v1960 : BitVec 32 := Scalar.muli c16_i32_515 arg27
  let c15_i32 : BitVec 32 := 15#32
  let v1961 : BitVec 32 := Scalar.addi v1960 c15_i32
  let c128_i32_516 : BitVec 32 := 128#32
  let v1962 : BitVec 32 := Scalar.muli v1961 c128_i32_516
  let v1963 : BitVec 32 := v1962
  let c128_i32_522 : BitVec 32 := 128#32
  let v1974 : BitVec 32 := Scalar.addi v1963 c128_i32_522
  let c4080_i32_523 : BitVec 32 := 4080#32
  let v1975 : BitVec 32 := Scalar.minsi v1974 c4080_i32_523
  v1975
def k0_mult49 : BitVec 32 :=
  let c0_i32_89 : BitVec 32 := 0#32
  c0_i32_89
def k0_mult50 : BitVec 32 :=
  let c3968_i32 : BitVec 32 := 3968#32
  c3968_i32
@[reducible] def k0_t2_loop : Scf.Loop 32 :=
  let c0_i32_118 : BitVec 32 := 0#32
  let c2_i32_119 : BitVec 32 := 2#32
  let v623 : BitVec 32 := Scalar.addi c0_i32_118 c2_i32_119
  let c1_i32_120 : BitVec 32 := 1#32
  ⟨c0_i32_118, v623, c1_i32_120⟩
def k0_mult51 (k0_t2 : Fin k0_t2_loop.trips) : BitVec 32 :=
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let c128_i32 : BitVec 32 := 128#32
  let v628 : BitVec 32 := Scalar.muli v626 c128_i32
  v628
def k0_off9 (k0_t2 : Fin k0_t2_loop.trips) (c0_i32_126 : BitVec 32) : Fin 2 → Nat :=
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c128_i32 : BitVec 32 := 128#32
  let v628 : BitVec 32 := Scalar.muli v626 c128_i32
  let v629 : BitVec 32 := v628
  let v630 : Index := Scalar.indexCast v629
  let c0_127 : Index := 0#32
  ![v630.toNat, 0]
def k0_mult52 (k0_t2 : Fin k0_t2_loop.trips) : BitVec 32 :=
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let c8_i32_128 : BitVec 32 := 8#32
  let v635 : BitVec 32 := Scalar.muli v626 c8_i32_128
  v635
def k0_off10 (k0_t2 : Fin k0_t2_loop.trips) (c0_i32_126 : BitVec 32) : Fin 3 → Nat :=
  let c0_129 : Index := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c8_i32_128 : BitVec 32 := 8#32
  let v635 : BitVec 32 := Scalar.muli v626 c8_i32_128
  let v636 : BitVec 32 := v635
  let v637 : Index := Scalar.indexCast v636
  let c0_130 : Index := 0#32
  ![0, v637.toNat, 0]
def k0_off11 (k0_t2 : Fin k0_t2_loop.trips) (c0_i32_126 : BitVec 32) : Fin 3 → Nat :=
  let c1_131 : Index := 1#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c8_i32_128 : BitVec 32 := 8#32
  let v635 : BitVec 32 := Scalar.muli v626 c8_i32_128
  let v636 : BitVec 32 := v635
  let v640 : Index := Scalar.indexCast v636
  let c0_132 : Index := 0#32
  ![1, v640.toNat, 0]
def k0_off12 (k0_t2 : Fin k0_t2_loop.trips) (c0_i32_126 : BitVec 32) : Fin 3 → Nat :=
  let c2_133 : Index := 2#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c8_i32_128 : BitVec 32 := 8#32
  let v635 : BitVec 32 := Scalar.muli v626 c8_i32_128
  let v636 : BitVec 32 := v635
  let v643 : Index := Scalar.indexCast v636
  let c0_134 : Index := 0#32
  ![2, v643.toNat, 0]
def k0_off13 (k0_t2 : Fin k0_t2_loop.trips) (c0_i32_126 : BitVec 32) : Fin 3 → Nat :=
  let c3_135 : Index := 3#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c8_i32_128 : BitVec 32 := 8#32
  let v635 : BitVec 32 := Scalar.muli v626 c8_i32_128
  let v636 : BitVec 32 := v635
  let v646 : Index := Scalar.indexCast v636
  let c0_136 : Index := 0#32
  ![3, v646.toNat, 0]
def k0_mult53 (k0_t2 : Fin k0_t2_loop.trips) : BitVec 32 :=
  let c31_i32_145 : BitVec 32 := 31#32
  let c0_i32_144 : BitVec 32 := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let c1_i32_143 : BitVec 32 := 1#32
  let v653 : BitVec 32 := Scalar.addi v626 c1_i32_143
  let v654 : BitVec 32 := Scalar.maxsi c0_i32_144 v653
  let v655 : BitVec 32 := Scalar.minsi c31_i32_145 v654
  let c128_i32_146 : BitVec 32 := 128#32
  let v656 : BitVec 32 := Scalar.muli v655 c128_i32_146
  v656
def k0_off14 (k0_t2 : Fin k0_t2_loop.trips) (c0_i32_126 : BitVec 32) : Fin 2 → Nat :=
  let c31_i32_145 : BitVec 32 := 31#32
  let c0_i32_144 : BitVec 32 := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c1_i32_143 : BitVec 32 := 1#32
  let v653 : BitVec 32 := Scalar.addi v626 c1_i32_143
  let v654 : BitVec 32 := Scalar.maxsi c0_i32_144 v653
  let v655 : BitVec 32 := Scalar.minsi c31_i32_145 v654
  let c128_i32_146 : BitVec 32 := 128#32
  let v656 : BitVec 32 := Scalar.muli v655 c128_i32_146
  let v657 : BitVec 32 := v656
  let v658 : Index := Scalar.indexCast v657
  let c0_147 : Index := 0#32
  ![v658.toNat, 0]
def k0_off15 (k0_t2 : Fin k0_t2_loop.trips) (c0_i32_126 : BitVec 32) : Fin 2 → Nat :=
  let c31_i32_145 : BitVec 32 := 31#32
  let c0_i32_144 : BitVec 32 := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c1_i32_143 : BitVec 32 := 1#32
  let v653 : BitVec 32 := Scalar.addi v626 c1_i32_143
  let v654 : BitVec 32 := Scalar.maxsi c0_i32_144 v653
  let v655 : BitVec 32 := Scalar.minsi c31_i32_145 v654
  let c128_i32_146 : BitVec 32 := 128#32
  let v656 : BitVec 32 := Scalar.muli v655 c128_i32_146
  let v657 : BitVec 32 := v656
  let v666 : Index := Scalar.indexCast v657
  let c512_155 : Index := 512#32
  ![v666.toNat, 512]
def k0_off16 (k0_t2 : Fin k0_t2_loop.trips) (c0_i32_126 : BitVec 32) : Fin 2 → Nat :=
  let c31_i32_145 : BitVec 32 := 31#32
  let c0_i32_144 : BitVec 32 := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c1_i32_143 : BitVec 32 := 1#32
  let v653 : BitVec 32 := Scalar.addi v626 c1_i32_143
  let v654 : BitVec 32 := Scalar.maxsi c0_i32_144 v653
  let v655 : BitVec 32 := Scalar.minsi c31_i32_145 v654
  let c128_i32_146 : BitVec 32 := 128#32
  let v656 : BitVec 32 := Scalar.muli v655 c128_i32_146
  let v657 : BitVec 32 := v656
  let v668 : Index := Scalar.indexCast v657
  let c384_156 : Index := 384#32
  ![v668.toNat, 384]
def k0_off17 (k0_t2 : Fin k0_t2_loop.trips) (c0_i32_126 : BitVec 32) : Fin 2 → Nat :=
  let c0_181 : Index := 0#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c128_i32 : BitVec 32 := 128#32
  let v628 : BitVec 32 := Scalar.muli v626 c128_i32
  let v629 : BitVec 32 := v628
  let v796 : Index := Scalar.indexCast v629
  ![0, v796.toNat]
def k0_off18 (k0_t2 : Fin k0_t2_loop.trips) (c0_i32_126 : BitVec 32) : Fin 2 → Nat :=
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let c128_i32 : BitVec 32 := 128#32
  let v628 : BitVec 32 := Scalar.muli v626 c128_i32
  let v629 : BitVec 32 := v628
  let v849 : Index := Scalar.indexCast v629
  let c0_186 : Index := 0#32
  ![v849.toNat, 0]
def k0_mult54 (k0_t2 : Fin k0_t2_loop.trips) : BitVec 32 :=
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let v627 : BitVec 32 := Scalar.subi c31_i32 v626
  let c128_i32_187 : BitVec 32 := 128#32
  let v853 : BitVec 32 := Scalar.muli v627 c128_i32_187
  v853
def k0_off19 (k0_t2 : Fin k0_t2_loop.trips) (c0_i32_126 : BitVec 32) : Fin 2 → Nat :=
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c128_i32_187 : BitVec 32 := 128#32
  let v853 : BitVec 32 := Scalar.muli v627 c128_i32_187
  let v854 : BitVec 32 := v853
  let v855 : Index := Scalar.indexCast v854
  let c0_188 : Index := 0#32
  ![v855.toNat, 0]
def k0_mult55 (k0_t2 : Fin k0_t2_loop.trips) : BitVec 32 :=
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let v627 : BitVec 32 := Scalar.subi c31_i32 v626
  let c8_i32_189 : BitVec 32 := 8#32
  let v860 : BitVec 32 := Scalar.muli v627 c8_i32_189
  v860
def k0_off20 (k0_t2 : Fin k0_t2_loop.trips) (c0_i32_126 : BitVec 32) : Fin 3 → Nat :=
  let c4_190 : Index := 4#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c8_i32_189 : BitVec 32 := 8#32
  let v860 : BitVec 32 := Scalar.muli v627 c8_i32_189
  let v861 : BitVec 32 := v860
  let v862 : Index := Scalar.indexCast v861
  let c0_191 : Index := 0#32
  ![4, v862.toNat, 0]
def k0_off21 (k0_t2 : Fin k0_t2_loop.trips) (c0_i32_126 : BitVec 32) : Fin 3 → Nat :=
  let c5_192 : Index := 5#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c8_i32_189 : BitVec 32 := 8#32
  let v860 : BitVec 32 := Scalar.muli v627 c8_i32_189
  let v861 : BitVec 32 := v860
  let v865 : Index := Scalar.indexCast v861
  let c0_193 : Index := 0#32
  ![5, v865.toNat, 0]
def k0_off22 (k0_t2 : Fin k0_t2_loop.trips) (c0_i32_126 : BitVec 32) : Fin 3 → Nat :=
  let c6_194 : Index := 6#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c8_i32_189 : BitVec 32 := 8#32
  let v860 : BitVec 32 := Scalar.muli v627 c8_i32_189
  let v861 : BitVec 32 := v860
  let v868 : Index := Scalar.indexCast v861
  let c0_195 : Index := 0#32
  ![6, v868.toNat, 0]
def k0_off23 (k0_t2 : Fin k0_t2_loop.trips) (c0_i32_126 : BitVec 32) : Fin 3 → Nat :=
  let c7_196 : Index := 7#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c8_i32_189 : BitVec 32 := 8#32
  let v860 : BitVec 32 := Scalar.muli v627 c8_i32_189
  let v861 : BitVec 32 := v860
  let v871 : Index := Scalar.indexCast v861
  let c0_197 : Index := 0#32
  ![7, v871.toNat, 0]
def k0_mult56 (k0_t2 : Fin k0_t2_loop.trips) : BitVec 32 :=
  let c31_i32_205 : BitVec 32 := 31#32
  let c0_i32_204 : BitVec 32 := 0#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let c0_i32_126 : BitVec 32 := 0#32
  let v626 : BitVec 32 := Scalar.addi v625 c0_i32_126
  let v627 : BitVec 32 := Scalar.subi c31_i32 v626
  let c_m1_i32 : BitVec 32 := 4294967295#32
  let v878 : BitVec 32 := Scalar.addi v627 c_m1_i32
  let v879 : BitVec 32 := Scalar.maxsi c0_i32_204 v878
  let v880 : BitVec 32 := Scalar.minsi c31_i32_205 v879
  let c128_i32_206 : BitVec 32 := 128#32
  let v881 : BitVec 32 := Scalar.muli v880 c128_i32_206
  v881
def k0_off24 (k0_t2 : Fin k0_t2_loop.trips) (c0_i32_126 : BitVec 32) : Fin 2 → Nat :=
  let c31_i32_205 : BitVec 32 := 31#32
  let c0_i32_204 : BitVec 32 := 0#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c_m1_i32 : BitVec 32 := 4294967295#32
  let v878 : BitVec 32 := Scalar.addi v627 c_m1_i32
  let v879 : BitVec 32 := Scalar.maxsi c0_i32_204 v878
  let v880 : BitVec 32 := Scalar.minsi c31_i32_205 v879
  let c128_i32_206 : BitVec 32 := 128#32
  let v881 : BitVec 32 := Scalar.muli v880 c128_i32_206
  let v882 : BitVec 32 := v881
  let v883 : Index := Scalar.indexCast v882
  let c0_207 : Index := 0#32
  ![v883.toNat, 0]
def k0_off25 (k0_t2 : Fin k0_t2_loop.trips) (c0_i32_126 : BitVec 32) : Fin 2 → Nat :=
  let c31_i32_205 : BitVec 32 := 31#32
  let c0_i32_204 : BitVec 32 := 0#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c_m1_i32 : BitVec 32 := 4294967295#32
  let v878 : BitVec 32 := Scalar.addi v627 c_m1_i32
  let v879 : BitVec 32 := Scalar.maxsi c0_i32_204 v878
  let v880 : BitVec 32 := Scalar.minsi c31_i32_205 v879
  let c128_i32_206 : BitVec 32 := 128#32
  let v881 : BitVec 32 := Scalar.muli v880 c128_i32_206
  let v882 : BitVec 32 := v881
  let v891 : Index := Scalar.indexCast v882
  let c512_215 : Index := 512#32
  ![v891.toNat, 512]
def k0_off26 (k0_t2 : Fin k0_t2_loop.trips) (c0_i32_126 : BitVec 32) : Fin 2 → Nat :=
  let c31_i32_205 : BitVec 32 := 31#32
  let c0_i32_204 : BitVec 32 := 0#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c_m1_i32 : BitVec 32 := 4294967295#32
  let v878 : BitVec 32 := Scalar.addi v627 c_m1_i32
  let v879 : BitVec 32 := Scalar.maxsi c0_i32_204 v878
  let v880 : BitVec 32 := Scalar.minsi c31_i32_205 v879
  let c128_i32_206 : BitVec 32 := 128#32
  let v881 : BitVec 32 := Scalar.muli v880 c128_i32_206
  let v882 : BitVec 32 := v881
  let v893 : Index := Scalar.indexCast v882
  let c384_216 : Index := 384#32
  ![v893.toNat, 384]
def k0_off27 (k0_t2 : Fin k0_t2_loop.trips) (c0_i32_126 : BitVec 32) : Fin 2 → Nat :=
  let c0_241 : Index := 0#32
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c128_i32_187 : BitVec 32 := 128#32
  let v853 : BitVec 32 := Scalar.muli v627 c128_i32_187
  let v854 : BitVec 32 := v853
  let v1021 : Index := Scalar.indexCast v854
  ![0, v1021.toNat]
def k0_off28 (k0_t2 : Fin k0_t2_loop.trips) (c0_i32_126 : BitVec 32) : Fin 2 → Nat :=
  let c31_i32 : BitVec 32 := 31#32
  let c8_i32 : BitVec 32 := 8#32
  let c0_i32_118 : BitVec 32 := 0#32
  let c1_i32_120 : BitVec 32 := 1#32
  let arg27 : BitVec 32 := Scf.iv c0_i32_118 c1_i32_120 k0_t2
  let v625 : BitVec 32 := Scalar.muli c8_i32 arg27
  let v626 : BitVec 32 := Scalar.addi v625 c0_i32_126
  let v627 : BitVec 32 := Scalar.subi c31_i32 v626
  let c128_i32_187 : BitVec 32 := 128#32
  let v853 : BitVec 32 := Scalar.muli v627 c128_i32_187
  let v854 : BitVec 32 := v853
  let v1074 : Index := Scalar.indexCast v854
  let c0_246 : Index := 0#32
  ![v1074.toNat, 0]
def k0_mult57 (k0_t2 : Fin k0_t2_loop.trips) : BitVec 32 :=
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let c128_i32_250 : BitVec 32 := 128#32
  let v1081 : BitVec 32 := Scalar.muli v1079 c128_i32_250
  v1081
def k0_mult58 (k0_t2 : Fin k0_t2_loop.trips) : BitVec 32 :=
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let c8_i32_252 : BitVec 32 := 8#32
  let v1088 : BitVec 32 := Scalar.muli v1079 c8_i32_252
  v1088
def k0_mult59 (k0_t2 : Fin k0_t2_loop.trips) : BitVec 32 :=
  let c31_i32_269 : BitVec 32 := 31#32
  let c0_i32_268 : BitVec 32 := 0#32
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let c1_i32_267 : BitVec 32 := 1#32
  let v1106 : BitVec 32 := Scalar.addi v1079 c1_i32_267
  let v1107 : BitVec 32 := Scalar.maxsi c0_i32_268 v1106
  let v1108 : BitVec 32 := Scalar.minsi c31_i32_269 v1107
  let c128_i32_270 : BitVec 32 := 128#32
  let v1109 : BitVec 32 := Scalar.muli v1108 c128_i32_270
  v1109
def k0_mult60 (k0_t2 : Fin k0_t2_loop.trips) : BitVec 32 :=
  let c31_i32_249 : BitVec 32 := 31#32
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let v1080 : BitVec 32 := Scalar.subi c31_i32_249 v1079
  let c128_i32_311 : BitVec 32 := 128#32
  let v1306 : BitVec 32 := Scalar.muli v1080 c128_i32_311
  v1306
def k0_mult61 (k0_t2 : Fin k0_t2_loop.trips) : BitVec 32 :=
  let c31_i32_249 : BitVec 32 := 31#32
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let v1080 : BitVec 32 := Scalar.subi c31_i32_249 v1079
  let c8_i32_313 : BitVec 32 := 8#32
  let v1313 : BitVec 32 := Scalar.muli v1080 c8_i32_313
  v1313
def k0_mult62 (k0_t2 : Fin k0_t2_loop.trips) : BitVec 32 :=
  let c31_i32_330 : BitVec 32 := 31#32
  let c0_i32_329 : BitVec 32 := 0#32
  let c31_i32_249 : BitVec 32 := 31#32
  let c8_i32_247 : BitVec 32 := 8#32
  let c0_i32_118 : BitVec 32 := 0#32
  let c1_i32_120 : BitVec 32 := 1#32
  let arg27 : BitVec 32 := Scf.iv c0_i32_118 c1_i32_120 k0_t2
  let v1078 : BitVec 32 := Scalar.muli c8_i32_247 arg27
  let c1_i32_248 : BitVec 32 := 1#32
  let v1079 : BitVec 32 := Scalar.addi v1078 c1_i32_248
  let v1080 : BitVec 32 := Scalar.subi c31_i32_249 v1079
  let c_m1_i32_328 : BitVec 32 := 4294967295#32
  let v1331 : BitVec 32 := Scalar.addi v1080 c_m1_i32_328
  let v1332 : BitVec 32 := Scalar.maxsi c0_i32_329 v1331
  let v1333 : BitVec 32 := Scalar.minsi c31_i32_330 v1332
  let c128_i32_331 : BitVec 32 := 128#32
  let v1334 : BitVec 32 := Scalar.muli v1333 c128_i32_331
  v1334
def k0_mult63 (k0_t2 : Fin k0_t2_loop.trips) : BitVec 32 :=
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let c128_i32_375 : BitVec 32 := 128#32
  let v1534 : BitVec 32 := Scalar.muli v1532 c128_i32_375
  v1534
def k0_mult64 (k0_t2 : Fin k0_t2_loop.trips) : BitVec 32 :=
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let c8_i32_377 : BitVec 32 := 8#32
  let v1541 : BitVec 32 := Scalar.muli v1532 c8_i32_377
  v1541
def k0_mult65 (k0_t2 : Fin k0_t2_loop.trips) : BitVec 32 :=
  let c31_i32_394 : BitVec 32 := 31#32
  let c0_i32_393 : BitVec 32 := 0#32
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let c1_i32_392 : BitVec 32 := 1#32
  let v1559 : BitVec 32 := Scalar.addi v1532 c1_i32_392
  let v1560 : BitVec 32 := Scalar.maxsi c0_i32_393 v1559
  let v1561 : BitVec 32 := Scalar.minsi c31_i32_394 v1560
  let c128_i32_395 : BitVec 32 := 128#32
  let v1562 : BitVec 32 := Scalar.muli v1561 c128_i32_395
  v1562
def k0_mult66 (k0_t2 : Fin k0_t2_loop.trips) : BitVec 32 :=
  let c31_i32_374 : BitVec 32 := 31#32
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let v1533 : BitVec 32 := Scalar.subi c31_i32_374 v1532
  let c128_i32_436 : BitVec 32 := 128#32
  let v1759 : BitVec 32 := Scalar.muli v1533 c128_i32_436
  v1759
def k0_mult67 (k0_t2 : Fin k0_t2_loop.trips) : BitVec 32 :=
  let c31_i32_374 : BitVec 32 := 31#32
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let v1533 : BitVec 32 := Scalar.subi c31_i32_374 v1532
  let c8_i32_438 : BitVec 32 := 8#32
  let v1766 : BitVec 32 := Scalar.muli v1533 c8_i32_438
  v1766
def k0_mult68 (k0_t2 : Fin k0_t2_loop.trips) : BitVec 32 :=
  let c31_i32_455 : BitVec 32 := 31#32
  let c0_i32_454 : BitVec 32 := 0#32
  let c31_i32_374 : BitVec 32 := 31#32
  let c8_i32_372 : BitVec 32 := 8#32
  let c0_i32_118 : BitVec 32 := 0#32
  let c1_i32_120 : BitVec 32 := 1#32
  let arg27 : BitVec 32 := Scf.iv c0_i32_118 c1_i32_120 k0_t2
  let v1531 : BitVec 32 := Scalar.muli c8_i32_372 arg27
  let c2_i32_373 : BitVec 32 := 2#32
  let v1532 : BitVec 32 := Scalar.addi v1531 c2_i32_373
  let v1533 : BitVec 32 := Scalar.subi c31_i32_374 v1532
  let c_m1_i32_453 : BitVec 32 := 4294967295#32
  let v1784 : BitVec 32 := Scalar.addi v1533 c_m1_i32_453
  let v1785 : BitVec 32 := Scalar.maxsi c0_i32_454 v1784
  let v1786 : BitVec 32 := Scalar.minsi c31_i32_455 v1785
  let c128_i32_456 : BitVec 32 := 128#32
  let v1787 : BitVec 32 := Scalar.muli v1786 c128_i32_456
  v1787
def k0_mult69 (k0_t2 : Fin k0_t2_loop.trips) : BitVec 32 :=
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let c128_i32_499 : BitVec 32 := 128#32
  let v1987 : BitVec 32 := Scalar.muli v1985 c128_i32_499
  v1987
def k0_mult70 (k0_t2 : Fin k0_t2_loop.trips) : BitVec 32 :=
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let c8_i32_501 : BitVec 32 := 8#32
  let v1994 : BitVec 32 := Scalar.muli v1985 c8_i32_501
  v1994
def k0_mult71 (k0_t2 : Fin k0_t2_loop.trips) : BitVec 32 :=
  let c31_i32_518 : BitVec 32 := 31#32
  let c0_i32_517 : BitVec 32 := 0#32
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let c1_i32_516 : BitVec 32 := 1#32
  let v2012 : BitVec 32 := Scalar.addi v1985 c1_i32_516
  let v2013 : BitVec 32 := Scalar.maxsi c0_i32_517 v2012
  let v2014 : BitVec 32 := Scalar.minsi c31_i32_518 v2013
  let c128_i32_519 : BitVec 32 := 128#32
  let v2015 : BitVec 32 := Scalar.muli v2014 c128_i32_519
  v2015
def k0_mult72 (k0_t2 : Fin k0_t2_loop.trips) : BitVec 32 :=
  let c31_i32_498 : BitVec 32 := 31#32
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let v1986 : BitVec 32 := Scalar.subi c31_i32_498 v1985
  let c128_i32_560 : BitVec 32 := 128#32
  let v2212 : BitVec 32 := Scalar.muli v1986 c128_i32_560
  v2212
def k0_mult73 (k0_t2 : Fin k0_t2_loop.trips) : BitVec 32 :=
  let c31_i32_498 : BitVec 32 := 31#32
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let v1986 : BitVec 32 := Scalar.subi c31_i32_498 v1985
  let c8_i32_562 : BitVec 32 := 8#32
  let v2219 : BitVec 32 := Scalar.muli v1986 c8_i32_562
  v2219
def k0_mult74 (k0_t2 : Fin k0_t2_loop.trips) : BitVec 32 :=
  let c31_i32_579 : BitVec 32 := 31#32
  let c0_i32_578 : BitVec 32 := 0#32
  let c31_i32_498 : BitVec 32 := 31#32
  let c8_i32_497 : BitVec 32 := 8#32
  let c0_i32_118 : BitVec 32 := 0#32
  let c1_i32_120 : BitVec 32 := 1#32
  let arg27 : BitVec 32 := Scf.iv c0_i32_118 c1_i32_120 k0_t2
  let v1984 : BitVec 32 := Scalar.muli c8_i32_497 arg27
  let c3_i32 : BitVec 32 := 3#32
  let v1985 : BitVec 32 := Scalar.addi v1984 c3_i32
  let v1986 : BitVec 32 := Scalar.subi c31_i32_498 v1985
  let c_m1_i32_577 : BitVec 32 := 4294967295#32
  let v2237 : BitVec 32 := Scalar.addi v1986 c_m1_i32_577
  let v2238 : BitVec 32 := Scalar.maxsi c0_i32_578 v2237
  let v2239 : BitVec 32 := Scalar.minsi c31_i32_579 v2238
  let c128_i32_580 : BitVec 32 := 128#32
  let v2240 : BitVec 32 := Scalar.muli v2239 c128_i32_580
  v2240
def k0_mult75 (k0_t2 : Fin k0_t2_loop.trips) : BitVec 32 :=
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let c128_i32_623 : BitVec 32 := 128#32
  let v2440 : BitVec 32 := Scalar.muli v2438 c128_i32_623
  v2440
def k0_mult76 (k0_t2 : Fin k0_t2_loop.trips) : BitVec 32 :=
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let c8_i32_625 : BitVec 32 := 8#32
  let v2447 : BitVec 32 := Scalar.muli v2438 c8_i32_625
  v2447
def k0_mult77 (k0_t2 : Fin k0_t2_loop.trips) : BitVec 32 :=
  let c31_i32_642 : BitVec 32 := 31#32
  let c0_i32_641 : BitVec 32 := 0#32
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let c1_i32_640 : BitVec 32 := 1#32
  let v2465 : BitVec 32 := Scalar.addi v2438 c1_i32_640
  let v2466 : BitVec 32 := Scalar.maxsi c0_i32_641 v2465
  let v2467 : BitVec 32 := Scalar.minsi c31_i32_642 v2466
  let c128_i32_643 : BitVec 32 := 128#32
  let v2468 : BitVec 32 := Scalar.muli v2467 c128_i32_643
  v2468
def k0_mult78 (k0_t2 : Fin k0_t2_loop.trips) : BitVec 32 :=
  let c31_i32_622 : BitVec 32 := 31#32
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let v2439 : BitVec 32 := Scalar.subi c31_i32_622 v2438
  let c128_i32_684 : BitVec 32 := 128#32
  let v2665 : BitVec 32 := Scalar.muli v2439 c128_i32_684
  v2665
def k0_mult79 (k0_t2 : Fin k0_t2_loop.trips) : BitVec 32 :=
  let c31_i32_622 : BitVec 32 := 31#32
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let v2439 : BitVec 32 := Scalar.subi c31_i32_622 v2438
  let c8_i32_686 : BitVec 32 := 8#32
  let v2672 : BitVec 32 := Scalar.muli v2439 c8_i32_686
  v2672
def k0_mult80 (k0_t2 : Fin k0_t2_loop.trips) : BitVec 32 :=
  let c31_i32_703 : BitVec 32 := 31#32
  let c0_i32_702 : BitVec 32 := 0#32
  let c31_i32_622 : BitVec 32 := 31#32
  let c8_i32_621 : BitVec 32 := 8#32
  let c0_i32_118 : BitVec 32 := 0#32
  let c1_i32_120 : BitVec 32 := 1#32
  let arg27 : BitVec 32 := Scf.iv c0_i32_118 c1_i32_120 k0_t2
  let v2437 : BitVec 32 := Scalar.muli c8_i32_621 arg27
  let c4_i32 : BitVec 32 := 4#32
  let v2438 : BitVec 32 := Scalar.addi v2437 c4_i32
  let v2439 : BitVec 32 := Scalar.subi c31_i32_622 v2438
  let c_m1_i32_701 : BitVec 32 := 4294967295#32
  let v2690 : BitVec 32 := Scalar.addi v2439 c_m1_i32_701
  let v2691 : BitVec 32 := Scalar.maxsi c0_i32_702 v2690
  let v2692 : BitVec 32 := Scalar.minsi c31_i32_703 v2691
  let c128_i32_704 : BitVec 32 := 128#32
  let v2693 : BitVec 32 := Scalar.muli v2692 c128_i32_704
  v2693
def k0_mult81 (k0_t2 : Fin k0_t2_loop.trips) : BitVec 32 :=
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let c128_i32_747 : BitVec 32 := 128#32
  let v2893 : BitVec 32 := Scalar.muli v2891 c128_i32_747
  v2893
def k0_mult82 (k0_t2 : Fin k0_t2_loop.trips) : BitVec 32 :=
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let c8_i32_749 : BitVec 32 := 8#32
  let v2900 : BitVec 32 := Scalar.muli v2891 c8_i32_749
  v2900
def k0_mult83 (k0_t2 : Fin k0_t2_loop.trips) : BitVec 32 :=
  let c31_i32_766 : BitVec 32 := 31#32
  let c0_i32_765 : BitVec 32 := 0#32
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let c1_i32_764 : BitVec 32 := 1#32
  let v2918 : BitVec 32 := Scalar.addi v2891 c1_i32_764
  let v2919 : BitVec 32 := Scalar.maxsi c0_i32_765 v2918
  let v2920 : BitVec 32 := Scalar.minsi c31_i32_766 v2919
  let c128_i32_767 : BitVec 32 := 128#32
  let v2921 : BitVec 32 := Scalar.muli v2920 c128_i32_767
  v2921
def k0_mult84 (k0_t2 : Fin k0_t2_loop.trips) : BitVec 32 :=
  let c31_i32_746 : BitVec 32 := 31#32
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let v2892 : BitVec 32 := Scalar.subi c31_i32_746 v2891
  let c128_i32_808 : BitVec 32 := 128#32
  let v3118 : BitVec 32 := Scalar.muli v2892 c128_i32_808
  v3118
def k0_mult85 (k0_t2 : Fin k0_t2_loop.trips) : BitVec 32 :=
  let c31_i32_746 : BitVec 32 := 31#32
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let v2892 : BitVec 32 := Scalar.subi c31_i32_746 v2891
  let c8_i32_810 : BitVec 32 := 8#32
  let v3125 : BitVec 32 := Scalar.muli v2892 c8_i32_810
  v3125
def k0_mult86 (k0_t2 : Fin k0_t2_loop.trips) : BitVec 32 :=
  let c31_i32_827 : BitVec 32 := 31#32
  let c0_i32_826 : BitVec 32 := 0#32
  let c31_i32_746 : BitVec 32 := 31#32
  let c8_i32_745 : BitVec 32 := 8#32
  let c0_i32_118 : BitVec 32 := 0#32
  let c1_i32_120 : BitVec 32 := 1#32
  let arg27 : BitVec 32 := Scf.iv c0_i32_118 c1_i32_120 k0_t2
  let v2890 : BitVec 32 := Scalar.muli c8_i32_745 arg27
  let c5_i32 : BitVec 32 := 5#32
  let v2891 : BitVec 32 := Scalar.addi v2890 c5_i32
  let v2892 : BitVec 32 := Scalar.subi c31_i32_746 v2891
  let c_m1_i32_825 : BitVec 32 := 4294967295#32
  let v3143 : BitVec 32 := Scalar.addi v2892 c_m1_i32_825
  let v3144 : BitVec 32 := Scalar.maxsi c0_i32_826 v3143
  let v3145 : BitVec 32 := Scalar.minsi c31_i32_827 v3144
  let c128_i32_828 : BitVec 32 := 128#32
  let v3146 : BitVec 32 := Scalar.muli v3145 c128_i32_828
  v3146
def k0_mult87 (k0_t2 : Fin k0_t2_loop.trips) : BitVec 32 :=
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let c128_i32_871 : BitVec 32 := 128#32
  let v3346 : BitVec 32 := Scalar.muli v3344 c128_i32_871
  v3346
def k0_mult88 (k0_t2 : Fin k0_t2_loop.trips) : BitVec 32 :=
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let c8_i32_873 : BitVec 32 := 8#32
  let v3353 : BitVec 32 := Scalar.muli v3344 c8_i32_873
  v3353
def k0_mult89 (k0_t2 : Fin k0_t2_loop.trips) : BitVec 32 :=
  let c31_i32_890 : BitVec 32 := 31#32
  let c0_i32_889 : BitVec 32 := 0#32
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let c1_i32_888 : BitVec 32 := 1#32
  let v3371 : BitVec 32 := Scalar.addi v3344 c1_i32_888
  let v3372 : BitVec 32 := Scalar.maxsi c0_i32_889 v3371
  let v3373 : BitVec 32 := Scalar.minsi c31_i32_890 v3372
  let c128_i32_891 : BitVec 32 := 128#32
  let v3374 : BitVec 32 := Scalar.muli v3373 c128_i32_891
  v3374
def k0_mult90 (k0_t2 : Fin k0_t2_loop.trips) : BitVec 32 :=
  let c31_i32_870 : BitVec 32 := 31#32
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let v3345 : BitVec 32 := Scalar.subi c31_i32_870 v3344
  let c128_i32_932 : BitVec 32 := 128#32
  let v3571 : BitVec 32 := Scalar.muli v3345 c128_i32_932
  v3571
def k0_mult91 (k0_t2 : Fin k0_t2_loop.trips) : BitVec 32 :=
  let c31_i32_870 : BitVec 32 := 31#32
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let v3345 : BitVec 32 := Scalar.subi c31_i32_870 v3344
  let c8_i32_934 : BitVec 32 := 8#32
  let v3578 : BitVec 32 := Scalar.muli v3345 c8_i32_934
  v3578
def k0_mult92 (k0_t2 : Fin k0_t2_loop.trips) : BitVec 32 :=
  let c31_i32_951 : BitVec 32 := 31#32
  let c0_i32_950 : BitVec 32 := 0#32
  let c31_i32_870 : BitVec 32 := 31#32
  let c8_i32_869 : BitVec 32 := 8#32
  let c0_i32_118 : BitVec 32 := 0#32
  let c1_i32_120 : BitVec 32 := 1#32
  let arg27 : BitVec 32 := Scf.iv c0_i32_118 c1_i32_120 k0_t2
  let v3343 : BitVec 32 := Scalar.muli c8_i32_869 arg27
  let c6_i32 : BitVec 32 := 6#32
  let v3344 : BitVec 32 := Scalar.addi v3343 c6_i32
  let v3345 : BitVec 32 := Scalar.subi c31_i32_870 v3344
  let c_m1_i32_949 : BitVec 32 := 4294967295#32
  let v3596 : BitVec 32 := Scalar.addi v3345 c_m1_i32_949
  let v3597 : BitVec 32 := Scalar.maxsi c0_i32_950 v3596
  let v3598 : BitVec 32 := Scalar.minsi c31_i32_951 v3597
  let c128_i32_952 : BitVec 32 := 128#32
  let v3599 : BitVec 32 := Scalar.muli v3598 c128_i32_952
  v3599
def k0_mult93 (k0_t2 : Fin k0_t2_loop.trips) : BitVec 32 :=
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let c128_i32_995 : BitVec 32 := 128#32
  let v3799 : BitVec 32 := Scalar.muli v3797 c128_i32_995
  v3799
def k0_mult94 (k0_t2 : Fin k0_t2_loop.trips) : BitVec 32 :=
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let c8_i32_997 : BitVec 32 := 8#32
  let v3806 : BitVec 32 := Scalar.muli v3797 c8_i32_997
  v3806
def k0_mult95 (k0_t2 : Fin k0_t2_loop.trips) : BitVec 32 :=
  let c31_i32_1014 : BitVec 32 := 31#32
  let c0_i32_1013 : BitVec 32 := 0#32
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let c1_i32_1012 : BitVec 32 := 1#32
  let v3824 : BitVec 32 := Scalar.addi v3797 c1_i32_1012
  let v3825 : BitVec 32 := Scalar.maxsi c0_i32_1013 v3824
  let v3826 : BitVec 32 := Scalar.minsi c31_i32_1014 v3825
  let c128_i32_1015 : BitVec 32 := 128#32
  let v3827 : BitVec 32 := Scalar.muli v3826 c128_i32_1015
  v3827
def k0_mult96 (k0_t2 : Fin k0_t2_loop.trips) : BitVec 32 :=
  let c31_i32_994 : BitVec 32 := 31#32
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let v3798 : BitVec 32 := Scalar.subi c31_i32_994 v3797
  let c128_i32_1056 : BitVec 32 := 128#32
  let v4024 : BitVec 32 := Scalar.muli v3798 c128_i32_1056
  v4024
def k0_mult97 (k0_t2 : Fin k0_t2_loop.trips) : BitVec 32 :=
  let c31_i32_994 : BitVec 32 := 31#32
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let v3798 : BitVec 32 := Scalar.subi c31_i32_994 v3797
  let c8_i32_1058 : BitVec 32 := 8#32
  let v4031 : BitVec 32 := Scalar.muli v3798 c8_i32_1058
  v4031
def k0_mult98 (k0_t2 : Fin k0_t2_loop.trips) : BitVec 32 :=
  let c31_i32_1075 : BitVec 32 := 31#32
  let c0_i32_1074 : BitVec 32 := 0#32
  let c31_i32_994 : BitVec 32 := 31#32
  let c8_i32_993 : BitVec 32 := 8#32
  let c0_i32_118 : BitVec 32 := 0#32
  let c1_i32_120 : BitVec 32 := 1#32
  let arg27 : BitVec 32 := Scf.iv c0_i32_118 c1_i32_120 k0_t2
  let v3796 : BitVec 32 := Scalar.muli c8_i32_993 arg27
  let c7_i32 : BitVec 32 := 7#32
  let v3797 : BitVec 32 := Scalar.addi v3796 c7_i32
  let v3798 : BitVec 32 := Scalar.subi c31_i32_994 v3797
  let c_m1_i32_1073 : BitVec 32 := 4294967295#32
  let v4049 : BitVec 32 := Scalar.addi v3798 c_m1_i32_1073
  let v4050 : BitVec 32 := Scalar.maxsi c0_i32_1074 v4049
  let v4051 : BitVec 32 := Scalar.minsi c31_i32_1075 v4050
  let c128_i32_1076 : BitVec 32 := 128#32
  let v4052 : BitVec 32 := Scalar.muli v4051 c128_i32_1076
  v4052
@[reducible] def k0_t3_loop : Scf.Loop 32 :=
  let c0_i32_122 : BitVec 32 := 0#32
  let c2_i32_123 : BitVec 32 := 2#32
  let v624 : BitVec 32 := Scalar.addi c0_i32_122 c2_i32_123
  let c1_i32_124 : BitVec 32 := 1#32
  ⟨c0_i32_122, v624, c1_i32_124⟩
def k0_mult99 (k0_t3 : Fin k0_t3_loop.trips) : BitVec 32 :=
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let c128_i32 : BitVec 32 := 128#32
  let v629 : BitVec 32 := Scalar.muli v627 c128_i32
  v629
def k0_off29 (k0_t3 : Fin k0_t3_loop.trips) (c0_i32_126 : BitVec 32) : Fin 2 → Nat :=
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c128_i32 : BitVec 32 := 128#32
  let v629 : BitVec 32 := Scalar.muli v627 c128_i32
  let v630 : BitVec 32 := v629
  let v631 : Index := Scalar.indexCast v630
  let c0_127 : Index := 0#32
  ![v631.toNat, 0]
def k0_mult100 (k0_t3 : Fin k0_t3_loop.trips) : BitVec 32 :=
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let c8_i32_128 : BitVec 32 := 8#32
  let v636 : BitVec 32 := Scalar.muli v627 c8_i32_128
  v636
def k0_off30 (k0_t3 : Fin k0_t3_loop.trips) (c0_i32_126 : BitVec 32) : Fin 3 → Nat :=
  let c0_129 : Index := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c8_i32_128 : BitVec 32 := 8#32
  let v636 : BitVec 32 := Scalar.muli v627 c8_i32_128
  let v637 : BitVec 32 := v636
  let v638 : Index := Scalar.indexCast v637
  let c0_130 : Index := 0#32
  ![0, v638.toNat, 0]
def k0_off31 (k0_t3 : Fin k0_t3_loop.trips) (c0_i32_126 : BitVec 32) : Fin 3 → Nat :=
  let c1_131 : Index := 1#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c8_i32_128 : BitVec 32 := 8#32
  let v636 : BitVec 32 := Scalar.muli v627 c8_i32_128
  let v637 : BitVec 32 := v636
  let v641 : Index := Scalar.indexCast v637
  let c0_132 : Index := 0#32
  ![1, v641.toNat, 0]
def k0_off32 (k0_t3 : Fin k0_t3_loop.trips) (c0_i32_126 : BitVec 32) : Fin 3 → Nat :=
  let c2_133 : Index := 2#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c8_i32_128 : BitVec 32 := 8#32
  let v636 : BitVec 32 := Scalar.muli v627 c8_i32_128
  let v637 : BitVec 32 := v636
  let v644 : Index := Scalar.indexCast v637
  let c0_134 : Index := 0#32
  ![2, v644.toNat, 0]
def k0_off33 (k0_t3 : Fin k0_t3_loop.trips) (c0_i32_126 : BitVec 32) : Fin 3 → Nat :=
  let c3_135 : Index := 3#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c8_i32_128 : BitVec 32 := 8#32
  let v636 : BitVec 32 := Scalar.muli v627 c8_i32_128
  let v637 : BitVec 32 := v636
  let v647 : Index := Scalar.indexCast v637
  let c0_136 : Index := 0#32
  ![3, v647.toNat, 0]
def k0_mult101 (k0_t3 : Fin k0_t3_loop.trips) : BitVec 32 :=
  let c31_i32_145 : BitVec 32 := 31#32
  let c0_i32_144 : BitVec 32 := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let c1_i32_143 : BitVec 32 := 1#32
  let v654 : BitVec 32 := Scalar.addi v627 c1_i32_143
  let v655 : BitVec 32 := Scalar.maxsi c0_i32_144 v654
  let v656 : BitVec 32 := Scalar.minsi c31_i32_145 v655
  let c128_i32_146 : BitVec 32 := 128#32
  let v657 : BitVec 32 := Scalar.muli v656 c128_i32_146
  v657
def k0_off34 (k0_t3 : Fin k0_t3_loop.trips) (c0_i32_126 : BitVec 32) : Fin 2 → Nat :=
  let c31_i32_145 : BitVec 32 := 31#32
  let c0_i32_144 : BitVec 32 := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c1_i32_143 : BitVec 32 := 1#32
  let v654 : BitVec 32 := Scalar.addi v627 c1_i32_143
  let v655 : BitVec 32 := Scalar.maxsi c0_i32_144 v654
  let v656 : BitVec 32 := Scalar.minsi c31_i32_145 v655
  let c128_i32_146 : BitVec 32 := 128#32
  let v657 : BitVec 32 := Scalar.muli v656 c128_i32_146
  let v658 : BitVec 32 := v657
  let v659 : Index := Scalar.indexCast v658
  let c0_147 : Index := 0#32
  ![v659.toNat, 0]
def k0_off35 (k0_t3 : Fin k0_t3_loop.trips) (c0_i32_126 : BitVec 32) : Fin 2 → Nat :=
  let c31_i32_145 : BitVec 32 := 31#32
  let c0_i32_144 : BitVec 32 := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c1_i32_143 : BitVec 32 := 1#32
  let v654 : BitVec 32 := Scalar.addi v627 c1_i32_143
  let v655 : BitVec 32 := Scalar.maxsi c0_i32_144 v654
  let v656 : BitVec 32 := Scalar.minsi c31_i32_145 v655
  let c128_i32_146 : BitVec 32 := 128#32
  let v657 : BitVec 32 := Scalar.muli v656 c128_i32_146
  let v658 : BitVec 32 := v657
  let v667 : Index := Scalar.indexCast v658
  let c512_155 : Index := 512#32
  ![v667.toNat, 512]
def k0_off36 (k0_t3 : Fin k0_t3_loop.trips) (c0_i32_126 : BitVec 32) : Fin 2 → Nat :=
  let c31_i32_145 : BitVec 32 := 31#32
  let c0_i32_144 : BitVec 32 := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c1_i32_143 : BitVec 32 := 1#32
  let v654 : BitVec 32 := Scalar.addi v627 c1_i32_143
  let v655 : BitVec 32 := Scalar.maxsi c0_i32_144 v654
  let v656 : BitVec 32 := Scalar.minsi c31_i32_145 v655
  let c128_i32_146 : BitVec 32 := 128#32
  let v657 : BitVec 32 := Scalar.muli v656 c128_i32_146
  let v658 : BitVec 32 := v657
  let v669 : Index := Scalar.indexCast v658
  let c384_156 : Index := 384#32
  ![v669.toNat, 384]
def k0_off37 (k0_t3 : Fin k0_t3_loop.trips) (c0_i32_126 : BitVec 32) : Fin 2 → Nat :=
  let c0_181 : Index := 0#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c128_i32 : BitVec 32 := 128#32
  let v629 : BitVec 32 := Scalar.muli v627 c128_i32
  let v630 : BitVec 32 := v629
  let v797 : Index := Scalar.indexCast v630
  ![0, v797.toNat]
def k0_off38 (k0_t3 : Fin k0_t3_loop.trips) (c0_i32_126 : BitVec 32) : Fin 2 → Nat :=
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let c128_i32 : BitVec 32 := 128#32
  let v629 : BitVec 32 := Scalar.muli v627 c128_i32
  let v630 : BitVec 32 := v629
  let v850 : Index := Scalar.indexCast v630
  let c0_186 : Index := 0#32
  ![v850.toNat, 0]
def k0_mult102 (k0_t3 : Fin k0_t3_loop.trips) : BitVec 32 :=
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let v628 : BitVec 32 := Scalar.subi c31_i32 v627
  let c128_i32_200 : BitVec 32 := 128#32
  let v886 : BitVec 32 := Scalar.muli v628 c128_i32_200
  v886
def k0_off39 (k0_t3 : Fin k0_t3_loop.trips) (c0_i32_126 : BitVec 32) : Fin 2 → Nat :=
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c128_i32_200 : BitVec 32 := 128#32
  let v886 : BitVec 32 := Scalar.muli v628 c128_i32_200
  let v887 : BitVec 32 := v886
  let v888 : Index := Scalar.indexCast v887
  let c0_201 : Index := 0#32
  ![v888.toNat, 0]
def k0_mult103 (k0_t3 : Fin k0_t3_loop.trips) : BitVec 32 :=
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let v628 : BitVec 32 := Scalar.subi c31_i32 v627
  let c8_i32_202 : BitVec 32 := 8#32
  let v893 : BitVec 32 := Scalar.muli v628 c8_i32_202
  v893
def k0_off40 (k0_t3 : Fin k0_t3_loop.trips) (c0_i32_126 : BitVec 32) : Fin 3 → Nat :=
  let c4_203 : Index := 4#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c8_i32_202 : BitVec 32 := 8#32
  let v893 : BitVec 32 := Scalar.muli v628 c8_i32_202
  let v894 : BitVec 32 := v893
  let v895 : Index := Scalar.indexCast v894
  let c0_204 : Index := 0#32
  ![4, v895.toNat, 0]
def k0_off41 (k0_t3 : Fin k0_t3_loop.trips) (c0_i32_126 : BitVec 32) : Fin 3 → Nat :=
  let c5_205 : Index := 5#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c8_i32_202 : BitVec 32 := 8#32
  let v893 : BitVec 32 := Scalar.muli v628 c8_i32_202
  let v894 : BitVec 32 := v893
  let v898 : Index := Scalar.indexCast v894
  let c0_206 : Index := 0#32
  ![5, v898.toNat, 0]
def k0_off42 (k0_t3 : Fin k0_t3_loop.trips) (c0_i32_126 : BitVec 32) : Fin 3 → Nat :=
  let c6_207 : Index := 6#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c8_i32_202 : BitVec 32 := 8#32
  let v893 : BitVec 32 := Scalar.muli v628 c8_i32_202
  let v894 : BitVec 32 := v893
  let v901 : Index := Scalar.indexCast v894
  let c0_208 : Index := 0#32
  ![6, v901.toNat, 0]
def k0_off43 (k0_t3 : Fin k0_t3_loop.trips) (c0_i32_126 : BitVec 32) : Fin 3 → Nat :=
  let c7_209 : Index := 7#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c8_i32_202 : BitVec 32 := 8#32
  let v893 : BitVec 32 := Scalar.muli v628 c8_i32_202
  let v894 : BitVec 32 := v893
  let v904 : Index := Scalar.indexCast v894
  let c0_210 : Index := 0#32
  ![7, v904.toNat, 0]
def k0_mult104 (k0_t3 : Fin k0_t3_loop.trips) : BitVec 32 :=
  let c31_i32_218 : BitVec 32 := 31#32
  let c0_i32_217 : BitVec 32 := 0#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let c0_i32_126 : BitVec 32 := 0#32
  let v627 : BitVec 32 := Scalar.addi v626 c0_i32_126
  let v628 : BitVec 32 := Scalar.subi c31_i32 v627
  let c_m1_i32 : BitVec 32 := 4294967295#32
  let v911 : BitVec 32 := Scalar.addi v628 c_m1_i32
  let v912 : BitVec 32 := Scalar.maxsi c0_i32_217 v911
  let v913 : BitVec 32 := Scalar.minsi c31_i32_218 v912
  let c128_i32_219 : BitVec 32 := 128#32
  let v914 : BitVec 32 := Scalar.muli v913 c128_i32_219
  v914
def k0_off44 (k0_t3 : Fin k0_t3_loop.trips) (c0_i32_126 : BitVec 32) : Fin 2 → Nat :=
  let c31_i32_218 : BitVec 32 := 31#32
  let c0_i32_217 : BitVec 32 := 0#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c_m1_i32 : BitVec 32 := 4294967295#32
  let v911 : BitVec 32 := Scalar.addi v628 c_m1_i32
  let v912 : BitVec 32 := Scalar.maxsi c0_i32_217 v911
  let v913 : BitVec 32 := Scalar.minsi c31_i32_218 v912
  let c128_i32_219 : BitVec 32 := 128#32
  let v914 : BitVec 32 := Scalar.muli v913 c128_i32_219
  let v915 : BitVec 32 := v914
  let v916 : Index := Scalar.indexCast v915
  let c0_220 : Index := 0#32
  ![v916.toNat, 0]
def k0_off45 (k0_t3 : Fin k0_t3_loop.trips) (c0_i32_126 : BitVec 32) : Fin 2 → Nat :=
  let c31_i32_218 : BitVec 32 := 31#32
  let c0_i32_217 : BitVec 32 := 0#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c_m1_i32 : BitVec 32 := 4294967295#32
  let v911 : BitVec 32 := Scalar.addi v628 c_m1_i32
  let v912 : BitVec 32 := Scalar.maxsi c0_i32_217 v911
  let v913 : BitVec 32 := Scalar.minsi c31_i32_218 v912
  let c128_i32_219 : BitVec 32 := 128#32
  let v914 : BitVec 32 := Scalar.muli v913 c128_i32_219
  let v915 : BitVec 32 := v914
  let v924 : Index := Scalar.indexCast v915
  let c512_228 : Index := 512#32
  ![v924.toNat, 512]
def k0_off46 (k0_t3 : Fin k0_t3_loop.trips) (c0_i32_126 : BitVec 32) : Fin 2 → Nat :=
  let c31_i32_218 : BitVec 32 := 31#32
  let c0_i32_217 : BitVec 32 := 0#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c_m1_i32 : BitVec 32 := 4294967295#32
  let v911 : BitVec 32 := Scalar.addi v628 c_m1_i32
  let v912 : BitVec 32 := Scalar.maxsi c0_i32_217 v911
  let v913 : BitVec 32 := Scalar.minsi c31_i32_218 v912
  let c128_i32_219 : BitVec 32 := 128#32
  let v914 : BitVec 32 := Scalar.muli v913 c128_i32_219
  let v915 : BitVec 32 := v914
  let v926 : Index := Scalar.indexCast v915
  let c384_229 : Index := 384#32
  ![v926.toNat, 384]
def k0_off47 (k0_t3 : Fin k0_t3_loop.trips) (c0_i32_126 : BitVec 32) : Fin 2 → Nat :=
  let c0_254 : Index := 0#32
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c128_i32_200 : BitVec 32 := 128#32
  let v886 : BitVec 32 := Scalar.muli v628 c128_i32_200
  let v887 : BitVec 32 := v886
  let v1054 : Index := Scalar.indexCast v887
  ![0, v1054.toNat]
def k0_off48 (k0_t3 : Fin k0_t3_loop.trips) (c0_i32_126 : BitVec 32) : Fin 2 → Nat :=
  let c31_i32 : BitVec 32 := 31#32
  let c16_i32 : BitVec 32 := 16#32
  let c8_i32 : BitVec 32 := 8#32
  let c0_i32_122 : BitVec 32 := 0#32
  let c1_i32_124 : BitVec 32 := 1#32
  let arg27 : BitVec 32 := Scf.iv c0_i32_122 c1_i32_124 k0_t3
  let v625 : BitVec 32 := Scalar.muli c8_i32 arg27
  let v626 : BitVec 32 := Scalar.addi c16_i32 v625
  let v627 : BitVec 32 := Scalar.addi v626 c0_i32_126
  let v628 : BitVec 32 := Scalar.subi c31_i32 v627
  let c128_i32_200 : BitVec 32 := 128#32
  let v886 : BitVec 32 := Scalar.muli v628 c128_i32_200
  let v887 : BitVec 32 := v886
  let v1107 : Index := Scalar.indexCast v887
  let c0_259 : Index := 0#32
  ![v1107.toNat, 0]
def k0_mult105 (k0_t3 : Fin k0_t3_loop.trips) : BitVec 32 :=
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let c128_i32_277 : BitVec 32 := 128#32
  let v1147 : BitVec 32 := Scalar.muli v1145 c128_i32_277
  v1147
def k0_mult106 (k0_t3 : Fin k0_t3_loop.trips) : BitVec 32 :=
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let c8_i32_279 : BitVec 32 := 8#32
  let v1154 : BitVec 32 := Scalar.muli v1145 c8_i32_279
  v1154
def k0_mult107 (k0_t3 : Fin k0_t3_loop.trips) : BitVec 32 :=
  let c31_i32_296 : BitVec 32 := 31#32
  let c0_i32_295 : BitVec 32 := 0#32
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let c1_i32_294 : BitVec 32 := 1#32
  let v1172 : BitVec 32 := Scalar.addi v1145 c1_i32_294
  let v1173 : BitVec 32 := Scalar.maxsi c0_i32_295 v1172
  let v1174 : BitVec 32 := Scalar.minsi c31_i32_296 v1173
  let c128_i32_297 : BitVec 32 := 128#32
  let v1175 : BitVec 32 := Scalar.muli v1174 c128_i32_297
  v1175
def k0_mult108 (k0_t3 : Fin k0_t3_loop.trips) : BitVec 32 :=
  let c31_i32_276 : BitVec 32 := 31#32
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let v1146 : BitVec 32 := Scalar.subi c31_i32_276 v1145
  let c128_i32_351 : BitVec 32 := 128#32
  let v1404 : BitVec 32 := Scalar.muli v1146 c128_i32_351
  v1404
def k0_mult109 (k0_t3 : Fin k0_t3_loop.trips) : BitVec 32 :=
  let c31_i32_276 : BitVec 32 := 31#32
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let v1146 : BitVec 32 := Scalar.subi c31_i32_276 v1145
  let c8_i32_353 : BitVec 32 := 8#32
  let v1411 : BitVec 32 := Scalar.muli v1146 c8_i32_353
  v1411
def k0_mult110 (k0_t3 : Fin k0_t3_loop.trips) : BitVec 32 :=
  let c31_i32_370 : BitVec 32 := 31#32
  let c0_i32_369 : BitVec 32 := 0#32
  let c31_i32_276 : BitVec 32 := 31#32
  let c16_i32_274 : BitVec 32 := 16#32
  let c8_i32_273 : BitVec 32 := 8#32
  let c0_i32_122 : BitVec 32 := 0#32
  let c1_i32_124 : BitVec 32 := 1#32
  let arg27 : BitVec 32 := Scf.iv c0_i32_122 c1_i32_124 k0_t3
  let v1143 : BitVec 32 := Scalar.muli c8_i32_273 arg27
  let v1144 : BitVec 32 := Scalar.addi c16_i32_274 v1143
  let c1_i32_275 : BitVec 32 := 1#32
  let v1145 : BitVec 32 := Scalar.addi v1144 c1_i32_275
  let v1146 : BitVec 32 := Scalar.subi c31_i32_276 v1145
  let c_m1_i32_368 : BitVec 32 := 4294967295#32
  let v1429 : BitVec 32 := Scalar.addi v1146 c_m1_i32_368
  let v1430 : BitVec 32 := Scalar.maxsi c0_i32_369 v1429
  let v1431 : BitVec 32 := Scalar.minsi c31_i32_370 v1430
  let c128_i32_371 : BitVec 32 := 128#32
  let v1432 : BitVec 32 := Scalar.muli v1431 c128_i32_371
  v1432
def k0_mult111 (k0_t3 : Fin k0_t3_loop.trips) : BitVec 32 :=
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let c128_i32_429 : BitVec 32 := 128#32
  let v1665 : BitVec 32 := Scalar.muli v1663 c128_i32_429
  v1665
def k0_mult112 (k0_t3 : Fin k0_t3_loop.trips) : BitVec 32 :=
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let c8_i32_431 : BitVec 32 := 8#32
  let v1672 : BitVec 32 := Scalar.muli v1663 c8_i32_431
  v1672
def k0_mult113 (k0_t3 : Fin k0_t3_loop.trips) : BitVec 32 :=
  let c31_i32_448 : BitVec 32 := 31#32
  let c0_i32_447 : BitVec 32 := 0#32
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let c1_i32_446 : BitVec 32 := 1#32
  let v1690 : BitVec 32 := Scalar.addi v1663 c1_i32_446
  let v1691 : BitVec 32 := Scalar.maxsi c0_i32_447 v1690
  let v1692 : BitVec 32 := Scalar.minsi c31_i32_448 v1691
  let c128_i32_449 : BitVec 32 := 128#32
  let v1693 : BitVec 32 := Scalar.muli v1692 c128_i32_449
  v1693
def k0_mult114 (k0_t3 : Fin k0_t3_loop.trips) : BitVec 32 :=
  let c31_i32_428 : BitVec 32 := 31#32
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let v1664 : BitVec 32 := Scalar.subi c31_i32_428 v1663
  let c128_i32_503 : BitVec 32 := 128#32
  let v1922 : BitVec 32 := Scalar.muli v1664 c128_i32_503
  v1922
def k0_mult115 (k0_t3 : Fin k0_t3_loop.trips) : BitVec 32 :=
  let c31_i32_428 : BitVec 32 := 31#32
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let v1664 : BitVec 32 := Scalar.subi c31_i32_428 v1663
  let c8_i32_505 : BitVec 32 := 8#32
  let v1929 : BitVec 32 := Scalar.muli v1664 c8_i32_505
  v1929
def k0_mult116 (k0_t3 : Fin k0_t3_loop.trips) : BitVec 32 :=
  let c31_i32_522 : BitVec 32 := 31#32
  let c0_i32_521 : BitVec 32 := 0#32
  let c31_i32_428 : BitVec 32 := 31#32
  let c16_i32_426 : BitVec 32 := 16#32
  let c8_i32_425 : BitVec 32 := 8#32
  let c0_i32_122 : BitVec 32 := 0#32
  let c1_i32_124 : BitVec 32 := 1#32
  let arg27 : BitVec 32 := Scf.iv c0_i32_122 c1_i32_124 k0_t3
  let v1661 : BitVec 32 := Scalar.muli c8_i32_425 arg27
  let v1662 : BitVec 32 := Scalar.addi c16_i32_426 v1661
  let c2_i32_427 : BitVec 32 := 2#32
  let v1663 : BitVec 32 := Scalar.addi v1662 c2_i32_427
  let v1664 : BitVec 32 := Scalar.subi c31_i32_428 v1663
  let c_m1_i32_520 : BitVec 32 := 4294967295#32
  let v1947 : BitVec 32 := Scalar.addi v1664 c_m1_i32_520
  let v1948 : BitVec 32 := Scalar.maxsi c0_i32_521 v1947
  let v1949 : BitVec 32 := Scalar.minsi c31_i32_522 v1948
  let c128_i32_523 : BitVec 32 := 128#32
  let v1950 : BitVec 32 := Scalar.muli v1949 c128_i32_523
  v1950
def k0_mult117 (k0_t3 : Fin k0_t3_loop.trips) : BitVec 32 :=
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let c128_i32_580 : BitVec 32 := 128#32
  let v2183 : BitVec 32 := Scalar.muli v2181 c128_i32_580
  v2183
def k0_mult118 (k0_t3 : Fin k0_t3_loop.trips) : BitVec 32 :=
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let c8_i32_582 : BitVec 32 := 8#32
  let v2190 : BitVec 32 := Scalar.muli v2181 c8_i32_582
  v2190
def k0_mult119 (k0_t3 : Fin k0_t3_loop.trips) : BitVec 32 :=
  let c31_i32_599 : BitVec 32 := 31#32
  let c0_i32_598 : BitVec 32 := 0#32
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let c1_i32_597 : BitVec 32 := 1#32
  let v2208 : BitVec 32 := Scalar.addi v2181 c1_i32_597
  let v2209 : BitVec 32 := Scalar.maxsi c0_i32_598 v2208
  let v2210 : BitVec 32 := Scalar.minsi c31_i32_599 v2209
  let c128_i32_600 : BitVec 32 := 128#32
  let v2211 : BitVec 32 := Scalar.muli v2210 c128_i32_600
  v2211
def k0_mult120 (k0_t3 : Fin k0_t3_loop.trips) : BitVec 32 :=
  let c31_i32_579 : BitVec 32 := 31#32
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let v2182 : BitVec 32 := Scalar.subi c31_i32_579 v2181
  let c128_i32_654 : BitVec 32 := 128#32
  let v2440 : BitVec 32 := Scalar.muli v2182 c128_i32_654
  v2440
def k0_mult121 (k0_t3 : Fin k0_t3_loop.trips) : BitVec 32 :=
  let c31_i32_579 : BitVec 32 := 31#32
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let v2182 : BitVec 32 := Scalar.subi c31_i32_579 v2181
  let c8_i32_656 : BitVec 32 := 8#32
  let v2447 : BitVec 32 := Scalar.muli v2182 c8_i32_656
  v2447
def k0_mult122 (k0_t3 : Fin k0_t3_loop.trips) : BitVec 32 :=
  let c31_i32_673 : BitVec 32 := 31#32
  let c0_i32_672 : BitVec 32 := 0#32
  let c31_i32_579 : BitVec 32 := 31#32
  let c16_i32_578 : BitVec 32 := 16#32
  let c8_i32_577 : BitVec 32 := 8#32
  let c0_i32_122 : BitVec 32 := 0#32
  let c1_i32_124 : BitVec 32 := 1#32
  let arg27 : BitVec 32 := Scf.iv c0_i32_122 c1_i32_124 k0_t3
  let v2179 : BitVec 32 := Scalar.muli c8_i32_577 arg27
  let v2180 : BitVec 32 := Scalar.addi c16_i32_578 v2179
  let c3_i32 : BitVec 32 := 3#32
  let v2181 : BitVec 32 := Scalar.addi v2180 c3_i32
  let v2182 : BitVec 32 := Scalar.subi c31_i32_579 v2181
  let c_m1_i32_671 : BitVec 32 := 4294967295#32
  let v2465 : BitVec 32 := Scalar.addi v2182 c_m1_i32_671
  let v2466 : BitVec 32 := Scalar.maxsi c0_i32_672 v2465
  let v2467 : BitVec 32 := Scalar.minsi c31_i32_673 v2466
  let c128_i32_674 : BitVec 32 := 128#32
  let v2468 : BitVec 32 := Scalar.muli v2467 c128_i32_674
  v2468
def k0_mult123 (k0_t3 : Fin k0_t3_loop.trips) : BitVec 32 :=
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let c128_i32_731 : BitVec 32 := 128#32
  let v2701 : BitVec 32 := Scalar.muli v2699 c128_i32_731
  v2701
def k0_mult124 (k0_t3 : Fin k0_t3_loop.trips) : BitVec 32 :=
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let c8_i32_733 : BitVec 32 := 8#32
  let v2708 : BitVec 32 := Scalar.muli v2699 c8_i32_733
  v2708
def k0_mult125 (k0_t3 : Fin k0_t3_loop.trips) : BitVec 32 :=
  let c31_i32_750 : BitVec 32 := 31#32
  let c0_i32_749 : BitVec 32 := 0#32
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let c1_i32_748 : BitVec 32 := 1#32
  let v2726 : BitVec 32 := Scalar.addi v2699 c1_i32_748
  let v2727 : BitVec 32 := Scalar.maxsi c0_i32_749 v2726
  let v2728 : BitVec 32 := Scalar.minsi c31_i32_750 v2727
  let c128_i32_751 : BitVec 32 := 128#32
  let v2729 : BitVec 32 := Scalar.muli v2728 c128_i32_751
  v2729
def k0_mult126 (k0_t3 : Fin k0_t3_loop.trips) : BitVec 32 :=
  let c31_i32_730 : BitVec 32 := 31#32
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let v2700 : BitVec 32 := Scalar.subi c31_i32_730 v2699
  let c128_i32_805 : BitVec 32 := 128#32
  let v2958 : BitVec 32 := Scalar.muli v2700 c128_i32_805
  v2958
def k0_mult127 (k0_t3 : Fin k0_t3_loop.trips) : BitVec 32 :=
  let c31_i32_730 : BitVec 32 := 31#32
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let v2700 : BitVec 32 := Scalar.subi c31_i32_730 v2699
  let c8_i32_807 : BitVec 32 := 8#32
  let v2965 : BitVec 32 := Scalar.muli v2700 c8_i32_807
  v2965
def k0_mult128 (k0_t3 : Fin k0_t3_loop.trips) : BitVec 32 :=
  let c31_i32_824 : BitVec 32 := 31#32
  let c0_i32_823 : BitVec 32 := 0#32
  let c31_i32_730 : BitVec 32 := 31#32
  let c16_i32_729 : BitVec 32 := 16#32
  let c8_i32_728 : BitVec 32 := 8#32
  let c0_i32_122 : BitVec 32 := 0#32
  let c1_i32_124 : BitVec 32 := 1#32
  let arg27 : BitVec 32 := Scf.iv c0_i32_122 c1_i32_124 k0_t3
  let v2697 : BitVec 32 := Scalar.muli c8_i32_728 arg27
  let v2698 : BitVec 32 := Scalar.addi c16_i32_729 v2697
  let c4_i32 : BitVec 32 := 4#32
  let v2699 : BitVec 32 := Scalar.addi v2698 c4_i32
  let v2700 : BitVec 32 := Scalar.subi c31_i32_730 v2699
  let c_m1_i32_822 : BitVec 32 := 4294967295#32
  let v2983 : BitVec 32 := Scalar.addi v2700 c_m1_i32_822
  let v2984 : BitVec 32 := Scalar.maxsi c0_i32_823 v2983
  let v2985 : BitVec 32 := Scalar.minsi c31_i32_824 v2984
  let c128_i32_825 : BitVec 32 := 128#32
  let v2986 : BitVec 32 := Scalar.muli v2985 c128_i32_825
  v2986
def k0_mult129 (k0_t3 : Fin k0_t3_loop.trips) : BitVec 32 :=
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let c128_i32_882 : BitVec 32 := 128#32
  let v3219 : BitVec 32 := Scalar.muli v3217 c128_i32_882
  v3219
def k0_mult130 (k0_t3 : Fin k0_t3_loop.trips) : BitVec 32 :=
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let c8_i32_884 : BitVec 32 := 8#32
  let v3226 : BitVec 32 := Scalar.muli v3217 c8_i32_884
  v3226
def k0_mult131 (k0_t3 : Fin k0_t3_loop.trips) : BitVec 32 :=
  let c31_i32_901 : BitVec 32 := 31#32
  let c0_i32_900 : BitVec 32 := 0#32
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let c1_i32_899 : BitVec 32 := 1#32
  let v3244 : BitVec 32 := Scalar.addi v3217 c1_i32_899
  let v3245 : BitVec 32 := Scalar.maxsi c0_i32_900 v3244
  let v3246 : BitVec 32 := Scalar.minsi c31_i32_901 v3245
  let c128_i32_902 : BitVec 32 := 128#32
  let v3247 : BitVec 32 := Scalar.muli v3246 c128_i32_902
  v3247
def k0_mult132 (k0_t3 : Fin k0_t3_loop.trips) : BitVec 32 :=
  let c31_i32_881 : BitVec 32 := 31#32
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let v3218 : BitVec 32 := Scalar.subi c31_i32_881 v3217
  let c128_i32_956 : BitVec 32 := 128#32
  let v3476 : BitVec 32 := Scalar.muli v3218 c128_i32_956
  v3476
def k0_mult133 (k0_t3 : Fin k0_t3_loop.trips) : BitVec 32 :=
  let c31_i32_881 : BitVec 32 := 31#32
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let v3218 : BitVec 32 := Scalar.subi c31_i32_881 v3217
  let c8_i32_958 : BitVec 32 := 8#32
  let v3483 : BitVec 32 := Scalar.muli v3218 c8_i32_958
  v3483
def k0_mult134 (k0_t3 : Fin k0_t3_loop.trips) : BitVec 32 :=
  let c31_i32_975 : BitVec 32 := 31#32
  let c0_i32_974 : BitVec 32 := 0#32
  let c31_i32_881 : BitVec 32 := 31#32
  let c16_i32_880 : BitVec 32 := 16#32
  let c8_i32_879 : BitVec 32 := 8#32
  let c0_i32_122 : BitVec 32 := 0#32
  let c1_i32_124 : BitVec 32 := 1#32
  let arg27 : BitVec 32 := Scf.iv c0_i32_122 c1_i32_124 k0_t3
  let v3215 : BitVec 32 := Scalar.muli c8_i32_879 arg27
  let v3216 : BitVec 32 := Scalar.addi c16_i32_880 v3215
  let c5_i32 : BitVec 32 := 5#32
  let v3217 : BitVec 32 := Scalar.addi v3216 c5_i32
  let v3218 : BitVec 32 := Scalar.subi c31_i32_881 v3217
  let c_m1_i32_973 : BitVec 32 := 4294967295#32
  let v3501 : BitVec 32 := Scalar.addi v3218 c_m1_i32_973
  let v3502 : BitVec 32 := Scalar.maxsi c0_i32_974 v3501
  let v3503 : BitVec 32 := Scalar.minsi c31_i32_975 v3502
  let c128_i32_976 : BitVec 32 := 128#32
  let v3504 : BitVec 32 := Scalar.muli v3503 c128_i32_976
  v3504
def k0_mult135 (k0_t3 : Fin k0_t3_loop.trips) : BitVec 32 :=
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let c128_i32_1033 : BitVec 32 := 128#32
  let v3737 : BitVec 32 := Scalar.muli v3735 c128_i32_1033
  v3737
def k0_mult136 (k0_t3 : Fin k0_t3_loop.trips) : BitVec 32 :=
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let c8_i32_1035 : BitVec 32 := 8#32
  let v3744 : BitVec 32 := Scalar.muli v3735 c8_i32_1035
  v3744
def k0_mult137 (k0_t3 : Fin k0_t3_loop.trips) : BitVec 32 :=
  let c31_i32_1052 : BitVec 32 := 31#32
  let c0_i32_1051 : BitVec 32 := 0#32
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let c1_i32_1050 : BitVec 32 := 1#32
  let v3762 : BitVec 32 := Scalar.addi v3735 c1_i32_1050
  let v3763 : BitVec 32 := Scalar.maxsi c0_i32_1051 v3762
  let v3764 : BitVec 32 := Scalar.minsi c31_i32_1052 v3763
  let c128_i32_1053 : BitVec 32 := 128#32
  let v3765 : BitVec 32 := Scalar.muli v3764 c128_i32_1053
  v3765
def k0_mult138 (k0_t3 : Fin k0_t3_loop.trips) : BitVec 32 :=
  let c31_i32_1032 : BitVec 32 := 31#32
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let v3736 : BitVec 32 := Scalar.subi c31_i32_1032 v3735
  let c128_i32_1107 : BitVec 32 := 128#32
  let v3994 : BitVec 32 := Scalar.muli v3736 c128_i32_1107
  v3994
def k0_mult139 (k0_t3 : Fin k0_t3_loop.trips) : BitVec 32 :=
  let c31_i32_1032 : BitVec 32 := 31#32
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let v3736 : BitVec 32 := Scalar.subi c31_i32_1032 v3735
  let c8_i32_1109 : BitVec 32 := 8#32
  let v4001 : BitVec 32 := Scalar.muli v3736 c8_i32_1109
  v4001
def k0_mult140 (k0_t3 : Fin k0_t3_loop.trips) : BitVec 32 :=
  let c31_i32_1126 : BitVec 32 := 31#32
  let c0_i32_1125 : BitVec 32 := 0#32
  let c31_i32_1032 : BitVec 32 := 31#32
  let c16_i32_1031 : BitVec 32 := 16#32
  let c8_i32_1030 : BitVec 32 := 8#32
  let c0_i32_122 : BitVec 32 := 0#32
  let c1_i32_124 : BitVec 32 := 1#32
  let arg27 : BitVec 32 := Scf.iv c0_i32_122 c1_i32_124 k0_t3
  let v3733 : BitVec 32 := Scalar.muli c8_i32_1030 arg27
  let v3734 : BitVec 32 := Scalar.addi c16_i32_1031 v3733
  let c6_i32 : BitVec 32 := 6#32
  let v3735 : BitVec 32 := Scalar.addi v3734 c6_i32
  let v3736 : BitVec 32 := Scalar.subi c31_i32_1032 v3735
  let c_m1_i32_1124 : BitVec 32 := 4294967295#32
  let v4019 : BitVec 32 := Scalar.addi v3736 c_m1_i32_1124
  let v4020 : BitVec 32 := Scalar.maxsi c0_i32_1125 v4019
  let v4021 : BitVec 32 := Scalar.minsi c31_i32_1126 v4020
  let c128_i32_1127 : BitVec 32 := 128#32
  let v4022 : BitVec 32 := Scalar.muli v4021 c128_i32_1127
  v4022
def k0_mult141 (k0_t3 : Fin k0_t3_loop.trips) : BitVec 32 :=
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let c128_i32_1184 : BitVec 32 := 128#32
  let v4255 : BitVec 32 := Scalar.muli v4253 c128_i32_1184
  v4255
def k0_mult142 (k0_t3 : Fin k0_t3_loop.trips) : BitVec 32 :=
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let c8_i32_1186 : BitVec 32 := 8#32
  let v4262 : BitVec 32 := Scalar.muli v4253 c8_i32_1186
  v4262
def k0_mult143 (k0_t3 : Fin k0_t3_loop.trips) : BitVec 32 :=
  let c31_i32_1203 : BitVec 32 := 31#32
  let c0_i32_1202 : BitVec 32 := 0#32
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let c1_i32_1201 : BitVec 32 := 1#32
  let v4280 : BitVec 32 := Scalar.addi v4253 c1_i32_1201
  let v4281 : BitVec 32 := Scalar.maxsi c0_i32_1202 v4280
  let v4282 : BitVec 32 := Scalar.minsi c31_i32_1203 v4281
  let c128_i32_1204 : BitVec 32 := 128#32
  let v4283 : BitVec 32 := Scalar.muli v4282 c128_i32_1204
  v4283
def k0_mult144 (k0_t3 : Fin k0_t3_loop.trips) : BitVec 32 :=
  let c31_i32_1183 : BitVec 32 := 31#32
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let v4254 : BitVec 32 := Scalar.subi c31_i32_1183 v4253
  let c128_i32_1258 : BitVec 32 := 128#32
  let v4512 : BitVec 32 := Scalar.muli v4254 c128_i32_1258
  v4512
def k0_mult145 (k0_t3 : Fin k0_t3_loop.trips) : BitVec 32 :=
  let c31_i32_1183 : BitVec 32 := 31#32
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let v4254 : BitVec 32 := Scalar.subi c31_i32_1183 v4253
  let c8_i32_1260 : BitVec 32 := 8#32
  let v4519 : BitVec 32 := Scalar.muli v4254 c8_i32_1260
  v4519
def k0_mult146 (k0_t3 : Fin k0_t3_loop.trips) : BitVec 32 :=
  let c31_i32_1277 : BitVec 32 := 31#32
  let c0_i32_1276 : BitVec 32 := 0#32
  let c31_i32_1183 : BitVec 32 := 31#32
  let c16_i32_1182 : BitVec 32 := 16#32
  let c8_i32_1181 : BitVec 32 := 8#32
  let c0_i32_122 : BitVec 32 := 0#32
  let c1_i32_124 : BitVec 32 := 1#32
  let arg27 : BitVec 32 := Scf.iv c0_i32_122 c1_i32_124 k0_t3
  let v4251 : BitVec 32 := Scalar.muli c8_i32_1181 arg27
  let v4252 : BitVec 32 := Scalar.addi c16_i32_1182 v4251
  let c7_i32 : BitVec 32 := 7#32
  let v4253 : BitVec 32 := Scalar.addi v4252 c7_i32
  let v4254 : BitVec 32 := Scalar.subi c31_i32_1183 v4253
  let c_m1_i32_1275 : BitVec 32 := 4294967295#32
  let v4537 : BitVec 32 := Scalar.addi v4254 c_m1_i32_1275
  let v4538 : BitVec 32 := Scalar.maxsi c0_i32_1276 v4537
  let v4539 : BitVec 32 := Scalar.minsi c31_i32_1277 v4538
  let c128_i32_1278 : BitVec 32 := 128#32
  let v4540 : BitVec 32 := Scalar.muli v4539 c128_i32_1278
  v4540
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi c56_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  let c0_i32_0 : BitVec 32 := 0#32
  ![c0_i32.toNat, v0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S5x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S5x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S5x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x8x4 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x1x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x1x384 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S2x128x768 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x160 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S4096x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Proof.Refs.lean ====
/- The host references' frames: each reference's run, read at its arguments; a host program has no semaphore. -/
module

public import proofs.«01_k».proof.Defs
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.Reference4Ideal.Run
public import proofs.«01_k».proof.Proof.Gen.Reference5Ideal.Run
public import Idealize.ShloMosaic.Lib.Quiescent

@[expose] public section

noncomputable section

namespace Cert.Refs

open Idealize.ShloMosaic Idealize.SL.Sem

/-- The mixer's reference. -/
theorem frame1 : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward's first half's reference. -/
theorem frame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward's second half's reference. -/
theorem frame3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The output projection's reference. -/
theorem frame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The input projection's reference. -/
theorem frame5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

end Cert.Refs

end
-- ==== Proof.ScanFillBits.lean ====
/- The state-space scan's two loops before the last: what they store fills the buffers they store in, so the
buffers' earlier contents are nowhere read. -/
module

public import proofs.«01_k».proof.Proof.Gen.Kernel6.Frame.Runs

@[expose] public section

set_option maxRecDepth 65536

noncomputable section

namespace Cert.Kernel6.Scan

open Cert.Kernel6.Gen

open Idealize.ShloMosaic Idealize.ShloMosaic.TcCoe Idealize.ShloMosaic.Tactic
open Idealize.SL.Sem

variable {F : FTy → Type} [FloatOps F]

/-- A whole buffer whose stores fill it holds those stores over anything. -/
theorem filled {κ : Kind} {sp : Space} {s : Shape} {e : EltTy} {a : Memref sig κ sp s e} (ha : a.IsWhole)
    (f : a.view.ty.Contents (Elt F)) (L : List (View.Piece (Elt F) s e)) (h : ∀ y, ∃ p ∈ L, y ∈ p.1.set) :
    a.view.writes (Elt F) f L = a.view.writes (Elt F) a.view.junk L := by
  obtain ⟨b, rfl, rfl, rfl, hb⟩ := ha; cases hb
  funext y
  exact View.read_writes_apply_eq (View.whole b) f (View.whole b) (View.whole b).junk y L (h y)

set_option maxHeartbeats 4000000 in
theorem first_rows (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v0 : _) (v1 : _) (v2 : _) (v3 : _) (v4 : _) (v5 : _) (X_arg3 : BufTy.Contents (Elt F) arg3.view.ty) (X_arg4 : BufTy.Contents (Elt F) arg4.view.ty) (X_arg5 : BufTy.Contents (Elt F) arg5.view.ty) (X_arg17 : BufTy.Contents (Elt F) arg17.view.ty) :
    ∀ y : S4096x640.Idx, ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).1, y ∈ p.1.set :=
  View.cover_of_tiledL _ S128x640.size (by sl_kernel_rfl)

set_option maxHeartbeats 4000000 in
theorem first_cols (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v0 : _) (v1 : _) (v2 : _) (v3 : _) (v4 : _) (v5 : _) (X_arg3 : BufTy.Contents (Elt F) arg3.view.ty) (X_arg4 : BufTy.Contents (Elt F) arg4.view.ty) (X_arg5 : BufTy.Contents (Elt F) arg5.view.ty) (X_arg17 : BufTy.Contents (Elt F) arg17.view.ty) :
    ∀ y : S384x4096.Idx, ∃ p ∈ (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).2, y ∈ p.1.set :=
  View.cover_of_tiledL _ S384x128.size (by sl_kernel_rfl)

set_option maxHeartbeats 4000000 in
theorem second_rows (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (v586 : BitVec 32) (v591 : FVec F S128x768 .f32) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (G_arg23 : BufTy.Contents (Elt F) arg23.view.ty) (G_arg24 : BufTy.Contents (Elt F) arg24.view.ty) (G_arg25 : BufTy.Contents (Elt F) arg25.view.ty) (G_arg26 : BufTy.Contents (Elt F) arg26.view.ty) :
    ∀ y : S4096x384.Idx, ∃ p ∈ (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 G_arg23 G_arg24 G_arg25 G_arg26 (Scf.trips k0_t2_loop.lb k0_t2_loop.ub k0_t2_loop.st)).1, y ∈ p.1.set :=
  View.cover_of_tiledL _ S128x384.size (by sl_kernel_rfl)

set_option maxHeartbeats 4000000 in
theorem second_trip (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (v586 : BitVec 32) (v591 : FVec F S128x768 .f32) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (k : Fin k0_t2_loop.trips) (f_arg23 : BufTy.Contents (Elt F) arg23.view.ty) (f_arg24 : BufTy.Contents (Elt F) arg24.view.ty) (f_arg25 : BufTy.Contents (Elt F) arg25.view.ty) (f_arg26 : BufTy.Contents (Elt F) arg26.view.ty) (g : BufTy.Contents (Elt F) arg23.view.ty) :
    tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 k f_arg23 f_arg24 f_arg25 f_arg26 = tripL_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 k g f_arg24 f_arg25 f_arg26 := by
  sl_kernel_rfl

theorem second_base (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (v586 : BitVec 32) (v591 : FVec F S128x768 .f32) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (G_arg23 : BufTy.Contents (Elt F) arg23.view.ty) (G_arg24 : BufTy.Contents (Elt F) arg24.view.ty) (G_arg25 : BufTy.Contents (Elt F) arg25.view.ty) (G_arg26 : BufTy.Contents (Elt F) arg26.view.ty) (g : BufTy.Contents (Elt F) arg23.view.ty) (n : ℕ) :
    pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 G_arg23 G_arg24 G_arg25 G_arg26 n = pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 g G_arg24 G_arg25 G_arg26 n := by
  induction n with
  | zero => rfl
  | succ k ih =>
    rw [pb_k0_t2.eq_2, pb_k0_t2.eq_2, ih]
    unfold pb_k0_t2Step
    split
    · rw [second_trip (g := View.writes arg23.view (Elt F) g (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 g G_arg24 G_arg25 G_arg26 k).1)]
    · rfl

set_option maxHeartbeats 4000000 in
theorem third_trip (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (X_arg2 : BufTy.Contents (Elt F) arg2.view.ty) (X_arg14 : BufTy.Contents (Elt F) arg14.view.ty) (X_arg15 : BufTy.Contents (Elt F) arg15.view.ty) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (k : Fin k0_t3_loop.trips) (f_arg18 : BufTy.Contents (Elt F) arg18.view.ty) (f_arg24 : BufTy.Contents (Elt F) arg24.view.ty) (f_arg25 : BufTy.Contents (Elt F) arg25.view.ty) (f_arg26 : BufTy.Contents (Elt F) arg26.view.ty) (g : BufTy.Contents (Elt F) arg18.view.ty) :
    tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 X_arg2 X_arg14 X_arg15 X_arg16 X_arg19 X_arg20 X_arg21 X_arg22 X_arg23 k f_arg18 f_arg24 f_arg25 f_arg26 = tripL_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 X_arg2 X_arg14 X_arg15 X_arg16 X_arg19 X_arg20 X_arg21 X_arg22 X_arg23 k g f_arg24 f_arg25 f_arg26 := by
  sl_kernel_rfl

theorem third_base (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (X_arg2 : BufTy.Contents (Elt F) arg2.view.ty) (X_arg14 : BufTy.Contents (Elt F) arg14.view.ty) (X_arg15 : BufTy.Contents (Elt F) arg15.view.ty) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (X_arg23 : BufTy.Contents (Elt F) arg23.view.ty) (G_arg18 : BufTy.Contents (Elt F) arg18.view.ty) (G_arg24 : BufTy.Contents (Elt F) arg24.view.ty) (G_arg25 : BufTy.Contents (Elt F) arg25.view.ty) (G_arg26 : BufTy.Contents (Elt F) arg26.view.ty) (g : BufTy.Contents (Elt F) arg18.view.ty) (n : ℕ) :
    pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 X_arg2 X_arg14 X_arg15 X_arg16 X_arg19 X_arg20 X_arg21 X_arg22 X_arg23 G_arg18 G_arg24 G_arg25 G_arg26 n = pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 X_arg2 X_arg14 X_arg15 X_arg16 X_arg19 X_arg20 X_arg21 X_arg22 X_arg23 g G_arg24 G_arg25 G_arg26 n := by
  induction n with
  | zero => rfl
  | succ k ih =>
    rw [pb_k0_t3.eq_2, pb_k0_t3.eq_2, ih]
    unfold pb_k0_t3Step
    split
    · rw [third_trip (g := View.writes arg18.view (Elt F) g (pb_k0_t3 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 X_arg2 X_arg14 X_arg15 X_arg16 X_arg19 X_arg20 X_arg21 X_arg22 X_arg23 g G_arg24 G_arg25 G_arg26 k).1)]
    · rfl

theorem rows_over (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v0 : _) (v1 : _) (v2 : _) (v3 : _) (v4 : _) (v5 : _) (X_arg3 : BufTy.Contents (Elt F) arg3.view.ty) (X_arg4 : BufTy.Contents (Elt F) arg4.view.ty) (X_arg5 : BufTy.Contents (Elt F) arg5.view.ty) (X_arg17 : BufTy.Contents (Elt F) arg17.view.ty) (f : BufTy.Contents (Elt F) arg19.view.ty) :
    arg19.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).1
      = arg19.view.writes (Elt F) arg19.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).1 :=
  filled harg19 f _ (first_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17)

theorem cols_over (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v0 : _) (v1 : _) (v2 : _) (v3 : _) (v4 : _) (v5 : _) (X_arg3 : BufTy.Contents (Elt F) arg3.view.ty) (X_arg4 : BufTy.Contents (Elt F) arg4.view.ty) (X_arg5 : BufTy.Contents (Elt F) arg5.view.ty) (X_arg17 : BufTy.Contents (Elt F) arg17.view.ty) (f : BufTy.Contents (Elt F) arg20.view.ty) :
    arg20.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).2
      = arg20.view.writes (Elt F) arg20.view.junk (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17 (Scf.trips k0_t1_loop.lb k0_t1_loop.ub k0_t1_loop.st)).2 :=
  filled harg20 f _ (first_cols 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v0 v1 v2 v3 v4 v5 X_arg3 X_arg4 X_arg5 X_arg17)

theorem sums_over (𝒱 : Variants) (c : Dev nD) (bd : Option 𝒱.V) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole) (v8 : IVec S128x128 32) (v9 : IVec S128x128 32) (v16 : IVec S128x128 1) (v19 : IVec S1x128 1) (v586 : BitVec 32) (v591 : FVec F S128x768 .f32) (X_arg16 : BufTy.Contents (Elt F) arg16.view.ty) (X_arg19 : BufTy.Contents (Elt F) arg19.view.ty) (X_arg20 : BufTy.Contents (Elt F) arg20.view.ty) (X_arg21 : BufTy.Contents (Elt F) arg21.view.ty) (X_arg22 : BufTy.Contents (Elt F) arg22.view.ty) (G_arg23 : BufTy.Contents (Elt F) arg23.view.ty) (G_arg24 : BufTy.Contents (Elt F) arg24.view.ty) (G_arg25 : BufTy.Contents (Elt F) arg25.view.ty) (G_arg26 : BufTy.Contents (Elt F) arg26.view.ty) (f : BufTy.Contents (Elt F) arg23.view.ty) :
    arg23.view.writes (Elt F) f (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 G_arg23 G_arg24 G_arg25 G_arg26 (Scf.trips k0_t2_loop.lb k0_t2_loop.ub k0_t2_loop.st)).1
      = arg23.view.writes (Elt F) arg23.view.junk (pb_k0_t2 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 G_arg23 G_arg24 G_arg25 G_arg26 (Scf.trips k0_t2_loop.lb k0_t2_loop.ub k0_t2_loop.st)).1 :=
  filled harg23 f _ (second_rows 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v8 v9 v16 v19 v586 v591 X_arg16 X_arg19 X_arg20 X_arg21 X_arg22 G_arg23 G_arg24 G_arg25 G_arg26)

end Cert.Kernel6.Scan

end
-- ==== Proof.ScanRunBits.lean ====
/- The state-space scan: its body run once, at any point of its grid. -/
module

public import proofs.«01_k».proof.Proof.ScanFillBits

@[expose] public section

set_option maxRecDepth 65536

noncomputable section

namespace Cert.Kernel6.Scan

open Cert.Kernel6.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 20000000 in
/-- The scan's body, run once on its windows: what it stores in the result's window, with the run itself. -/
noncomputable def kernelRun0_A (c : Dev nD) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole)
    (x0 : Vec F S4096x384 .bf16) (x1 : Vec F S4096x384 .bf16) (x2 : Vec F S4096x128 .bf16) (x3 : Vec F S4096x128 .bf16) (x4 : Vec F S8x4096 .f32) (x5 : Vec F S5x384 .f32) (x6 : Vec F S5x128 .f32) (x7 : Vec F S5x128 .f32) (x8 : Vec F S1x384 .f32) (x9 : Vec F S1x128 .f32) (x10 : Vec F S1x128 .f32) (x11 : Vec F S1x8x4 .f32) (x12 : Vec F S1x1x384 .f32) (x13 : Vec F S1x1x384 .f32) (x14 : Vec F S2x128x768 .bf16) (x15 : Vec F S512x160 .bf16) :
    { L16 : List (View.Piece (Elt F) S4096x384 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)) -∗ K ⟨⟩))
          ⊢ wp frame (wpE (defs₀ (F := F)) Variants.none c none) E (cc0_ssd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, fun E K => ?run⟩
  case run =>
    simp only [cc0_ssd_eq_skeleton]; unfold cc0_ssd_skel
    simp only [k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    delta kernelRun0_A.sl.HS7_2
    delta kernelRun0_A.sl.v616 kernelRun0_A.sl.v618 kernelRun0_A.sl.v599 kernelRun0_A.sl.v601
    rw [rows_over (f := fs0)]
    rw [cols_over (f := fs1)]
    rw [second_base (G_arg23 := fs4) (g := arg23.view.junk)]
    rw [sums_over (f := fs4)]
    rw [third_base (G_arg18 := f16) (g := arg18.view.junk)]
    isplitl [H16]; · iexists _; iexact H16
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [HS6]
    · iexists _, _; isplitr; swap; · iexact HS6
      ipureintro; rfl
    iexists _, _; isplitr; swap; · iexact HS7
    ipureintro; rfl

end Cert.Kernel6.Scan

end
-- ==== Proof.ScanFrameBits.lean ====
/- The state-space scan: it runs to the end, faultless, its arguments unchanged and its semaphores at rest. -/
module

public import proofs.«01_k».proof.Proof.ScanRunBits
public import Idealize.ShloMosaic.Lib.Claim

@[expose] public section

set_option maxRecDepth 16384

noncomputable section

namespace Cert.Kernel6.Scan

open Cert.Kernel6.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The body's stores fill the result's block. -/
theorem cover0_A_16 (c : Dev nD) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole)
    (x0 : Vec F S4096x384 .bf16) (x1 : Vec F S4096x384 .bf16) (x2 : Vec F S4096x128 .bf16) (x3 : Vec F S4096x128 .bf16) (x4 : Vec F S8x4096 .f32) (x5 : Vec F S5x384 .f32) (x6 : Vec F S5x128 .f32) (x7 : Vec F S5x128 .f32) (x8 : Vec F S1x384 .f32) (x9 : Vec F S1x128 .f32) (x10 : Vec F S1x128 .f32) (x11 : Vec F S1x8x4 .f32) (x12 : Vec F S1x1x384 .f32) (x13 : Vec F S1x1x384 .f32) (x14 : Vec F S2x128x768 .bf16) (x15 : Vec F S512x160 .bf16) (y : S4096x384.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1 S128x384.size (by sl_kernel_rfl) y

/-- The result's block after the body. -/
def out0_A_16 (c : Dev nD) (i : grid0.Coords) (arg2 : Memref sig .tc .vmem S4096x384 .bf16) (harg2 : arg2.IsWhole) (arg3 : Memref sig .tc .vmem S4096x384 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S8x4096 .f32) (harg6 : arg6.IsWhole) (arg7 : Memref sig .tc .vmem S5x384 .f32) (harg7 : arg7.IsWhole) (arg8 : Memref sig .tc .vmem S5x128 .f32) (harg8 : arg8.IsWhole) (arg9 : Memref sig .tc .vmem S5x128 .f32) (harg9 : arg9.IsWhole) (arg10 : Memref sig .tc .vmem S1x384 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x8x4 .f32) (harg13 : arg13.IsWhole) (arg14 : Memref sig .tc .vmem S1x1x384 .f32) (harg14 : arg14.IsWhole) (arg15 : Memref sig .tc .vmem S1x1x384 .f32) (harg15 : arg15.IsWhole) (arg16 : Memref sig .tc .vmem S2x128x768 .bf16) (harg16 : arg16.IsWhole) (arg17 : Memref sig .tc .vmem S512x160 .bf16) (harg17 : arg17.IsWhole) (arg18 : Memref sig .tc .vmem S4096x384 .bf16) (harg18 : arg18.IsWhole) (arg19 : Memref sig .tc .vmem S4096x640 .bf16) (harg19 : arg19.IsWhole) (arg20 : Memref sig .tc .vmem S384x4096 .bf16) (harg20 : arg20.IsWhole) (arg21 : Memref sig .tc .vmem S4096x128 .bf16) (harg21 : arg21.IsWhole) (arg22 : Memref sig .tc .vmem S8x256x128 .f32) (harg22 : arg22.IsWhole) (arg23 : Memref sig .tc .vmem S4096x384 .f32) (harg23 : arg23.IsWhole) (arg24 : Memref sig .tc .vmem S2x384x128 .f32) (harg24 : arg24.IsWhole) (arg25 : Memref sig .tc .vmem S2x128x768 .f32) (harg25 : arg25.IsWhole) (arg26 : Memref sig .tc .vmem S2x128x128 .f32) (harg26 : arg26.IsWhole)
    (x0 : Vec F S4096x384 .bf16) (x1 : Vec F S4096x384 .bf16) (x2 : Vec F S4096x128 .bf16) (x3 : Vec F S4096x128 .bf16) (x4 : Vec F S8x4096 .f32) (x5 : Vec F S5x384 .f32) (x6 : Vec F S5x128 .f32) (x7 : Vec F S5x128 .f32) (x8 : Vec F S1x384 .f32) (x9 : Vec F S1x128 .f32) (x10 : Vec F S1x128 .f32) (x11 : Vec F S1x8x4 .f32) (x12 : Vec F S1x1x384 .f32) (x13 : Vec F S1x1x384 .f32) (x14 : Vec F S2x128x768 .bf16) (x15 : Vec F S512x160 .bf16) : Vec F S4096x384 .bf16 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x0 x1 x2 x3 x4 x5 x6 x7 x8 x9 x10 x11 x12 x13 x14 x15).1)

/-! ## What the outputs hold after each point -/

def outsAt0 (c : Dev nD) (t : Fin cfg0.N) : Vec F S4096x384 .bf16 :=
  out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (iblk m c 0 t) (iblk m c 1 t) (iblk m c 2 t) (iblk m c 3 t) (iblk m c 4 t) (X0_5 m c t) (iblk m c 6 t) (iblk m c 7 t) (X0_8 m c t) (iblk m c 9 t) (iblk m c 10 t) (iblk m c 11 t) (iblk m c 12 t) (iblk m c 13 t) (iblk m c 14 t) (iblk m c 15 t)

/-! ## The pipeline's proof data -/

/-- What every window holds before and after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => X0_5 m c t
    | ⟨6, _⟩ => iblk m c 6 t
    | ⟨7, _⟩ => iblk m c 7 t
    | ⟨8, _⟩ => X0_8 m c t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t)
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = X0_8 m c t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = X0_8 m c t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

set_option maxHeartbeats 2400000 in
/-- The body, from what it holds at a point to what it leaves there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  rw [show (dats m 0 c).Φ t.castSucc = Pipeline.ΦA spec0 c from rfl, PhiA0_eq]
  unfold outsAt0
  unfold out0_A_16
  iintro ⟨⟨⟨HS0, HS1, HS2, HS3, HS4, HS5, HS6, HS7⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (X0_5 m c t) (iblk m c 6 t) (iblk m c 7 t) (X0_8 m c t) (iblk m c 9 t) (iblk m c 10 t) (iblk m c 11 t) (iblk m c 12 t) (iblk m c 13 t) (iblk m c 14 t) (iblk m c 15 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  iintro ⟨H0, H1, H2, H3, H4, H5, H6, H7, H8, H9, H10, H11, H12, H13, H14, H15, ⟨%e16, H16⟩, HS0, HS1, HS2, HS3, HS4, HS5, HS6, HS7⟩
  isplitl [HS0 HS1 HS2 HS3 HS4 HS5 HS6 HS7 Hg]
  · isplitl [HS0 HS1 HS2 HS3 HS4 HS5 HS6 HS7]
    · isplitl [HS0]
      · iexact HS0
      isplitl [HS1]
      · iexact HS1
      isplitl [HS2]
      · iexact HS2
      isplitl [HS3]
      · iexact HS3
      isplitl [HS4]
      · iexact HS4
      isplitl [HS5]
      · iexact HS5
      isplitl [HS6]
      · iexact HS6
      iexact HS7
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  unfold owns; iexists _; isplitr
  swap; · iexact H16
  ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

/-- The scan runs to the end: its arguments unchanged, its semaphores at rest. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel6.Scan

end
-- ==== Proof.Ang.lean ====
/-
  Cosines and sines of whole multiples of a turn's nth part: the angles the programs build, and the sums of them.
-/
module

public import Idealize.ShloMosaic.Lib.KernelVsHost
public import Idealize.ShloMosaic.Lib.IdealHost
public import Mathlib.Analysis.SpecialFunctions.Trigonometric.Basic
public import Mathlib.Analysis.SpecialFunctions.Trigonometric.Inverse

@[expose] public section

noncomputable section

namespace Cert.Ang

open Idealize.ShloMosaic

/-- The cosine of `a` of `n` parts of a turn. -/
def cs (n a : ℕ) : ℝ := Real.cos ((a : ℝ) * (Real.pi * (2 / (n : ℝ))))
/-- The sine. -/
def sn (n a : ℕ) : ℝ := Real.sin ((a : ℝ) * (Real.pi * (2 / (n : ℝ))))

theorem cs_add (n a b : ℕ) : cs n (a + b) = cs n a * cs n b - sn n a * sn n b := by
  unfold cs sn
  rw [Nat.cast_add, add_mul, Real.cos_add]
theorem sn_add (n a b : ℕ) : sn n (a + b) = sn n a * cs n b + cs n a * sn n b := by
  unfold cs sn
  rw [Nat.cast_add, add_mul, Real.sin_add]

theorem ang_turn {n : ℕ} (hn : 0 < n) (a b : ℕ) : ((a + n * b : ℕ) : ℝ) * (Real.pi * (2 / (n : ℝ))) = (a : ℝ) * (Real.pi * (2 / (n : ℝ))) + (b : ℝ) * (2 * Real.pi) := by
  have h : (n : ℝ) ≠ 0 := by exact_mod_cast hn.ne'
  push_cast
  field_simp

/-- Whole turns do not count. -/
theorem cs_turn {n : ℕ} (hn : 0 < n) (a b : ℕ) : cs n (a + n * b) = cs n a := by
  unfold cs
  rw [ang_turn hn, Real.cos_add_nat_mul_two_pi]
theorem sn_turn {n : ℕ} (hn : 0 < n) (a b : ℕ) : sn n (a + n * b) = sn n a := by
  unfold sn
  rw [ang_turn hn, Real.sin_add_nat_mul_two_pi]

theorem cs_mod {n : ℕ} (hn : 0 < n) (a : ℕ) : cs n (a % n) = cs n a := by
  conv_rhs => rw [← Nat.mod_add_div a n]
  exact (cs_turn hn _ _).symm
theorem sn_mod {n : ℕ} (hn : 0 < n) (a : ℕ) : sn n (a % n) = sn n a := by
  conv_rhs => rw [← Nat.mod_add_div a n]
  exact (sn_turn hn _ _).symm

theorem ang_scale {n c : ℕ} (hc : 0 < c) (a : ℕ) : ((c * a : ℕ) : ℝ) * (Real.pi * (2 / ((c * n : ℕ) : ℝ))) = (a : ℝ) * (Real.pi * (2 / (n : ℝ))) := by
  have h : (c : ℝ) ≠ 0 := by exact_mod_cast hc.ne'
  by_cases hn : (n : ℝ) = 0
  · push_cast; rw [hn]; simp
  · push_cast; field_simp

/-- Finer parts, as many times more. -/
theorem cs_scale {n c : ℕ} (hc : 0 < c) (a : ℕ) : cs (c * n) (c * a) = cs n a := by
  unfold cs
  rw [ang_scale hc]
theorem sn_scale {n c : ℕ} (hc : 0 < c) (a : ℕ) : sn (c * n) (c * a) = sn n a := by
  unfold sn
  rw [ang_scale hc]

theorem cs_zero (n : ℕ) : cs n 0 = 1 := by unfold cs; simp
theorem sn_zero (n : ℕ) : sn n 0 = 0 := by unfold sn; simp
theorem q1 : ((1 : ℕ) : ℝ) * (Real.pi * (2 / ((4 : ℕ) : ℝ))) = Real.pi / 2 := by push_cast; ring
theorem q2 : ((2 : ℕ) : ℝ) * (Real.pi * (2 / ((4 : ℕ) : ℝ))) = Real.pi := by push_cast; ring
theorem cs4_1 : cs 4 1 = 0 := by unfold cs; rw [q1, Real.cos_pi_div_two]
theorem sn4_1 : sn 4 1 = 1 := by unfold sn; rw [q1, Real.sin_pi_div_two]
theorem cs4_2 : cs 4 2 = -1 := by unfold cs; rw [q2, Real.cos_pi]
theorem sn4_2 : sn 4 2 = 0 := by unfold sn; rw [q2, Real.sin_pi]
theorem cs4_3 : cs 4 3 = 0 := by rw [show 3 = 2 + 1 from rfl, cs_add, cs4_1, cs4_2, sn4_1, sn4_2]; norm_num
theorem sn4_3 : sn 4 3 = -1 := by rw [show 3 = 2 + 1 from rfl, sn_add, cs4_1, cs4_2, sn4_1, sn4_2]; norm_num

/-! ## The programs' constants -/

theorem bits_neg_one : Ideal.ofBits .f32 0xBF800000#32 = ((-1 : ℝ) : EReal) := by
  simp [Ideal.ofBits, Ideal.ieee, -EReal.coe_mul, -EReal.coe_neg]; norm_num
theorem bits_64 : Ideal.ofBits .f32 0x3C800000#32 = ((2 / ((128 : ℕ) : ℝ) : ℝ) : EReal) := by
  simp [Ideal.ofBits, Ideal.ieee, -EReal.coe_mul]; norm_num
theorem bits_512 : Ideal.ofBits .f32 0x3B000000#32 = ((2 / ((1024 : ℕ) : ℝ) : ℝ) : EReal) := by
  simp [Ideal.ofBits, Ideal.ieee, -EReal.coe_mul]; norm_num
theorem bits_2048 : Ideal.ofBits .f32 0x3A000000#32 = ((2 / ((4096 : ℕ) : ℝ) : ℝ) : EReal) := by
  simp [Ideal.ofBits, Ideal.ieee, -EReal.coe_mul]; norm_num
theorem bits_524288 : Ideal.ofBits .f32 0x49000000#32 = ((524288 : ℝ) : EReal) := by
  simp [Ideal.ofBits, Ideal.ieee, -EReal.coe_mul]; norm_num

theorem acos_neg_one : Ideal.acos (Ideal.ofBits .f32 0xBF800000#32) = ((Real.pi : ℝ) : EReal) := by
  rw [bits_neg_one, Ideal.acos_coe, if_pos (by norm_num), Real.arccos_neg_one]

theorem sqrt_524288 : Ideal.sqrt (Ideal.ofBits .f32 0x49000000#32) = ((Real.sqrt 524288 : ℝ) : EReal) := by
  rw [bits_524288]
  exact if_neg (by norm_num)

/-! ## Whole numbers in words of 32 bits -/

theorem toInt_small {a : ℕ} (ha : a < 2 ^ 31) : (BitVec.ofNat 32 a).toInt = (a : ℤ) := by
  rw [BitVec.toInt_eq_toNat_cond, BitVec.toNat_ofNat]
  split <;> omega

theorem mul_words (a b : ℕ) : BitVec.ofNat 32 a * BitVec.ofNat 32 b = BitVec.ofNat 32 (a * b) := (BitVec.ofNat_mul ..).symm

/-- The remainder with a divisor's sign, as the programs compute it. -/
def rem1 (x n : BitVec 32) : BitVec 32 :=
  Scalar.select
    (IntOp.andi
      (IntOp.cmpi .ne (IntOp.cmpi .slt (IntOp.remsi .host x (Scalar.select (IntOp.cmpi .eq n 0#32) 1#32 n)) 0#32) (IntOp.cmpi .slt (Scalar.select (IntOp.cmpi .eq n 0#32) 1#32 n) 0#32))
      (IntOp.cmpi .ne (IntOp.remsi .host x (Scalar.select (IntOp.cmpi .eq n 0#32) 1#32 n)) 0#32))
    (IntOp.addi (IntOp.remsi .host x (Scalar.select (IntOp.cmpi .eq n 0#32) 1#32 n)) (Scalar.select (IntOp.cmpi .eq n 0#32) 1#32 n))
    (IntOp.remsi .host x (Scalar.select (IntOp.cmpi .eq n 0#32) 1#32 n))

theorem rem1_eq {a n : ℕ} (ha : a < 2 ^ 31) (hn : 0 < n) (hn' : n < 2 ^ 31) : rem1 (BitVec.ofNat 32 a) (BitVec.ofNat 32 n) = BitVec.ofNat 32 (a % n) := by
  have hlt : a % n < n := Nat.mod_lt _ hn
  have n0 : BitVec.ofNat 32 n ≠ 0#32 := by
    intro h
    have := congrArg BitVec.toInt h
    rw [toInt_small hn', show (0#32).toInt = 0 from by decide] at this
    omega
  have e1 : Scalar.select (IntOp.cmpi .eq (BitVec.ofNat 32 n) 0#32) 1#32 (BitVec.ofNat 32 n) = BitVec.ofNat 32 n := by
    unfold IntOp.cmpi
    have : (BitVec.ofNat 32 n == 0#32) = false := by simpa using n0
    simp only [this]
    rfl
  have pos : ∀ {b : ℕ}, b < 2 ^ 31 → (BitVec.ofNat 32 b).slt 0#32 = false := fun {b} hb => by
    rw [BitVec.slt_eq_decide, toInt_small hb]
    simp
  have msb : ∀ {b : ℕ}, b < 2 ^ 31 → (BitVec.ofNat 32 b).msb = false := fun {b} hb => by
    rw [BitVec.msb_eq_false_iff_two_mul_lt, BitVec.toNat_ofNat]
    omega
  have e2 : IntOp.remsi .host (BitVec.ofNat 32 a) (BitVec.ofNat 32 n) = BitVec.ofNat 32 (a % n) := by
    unfold IntOp.remsi
    rw [if_neg (by
      rintro (h | ⟨_, h⟩)
      · exact n0 h
      · have := congrArg BitVec.toInt h
        rw [toInt_small hn', show (-1 : BitVec 32).toInt = -1 from by decide] at this
        omega)]
    unfold BitVec.srem
    rw [msb ha, msb hn']
    show BitVec.ofNat 32 a % BitVec.ofNat 32 n = _
    apply BitVec.eq_of_toNat_eq
    rw [BitVec.toNat_umod]
    simp only [BitVec.toNat_ofNat]
    rw [Nat.mod_eq_of_lt (show a < 2 ^ 32 by omega), Nat.mod_eq_of_lt (show n < 2 ^ 32 by omega), Nat.mod_eq_of_lt (show a % n < 2 ^ 32 by omega)]
  unfold rem1
  rw [e1, e2]
  have e3 : IntOp.cmpi .ne (IntOp.cmpi .slt (BitVec.ofNat 32 (a % n)) 0#32) (IntOp.cmpi .slt (BitVec.ofNat 32 n) 0#32) = 0#1 := by
    unfold IntOp.cmpi
    simp only [pos hn', pos (show a % n < 2 ^ 31 by omega)]
    rfl
  rw [e3]
  have e4 : ∀ b : BitVec 1, IntOp.andi 0#1 b = 0#1 := fun b => by unfold IntOp.andi; simp
  rw [e4]
  rfl

/-- An angle as the programs build it. -/
theorem ang_val {n a : ℕ} (ha : a < 2 ^ 31) (w : EReal) (hw : w = ((2 / (n : ℝ) : ℝ) : EReal)) :
    (((BitVec.ofNat 32 a).toInt : ℝ) : EReal) * (Ideal.acos (Ideal.ofBits .f32 0xBF800000#32) * w) = (((a : ℝ) * (Real.pi * (2 / (n : ℝ))) : ℝ) : EReal) := by
  rw [acos_neg_one, hw, toInt_small ha]
  push_cast
  rfl

end Cert.Ang

end
-- ==== Proof.FourMath.lean ====
/-
  A transform of 4096 places as four of 1024, over the reals: what the mixer's body relies on.
-/
module

public import proofs.«01_k».proof.Proof.Ang

@[expose] public section

noncomputable section

namespace Cert.FourMath

open Cert.Ang

/-- The four-point transform's halves. -/
def yc (κ : Fin 4) (c s : Fin 4 → ℝ) : ℝ :=
  match κ with
  | 0 => (c 0 + c 2) + (c 1 + c 3)
  | 1 => (c 0 - c 2) + (s 1 - s 3)
  | 2 => (c 0 + c 2) - (c 1 + c 3)
  | 3 => (c 0 - c 2) - (s 1 - s 3)
def ys (κ : Fin 4) (c s : Fin 4 → ℝ) : ℝ :=
  match κ with
  | 0 => (s 0 + s 2) + (s 1 + s 3)
  | 1 => (s 0 - s 2) - (c 1 - c 3)
  | 2 => (s 0 + s 2) - (s 1 + s 3)
  | 3 => (s 0 - s 2) + (c 1 - c 3)

theorem cs4_mod (a : ℕ) : cs 4 a = cs 4 (a % 4) := (cs_mod (by decide) a).symm
theorem sn4_mod (a : ℕ) : sn 4 a = sn 4 (a % 4) := (sn_mod (by decide) a).symm

theorem yc_eq (κ : Fin 4) (c s : Fin 4 → ℝ) : yc κ c s = ∑ a : Fin 4, (cs 4 (κ.val * a.val) * c a + sn 4 (κ.val * a.val) * s a) := by
  rw [Fin.sum_univ_four]
  match κ with
  | 0 => simp [yc, cs_zero, sn_zero]; ring
  | 1 => simp [yc, cs_zero, sn_zero, cs4_1, sn4_1, cs4_2, sn4_2, cs4_3, sn4_3]; ring
  | 2 =>
    have h4 : cs 4 4 = 1 := by rw [cs4_mod]; exact cs_zero 4
    have h4' : sn 4 4 = 0 := by rw [sn4_mod]; exact sn_zero 4
    have h6 : cs 4 6 = -1 := by rw [cs4_mod]; exact cs4_2
    have h6' : sn 4 6 = 0 := by rw [sn4_mod]; exact sn4_2
    simp [yc, cs_zero, sn_zero, cs4_2, sn4_2, h4, h4', h6, h6']; ring
  | 3 =>
    have h6 : cs 4 6 = -1 := by rw [cs4_mod]; exact cs4_2
    have h6' : sn 4 6 = 0 := by rw [sn4_mod]; exact sn4_2
    have h9 : cs 4 9 = 0 := by rw [cs4_mod]; exact cs4_1
    have h9' : sn 4 9 = 1 := by rw [sn4_mod]; exact sn4_1
    simp [yc, cs_zero, sn_zero, cs4_3, sn4_3, h6, h6', h9, h9']; ring

theorem ys_eq (κ : Fin 4) (c s : Fin 4 → ℝ) : ys κ c s = ∑ a : Fin 4, (cs 4 (κ.val * a.val) * s a - sn 4 (κ.val * a.val) * c a) := by
  rw [Fin.sum_univ_four]
  match κ with
  | 0 => simp [ys, cs_zero, sn_zero]; ring
  | 1 => simp [ys, cs_zero, sn_zero, cs4_1, sn4_1, cs4_2, sn4_2, cs4_3, sn4_3]; ring
  | 2 =>
    have h4 : cs 4 4 = 1 := by rw [cs4_mod]; exact cs_zero 4
    have h4' : sn 4 4 = 0 := by rw [sn4_mod]; exact sn_zero 4
    have h6 : cs 4 6 = -1 := by rw [cs4_mod]; exact cs4_2
    have h6' : sn 4 6 = 0 := by rw [sn4_mod]; exact sn4_2
    simp [ys, cs_zero, sn_zero, cs4_2, sn4_2, h4, h4', h6, h6']; ring
  | 3 =>
    have h6 : cs 4 6 = -1 := by rw [cs4_mod]; exact cs4_2
    have h6' : sn 4 6 = 0 := by rw [sn4_mod]; exact sn4_2
    have h9 : cs 4 9 = 0 := by rw [cs4_mod]; exact cs4_1
    have h9' : sn 4 9 = 1 := by rw [sn4_mod]; exact sn4_1
    simp [ys, cs_zero, sn_zero, cs4_3, sn4_3, h6, h6', h9, h9']; ring

/-- The long angle, taken apart. -/
theorem split_ang (kk κ a t : ℕ) : (4 * kk + κ) * (1024 * a + t) = (4 * (kk * t) + κ * t + 1024 * (κ * a)) + 4096 * (kk * a) := by ring

theorem cs_split (kk κ a t : ℕ) : cs 4096 ((4 * kk + κ) * (1024 * a + t))
    = (cs 1024 (kk * t) * cs 4096 (κ * t) - sn 1024 (kk * t) * sn 4096 (κ * t)) * cs 4 (κ * a)
      - (sn 1024 (kk * t) * cs 4096 (κ * t) + cs 1024 (kk * t) * sn 4096 (κ * t)) * sn 4 (κ * a) := by
  rw [split_ang, cs_turn (by decide), cs_add, cs_add, sn_add, show (4096 : ℕ) = 4 * 1024 from rfl, cs_scale (by decide), sn_scale (by decide),
    show (4 * 1024 : ℕ) = 1024 * 4 from rfl, cs_scale (by decide), sn_scale (by decide)]
theorem sn_split (kk κ a t : ℕ) : sn 4096 ((4 * kk + κ) * (1024 * a + t))
    = (sn 1024 (kk * t) * cs 4096 (κ * t) + cs 1024 (kk * t) * sn 4096 (κ * t)) * cs 4 (κ * a)
      + (cs 1024 (kk * t) * cs 4096 (κ * t) - sn 1024 (kk * t) * sn 4096 (κ * t)) * sn 4 (κ * a) := by
  rw [split_ang, sn_turn (by decide), sn_add, cs_add, sn_add, show (4096 : ℕ) = 4 * 1024 from rfl, cs_scale (by decide), sn_scale (by decide),
    show (4 * 1024 : ℕ) = 1024 * 4 from rfl, cs_scale (by decide), sn_scale (by decide)]

/-- A place of the long axis, from its quarter and its place there. -/
def pl (a : Fin 4) (t : Fin 1024) : Fin 4096 := ⟨1024 * a.val + t.val, by have := a.isLt; have := t.isLt; omega⟩

/-- A sum over the long axis, by quarters. -/
theorem sum_quarters (f : Fin 4096 → ℝ) : ∑ s : Fin 4096, f s = ∑ t : Fin 1024, ∑ a : Fin 4, f (pl a t) := by
  rw [← Finset.sum_product', Finset.univ_product_univ]
  refine Fintype.sum_equiv ((finProdFinEquiv.symm : Fin (4 * 1024) ≃ Fin 4 × Fin 1024).trans (Equiv.prodComm _ _)) _ _ fun s => congrArg f (Fin.ext ?_)
  show s.val = 1024 * (s.val / 1024) + s.val % 1024
  omega

/-- The long transform, one residue of the row at a time. -/
theorem split (c s : Fin 4096 → ℝ) (κ : Fin 4) (kk : ℕ) :
    ∑ x : Fin 4096, (cs 4096 ((4 * kk + κ.val) * x.val) * c x + sn 4096 ((4 * kk + κ.val) * x.val) * s x)
      = (∑ t : Fin 1024, cs 1024 (kk * t.val) * (yc κ (fun a => c (pl a t)) (fun a => s (pl a t)) * cs 4096 (κ.val * t.val) + ys κ (fun a => c (pl a t)) (fun a => s (pl a t)) * sn 4096 (κ.val * t.val)))
        + ∑ t : Fin 1024, sn 1024 (kk * t.val) * (ys κ (fun a => c (pl a t)) (fun a => s (pl a t)) * cs 4096 (κ.val * t.val) - yc κ (fun a => c (pl a t)) (fun a => s (pl a t)) * sn 4096 (κ.val * t.val)) := by
  rw [sum_quarters, ← Finset.sum_add_distrib]
  refine Finset.sum_congr rfl fun t _ => ?_
  rw [yc_eq, ys_eq]
  simp only [Finset.sum_mul, Finset.mul_sum, ← Finset.sum_add_distrib, ← Finset.sum_sub_distrib]
  refine Finset.sum_congr rfl fun a _ => ?_
  rw [show (pl a t).val = 1024 * a.val + t.val from rfl, cs_split, sn_split]
  ring

/-- Mixing the columns before the long transform, or after it. -/
theorem swap {S Q M : Type} [Fintype S] [Fintype Q] [Fintype M] (c : S → ℝ) (u : S → Q → ℝ) (C : Q → M → ℝ) (w : M → ℝ) (σ : ℝ) :
    ∑ s, c s * ∑ q, u s q * ((∑ m, C q m * w m) * σ) = ∑ m, w m * ((∑ s, (∑ q, u s q * C q m) * c s) * σ) := by
  simp only [Finset.sum_mul, Finset.mul_sum]
  rw [Finset.sum_comm (s := (Finset.univ : Finset M))]
  refine Finset.sum_congr rfl fun s _ => ?_
  rw [Finset.sum_comm (s := (Finset.univ : Finset M))]
  refine Finset.sum_congr rfl fun q _ => Finset.sum_congr rfl fun m _ => ?_
  ring

end Cert.FourMath

end
-- ==== Proof.Mats.lean ====
/-
  Facts about single operations, at the ideal values, that the value proofs of all the programs share: a matrix product
  read at a result index, and sums over a range cut in two.
-/
module

public import Idealize.ShloMosaic.Lib.MatmulPlain
public import Idealize.ShloMosaic.Lib.Pipeline.Value
public import Idealize.ShloMosaic.Lib.Pointwise
public import Idealize.ShloMosaic.Lib.ValueLayoutCasts

@[expose] public section

set_option maxRecDepth 16384

noncomputable section

namespace Cert.Mats

open Idealize.ShloMosaic

/-- The zero offsets of a whole rank-2 rectangle, as the constant function. -/
theorem hz2 : (![0, 0] : Fin 2 → Nat) = fun _ => 0 := funext fun a => by fin_cases a <;> rfl

/-- A product of two matrices into a zero accumulator, read at a result index: the sum over the contracted position. -/
theorem mm_apply {M K N : ℕ} {φ₁ φ₂ : FTy} (d : DotDims ⟨2, ![M, K]⟩ ⟨2, ![K, N]⟩ ⟨2, ![M, N]⟩) (hd : d = DotDims.plain M K N)
    (prec : Option ContractPrecision) (lhs : FVec Ideal ⟨2, ![M, K]⟩ φ₁) (rhs : FVec Ideal ⟨2, ![K, N]⟩ φ₂)
    (r : Fin M) (c : Fin N) :
    matmul d prec lhs rhs (constant ⟨2, ![M, N]⟩ .f32 0x00000000#32) (ix2 r c)
      = ∑ k : Fin K, (lhs (ix2 r k) : EReal) * (rhs (ix2 k c) : EReal) := by
  subst hd
  have h := Ideal.matmul_plain_apply prec lhs rhs (constant ⟨2, ![M, N]⟩ .f32 0x00000000#32) r c
  refine h.trans ?_
  show Ideal.ofBits .f32 0x00000000#32 + _ = _
  rw [Ideal.ofBits_zero_f32, zero_add]
  rfl

/-- A sum over `a + b` positions is the sum over the first `a` and the sum over the last `b`. -/
theorem sum_split (a b n : ℕ) (h : n = a + b) (f : Fin n → EReal) :
    ∑ k : Fin n, f k = (∑ k : Fin a, f ⟨k.val, by have := k.isLt; omega⟩) + ∑ k : Fin b, f ⟨a + k.val, by have := k.isLt; omega⟩ := by
  subst h
  rw [Fin.sum_univ_add]
  rfl

/-- A row divided by its root mean square (with the program's small constant added), at one place. -/
def rms (f : Fin 2048 → EReal) (k : Fin 2048) : EReal :=
  f k * Ideal.rsqrt (Ideal.div (∑ j, f j * f j) (Ideal.ofBits .f32 0x45000000#32) + Ideal.ofBits .f32 0x3727C5AC#32)

/-- The kernels' spelling of it, read at one place of a block of rows. -/
theorem rms_apply {M : ℕ} (v : FVec Ideal ⟨2, ![M, 2048]⟩ .f32)
    (hr : (⟨2, ![M, 2048]⟩ : Shape).Reduces [1] ⟨1, ![M]⟩) (hc : (⟨1, ![M]⟩ : Shape).ShapeCasts ⟨2, ![M, 1]⟩)
    (hb : (⟨2, ![M, 1]⟩ : Shape).Broadcasts ⟨2, ![M, 2048]⟩) (r : Fin M) (k : Fin 2048) :
    mulf v (broadcastTo ⟨2, ![M, 2048]⟩ (rsqrt (addf (divf (shapeCast ⟨2, ![M, 1]⟩
      (multiReduction .add [1] ⟨1, ![M]⟩ (mulf v v) 0x00000000#32 hr (.inl rfl) rfl) hc)
      (broadcast ⟨2, ![M, 1]⟩ (Scalar.ofBits .f32 0x45000000#32))) (broadcast ⟨2, ![M, 1]⟩ (Scalar.ofBits .f32 0x3727C5AC#32)))) hb) (ix2 r k)
      = rms (fun j => v (ix2 r j)) k := by
  unfold rms
  pointwise
  have hx : ∀ x : (⟨2, ![M, 1]⟩ : Shape).Idx, (x 0).val = r.val → Shape.reshapeEquiv hc x 0 = r := fun x e => by
    have ex : x = ix2 r 0 := by
      funext a
      match a with
      | ⟨0, _⟩ => exact Fin.ext e
      | ⟨1, _⟩ => exact Subsingleton.elim (α := Fin 1) _ _
    rw [ex]
    exact ValueIdx.shapeCast_a_a1_apply (fun i : (⟨1, ![M]⟩ : Shape).Idx => i 0) hc r 0
  rw [hx _ _]
  show (if h : M = 1 then _ else _ : Fin _).val = r.val
  split
  · have := r.isLt; show 0 = r.val; omega
  · rfl

end Cert.Mats

end
-- ==== Proof.FourPay.lean ====
/-
  The mixer's body, value by value: each value its run computes, read at an index over the extended reals.
-/
module

public import proofs.«01_k».proof.Proof.Mats
public import proofs.«01_k».proof.Proof.Gen.KernelIdeal.Value
public import Idealize.ShloMosaic.Lib.KernelVsHost
public import Idealize.ShloMosaic.Lib.IdealHost

@[expose] public section

set_option maxRecDepth 16384

noncomputable section

namespace Cert.KernelIdeal.Four

open Cert.KernelIdeal Cert.KernelIdeal.Gen Idealize.ShloMosaic
open Cert.Mats (mm_apply sum_split)

/-- The named constant's value. -/
abbrev σ : EReal := (((Real.sqrt 524288)⁻¹ : ℝ) : EReal)

/-- A leading axis of one row added. -/
theorem up_apply {M N : ℕ} {e : EltTy} (v : (⟨2, ![M, N]⟩ : Shape).Idx → Elt Ideal e) (h : (⟨2, ![M, N]⟩ : Shape).ShapeCasts ⟨3, ![1, M, N]⟩) (r : Fin M) (d : Fin N) :
    shapeCast ⟨3, ![1, M, N]⟩ v h (ix3 (0 : Fin 1) r d) = v (ix2 r d) := by
  refine shapeCast_apply _ _ _ _ ?_
  rw [Shape.rowMajor_val_two, Shape.rowMajor_val_three]
  show r.val * N + d.val = (0 * M + r.val) * N + d.val
  rw [Nat.zero_mul, Nat.zero_add]

/-- A leading axis of one row dropped. -/
theorem down_apply {M N : ℕ} {e : EltTy} (v : (⟨3, ![1, M, N]⟩ : Shape).Idx → Elt Ideal e) (h : (⟨3, ![1, M, N]⟩ : Shape).ShapeCasts ⟨2, ![M, N]⟩) (r : Fin M) (d : Fin N) :
    shapeCast ⟨2, ![M, N]⟩ v h (ix2 r d) = v (ix3 (0 : Fin 1) r d) := by
  refine shapeCast_apply _ _ _ _ ?_
  rw [Shape.rowMajor_val_two, Shape.rowMajor_val_three]
  show (0 * M + r.val) * N + d.val = r.val * N + d.val
  rw [Nat.zero_mul, Nat.zero_add]

/-- The group's cosine product. -/
theorem pay6_apply (w : Vec Ideal S1x128x128 .bf16) (t : Vec Ideal S128x128 .bf16) (u : Vec Ideal S4096x128 .bf16) (s : Fin 4096) (d : Fin 128) :
    (k0_pay6 w t u (ix3 (0 : Fin 1) s d) : EReal)
      = ∑ q : Fin 128, (u (ix2 s q) : EReal) * ((∑ p : Fin 128, (t (ix2 q p) : EReal) * w (ix3 (0 : Fin 1) p d)) * σ) := by
  unfold k0_pay6 k0_pay5
  simp only [shapeCast_self]
  refine (up_apply (e := .f32) _ _ s d).trans ?_
  refine (mm_apply (φ₁ := .bf16) (φ₂ := .bf16) dot_S4096x128_S128x128_S4096x128_1_0_0_1_n_n rfl none u _ s d).trans ?_
  refine Finset.sum_congr rfl fun q _ => congrArg₂ (fun a b : EReal => a * b) rfl ?_
  refine congrArg₂ (fun a b : EReal => a * b) ?_ rfl
  refine (mm_apply (φ₁ := .bf16) (φ₂ := .bf16) dot_S128x128_S128x128_S128x128_1_0_0_1_n_n rfl none t _ q d).trans ?_
  exact Finset.sum_congr rfl fun p _ => congrArg₂ (fun a b : EReal => a * b) rfl (down_apply (e := .bf16) w _ p d)

/-- The group's sine product, its sign changed. -/
theorem pay7_apply (w : Vec Ideal S1x128x128 .bf16) (t : Vec Ideal S128x128 .bf16) (u : Vec Ideal S4096x128 .bf16) (s : Fin 4096) (d : Fin 128) :
    (k0_pay7 w t u (ix3 (0 : Fin 1) s d) : EReal)
      = 0 - ∑ q : Fin 128, (u (ix2 s q) : EReal) * ((∑ p : Fin 128, (t (ix2 q p) : EReal) * w (ix3 (0 : Fin 1) p d)) * σ) := by
  unfold k0_pay7 k0_pay5
  simp only [shapeCast_self]
  refine (up_apply (e := .f32) _ _ s d).trans ?_
  refine congrArg₂ (fun a b : EReal => a - b) Ideal.ofBits_zero_f32 ?_
  refine (mm_apply (φ₁ := .bf16) (φ₂ := .bf16) dot_S4096x128_S128x128_S4096x128_1_0_0_1_n_n rfl none u _ s d).trans ?_
  refine Finset.sum_congr rfl fun q _ => congrArg₂ (fun a b : EReal => a * b) rfl ?_
  refine congrArg₂ (fun a b : EReal => a * b) ?_ rfl
  refine (mm_apply (φ₁ := .bf16) (φ₂ := .bf16) dot_S128x128_S128x128_S128x128_1_0_0_1_n_n rfl none t _ q d).trans ?_
  exact Finset.sum_congr rfl fun p _ => congrArg₂ (fun a b : EReal => a * b) rfl (down_apply (e := .bf16) w _ p d)

/-- The long transform's product: the two halves of the table against the two halves of the stacked values. -/
theorem lin_apply (l : Vec Ideal S1024x2048 .bf16) (a b : FVec Ideal S1024x256 .f32) (k : Fin 1024) (d : Fin 256) :
    (matmul (φ₁ := .bf16) (φ₂ := .bf16) dot_S1024x2048_S2048x256_S1024x256_1_0_0_1_n_n none l
        (truncf .bf16 (concatenate S2048x256 0 [⟨S1024x256, a⟩, ⟨S1024x256, b⟩] Facts₀.concatenates_S1024x256_S1024x256_S2048x256_d0) Facts₀.bitsLt_bf16_f32)
        (constant S1024x256 .f32 0x00000000#32) (ix2 k d) : EReal)
      = (∑ t : Fin 1024, (l (ix2 k ⟨t.val, by have := t.isLt; omega⟩) : EReal) * a (ix2 t d))
        + ∑ t : Fin 1024, (l (ix2 k ⟨1024 + t.val, by have := t.isLt; omega⟩) : EReal) * b (ix2 t d) := by
  refine (mm_apply (φ₁ := .bf16) (φ₂ := .bf16) dot_S1024x2048_S2048x256_S1024x256_1_0_0_1_n_n rfl none l _ k d).trans ?_
  refine (sum_split 1024 1024 2048 rfl _).trans ?_
  refine congrArg₂ (fun a b : EReal => a + b) (Finset.sum_congr rfl fun t _ => congrArg₂ (fun a b : EReal => a * b) rfl ?_)
    (Finset.sum_congr rfl fun t _ => congrArg₂ (fun a b : EReal => a * b) rfl ?_)
  · exact concatenate_pair_apply_left (t := S2048x256) (s₁ := S1024x256) (s₂ := S1024x256) 0 a b Facts₀.concatenates_S1024x256_S1024x256_S2048x256_d0 _ rfl (ix2 t d) (fun x => match x with
      | ⟨0, _⟩ => rfl
      | ⟨1, _⟩ => rfl)
  · exact concatenate_pair_apply_right (t := S2048x256) (s₁ := S1024x256) (s₂ := S1024x256) 0 a b Facts₀.concatenates_S1024x256_S1024x256_S2048x256_d0 _ rfl rfl (ix2 t d) (fun x hx => match x with
      | ⟨0, _⟩ => absurd rfl hx
      | ⟨1, _⟩ => rfl) (Nat.add_comm _ _)

/-- The twiddle row laid out twice, once for each group. -/
theorem twice_apply (v : Vec Ideal S1x1024x128 .f32) (t : Fin 1024) (d : Fin 256) :
    (concatenate S1024x256 1 [⟨S1024x128, shapeCast S1024x128 v Facts₀.shapeCasts_S1x1024x128_S1024x128⟩,
        ⟨S1024x128, shapeCast S1024x128 v Facts₀.shapeCasts_S1x1024x128_S1024x128⟩] Facts₀.concatenates_S1024x128_S1024x128_S1024x256_d1 (ix2 t d) : EReal)
      = v (ix3 (0 : Fin 1) t ⟨d.val % 128, Nat.mod_lt _ (by decide)⟩) := by
  have hd := d.isLt
  by_cases h : d.val < 128
  · refine (concatenate_pair_apply_left (t := S1024x256) (s₁ := S1024x128) (s₂ := S1024x128) 1 _ _ _ _ rfl (ix2 t ⟨d.val, h⟩) (fun x => match x with
      | ⟨0, _⟩ => rfl
      | ⟨1, _⟩ => rfl)).trans ?_
    refine (down_apply (e := .f32) v _ t ⟨d.val, h⟩).trans (congrArg (fun q => v (ix3 (0 : Fin 1) t q)) (Fin.ext ?_))
    show d.val = d.val % 128
    omega
  · refine (concatenate_pair_apply_right (t := S1024x256) (s₁ := S1024x128) (s₂ := S1024x128) 1 _ _ _ (ix2 t d) rfl rfl (ix2 t ⟨d.val - 128, by omega⟩) (fun x hx => match x with
      | ⟨0, _⟩ => rfl
      | ⟨1, _⟩ => absurd rfl hx) (by show d.val - 128 + 128 = d.val; omega)).trans ?_
    refine (down_apply (e := .f32) v _ t ⟨d.val - 128, by omega⟩).trans (congrArg (fun q => v (ix3 (0 : Fin 1) t q)) (Fin.ext ?_))
    show d.val - 128 = d.val % 128
    omega

/-- A twiddled block: the two turned values against the table. -/
theorem pay36_apply (yc ys : FVec Ideal S1024x256 .f32) (tc ts : Vec Ideal S1x1024x128 .f32) (l : Vec Ideal S1024x2048 .bf16) (k : Fin 1024) (d : Fin 256) :
    (k0_pay36 yc ys tc ts l (ix2 k d) : EReal)
      = (∑ t : Fin 1024, (l (ix2 k ⟨t.val, by have := t.isLt; omega⟩) : EReal)
          * (yc (ix2 t d) * tc (ix3 (0 : Fin 1) t ⟨d.val % 128, Nat.mod_lt _ (by decide)⟩) + ys (ix2 t d) * ts (ix3 (0 : Fin 1) t ⟨d.val % 128, Nat.mod_lt _ (by decide)⟩)))
        + ∑ t : Fin 1024, (l (ix2 k ⟨1024 + t.val, by have := t.isLt; omega⟩) : EReal)
          * (ys (ix2 t d) * tc (ix3 (0 : Fin 1) t ⟨d.val % 128, Nat.mod_lt _ (by decide)⟩) - yc (ix2 t d) * ts (ix3 (0 : Fin 1) t ⟨d.val % 128, Nat.mod_lt _ (by decide)⟩)) := by
  unfold k0_pay36
  simp only [shapeCast_self]
  refine (lin_apply l _ _ k d).trans ?_
  refine congrArg₂ (fun a b : EReal => a + b) (Finset.sum_congr rfl fun t _ => congrArg₂ (fun a b : EReal => a * b) rfl ?_)
    (Finset.sum_congr rfl fun t _ => congrArg₂ (fun a b : EReal => a * b) rfl ?_)
  · exact congrArg₂ (fun a b : EReal => yc (ix2 t d) * a + ys (ix2 t d) * b) (twice_apply tc t d) (twice_apply ts t d)
  · exact congrArg₂ (fun a b : EReal => ys (ix2 t d) * a - yc (ix2 t d) * b) (twice_apply tc t d) (twice_apply ts t d)

/-- The left half of a block's columns, as one plane. -/
theorem left_apply (v : FVec Ideal S1024x256 .f32) (t : Fin 1024) (d : Fin 128) :
    (shapeCast S1x1024x128 (extractStridedSlice S1024x128 ![0, 0] v Facts₀.slices_S1024x256_o0_0_S1024x128) Facts₀.shapeCasts_S1024x128_S1x1024x128 (ix3 (0 : Fin 1) t d) : EReal)
      = v (ix2 t ⟨d.val, by have := d.isLt; omega⟩) :=
  (up_apply (e := .f32) _ _ t d).trans (extractStridedSlice_apply _ _ _ _ _ fun a => match a with
    | ⟨0, _⟩ => (Nat.zero_add _).symm
    | ⟨1, _⟩ => (Nat.zero_add _).symm)

/-- The right half. -/
theorem right_apply (v : FVec Ideal S1024x256 .f32) (t : Fin 1024) (d : Fin 128) :
    (shapeCast S1x1024x128 (extractStridedSlice S1024x128 ![0, 128] v Facts₀.slices_S1024x256_o0_128_S1024x128) Facts₀.shapeCasts_S1024x128_S1x1024x128 (ix3 (0 : Fin 1) t d) : EReal)
      = v (ix2 t ⟨128 + d.val, by have := d.isLt; omega⟩) :=
  (up_apply (e := .f32) _ _ t d).trans (extractStridedSlice_apply _ _ _ _ _ fun a => match a with
    | ⟨0, _⟩ => (Nat.zero_add _).symm
    | ⟨1, _⟩ => rfl)

end Cert.KernelIdeal.Four

end
-- ==== Proof.FourBody.lean ====
/-
  The mixer's body as one function of its windows: what the run leaves in the result's buffer, over the extended reals.
-/
module

public import proofs.«01_k».proof.Proof.FourPay
public import Idealize.ShloMosaic.Lib.Pipeline.ReadBack
public import Idealize.ShloMosaic.Lib.WholeRead

@[expose] public section

set_option maxRecDepth 16384

noncomputable section

namespace Cert.KernelIdeal.Four

open Cert.KernelIdeal Cert.KernelIdeal.Gen Idealize.ShloMosaic Idealize.ShloMosaic.TcCoe Idealize.SL.Sem
open Idealize.ShloMosaic.View (PiecesOf canon)

/-- Every index of a plane with a leading axis of one row. -/
theorem ex3 {M N : ℕ} (x : (⟨3, ![1, M, N]⟩ : Shape).Idx) : ∃ (r : Fin M) (d : Fin N), x = ix3 (0 : Fin 1) r d :=
  ⟨x 1, x 2, funext fun a => match a with
    | ⟨0, _⟩ => Subsingleton.elim (α := Fin 1) _ _
    | ⟨1, _⟩ => rfl
    | ⟨2, _⟩ => rfl⟩

theorem lt4 (i : grid0.Coords) : (i 1).val < 4 := (i 1).isLt

/-- The weights' group that a grid point's column half takes. -/
def gi (i : grid0.Coords) (e : Fin 2) : Fin 8 := ⟨2 * (i 1).val + e.val, by have := lt4 i; have := e.isLt; omega⟩

theorem off1_eq (i : grid0.Coords) (e : Fin 2) : k0_off1 i (BitVec.ofNat 32 e.val) 0 = (gi i e).val :=
  (by decide : ∀ (a : Fin 4) (e : Fin 2), (Scalar.indexCast (Scalar.addi (Scalar.muli (BitVec.ofNat 32 a.val) 2#32) (BitVec.ofNat 32 e.val))).toNat = 2 * a.val + e.val) ⟨(i 1).val, lt4 i⟩ e

/-- A group's product with one table: a row of the block against the table times the group's weights, scaled. -/
def zt (i : grid0.Coords) (x0 : Vec Ideal S4096x256 .bf16) (T : Vec Ideal S128x128 .bf16) (x3 : Vec Ideal S8x128x128 .bf16) (e : Fin 2) (s : Fin 4096) (d : Fin 128) : EReal :=
  ∑ q : Fin 128, (x0 (ix2 s ⟨128 * e.val + q.val, by have := e.isLt; have := q.isLt; omega⟩) : EReal) * ((∑ p : Fin 128, (T (ix2 q p) : EReal) * x3 (ix3 (gi i e) p d)) * σ)

/-- The two transformed planes. -/
def zv (i : grid0.Coords) (x0 : Vec Ideal S4096x256 .bf16) (x1 x2 : Vec Ideal S128x128 .bf16) (x3 : Vec Ideal S8x128x128 .bf16) (p : Fin 2) (s : Fin 4096) (d : Fin 256) : EReal :=
  if p = 0 then zt i x0 x1 x3 ⟨d.val / 128, by have := d.isLt; omega⟩ s ⟨d.val % 128, Nat.mod_lt _ (by decide)⟩
  else 0 - zt i x0 x2 x3 ⟨d.val / 128, by have := d.isLt; omega⟩ s ⟨d.val % 128, Nat.mod_lt _ (by decide)⟩

variable (c : Dev nD) (i : grid0.Coords) (arg2 : Memref sig .tc .vmem S4096x256 .bf16) (harg2 : arg2.IsWhole) (arg3 : Memref sig .tc .vmem S128x128 .bf16) (harg3 : arg3.IsWhole)
  (arg4 : Memref sig .tc .vmem S128x128 .bf16) (harg4 : arg4.IsWhole) (arg5 : Memref sig .tc .vmem S8x128x128 .bf16) (harg5 : arg5.IsWhole)
  (arg6 : Memref sig .tc .vmem S1024x2048 .bf16) (harg6 : arg6.IsWhole) (arg7 : Memref sig .tc .vmem S3x1024x128 .f32) (harg7 : arg7.IsWhole)
  (arg8 : Memref sig .tc .vmem S3x1024x128 .f32) (harg8 : arg8.IsWhole) (arg9 : Memref sig .tc .vmem S4096x256 .bf16) (harg9 : arg9.IsWhole)
  (arg10 : Memref sig .tc .vmem S2x4096x256 .f32) (harg10 : arg10.IsWhole) (arg11 : Memref sig .tc .vmem S2x4096x128 .f32) (harg11 : arg11.IsWhole)
  (x0 : Vec Ideal S4096x256 .bf16) (x1 : Vec Ideal S128x128 .bf16) (x2 : Vec Ideal S128x128 .bf16) (x3 : Vec Ideal S8x128x128 .bf16)
  (x4 : Vec Ideal S1024x2048 .bf16) (x5 : Vec Ideal S3x1024x128 .f32) (x6 : Vec Ideal S3x1024x128 .f32)

/-- The first scratch, whole. -/
def Z : S2x4096x256.Idx → EReal := fun y => zv i x0 x1 x2 x3 (y 0) (y 1) (y 2)

theorem Z_eq (p : Fin 2) (e : Fin 2) (s : Fin 4096) (d : Fin 128) (y : S2x4096x256.Idx) (h0 : (y 0).val = p.val) (h1 : (y 1).val = s.val) (h2 : (y 2).val = 128 * e.val + d.val) :
    Z i x0 x1 x2 x3 y = if p = 0 then zt i x0 x1 x3 e s d else 0 - zt i x0 x2 x3 e s d := by
  have hd := d.isLt
  have a0 : (y 0 : Fin 2) = p := Fin.ext h0
  have a1 : (y 1 : Fin 4096) = s := Fin.ext h1
  have a2 : (⟨(y 2).val / 128, by have := (y 2).isLt; have : (y 2).val < 256 := this; omega⟩ : Fin 2) = e := Fin.ext (by show (y 2).val / 128 = e.val; omega)
  have a3 : (⟨(y 2).val % 128, Nat.mod_lt _ (by decide)⟩ : Fin 128) = d := Fin.ext (by show (y 2).val % 128 = d.val; omega)
  unfold Z zv
  rw [a0, a1, a2, a3]

/-- One stored product is a block of the first scratch. -/
theorem zt_read (e : Fin 2) (off : Fin 3 → ℕ) (hoff : off = k0_off1 i (BitVec.ofNat 32 e.val)) (inb : ∀ a, off a + S1x128x128.size a ≤ S8x128x128.size a)
    (o : Fin 2 → ℕ) (ho : o = ![0, 128 * e.val]) (inb' : ∀ a, o a + S4096x128.size a ≤ S4096x256.size a)
    (argT : Memref sig .tc .vmem S128x128 .bf16) (hargT : argT.IsWhole) (T : Vec Ideal S128x128 .bf16) (s : Fin 4096) (d : Fin 128) :
    ∑ q : Fin 128, (View.readAt (Elt Ideal) arg2.view (Rect.unit (s := S4096x256) o S4096x128.size inb').toLoadRect (harg2.unread x0) (ix2 s q) : EReal)
        * ((∑ p : Fin 128, (View.readAt (Elt Ideal) argT.view (Rect.unit (s := S128x128) ![0, 0] S128x128.size inb_S128x128_S128x128_0_0).toLoadRect (hargT.unread T) (ix2 q p) : EReal)
          * View.readAt (Elt Ideal) arg5.view (Rect.unit (s := S8x128x128) off S1x128x128.size inb).toLoadRect (harg5.unread x3) (ix3 (0 : Fin 1) p d)) * σ)
      = zt i x0 T x3 e s d := by
  unfold zt
  refine Finset.sum_congr rfl fun q _ => congrArg₂ (fun a b : EReal => a * (b * σ)) ?_ (Finset.sum_congr rfl fun p _ => congrArg₂ (fun a b : EReal => a * b) ?_ ?_)
  · refine (Memref.IsWhole.readAt_unread harg2 x0 _ _).trans (congrArg x0 (funext fun a => Fin.ext ?_))
    subst ho
    match a with
    | ⟨0, _⟩ => show 0 + 1 * s.val = s.val; omega
    | ⟨1, _⟩ => show 128 * e.val + 1 * q.val = 128 * e.val + q.val; omega
  · refine (Memref.IsWhole.readAt_unread hargT T _ _).trans (congrArg T (funext fun a => Fin.ext ?_))
    match a with
    | ⟨0, _⟩ => show 0 + 1 * q.val = q.val; omega
    | ⟨1, _⟩ => show 0 + 1 * p.val = p.val; omega
  · refine (Memref.IsWhole.readAt_unread harg5 x3 _ _).trans (congrArg x3 (funext fun a => Fin.ext ?_))
    subst hoff
    match a with
    | ⟨0, _⟩ => show k0_off1 i (BitVec.ofNat 32 e.val) 0 + 1 * 0 = (gi i e).val; rw [off1_eq]; rfl
    | ⟨1, _⟩ => show 0 + 1 * p.val = p.val; omega
    | ⟨2, _⟩ => show 0 + 1 * d.val = d.val; omega

/-- The first scratch's four stores are blocks of it. -/
theorem piecesZ : PiecesOf (Val := Elt Ideal) (Z i x0 x1 x2 x3) (kernelRun0_A.sl.HS0_4 c i arg2 harg2 arg3 harg3 arg4 harg4 arg5 harg5 x0 x1 x2 x3) := by
  unfold kernelRun0_A.sl.HS0_4
  refine ⟨fun x => ?_, fun x => ?_, fun x => ?_, fun x => ?_, trivial⟩
  · obtain ⟨s, d, rfl⟩ := ex3 (M := 4096) (N := 128) x
    refine Eq.trans ?_ (Z_eq i x0 x1 x2 x3 1 1 s d _ rfl (by show 0 + 1 * s.val = s.val; omega) (by show 128 + 1 * d.val = 128 * 1 + d.val; omega)).symm
    refine (pay7_apply _ _ _ s d).trans ?_
    exact congrArg (fun a : EReal => 0 - a) (zt_read i arg2 harg2 arg5 harg5 x0 x3 1 _ rfl _ _ rfl _ arg4 harg4 x2 s d)
  · obtain ⟨s, d, rfl⟩ := ex3 (M := 4096) (N := 128) x
    refine Eq.trans ?_ (Z_eq i x0 x1 x2 x3 0 1 s d _ rfl (by show 0 + 1 * s.val = s.val; omega) (by show 128 + 1 * d.val = 128 * 1 + d.val; omega)).symm
    exact (pay6_apply _ _ _ s d).trans (zt_read i arg2 harg2 arg5 harg5 x0 x3 1 _ rfl _ _ rfl _ arg3 harg3 x1 s d)
  · obtain ⟨s, d, rfl⟩ := ex3 (M := 4096) (N := 128) x
    refine Eq.trans ?_ (Z_eq i x0 x1 x2 x3 1 0 s d _ rfl (by show 0 + 1 * s.val = s.val; omega) (by show 0 + 1 * d.val = 128 * 0 + d.val; omega)).symm
    refine (pay7_apply _ _ _ s d).trans ?_
    exact congrArg (fun a : EReal => 0 - a) (zt_read i arg2 harg2 arg5 harg5 x0 x3 0 _ rfl _ _ rfl _ arg4 harg4 x2 s d)
  · obtain ⟨s, d, rfl⟩ := ex3 (M := 4096) (N := 128) x
    refine Eq.trans ?_ (Z_eq i x0 x1 x2 x3 0 0 s d _ rfl (by show 0 + 1 * s.val = s.val; omega) (by show 0 + 1 * d.val = 128 * 0 + d.val; omega)).symm
    exact (pay6_apply _ _ _ s d).trans (zt_read i arg2 harg2 arg5 harg5 x0 x3 0 _ rfl _ _ rfl _ arg3 harg3 x1 s d)

/-- The stores cover the first scratch. -/
theorem coverZ (y : S2x4096x256.Idx) : ∃ p ∈ kernelRun0_A.sl.HS0_4 c i arg2 harg2 arg3 harg3 arg4 harg4 arg5 harg5 x0 x1 x2 x3, y ∈ p.1.set := by
  have h0 : (y 0).val < 2 := (y 0).isLt
  have h1 : (y 1).val < 4096 := (y 1).isLt
  have h2 : (y 2).val < 256 := (y 2).isLt
  unfold kernelRun0_A.sl.HS0_4
  by_cases hp : (y 0).val = 0 <;> by_cases hd : (y 2).val < 128
  · refine ⟨_, .tail _ (.tail _ (.tail _ (.head _))), ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 4096; omega
    | ⟨2, _⟩ => show 0 ≤ (y 2).val ∧ (y 2).val < 0 + 128; omega
  · refine ⟨_, .tail _ (.head _), ?_⟩
    rw [Rect.mem_set_unit]
    intro a
    match a with
    | ⟨0, _⟩ => show 0 ≤ (y 0).val ∧ (y 0).val < 0 + 1; omega
    | ⟨1, _⟩ => show 0 ≤ (y 1).val ∧ (y 1).val < 0 + 4096; omega
    | ⟨2, _⟩ => show 128 ≤ (y 2).val ∧ (y 2).val < 128 + 128; omega
  · refine ⟨_, .tail _ (.tail _ (.head _)), ?_⟩
    rw [Rect.mem_set_unit]
    intro a
    match a with
    | ⟨0, _⟩ => show 1 ≤ (y 0).val ∧ (y 0).val < 1 + 1; omega
    | ⟨1, _⟩ => show 0 ≤ (y 1).val ∧ (y 1).val < 0 + 4096; omega
    | ⟨2, _⟩ => show 0 ≤ (y 2).val ∧ (y 2).val < 0 + 128; omega
  · refine ⟨_, .head _, ?_⟩
    rw [Rect.mem_set_unit]
    intro a
    match a with
    | ⟨0, _⟩ => show 1 ≤ (y 0).val ∧ (y 0).val < 1 + 1; omega
    | ⟨1, _⟩ => show 0 ≤ (y 1).val ∧ (y 1).val < 0 + 4096; omega
    | ⟨2, _⟩ => show 128 ≤ (y 2).val ∧ (y 2).val < 128 + 128; omega

/-- A quarter of one plane of the first scratch, read back. -/
theorem readZ (p : Fin 2) (a : Fin 4) (off : Fin 3 → ℕ) (ho : off = ![p.val, 1024 * a.val, 0]) (inb : ∀ b, off b + S1x1024x256.size b ≤ S2x4096x256.size b) (t : Fin 1024) (d : Fin 256) :
    (arg10.view.readCov (kernelRun0_A.sl.HS0_4 c i arg2 harg2 arg3 harg3 arg4 harg4 arg5 harg5 x0 x1 x2 x3) (Rect.unit (s := S2x4096x256) off S1x1024x256.size inb).toLoadRect (ix3 (0 : Fin 1) t d) : EReal)
      = zv i x0 x1 x2 x3 p ⟨1024 * a.val + t.val, by have := a.isLt; have := t.isLt; omega⟩ d := by
  rw [View.readCov_eq_canon']
  refine (View.canon_apply_of_pieces (Val := Elt Ideal) (Z i x0 x1 x2 x3) _ (PiecesOf.mem (piecesZ c i arg2 harg2 arg3 harg3 arg4 harg4 arg5 harg5 x0 x1 x2 x3)) _ (coverZ c i arg2 harg2 arg3 harg3 arg4 harg4 arg5 harg5 x0 x1 x2 x3 _)).trans ?_
  subst ho
  unfold Z
  have e0 : (((Rect.unit (s := S2x4096x256) ![p.val, 1024 * a.val, 0] S1x1024x256.size inb).toLoadRect.idx (ix3 (0 : Fin 1) t d)) 0 : Fin 2) = p := Fin.ext (by show p.val + 1 * 0 = p.val; omega)
  have e1 : (((Rect.unit (s := S2x4096x256) ![p.val, 1024 * a.val, 0] S1x1024x256.size inb).toLoadRect.idx (ix3 (0 : Fin 1) t d)) 1 : Fin 4096) = (⟨1024 * a.val + t.val, by have := a.isLt; have := t.isLt; omega⟩ : Fin 4096) :=
    Fin.ext (by show 1024 * a.val + 1 * t.val = 1024 * a.val + t.val; omega)
  have e2 : (((Rect.unit (s := S2x4096x256) ![p.val, 1024 * a.val, 0] S1x1024x256.size inb).toLoadRect.idx (ix3 (0 : Fin 1) t d)) 2 : Fin 256) = d := Fin.ext (by show 0 + 1 * d.val = d.val; omega)
  exact congr (congr (congrArg (zv i x0 x1 x2 x3) e0) e1) e2

end Cert.KernelIdeal.Four

end
-- ==== Proof.FourOut.lean ====
/-
  The mixer's body, from the two transformed planes to the result's block: four butterflies, three twiddles, and the
  long transform's product, one residue of the row at a time.
-/
module

public import proofs.«01_k».proof.Proof.FourBody

@[expose] public section

set_option maxRecDepth 16384

noncomputable section

namespace Cert.KernelIdeal.Four

open Cert.KernelIdeal Cert.KernelIdeal.Gen Idealize.ShloMosaic Idealize.ShloMosaic.TcCoe Idealize.SL.Sem
open Idealize.ShloMosaic.View (PiecesOf canon)

/-- The cosine half of the four-point transform of the four quarters. -/
def Yc (z : Fin 2 → Fin 4 → Fin 1024 → Fin 256 → EReal) (κ : Fin 4) (t : Fin 1024) (d : Fin 256) : EReal :=
  match κ with
  | 0 => (z 0 0 t d + z 0 2 t d) + (z 0 1 t d + z 0 3 t d)
  | 1 => (z 0 0 t d - z 0 2 t d) + (z 1 1 t d - z 1 3 t d)
  | 2 => (z 0 0 t d + z 0 2 t d) - (z 0 1 t d + z 0 3 t d)
  | 3 => (z 0 0 t d - z 0 2 t d) - (z 1 1 t d - z 1 3 t d)

/-- Its sine half. -/
def Ys (z : Fin 2 → Fin 4 → Fin 1024 → Fin 256 → EReal) (κ : Fin 4) (t : Fin 1024) (d : Fin 256) : EReal :=
  match κ with
  | 0 => (z 1 0 t d + z 1 2 t d) + (z 1 1 t d + z 1 3 t d)
  | 1 => (z 1 0 t d - z 1 2 t d) - (z 0 1 t d - z 0 3 t d)
  | 2 => (z 1 0 t d + z 1 2 t d) - (z 1 1 t d + z 1 3 t d)
  | 3 => (z 1 0 t d - z 1 2 t d) + (z 0 1 t d - z 0 3 t d)

/-- The long transform of a stacked pair. -/
def lin (l : Vec Ideal S1024x2048 .bf16) (k : Fin 1024) (a b : Fin 1024 → EReal) : EReal :=
  (∑ t : Fin 1024, (l (ix2 k ⟨t.val, by have := t.isLt; omega⟩) : EReal) * a t)
    + ∑ t : Fin 1024, (l (ix2 k ⟨1024 + t.val, by have := t.isLt; omega⟩) : EReal) * b t

/-- A residue's rows of the result, from turned values: residue zero has no twiddle. -/
def X (z : Fin 2 → Fin 4 → Fin 1024 → Fin 256 → EReal) (l : Vec Ideal S1024x2048 .bf16) (tc ts : Vec Ideal S3x1024x128 .f32) (κ : Fin 4) (k : Fin 1024) (d : Fin 256) : EReal :=
  if h : κ = 0 then lin l k (fun t => Yc z 0 t d) (fun t => Ys z 0 t d)
  else lin l k
    (fun t => Yc z κ t d * tc (ix3 ⟨κ.val - 1, by have := κ.isLt; omega⟩ t ⟨d.val % 128, Nat.mod_lt _ (by decide)⟩) + Ys z κ t d * ts (ix3 ⟨κ.val - 1, by have := κ.isLt; omega⟩ t ⟨d.val % 128, Nat.mod_lt _ (by decide)⟩))
    (fun t => Ys z κ t d * tc (ix3 ⟨κ.val - 1, by have := κ.isLt; omega⟩ t ⟨d.val % 128, Nat.mod_lt _ (by decide)⟩) - Yc z κ t d * ts (ix3 ⟨κ.val - 1, by have := κ.isLt; omega⟩ t ⟨d.val % 128, Nat.mod_lt _ (by decide)⟩))

section Butterflies

variable (z : Fin 2 → Fin 4 → Fin 1024 → Fin 256 → EReal) (v56 v58 v60 v62 v64 v66 v68 v70 : Vec Ideal S1x1024x256 .f32)
  (h56 : ∀ t d, (v56 (ix3 (0 : Fin 1) t d) : EReal) = z 0 0 t d) (h58 : ∀ t d, (v58 (ix3 (0 : Fin 1) t d) : EReal) = z 0 1 t d)
  (h60 : ∀ t d, (v60 (ix3 (0 : Fin 1) t d) : EReal) = z 0 2 t d) (h62 : ∀ t d, (v62 (ix3 (0 : Fin 1) t d) : EReal) = z 0 3 t d)
  (h64 : ∀ t d, (v64 (ix3 (0 : Fin 1) t d) : EReal) = z 1 0 t d) (h66 : ∀ t d, (v66 (ix3 (0 : Fin 1) t d) : EReal) = z 1 1 t d)
  (h68 : ∀ t d, (v68 (ix3 (0 : Fin 1) t d) : EReal) = z 1 2 t d) (h70 : ∀ t d, (v70 (ix3 (0 : Fin 1) t d) : EReal) = z 1 3 t d)

/-- A quarter's leading axis dropped. -/
theorem flat (v : Vec Ideal S1x1024x256 .f32) (f : Fin 1024 → Fin 256 → EReal) (h : ∀ t d, (v (ix3 (0 : Fin 1) t d) : EReal) = f t d) (t : Fin 1024) (d : Fin 256) :
    (shapeCast S1024x256 v Facts₀.shapeCasts_S1x1024x256_S1024x256 (ix2 t d) : EReal) = f t d :=
  (down_apply (e := .f32) v _ t d).trans (h t d)

include h56 h60 h66 h70 in
theorem yc1 (t : Fin 1024) (d : Fin 256) : (k0_pay27 (k0_pay11 v56) v60 v66 v70 (ix2 t d) : EReal) = Yc z 1 t d :=
  congrArg₂ (fun a b : EReal => a + b) (congrArg₂ (fun a b : EReal => a - b) (flat v56 _ h56 t d) (flat v60 _ h60 t d)) (congrArg₂ (fun a b : EReal => a - b) (flat v66 _ h66 t d) (flat v70 _ h70 t d))

include h58 h62 h64 h68 in
theorem ys1 (t : Fin 1024) (d : Fin 256) : (k0_pay28 (k0_pay12 v58) v62 v64 v68 (ix2 t d) : EReal) = Ys z 1 t d :=
  congrArg₂ (fun a b : EReal => a - b) (congrArg₂ (fun a b : EReal => a - b) (flat v64 _ h64 t d) (flat v68 _ h68 t d)) (congrArg₂ (fun a b : EReal => a - b) (flat v58 _ h58 t d) (flat v62 _ h62 t d))

include h56 h58 h60 h62 in
theorem yc2 (t : Fin 1024) (d : Fin 256) : (k0_pay29 (k0_pay11 v56) (k0_pay12 v58) v60 v62 (ix2 t d) : EReal) = Yc z 2 t d :=
  congrArg₂ (fun a b : EReal => a - b) (congrArg₂ (fun a b : EReal => a + b) (flat v56 _ h56 t d) (flat v60 _ h60 t d)) (congrArg₂ (fun a b : EReal => a + b) (flat v58 _ h58 t d) (flat v62 _ h62 t d))

include h64 h66 h68 h70 in
theorem ys2 (t : Fin 1024) (d : Fin 256) : (k0_pay30 v64 v66 v68 v70 (ix2 t d) : EReal) = Ys z 2 t d :=
  congrArg₂ (fun a b : EReal => a - b) (congrArg₂ (fun a b : EReal => a + b) (flat v64 _ h64 t d) (flat v68 _ h68 t d)) (congrArg₂ (fun a b : EReal => a + b) (flat v66 _ h66 t d) (flat v70 _ h70 t d))

include h56 h60 h66 h70 in
theorem yc3 (t : Fin 1024) (d : Fin 256) : (k0_pay31 (k0_pay11 v56) v60 v66 v70 (ix2 t d) : EReal) = Yc z 3 t d :=
  congrArg₂ (fun a b : EReal => a - b) (congrArg₂ (fun a b : EReal => a - b) (flat v56 _ h56 t d) (flat v60 _ h60 t d)) (congrArg₂ (fun a b : EReal => a - b) (flat v66 _ h66 t d) (flat v70 _ h70 t d))

include h58 h62 h64 h68 in
theorem ys3 (t : Fin 1024) (d : Fin 256) : (k0_pay32 (k0_pay12 v58) v62 v64 v68 (ix2 t d) : EReal) = Ys z 3 t d :=
  congrArg₂ (fun a b : EReal => a + b) (congrArg₂ (fun a b : EReal => a - b) (flat v64 _ h64 t d) (flat v68 _ h68 t d)) (congrArg₂ (fun a b : EReal => a - b) (flat v58 _ h58 t d) (flat v62 _ h62 t d))

include h56 h58 h60 h62 h64 h66 h68 h70 in
/-- Residue zero's rows. -/
theorem x0_eq (l : Vec Ideal S1024x2048 .bf16) (tc ts : Vec Ideal S3x1024x128 .f32) (k : Fin 1024) (d : Fin 256) :
    (k0_pay33 (k0_pay11 v56) (k0_pay12 v58) v60 v62 v64 v66 v68 v70 l (ix2 k d) : EReal) = X z l tc ts 0 k d := by
  unfold k0_pay33
  simp only [shapeCast_self]
  refine (lin_apply l _ _ k d).trans ?_
  show _ = lin l k (fun t => Yc z 0 t d) (fun t => Ys z 0 t d)
  refine congrArg₂ (fun a b : EReal => a + b) (Finset.sum_congr rfl fun t _ => congrArg₂ (fun a b : EReal => a * b) rfl ?_)
    (Finset.sum_congr rfl fun t _ => congrArg₂ (fun a b : EReal => a * b) rfl ?_)
  · exact congrArg₂ (fun a b : EReal => a + b) (congrArg₂ (fun a b : EReal => a + b) (flat v56 _ h56 t d) (flat v60 _ h60 t d)) (congrArg₂ (fun a b : EReal => a + b) (flat v58 _ h58 t d) (flat v62 _ h62 t d))
  · exact congrArg₂ (fun a b : EReal => a + b) (congrArg₂ (fun a b : EReal => a + b) (flat v64 _ h64 t d) (flat v68 _ h68 t d)) (congrArg₂ (fun a b : EReal => a + b) (flat v66 _ h66 t d) (flat v70 _ h70 t d))

/-- Another residue's rows. -/
theorem x_eq (κ : Fin 4) (hκ : κ ≠ 0) (yc ys : FVec Ideal S1024x256 .f32) (hc : ∀ t d, (yc (ix2 t d) : EReal) = Yc z κ t d) (hs : ∀ t d, (ys (ix2 t d) : EReal) = Ys z κ t d)
    (tc ts : Vec Ideal S3x1024x128 .f32) (vc vs : Vec Ideal S1x1024x128 .f32)
    (htc : ∀ t q, (vc (ix3 (0 : Fin 1) t q) : EReal) = tc (ix3 ⟨κ.val - 1, by have := κ.isLt; omega⟩ t q)) (hts : ∀ t q, (vs (ix3 (0 : Fin 1) t q) : EReal) = ts (ix3 ⟨κ.val - 1, by have := κ.isLt; omega⟩ t q))
    (l : Vec Ideal S1024x2048 .bf16) (k : Fin 1024) (d : Fin 256) :
    (k0_pay36 yc ys vc vs l (ix2 k d) : EReal) = X z l tc ts κ k d := by
  refine (pay36_apply yc ys vc vs l k d).trans ?_
  unfold X
  rw [dif_neg hκ]
  unfold lin
  simp only [hc, hs, htc, hts]

end Butterflies

end Cert.KernelIdeal.Four

end
-- ==== Proof.FourRun.lean ====
/-
  The mixer's body, whole: the result's block after the run, read at an index.
-/
module

public import proofs.«01_k».proof.Proof.FourOut

@[expose] public section

set_option maxRecDepth 16384

noncomputable section

namespace Cert.KernelIdeal.Four

open Cert.KernelIdeal Cert.KernelIdeal.Gen Idealize.ShloMosaic Idealize.ShloMosaic.TcCoe Idealize.SL.Sem
open Idealize.ShloMosaic.View (PiecesOf canon)

variable (c : Dev nD) (i : grid0.Coords) (arg2 : Memref sig .tc .vmem S4096x256 .bf16) (harg2 : arg2.IsWhole) (arg3 : Memref sig .tc .vmem S128x128 .bf16) (harg3 : arg3.IsWhole)
  (arg4 : Memref sig .tc .vmem S128x128 .bf16) (harg4 : arg4.IsWhole) (arg5 : Memref sig .tc .vmem S8x128x128 .bf16) (harg5 : arg5.IsWhole)
  (arg6 : Memref sig .tc .vmem S1024x2048 .bf16) (harg6 : arg6.IsWhole) (arg7 : Memref sig .tc .vmem S3x1024x128 .f32) (harg7 : arg7.IsWhole)
  (arg8 : Memref sig .tc .vmem S3x1024x128 .f32) (harg8 : arg8.IsWhole) (arg9 : Memref sig .tc .vmem S4096x256 .bf16) (harg9 : arg9.IsWhole)
  (arg10 : Memref sig .tc .vmem S2x4096x256 .f32) (harg10 : arg10.IsWhole) (arg11 : Memref sig .tc .vmem S2x4096x128 .f32) (harg11 : arg11.IsWhole)
  (x0 : Vec Ideal S4096x256 .bf16) (x1 : Vec Ideal S128x128 .bf16) (x2 : Vec Ideal S128x128 .bf16) (x3 : Vec Ideal S8x128x128 .bf16)
  (x4 : Vec Ideal S1024x2048 .bf16) (x5 : Vec Ideal S3x1024x128 .f32) (x6 : Vec Ideal S3x1024x128 .f32)

/-- The transformed planes by quarter. -/
def zz (p : Fin 2) (a : Fin 4) (t : Fin 1024) (d : Fin 256) : EReal :=
  zv i x0 x1 x2 x3 p ⟨1024 * a.val + t.val, by have := a.isLt; have := t.isLt; omega⟩ d

/-- A row of the result's block: its residue modulo four, and the row among that residue's. -/
def O (s : Fin 4096) (d : Fin 256) : EReal :=
  X (zz i x0 x1 x2 x3) x4 x5 x6 ⟨s.val % 4, Nat.mod_lt _ (by decide)⟩ ⟨s.val / 4, by have := s.isLt; omega⟩ d

/-- The second scratch, whole. -/
def W : S2x4096x128.Idx → EReal := fun y =>
  O i x0 x1 x2 x3 x4 x5 x6 (y 1) ⟨128 * (y 0).val + (y 2).val, by have h0 : (y 0).val < 2 := (y 0).isLt; have h2 : (y 2).val < 128 := (y 2).isLt; omega⟩

theorem W_eq (h : Fin 2) (κ : Fin 4) (k : Fin 1024) (d : Fin 256) (y : S2x4096x128.Idx) (h1 : (y 1).val = κ.val + 4 * k.val) (h2 : 128 * (y 0).val + (y 2).val = d.val) :
    W i x0 x1 x2 x3 x4 x5 x6 y = X (zz i x0 x1 x2 x3) x4 x5 x6 κ k d := by
  have hκ := κ.isLt
  have hk := k.isLt
  have a1 : (⟨(y 1).val % 4, Nat.mod_lt _ (by decide)⟩ : Fin 4) = κ := Fin.ext (by show (y 1).val % 4 = κ.val; omega)
  have a2 : (⟨(y 1).val / 4, by have : (y 1).val < 4096 := (y 1).isLt; omega⟩ : Fin 1024) = k := Fin.ext (by show (y 1).val / 4 = k.val; omega)
  exact congr (congr (congrArg (X (zz i x0 x1 x2 x3) x4 x5 x6) a1) a2) (Fin.ext h2)

/-- The long table, loaded whole. -/
theorem readL : View.readAt (Elt Ideal) arg6.view (Rect.unit (s := S1024x2048) ![0, 0] S1024x2048.size inb_S1024x2048_S1024x2048_0_0).toLoadRect (harg6.unread x4) = x4 := by
  funext x
  refine (Memref.IsWhole.readAt_unread harg6 x4 _ _).trans (congrArg x4 (funext fun a => Fin.ext ?_))
  match a with
  | ⟨0, _⟩ => show 0 + 1 * (x 0).val = (x 0).val; omega
  | ⟨1, _⟩ => show 0 + 1 * (x 1).val = (x 1).val; omega

/-- The last step of the body: a plane's leading axis dropped. -/
theorem pay3_apply (v : Vec Ideal S1x4096x128 .f32) (s : Fin 4096) (d : Fin 128) : (k0_pay3 v (ix2 s d) : EReal) = v (ix3 (0 : Fin 1) s d) :=
  down_apply (e := .f32) v _ s d

/-- One plane of a twiddle table. -/
theorem readT (arg : Memref sig .tc .vmem S3x1024x128 .f32) (harg : arg.IsWhole) (x : Vec Ideal S3x1024x128 .f32) (r : Fin 3) (off : Fin 3 → ℕ) (ho : off = ![r.val, 0, 0])
    (inb : ∀ a, off a + S1x1024x128.size a ≤ S3x1024x128.size a) (t : Fin 1024) (q : Fin 128) :
    (View.readAt (Elt Ideal) arg.view (Rect.unit (s := S3x1024x128) off S1x1024x128.size inb).toLoadRect (harg.unread x) (ix3 (0 : Fin 1) t q) : EReal) = x (ix3 r t q) := by
  subst ho
  refine (Memref.IsWhole.readAt_unread harg x _ _).trans (congrArg x (funext fun a => Fin.ext ?_))
  match a with
  | ⟨0, _⟩ => show r.val + 1 * 0 = r.val; omega
  | ⟨1, _⟩ => show 0 + 1 * t.val = t.val; omega
  | ⟨2, _⟩ => show 0 + 1 * q.val = q.val; omega

theorem z56 (t : Fin 1024) (d : Fin 256) : (kernelRun0_A.sl.v56 c i arg2 harg2 arg3 harg3 arg4 harg4 arg5 harg5 arg10 x0 x1 x2 x3 (ix3 (0 : Fin 1) t d) : EReal) = zz i x0 x1 x2 x3 0 0 t d :=
  readZ c i arg2 harg2 arg3 harg3 arg4 harg4 arg5 harg5 arg10 x0 x1 x2 x3 0 0 _ rfl _ t d

theorem z58 (t : Fin 1024) (d : Fin 256) : (kernelRun0_A.sl.v58 c i arg2 harg2 arg3 harg3 arg4 harg4 arg5 harg5 arg10 x0 x1 x2 x3 (ix3 (0 : Fin 1) t d) : EReal) = zz i x0 x1 x2 x3 0 1 t d :=
  readZ c i arg2 harg2 arg3 harg3 arg4 harg4 arg5 harg5 arg10 x0 x1 x2 x3 0 1 _ rfl _ t d

theorem z60 (t : Fin 1024) (d : Fin 256) : (kernelRun0_A.sl.v60 c i arg2 harg2 arg3 harg3 arg4 harg4 arg5 harg5 arg10 x0 x1 x2 x3 (ix3 (0 : Fin 1) t d) : EReal) = zz i x0 x1 x2 x3 0 2 t d :=
  readZ c i arg2 harg2 arg3 harg3 arg4 harg4 arg5 harg5 arg10 x0 x1 x2 x3 0 2 _ rfl _ t d

theorem z62 (t : Fin 1024) (d : Fin 256) : (kernelRun0_A.sl.v62 c i arg2 harg2 arg3 harg3 arg4 harg4 arg5 harg5 arg10 x0 x1 x2 x3 (ix3 (0 : Fin 1) t d) : EReal) = zz i x0 x1 x2 x3 0 3 t d :=
  readZ c i arg2 harg2 arg3 harg3 arg4 harg4 arg5 harg5 arg10 x0 x1 x2 x3 0 3 _ rfl _ t d

theorem z64 (t : Fin 1024) (d : Fin 256) : (kernelRun0_A.sl.v64 c i arg2 harg2 arg3 harg3 arg4 harg4 arg5 harg5 arg10 x0 x1 x2 x3 (ix3 (0 : Fin 1) t d) : EReal) = zz i x0 x1 x2 x3 1 0 t d :=
  readZ c i arg2 harg2 arg3 harg3 arg4 harg4 arg5 harg5 arg10 x0 x1 x2 x3 1 0 _ rfl _ t d

theorem z66 (t : Fin 1024) (d : Fin 256) : (kernelRun0_A.sl.v66 c i arg2 harg2 arg3 harg3 arg4 harg4 arg5 harg5 arg10 x0 x1 x2 x3 (ix3 (0 : Fin 1) t d) : EReal) = zz i x0 x1 x2 x3 1 1 t d :=
  readZ c i arg2 harg2 arg3 harg3 arg4 harg4 arg5 harg5 arg10 x0 x1 x2 x3 1 1 _ rfl _ t d

theorem z68 (t : Fin 1024) (d : Fin 256) : (kernelRun0_A.sl.v68 c i arg2 harg2 arg3 harg3 arg4 harg4 arg5 harg5 arg10 x0 x1 x2 x3 (ix3 (0 : Fin 1) t d) : EReal) = zz i x0 x1 x2 x3 1 2 t d :=
  readZ c i arg2 harg2 arg3 harg3 arg4 harg4 arg5 harg5 arg10 x0 x1 x2 x3 1 2 _ rfl _ t d

theorem z70 (t : Fin 1024) (d : Fin 256) : (kernelRun0_A.sl.v70 c i arg2 harg2 arg3 harg3 arg4 harg4 arg5 harg5 arg10 x0 x1 x2 x3 (ix3 (0 : Fin 1) t d) : EReal) = zz i x0 x1 x2 x3 1 3 t d :=
  readZ c i arg2 harg2 arg3 harg3 arg4 harg4 arg5 harg5 arg10 x0 x1 x2 x3 1 3 _ rfl _ t d

theorem r2_eq (t : Fin 1024) (d : Fin 256) : (kernelRun0_A.sl.r_2 c i arg2 harg2 arg3 harg3 arg4 harg4 arg5 harg5 arg10 x0 x1 x2 x3 (ix2 t d) : EReal) = Yc (zz i x0 x1 x2 x3) 1 t d :=
  yc1 (zz i x0 x1 x2 x3) _ _ _ _ (z56 c i arg2 harg2 arg3 harg3 arg4 harg4 arg5 harg5 arg10 x0 x1 x2 x3) (z60 c i arg2 harg2 arg3 harg3 arg4 harg4 arg5 harg5 arg10 x0 x1 x2 x3) (z66 c i arg2 harg2 arg3 harg3 arg4 harg4 arg5 harg5 arg10 x0 x1 x2 x3) (z70 c i arg2 harg2 arg3 harg3 arg4 harg4 arg5 harg5 arg10 x0 x1 x2 x3) t d

theorem r3_eq (t : Fin 1024) (d : Fin 256) : (kernelRun0_A.sl.r_3 c i arg2 harg2 arg3 harg3 arg4 harg4 arg5 harg5 arg10 x0 x1 x2 x3 (ix2 t d) : EReal) = Ys (zz i x0 x1 x2 x3) 1 t d :=
  ys1 (zz i x0 x1 x2 x3) _ _ _ _ (z58 c i arg2 harg2 arg3 harg3 arg4 harg4 arg5 harg5 arg10 x0 x1 x2 x3) (z62 c i arg2 harg2 arg3 harg3 arg4 harg4 arg5 harg5 arg10 x0 x1 x2 x3) (z64 c i arg2 harg2 arg3 harg3 arg4 harg4 arg5 harg5 arg10 x0 x1 x2 x3) (z68 c i arg2 harg2 arg3 harg3 arg4 harg4 arg5 harg5 arg10 x0 x1 x2 x3) t d

theorem r4_eq (t : Fin 1024) (d : Fin 256) : (kernelRun0_A.sl.r_4 c i arg2 harg2 arg3 harg3 arg4 harg4 arg5 harg5 arg10 x0 x1 x2 x3 (ix2 t d) : EReal) = Yc (zz i x0 x1 x2 x3) 2 t d :=
  yc2 (zz i x0 x1 x2 x3) _ _ _ _ (z56 c i arg2 harg2 arg3 harg3 arg4 harg4 arg5 harg5 arg10 x0 x1 x2 x3) (z58 c i arg2 harg2 arg3 harg3 arg4 harg4 arg5 harg5 arg10 x0 x1 x2 x3) (z60 c i arg2 harg2 arg3 harg3 arg4 harg4 arg5 harg5 arg10 x0 x1 x2 x3) (z62 c i arg2 harg2 arg3 harg3 arg4 harg4 arg5 harg5 arg10 x0 x1 x2 x3) t d

theorem r5_eq (t : Fin 1024) (d : Fin 256) : (kernelRun0_A.sl.r_5 c i arg2 harg2 arg3 harg3 arg4 harg4 arg5 harg5 arg10 x0 x1 x2 x3 (ix2 t d) : EReal) = Ys (zz i x0 x1 x2 x3) 2 t d :=
  ys2 (zz i x0 x1 x2 x3) _ _ _ _ (z64 c i arg2 harg2 arg3 harg3 arg4 harg4 arg5 harg5 arg10 x0 x1 x2 x3) (z66 c i arg2 harg2 arg3 harg3 arg4 harg4 arg5 harg5 arg10 x0 x1 x2 x3) (z68 c i arg2 harg2 arg3 harg3 arg4 harg4 arg5 harg5 arg10 x0 x1 x2 x3) (z70 c i arg2 harg2 arg3 harg3 arg4 harg4 arg5 harg5 arg10 x0 x1 x2 x3) t d

theorem r6_eq (t : Fin 1024) (d : Fin 256) : (kernelRun0_A.sl.r_6 c i arg2 harg2 arg3 harg3 arg4 harg4 arg5 harg5 arg10 x0 x1 x2 x3 (ix2 t d) : EReal) = Yc (zz i x0 x1 x2 x3) 3 t d :=
  yc3 (zz i x0 x1 x2 x3) _ _ _ _ (z56 c i arg2 harg2 arg3 harg3 arg4 harg4 arg5 harg5 arg10 x0 x1 x2 x3) (z60 c i arg2 harg2 arg3 harg3 arg4 harg4 arg5 harg5 arg10 x0 x1 x2 x3) (z66 c i arg2 harg2 arg3 harg3 arg4 harg4 arg5 harg5 arg10 x0 x1 x2 x3) (z70 c i arg2 harg2 arg3 harg3 arg4 harg4 arg5 harg5 arg10 x0 x1 x2 x3) t d

theorem r7_eq (t : Fin 1024) (d : Fin 256) : (kernelRun0_A.sl.r_7 c i arg2 harg2 arg3 harg3 arg4 harg4 arg5 harg5 arg10 x0 x1 x2 x3 (ix2 t d) : EReal) = Ys (zz i x0 x1 x2 x3) 3 t d :=
  ys3 (zz i x0 x1 x2 x3) _ _ _ _ (z58 c i arg2 harg2 arg3 harg3 arg4 harg4 arg5 harg5 arg10 x0 x1 x2 x3) (z62 c i arg2 harg2 arg3 harg3 arg4 harg4 arg5 harg5 arg10 x0 x1 x2 x3) (z64 c i arg2 harg2 arg3 harg3 arg4 harg4 arg5 harg5 arg10 x0 x1 x2 x3) (z68 c i arg2 harg2 arg3 harg3 arg4 harg4 arg5 harg5 arg10 x0 x1 x2 x3) t d

theorem r8_eq (k : Fin 1024) (d : Fin 256) :
    (kernelRun0_A.sl.r_8 c i arg2 harg2 arg3 harg3 arg4 harg4 arg5 harg5 arg6 harg6 arg10 x0 x1 x2 x3 x4 (ix2 k d) : EReal) = X (zz i x0 x1 x2 x3) x4 x5 x6 0 k d := by
  unfold kernelRun0_A.sl.r_8
  rw [readL]
  exact x0_eq (zz i x0 x1 x2 x3) _ _ _ _ _ _ _ _ (z56 c i arg2 harg2 arg3 harg3 arg4 harg4 arg5 harg5 arg10 x0 x1 x2 x3) (z58 c i arg2 harg2 arg3 harg3 arg4 harg4 arg5 harg5 arg10 x0 x1 x2 x3) (z60 c i arg2 harg2 arg3 harg3 arg4 harg4 arg5 harg5 arg10 x0 x1 x2 x3) (z62 c i arg2 harg2 arg3 harg3 arg4 harg4 arg5 harg5 arg10 x0 x1 x2 x3) (z64 c i arg2 harg2 arg3 harg3 arg4 harg4 arg5 harg5 arg10 x0 x1 x2 x3) (z66 c i arg2 harg2 arg3 harg3 arg4 harg4 arg5 harg5 arg10 x0 x1 x2 x3) (z68 c i arg2 harg2 arg3 harg3 arg4 harg4 arg5 harg5 arg10 x0 x1 x2 x3) (z70 c i arg2 harg2 arg3 harg3 arg4 harg4 arg5 harg5 arg10 x0 x1 x2 x3) x4 x5 x6 k d

theorem x1_eq (l : Vec Ideal S1024x2048 .bf16) (hl : l = x4) (k : Fin 1024) (d : Fin 256) :
    (k0_pay36 (kernelRun0_A.sl.r_2 c i arg2 harg2 arg3 harg3 arg4 harg4 arg5 harg5 arg10 x0 x1 x2 x3) (kernelRun0_A.sl.r_3 c i arg2 harg2 arg3 harg3 arg4 harg4 arg5 harg5 arg10 x0 x1 x2 x3)
      (View.readAt (Elt Ideal) arg7.view (Rect.unit (s := S3x1024x128) ![0, 0, 0] S1x1024x128.size inb_S3x1024x128_S1x1024x128_0_0_0).toLoadRect (harg7.unread x5))
      (View.readAt (Elt Ideal) arg8.view (Rect.unit (s := S3x1024x128) ![0, 0, 0] S1x1024x128.size inb_S3x1024x128_S1x1024x128_0_0_0).toLoadRect (harg8.unread x6)) l (ix2 k d) : EReal) = X (zz i x0 x1 x2 x3) x4 x5 x6 1 k d := by
  subst hl
  exact x_eq (zz i x0 x1 x2 x3) 1 (by decide) _ _ (r2_eq c i arg2 harg2 arg3 harg3 arg4 harg4 arg5 harg5 arg10 x0 x1 x2 x3) (r3_eq c i arg2 harg2 arg3 harg3 arg4 harg4 arg5 harg5 arg10 x0 x1 x2 x3) x5 x6 _ _ (readT arg7 harg7 x5 0 _ rfl _) (readT arg8 harg8 x6 0 _ rfl _) l k d

theorem x2_eq (l : Vec Ideal S1024x2048 .bf16) (hl : l = x4) (k : Fin 1024) (d : Fin 256) :
    (k0_pay40 (kernelRun0_A.sl.r_4 c i arg2 harg2 arg3 harg3 arg4 harg4 arg5 harg5 arg10 x0 x1 x2 x3) (kernelRun0_A.sl.r_5 c i arg2 harg2 arg3 harg3 arg4 harg4 arg5 harg5 arg10 x0 x1 x2 x3) (kernelRun0_A.sl.r_9 c arg7 harg7 x5) (kernelRun0_A.sl.r_10 c arg8 harg8 x6) l (ix2 k d) : EReal) = X (zz i x0 x1 x2 x3) x4 x5 x6 2 k d := by
  subst hl
  exact x_eq (zz i x0 x1 x2 x3) 2 (by decide) _ _ (r4_eq c i arg2 harg2 arg3 harg3 arg4 harg4 arg5 harg5 arg10 x0 x1 x2 x3) (r5_eq c i arg2 harg2 arg3 harg3 arg4 harg4 arg5 harg5 arg10 x0 x1 x2 x3) x5 x6 _ _ (readT arg7 harg7 x5 1 _ rfl _) (readT arg8 harg8 x6 1 _ rfl _) l k d

theorem x3_eq (k : Fin 1024) (d : Fin 256) :
    (kernelRun0_A.sl.r_11 c i arg2 harg2 arg3 harg3 arg4 harg4 arg5 harg5 arg6 harg6 arg7 harg7 arg8 harg8 arg10 x0 x1 x2 x3 x4 x5 x6 (ix2 k d) : EReal) = X (zz i x0 x1 x2 x3) x4 x5 x6 3 k d := by
  unfold kernelRun0_A.sl.r_11
  rw [readL]
  exact x_eq (zz i x0 x1 x2 x3) 3 (by decide) _ _ (r6_eq c i arg2 harg2 arg3 harg3 arg4 harg4 arg5 harg5 arg10 x0 x1 x2 x3) (r7_eq c i arg2 harg2 arg3 harg3 arg4 harg4 arg5 harg5 arg10 x0 x1 x2 x3) x5 x6 _ _ (readT arg7 harg7 x5 2 _ rfl _) (readT arg8 harg8 x6 2 _ rfl _) x4 k d

/-- The second scratch's eight stores are blocks of it. -/
theorem piecesW : PiecesOf (Val := Elt Ideal) (W i x0 x1 x2 x3 x4 x5 x6) (kernelRun0_A.sl.HS1_8 c i arg2 harg2 arg3 harg3 arg4 harg4 arg5 harg5 arg6 harg6 arg7 harg7 arg8 harg8 arg10 x0 x1 x2 x3 x4 x5 x6) := by
  unfold kernelRun0_A.sl.HS1_8
  refine ⟨fun x => ?_, fun x => ?_, fun x => ?_, fun x => ?_, fun x => ?_, fun x => ?_, fun x => ?_, fun x => ?_, trivial⟩
  · obtain ⟨t, d, rfl⟩ := ex3 (M := 1024) (N := 128) x
    refine Eq.trans ?_ (W_eq i x0 x1 x2 x3 x4 x5 x6 1 3 t ⟨128 + d.val, by have := d.isLt; omega⟩ _ (by show 3 + 4 * t.val = 3 + 4 * t.val; rfl) (by show 128 * (1 + 1 * 0) + (0 + 1 * d.val) = 128 + d.val; omega)).symm
    exact (right_apply _ t d).trans (x3_eq c i arg2 harg2 arg3 harg3 arg4 harg4 arg5 harg5 arg6 harg6 arg7 harg7 arg8 harg8 arg10 x0 x1 x2 x3 x4 x5 x6 t ⟨128 + d.val, by have := d.isLt; omega⟩)
  · obtain ⟨t, d, rfl⟩ := ex3 (M := 1024) (N := 128) x
    refine Eq.trans ?_ (W_eq i x0 x1 x2 x3 x4 x5 x6 0 3 t ⟨d.val, by have := d.isLt; omega⟩ _ (by show 3 + 4 * t.val = 3 + 4 * t.val; rfl) (by show 128 * (0 + 1 * 0) + (0 + 1 * d.val) = d.val; omega)).symm
    exact (left_apply _ t d).trans (x3_eq c i arg2 harg2 arg3 harg3 arg4 harg4 arg5 harg5 arg6 harg6 arg7 harg7 arg8 harg8 arg10 x0 x1 x2 x3 x4 x5 x6 t ⟨d.val, by have := d.isLt; omega⟩)
  · obtain ⟨t, d, rfl⟩ := ex3 (M := 1024) (N := 128) x
    refine Eq.trans ?_ (W_eq i x0 x1 x2 x3 x4 x5 x6 1 2 t ⟨128 + d.val, by have := d.isLt; omega⟩ _ (by show 2 + 4 * t.val = 2 + 4 * t.val; rfl) (by show 128 * (1 + 1 * 0) + (0 + 1 * d.val) = 128 + d.val; omega)).symm
    exact (right_apply _ t d).trans (x2_eq c i arg2 harg2 arg3 harg3 arg4 harg4 arg5 harg5 arg7 harg7 arg8 harg8 arg10 x0 x1 x2 x3 x4 x5 x6 _ (readL arg6 harg6 x4) t ⟨128 + d.val, by have := d.isLt; omega⟩)
  · obtain ⟨t, d, rfl⟩ := ex3 (M := 1024) (N := 128) x
    refine Eq.trans ?_ (W_eq i x0 x1 x2 x3 x4 x5 x6 0 2 t ⟨d.val, by have := d.isLt; omega⟩ _ (by show 2 + 4 * t.val = 2 + 4 * t.val; rfl) (by show 128 * (0 + 1 * 0) + (0 + 1 * d.val) = d.val; omega)).symm
    exact (left_apply _ t d).trans (x2_eq c i arg2 harg2 arg3 harg3 arg4 harg4 arg5 harg5 arg7 harg7 arg8 harg8 arg10 x0 x1 x2 x3 x4 x5 x6 _ (readL arg6 harg6 x4) t ⟨d.val, by have := d.isLt; omega⟩)
  · obtain ⟨t, d, rfl⟩ := ex3 (M := 1024) (N := 128) x
    refine Eq.trans ?_ (W_eq i x0 x1 x2 x3 x4 x5 x6 1 1 t ⟨128 + d.val, by have := d.isLt; omega⟩ _ (by show 1 + 4 * t.val = 1 + 4 * t.val; rfl) (by show 128 * (1 + 1 * 0) + (0 + 1 * d.val) = 128 + d.val; omega)).symm
    exact (right_apply _ t d).trans (x1_eq c i arg2 harg2 arg3 harg3 arg4 harg4 arg5 harg5 arg7 harg7 arg8 harg8 arg10 x0 x1 x2 x3 x4 x5 x6 _ (readL arg6 harg6 x4) t ⟨128 + d.val, by have := d.isLt; omega⟩)
  · obtain ⟨t, d, rfl⟩ := ex3 (M := 1024) (N := 128) x
    refine Eq.trans ?_ (W_eq i x0 x1 x2 x3 x4 x5 x6 0 1 t ⟨d.val, by have := d.isLt; omega⟩ _ (by show 1 + 4 * t.val = 1 + 4 * t.val; rfl) (by show 128 * (0 + 1 * 0) + (0 + 1 * d.val) = d.val; omega)).symm
    exact (left_apply _ t d).trans (x1_eq c i arg2 harg2 arg3 harg3 arg4 harg4 arg5 harg5 arg7 harg7 arg8 harg8 arg10 x0 x1 x2 x3 x4 x5 x6 _ (readL arg6 harg6 x4) t ⟨d.val, by have := d.isLt; omega⟩)
  · obtain ⟨t, d, rfl⟩ := ex3 (M := 1024) (N := 128) x
    refine Eq.trans ?_ (W_eq i x0 x1 x2 x3 x4 x5 x6 1 0 t ⟨128 + d.val, by have := d.isLt; omega⟩ _ (by show 0 + 4 * t.val = 0 + 4 * t.val; rfl) (by show 128 * (1 + 1 * 0) + (0 + 1 * d.val) = 128 + d.val; omega)).symm
    exact (right_apply _ t d).trans (r8_eq c i arg2 harg2 arg3 harg3 arg4 harg4 arg5 harg5 arg6 harg6 arg10 x0 x1 x2 x3 x4 x5 x6 t ⟨128 + d.val, by have := d.isLt; omega⟩)
  · obtain ⟨t, d, rfl⟩ := ex3 (M := 1024) (N := 128) x
    refine Eq.trans ?_ (W_eq i x0 x1 x2 x3 x4 x5 x6 0 0 t ⟨d.val, by have := d.isLt; omega⟩ _ (by show 0 + 4 * t.val = 0 + 4 * t.val; rfl) (by show 128 * (0 + 1 * 0) + (0 + 1 * d.val) = d.val; omega)).symm
    exact (left_apply _ t d).trans (r8_eq c i arg2 harg2 arg3 harg3 arg4 harg4 arg5 harg5 arg6 harg6 arg10 x0 x1 x2 x3 x4 x5 x6 t ⟨d.val, by have := d.isLt; omega⟩)

/-- The stores cover the second scratch. -/
theorem coverW (y : S2x4096x128.Idx) : ∃ p ∈ kernelRun0_A.sl.HS1_8 c i arg2 harg2 arg3 harg3 arg4 harg4 arg5 harg5 arg6 harg6 arg7 harg7 arg8 harg8 arg10 x0 x1 x2 x3 x4 x5 x6, y ∈ p.1.set := by
  have h0 : (y 0).val < 2 := (y 0).isLt
  have h1 : (y 1).val < 4096 := (y 1).isLt
  have h2 : (y 2).val < 128 := (y 2).isLt
  unfold kernelRun0_A.sl.HS1_8
  have hk : (y 1).val % 4 = 0 ∨ (y 1).val % 4 = 1 ∨ (y 1).val % 4 = 2 ∨ (y 1).val % 4 = 3 := by omega
  rcases hk with hk | hk | hk | hk <;> by_cases hp : (y 0).val = 0
  · refine ⟨_, .tail _ (.tail _ (.tail _ (.tail _ (.tail _ (.tail _ (.tail _ (.head _))))))), ?_⟩
    rw [LoadRect.mem_set]
    intro a
    match a with
    | ⟨0, _⟩ => exact ⟨0, by show 0 < 1; decide, by show (y 0).val = 0 + 1 * 0; omega⟩
    | ⟨1, _⟩ => exact ⟨(y 1).val / 4, by show (y 1).val / 4 < 1024; omega, by show (y 1).val = 0 + 4 * ((y 1).val / 4); omega⟩
    | ⟨2, _⟩ => exact ⟨(y 2).val, h2, by show (y 2).val = 0 + 1 * (y 2).val; omega⟩
  · refine ⟨_, .tail _ (.tail _ (.tail _ (.tail _ (.tail _ (.tail _ (.head _)))))), ?_⟩
    rw [LoadRect.mem_set]
    intro a
    match a with
    | ⟨0, _⟩ => exact ⟨0, by show 0 < 1; decide, by show (y 0).val = 1 + 1 * 0; omega⟩
    | ⟨1, _⟩ => exact ⟨(y 1).val / 4, by show (y 1).val / 4 < 1024; omega, by show (y 1).val = 0 + 4 * ((y 1).val / 4); omega⟩
    | ⟨2, _⟩ => exact ⟨(y 2).val, h2, by show (y 2).val = 0 + 1 * (y 2).val; omega⟩
  · refine ⟨_, .tail _ (.tail _ (.tail _ (.tail _ (.tail _ (.head _))))), ?_⟩
    rw [LoadRect.mem_set]
    intro a
    match a with
    | ⟨0, _⟩ => exact ⟨0, by show 0 < 1; decide, by show (y 0).val = 0 + 1 * 0; omega⟩
    | ⟨1, _⟩ => exact ⟨(y 1).val / 4, by show (y 1).val / 4 < 1024; omega, by show (y 1).val = 1 + 4 * ((y 1).val / 4); omega⟩
    | ⟨2, _⟩ => exact ⟨(y 2).val, h2, by show (y 2).val = 0 + 1 * (y 2).val; omega⟩
  · refine ⟨_, .tail _ (.tail _ (.tail _ (.tail _ (.head _)))), ?_⟩
    rw [LoadRect.mem_set]
    intro a
    match a with
    | ⟨0, _⟩ => exact ⟨0, by show 0 < 1; decide, by show (y 0).val = 1 + 1 * 0; omega⟩
    | ⟨1, _⟩ => exact ⟨(y 1).val / 4, by show (y 1).val / 4 < 1024; omega, by show (y 1).val = 1 + 4 * ((y 1).val / 4); omega⟩
    | ⟨2, _⟩ => exact ⟨(y 2).val, h2, by show (y 2).val = 0 + 1 * (y 2).val; omega⟩
  · refine ⟨_, .tail _ (.tail _ (.tail _ (.head _))), ?_⟩
    rw [LoadRect.mem_set]
    intro a
    match a with
    | ⟨0, _⟩ => exact ⟨0, by show 0 < 1; decide, by show (y 0).val = 0 + 1 * 0; omega⟩
    | ⟨1, _⟩ => exact ⟨(y 1).val / 4, by show (y 1).val / 4 < 1024; omega, by show (y 1).val = 2 + 4 * ((y 1).val / 4); omega⟩
    | ⟨2, _⟩ => exact ⟨(y 2).val, h2, by show (y 2).val = 0 + 1 * (y 2).val; omega⟩
  · refine ⟨_, .tail _ (.tail _ (.head _)), ?_⟩
    rw [LoadRect.mem_set]
    intro a
    match a with
    | ⟨0, _⟩ => exact ⟨0, by show 0 < 1; decide, by show (y 0).val = 1 + 1 * 0; omega⟩
    | ⟨1, _⟩ => exact ⟨(y 1).val / 4, by show (y 1).val / 4 < 1024; omega, by show (y 1).val = 2 + 4 * ((y 1).val / 4); omega⟩
    | ⟨2, _⟩ => exact ⟨(y 2).val, h2, by show (y 2).val = 0 + 1 * (y 2).val; omega⟩
  · refine ⟨_, .tail _ (.head _), ?_⟩
    rw [LoadRect.mem_set]
    intro a
    match a with
    | ⟨0, _⟩ => exact ⟨0, by show 0 < 1; decide, by show (y 0).val = 0 + 1 * 0; omega⟩
    | ⟨1, _⟩ => exact ⟨(y 1).val / 4, by show (y 1).val / 4 < 1024; omega, by show (y 1).val = 3 + 4 * ((y 1).val / 4); omega⟩
    | ⟨2, _⟩ => exact ⟨(y 2).val, h2, by show (y 2).val = 0 + 1 * (y 2).val; omega⟩
  · refine ⟨_, .head _, ?_⟩
    rw [LoadRect.mem_set]
    intro a
    match a with
    | ⟨0, _⟩ => exact ⟨0, by show 0 < 1; decide, by show (y 0).val = 1 + 1 * 0; omega⟩
    | ⟨1, _⟩ => exact ⟨(y 1).val / 4, by show (y 1).val / 4 < 1024; omega, by show (y 1).val = 3 + 4 * ((y 1).val / 4); omega⟩
    | ⟨2, _⟩ => exact ⟨(y 2).val, h2, by show (y 2).val = 0 + 1 * (y 2).val; omega⟩

/-- One plane of the second scratch, read back. -/
theorem readW (h : Fin 2) (off : Fin 3 → ℕ) (ho : off = ![h.val, 0, 0]) (inb : ∀ b, off b + S1x4096x128.size b ≤ S2x4096x128.size b) (s : Fin 4096) (d : Fin 128) :
    (arg11.view.readCov (kernelRun0_A.sl.HS1_8 c i arg2 harg2 arg3 harg3 arg4 harg4 arg5 harg5 arg6 harg6 arg7 harg7 arg8 harg8 arg10 x0 x1 x2 x3 x4 x5 x6) (Rect.unit (s := S2x4096x128) off S1x4096x128.size inb).toLoadRect (ix3 (0 : Fin 1) s d) : EReal)
      = O i x0 x1 x2 x3 x4 x5 x6 s ⟨128 * h.val + d.val, by have := h.isLt; have := d.isLt; omega⟩ := by
  rw [View.readCov_eq_canon']
  refine (View.canon_apply_of_pieces (Val := Elt Ideal) (W i x0 x1 x2 x3 x4 x5 x6) _ (PiecesOf.mem (piecesW c i arg2 harg2 arg3 harg3 arg4 harg4 arg5 harg5 arg6 harg6 arg7 harg7 arg8 harg8 arg10 x0 x1 x2 x3 x4 x5 x6)) _ (coverW c i arg2 harg2 arg3 harg3 arg4 harg4 arg5 harg5 arg6 harg6 arg7 harg7 arg8 harg8 arg10 x0 x1 x2 x3 x4 x5 x6 _)).trans ?_
  subst ho
  unfold W
  have e1 : (((Rect.unit (s := S2x4096x128) ![h.val, 0, 0] S1x4096x128.size inb).toLoadRect.idx (ix3 (0 : Fin 1) s d)) 1 : Fin 4096) = s := Fin.ext (by show 0 + 1 * s.val = s.val; omega)
  exact congr (congrArg (O i x0 x1 x2 x3 x4 x5 x6) e1) (Fin.ext (by show 128 * (h.val + 1 * 0) + (0 + 1 * d.val) = 128 * h.val + d.val; omega))

/-- What the run leaves in the result's buffer. -/
theorem out_apply (s : Fin 4096) (d : Fin 256) :
    (out0_A_7 c i arg2 harg2 arg3 harg3 arg4 harg4 arg5 harg5 arg6 harg6 arg7 harg7 arg8 harg8 arg9 harg9 arg10 harg10 arg11 harg11 x0 x1 x2 x3 x4 x5 x6 (ix2 s d) : EReal) = O i x0 x1 x2 x3 x4 x5 x6 s d := by
  have hd := d.isLt
  unfold out0_A_7
  rw [View.read_writes_junk_eq_canon]
  unfold kernelRun0_A
  dsimp only
  by_cases h : d.val < 128
  · have hn : (ix2 s d : S4096x256.Idx) ∉ (Rect.unit (s := S4096x256) ![0, 128] ![4096, 128] inb_S4096x256_S4096x128_0_128).set := by
      rw [Rect.mem_set_unit]
      intro hh
      have h1 : 128 ≤ d.val := (hh 1).1
      omega
    refine (View.canon_cons_of_not_mem (Val := Elt Ideal) ⟨_, _⟩ _ hn).trans ?_
    have e : (ix2 s d : S4096x256.Idx) = (Rect.unit (s := S4096x256) ![0, 0] ![4096, 128] inb_S4096x256_S4096x128_0_0).emb (ix2 s (⟨d.val, h⟩ : Fin 128)) := funext fun a => Fin.ext (match a with
      | ⟨0, _⟩ => by show s.val = 0 + 1 * s.val; omega
      | ⟨1, _⟩ => by show d.val = 0 + 1 * d.val; omega)
    rw [e]
    refine (View.canon_cons_emb (Val := Elt Ideal) _ _ _ _).trans ?_
    refine (pay3_apply _ s (⟨d.val, h⟩ : Fin 128)).trans ?_
    refine (readW c i arg2 harg2 arg3 harg3 arg4 harg4 arg5 harg5 arg6 harg6 arg7 harg7 arg8 harg8 arg10 arg11 x0 x1 x2 x3 x4 x5 x6 0 _ rfl _ s ⟨d.val, h⟩).trans ?_
    exact congrArg (O i x0 x1 x2 x3 x4 x5 x6 s) (Fin.ext (by show 128 * 0 + d.val = d.val; omega))
  · have e : (ix2 s d : S4096x256.Idx) = (Rect.unit (s := S4096x256) ![0, 128] ![4096, 128] inb_S4096x256_S4096x128_0_128).emb (ix2 s (⟨d.val - 128, by omega⟩ : Fin 128)) := funext fun a => Fin.ext (match a with
      | ⟨0, _⟩ => by show s.val = 0 + 1 * s.val; omega
      | ⟨1, _⟩ => by show d.val = 128 + 1 * (d.val - 128); omega)
    rw [e]
    refine (View.canon_cons_emb (Val := Elt Ideal) _ _ _ _).trans ?_
    refine (pay3_apply _ s (⟨d.val - 128, by omega⟩ : Fin 128)).trans ?_
    refine (readW c i arg2 harg2 arg3 harg3 arg4 harg4 arg5 harg5 arg6 harg6 arg7 harg7 arg8 harg8 arg10 arg11 x0 x1 x2 x3 x4 x5 x6 1 _ rfl _ s ⟨d.val - 128, by omega⟩).trans ?_
    exact congrArg (O i x0 x1 x2 x3 x4 x5 x6 s) (Fin.ext (by show 128 * 1 + (d.val - 128) = d.val; omega))

end Cert.KernelIdeal.Four

end
-- ==== Proof.FourReal.lean ====
/-
  The mixer's body over finite values: its block is the real transform's.
-/
module

public import proofs.«01_k».proof.Proof.FourMath
public import proofs.«01_k».proof.Proof.FourRun

@[expose] public section

set_option maxRecDepth 16384

noncomputable section

namespace Cert.KernelIdeal.Four

open Cert.KernelIdeal Cert.KernelIdeal.Gen Idealize.ShloMosaic Idealize.ShloMosaic.TcCoe
open Cert.Ang Cert.FourMath

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The scale, over the reals. -/
abbrev σr : ℝ := (Real.sqrt 524288)⁻¹

/-- One column of one transformed plane, over the reals: a row of values against a table times a group's weights. -/
def plane (u : Fin 128 → ℝ) (T : Fin 128 → Fin 128 → ℝ) (w : Fin 128 → ℝ) : ℝ := ∑ q : Fin 128, u q * ((∑ p : Fin 128, T q p * w p) * σr)

theorem zt_real (i : grid0.Coords) (x0 : Vec Ideal S4096x256 .bf16) (T : Vec Ideal S128x128 .bf16) (x3 : Vec Ideal S8x128x128 .bf16) (e : Fin 2) (s : Fin 4096) (d : Fin 128)
    (u : Fin 128 → ℝ) (Tr : Fin 128 → Fin 128 → ℝ) (w : Fin 128 → ℝ)
    (h0 : ∀ q : Fin 128, (x0 (ix2 s ⟨128 * e.val + q.val, by have := e.isLt; have := q.isLt; omega⟩) : EReal) = ((u q : ℝ) : EReal))
    (hT : ∀ q p : Fin 128, (T (ix2 q p) : EReal) = ((Tr q p : ℝ) : EReal)) (h3 : ∀ p : Fin 128, (x3 (ix3 (gi i e) p d) : EReal) = ((w p : ℝ) : EReal)) :
    zt i x0 T x3 e s d = ((plane u Tr w : ℝ) : EReal) := by
  unfold zt plane
  rw [coe_sum]
  refine Finset.sum_congr rfl fun q _ => ?_
  rw [EReal.coe_mul, EReal.coe_mul, coe_sum, h0]
  refine congrArg (fun a : EReal => ((u q : ℝ) : EReal) * (a * σ)) (Finset.sum_congr rfl fun p _ => ?_)
  rw [hT, h3, EReal.coe_mul]

section Butterflies

variable (z : Fin 2 → Fin 4 → Fin 1024 → Fin 256 → EReal) (d : Fin 256) (zc zs : Fin 4096 → ℝ)
  (h0 : ∀ a t, z 0 a t d = ((zc (pl a t) : ℝ) : EReal)) (h1 : ∀ a t, z 1 a t d = ((zs (pl a t) : ℝ) : EReal))

include h0 h1

theorem Yc_real (κ : Fin 4) (t : Fin 1024) : Yc z κ t d = ((yc κ (fun a => zc (pl a t)) (fun a => zs (pl a t)) : ℝ) : EReal) := by
  match κ with
  | 0 => simp only [Yc, yc, h0, h1, EReal.coe_add, EReal.coe_sub]
  | 1 => simp only [Yc, yc, h0, h1, EReal.coe_add, EReal.coe_sub]
  | 2 => simp only [Yc, yc, h0, h1, EReal.coe_add, EReal.coe_sub]
  | 3 => simp only [Yc, yc, h0, h1, EReal.coe_add, EReal.coe_sub]
theorem Ys_real (κ : Fin 4) (t : Fin 1024) : Ys z κ t d = ((ys κ (fun a => zc (pl a t)) (fun a => zs (pl a t)) : ℝ) : EReal) := by
  match κ with
  | 0 => simp only [Ys, ys, h0, h1, EReal.coe_add, EReal.coe_sub]
  | 1 => simp only [Ys, ys, h0, h1, EReal.coe_add, EReal.coe_sub]
  | 2 => simp only [Ys, ys, h0, h1, EReal.coe_add, EReal.coe_sub]
  | 3 => simp only [Ys, ys, h0, h1, EReal.coe_add, EReal.coe_sub]

/-- A row of the result's block is the long transform's. -/
theorem X_real (l : Vec Ideal S1024x2048 .bf16) (tc ts : Vec Ideal S3x1024x128 .f32) (κ : Fin 4) (k : Fin 1024)
    (hc : ∀ t : Fin 1024, (l (ix2 k ⟨t.val, by have := t.isLt; omega⟩) : EReal) = ((cs 1024 (k.val * t.val) : ℝ) : EReal))
    (hs : ∀ t : Fin 1024, (l (ix2 k ⟨1024 + t.val, by have := t.isLt; omega⟩) : EReal) = ((sn 1024 (k.val * t.val) : ℝ) : EReal))
    (htc : ∀ (j : Fin 3) (t : Fin 1024) (e : Fin 128), (tc (ix3 j t e) : EReal) = ((cs 4096 ((1 + j.val) * t.val) : ℝ) : EReal))
    (hts : ∀ (j : Fin 3) (t : Fin 1024) (e : Fin 128), (ts (ix3 j t e) : EReal) = ((sn 4096 ((1 + j.val) * t.val) : ℝ) : EReal)) :
    X z l tc ts κ k d = ((∑ x : Fin 4096, (cs 4096 ((4 * k.val + κ.val) * x.val) * zc x + sn 4096 ((4 * k.val + κ.val) * x.val) * zs x) : ℝ) : EReal) := by
  have key : ∀ A B : Fin 1024 → EReal,
      (∀ t, A t = ((yc κ (fun a => zc (pl a t)) (fun a => zs (pl a t)) * cs 4096 (κ.val * t.val) + ys κ (fun a => zc (pl a t)) (fun a => zs (pl a t)) * sn 4096 (κ.val * t.val) : ℝ) : EReal)) →
      (∀ t, B t = ((ys κ (fun a => zc (pl a t)) (fun a => zs (pl a t)) * cs 4096 (κ.val * t.val) - yc κ (fun a => zc (pl a t)) (fun a => zs (pl a t)) * sn 4096 (κ.val * t.val) : ℝ) : EReal)) →
      lin l k A B = ((∑ x : Fin 4096, (cs 4096 ((4 * k.val + κ.val) * x.val) * zc x + sn 4096 ((4 * k.val + κ.val) * x.val) * zs x) : ℝ) : EReal) := by
    intro A B hA hB
    unfold lin
    rw [split, EReal.coe_add, coe_sum, coe_sum]
    refine congrArg₂ (fun a b : EReal => a + b) (Finset.sum_congr rfl fun t _ => ?_) (Finset.sum_congr rfl fun t _ => ?_)
    · rw [hc, hA, EReal.coe_mul]
    · rw [hs, hB, EReal.coe_mul]
  unfold X
  by_cases h : κ = 0
  · rw [dif_pos h]
    have hv : κ.val = 0 := congrArg Fin.val h
    refine key _ _ (fun t => ?_) (fun t => ?_)
    · rw [← h, Yc_real z d zc zs h0 h1, hv, Nat.zero_mul, cs_zero, sn_zero, mul_one, mul_zero, add_zero]
    · rw [← h, Ys_real z d zc zs h0 h1, hv, Nat.zero_mul, cs_zero, sn_zero, mul_one, mul_zero, sub_zero]
  · rw [dif_neg h]
    have hv : 1 + (κ.val - 1) = κ.val := by
      have : κ.val ≠ 0 := fun h' => h (Fin.ext h')
      omega
    refine key _ _ (fun t => ?_) (fun t => ?_)
    · rw [Yc_real z d zc zs h0 h1, Ys_real z d zc zs h0 h1, htc, hts, EReal.coe_add, EReal.coe_mul, EReal.coe_mul]
      simp only [hv]
    · rw [Yc_real z d zc zs h0 h1, Ys_real z d zc zs h0 h1, htc, hts, EReal.coe_sub, EReal.coe_mul, EReal.coe_mul]
      simp only [hv]

end Butterflies

/-- The result's block, over finite values. -/
theorem O_real (i : grid0.Coords) (x0 : Vec Ideal S4096x256 .bf16) (x1 x2 : Vec Ideal S128x128 .bf16) (x3 : Vec Ideal S8x128x128 .bf16)
    (x4 : Vec Ideal S1024x2048 .bf16) (x5 x6 : Vec Ideal S3x1024x128 .f32) (s : Fin 4096) (d : Fin 256) (e : Fin 2) (j : Fin 128) (hd : d.val = 128 * e.val + j.val)
    (u : Fin 4096 → Fin 128 → ℝ) (w : Fin 128 → ℝ)
    (h0 : ∀ (x : Fin 4096) (q : Fin 128), (x0 (ix2 x ⟨128 * e.val + q.val, by have := e.isLt; have := q.isLt; omega⟩) : EReal) = ((u x q : ℝ) : EReal))
    (h1 : ∀ q p : Fin 128, (x1 (ix2 q p) : EReal) = ((cs 128 (q.val * p.val) : ℝ) : EReal)) (h2 : ∀ q p : Fin 128, (x2 (ix2 q p) : EReal) = ((sn 128 (q.val * p.val) : ℝ) : EReal))
    (h3 : ∀ p : Fin 128, (x3 (ix3 (gi i e) p j) : EReal) = ((w p : ℝ) : EReal))
    (hc : ∀ k t : Fin 1024, (x4 (ix2 k ⟨t.val, by have := t.isLt; omega⟩) : EReal) = ((cs 1024 (k.val * t.val) : ℝ) : EReal))
    (hs : ∀ k t : Fin 1024, (x4 (ix2 k ⟨1024 + t.val, by have := t.isLt; omega⟩) : EReal) = ((sn 1024 (k.val * t.val) : ℝ) : EReal))
    (htc : ∀ (j : Fin 3) (t : Fin 1024) (e : Fin 128), (x5 (ix3 j t e) : EReal) = ((cs 4096 ((1 + j.val) * t.val) : ℝ) : EReal))
    (hts : ∀ (j : Fin 3) (t : Fin 1024) (e : Fin 128), (x6 (ix3 j t e) : EReal) = ((sn 4096 ((1 + j.val) * t.val) : ℝ) : EReal)) :
    O i x0 x1 x2 x3 x4 x5 x6 s d = ((∑ m : Fin 128, w m * ((∑ x : Fin 4096, (∑ q : Fin 128, u x q * cs 128 (q.val * m.val)) * cs 4096 (s.val * x.val)
      - ∑ x : Fin 4096, (∑ q : Fin 128, u x q * sn 128 (q.val * m.val)) * sn 4096 (s.val * x.val)) * σr) : ℝ) : EReal) := by
  have he : (⟨d.val / 128, by have := d.isLt; omega⟩ : Fin 2) = e := Fin.ext (by have := j.isLt; show d.val / 128 = e.val; omega)
  have hj : (⟨d.val % 128, Nat.mod_lt _ (by decide)⟩ : Fin 128) = j := Fin.ext (by have := j.isLt; show d.val % 128 = j.val; omega)
  have z0 : ∀ a t, zz i x0 x1 x2 x3 0 a t d = ((plane (u (pl a t)) (fun q p => cs 128 (q.val * p.val)) w : ℝ) : EReal) := fun a t => by
    unfold zz zv
    rw [if_pos rfl, he, hj]
    exact zt_real i x0 x1 x3 e _ j _ _ _ (h0 _) h1 h3
  have z1 : ∀ a t, zz i x0 x1 x2 x3 1 a t d = ((0 - plane (u (pl a t)) (fun q p => sn 128 (q.val * p.val)) w : ℝ) : EReal) := fun a t => by
    unfold zz zv
    rw [if_neg (by decide), he, hj, EReal.coe_sub, EReal.coe_zero]
    exact congrArg (fun a : EReal => 0 - a) (zt_real i x0 x2 x3 e _ j _ _ _ (h0 _) h2 h3)
  unfold O
  rw [X_real (zz i x0 x1 x2 x3) d (fun x => plane (u x) (fun q p => cs 128 (q.val * p.val)) w) (fun x => 0 - plane (u x) (fun q p => sn 128 (q.val * p.val)) w) z0 z1 x4 x5 x6 _ _ (hc _) (hs _) htc hts]
  refine congrArg (fun a : ℝ => (a : EReal)) ?_
  have hk : 4 * (s.val / 4) + s.val % 4 = s.val := Nat.div_add_mod s.val 4
  simp only [hk]
  have ec := swap (fun x : Fin 4096 => cs 4096 (s.val * x.val)) u (fun q m : Fin 128 => cs 128 (q.val * m.val)) w σr
  have es := swap (fun x : Fin 4096 => sn 4096 (s.val * x.val)) u (fun q m : Fin 128 => sn 128 (q.val * m.val)) w σr
  simp only [sub_mul, mul_sub, Finset.sum_sub_distrib]
  rw [← ec, ← es, ← Finset.sum_sub_distrib]
  refine Finset.sum_congr rfl fun x _ => ?_
  unfold plane
  ring

end Cert.KernelIdeal.Four

end
-- ==== Proof.FourRef.lean ====
/-
  The mixer's reference over finite values: its result, read at an index, is the real transform's.
-/
module

public import proofs.«01_k».proof.Proof.FourMath
public import proofs.«01_k».proof.Proof.Gen.ReferenceIdeal.Read
public import Idealize.ShloMosaic.Lib.Pointwise
public import Idealize.ShloMosaic.Lib.IdealHost

@[expose] public section

set_option maxRecDepth 16384

noncomputable section

namespace Cert.FourRef

open Cert.ReferenceIdeal Cert.ReferenceIdeal.Read Idealize.ShloMosaic Idealize.ShloMosaic.TcCoe
open Cert.Ang

/-- A sum of reals, as an extended real. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A place: the sequence, the row there, the head and the lane. -/
def i4 (b : Fin 4) (s : Fin 4096) (g : Fin 8) (q : Fin 128) : S4x4096x8x128.Idx := fun a => match a with
  | ⟨0, _⟩ => b
  | ⟨1, _⟩ => s
  | ⟨2, _⟩ => g
  | ⟨3, _⟩ => q

/-- The columns' angles. -/
theorem v17_at (i : S128x128.Idx) : (val_main_v17 (F := Ideal) i : EReal) = ((((i 0).val * (i 1).val : ℕ) : ℝ) * (Real.pi * (2 / ((128 : ℕ) : ℝ))) : ℝ) := by
  have h0 : (i 0).val < 128 := (i 0).isLt
  have h1 : (i 1).val < 128 := (i 1).isLt
  have h : (i 0).val * (i 1).val ≤ 128 * 128 := Nat.mul_le_mul h0.le h1.le
  rw [val_main_v17_apply, val_main_v16_apply]
  show (((BitVec.ofNat 32 (i 0).val * BitVec.ofNat 32 (i 1).val).toInt : ℝ) : EReal) * (Ideal.acos (Ideal.ofBits .f32 0xBF800000#32) * Ideal.ofBits .f32 0x3C800000#32) = _
  rw [mul_words]
  exact ang_val (by omega) _ bits_64

/-- The rows' angles. -/
theorem v10_at (i : S4096x4096.Idx) : (val_main_v10 (F := Ideal) i : EReal) = ((((i 0).val * (i 1).val : ℕ) : ℝ) * (Real.pi * (2 / ((4096 : ℕ) : ℝ))) : ℝ) := by
  have h0 : (i 0).val < 4096 := (i 0).isLt
  have h1 : (i 1).val < 4096 := (i 1).isLt
  have h : (i 0).val * (i 1).val ≤ 4096 * 4096 := Nat.mul_le_mul h0.le h1.le
  rw [val_main_v10_apply, val_main_v9_apply]
  show (((BitVec.ofNat 32 (i 0).val * BitVec.ofNat 32 (i 1).val).toInt : ℝ) : EReal) * (Ideal.acos (Ideal.ofBits .f32 0xBF800000#32) * Ideal.ofBits .f32 0x3A000000#32) = _
  rw [mul_words]
  exact ang_val (by omega) _ bits_2048

theorem v18_at (i : S128x128.Idx) : (val_main_v18 (F := Ideal) i : EReal) = ((cs 128 ((i 0).val * (i 1).val) : ℝ) : EReal) := congrArg Ideal.cos (v17_at i)
theorem v20_at (i : S128x128.Idx) : (val_main_v20 (F := Ideal) i : EReal) = ((sn 128 ((i 0).val * (i 1).val) : ℝ) : EReal) := congrArg Ideal.sin (v17_at i)
theorem v22_at (i : S4096x4096.Idx) : (val_main_v22 (F := Ideal) i : EReal) = ((cs 4096 ((i 0).val * (i 1).val) : ℝ) : EReal) := congrArg Ideal.cos (v10_at i)
theorem v25_at (i : S4096x4096.Idx) : (val_main_v25 (F := Ideal) i : EReal) = ((sn 4096 ((i 0).val * (i 1).val) : ℝ) : EReal) := congrArg Ideal.sin (v10_at i)

variable (x0 : S16384x9216.Idx → EReal) (x1 : S8x128x128.Idx → EReal) (U : S4x4096x8x128.Idx → ℝ) (w : S8x128x128.Idx → ℝ)
  (hU : ∀ i, (val_main_v2 (F := Ideal) x0 i : EReal) = ((U i : ℝ) : EReal)) (hw : ∀ i, x1 i = ((w i : ℝ) : EReal))

/-- The transform's real part before scaling. -/
def R (b : Fin 4) (s : Fin 4096) (g : Fin 8) (m : Fin 128) : ℝ :=
  ∑ x : Fin 4096, (∑ q : Fin 128, U (i4 b x g q) * cs 128 (q.val * m.val)) * cs 4096 (s.val * x.val)
    - ∑ x : Fin 4096, (∑ q : Fin 128, U (i4 b x g q) * sn 128 (q.val * m.val)) * sn 4096 (s.val * x.val)

include hU

theorem v19_at (b : Fin 4) (x : Fin 4096) (g : Fin 8) (m : Fin 128) :
    (val_main_v19 (F := Ideal) x0 (i4 b x g m) : EReal) = ((∑ q : Fin 128, U (i4 b x g q) * cs 128 (q.val * m.val) : ℝ) : EReal) := by
  rw [val_main_v19_apply, coe_sum]
  refine Finset.sum_congr rfl fun q _ => ?_
  rw [hU, v18_at, EReal.coe_mul, Nat.mul_comm q.val m.val]
  refine congrArg (fun a : EReal => a * _) (congrArg (fun i => ((U i : ℝ) : EReal)) (funext fun a => ?_))
  match a with
  | ⟨0, _⟩ => rfl
  | ⟨1, _⟩ => rfl
  | ⟨2, _⟩ => rfl
  | ⟨3, _⟩ => rfl

theorem v21_at (b : Fin 4) (x : Fin 4096) (g : Fin 8) (m : Fin 128) :
    (val_main_v21 (F := Ideal) x0 (i4 b x g m) : EReal) = ((∑ q : Fin 128, U (i4 b x g q) * sn 128 (q.val * m.val) : ℝ) : EReal) := by
  rw [val_main_v21_apply, coe_sum]
  refine Finset.sum_congr rfl fun q _ => ?_
  rw [hU, v20_at, EReal.coe_mul, Nat.mul_comm q.val m.val]
  refine congrArg (fun a : EReal => a * _) (congrArg (fun i => ((U i : ℝ) : EReal)) (funext fun a => ?_))
  match a with
  | ⟨0, _⟩ => rfl
  | ⟨1, _⟩ => rfl
  | ⟨2, _⟩ => rfl
  | ⟨3, _⟩ => rfl

theorem v24_at (b : Fin 4) (s : Fin 4096) (g : Fin 8) (m : Fin 128) :
    (val_main_v24 (F := Ideal) x0 (i4 b s g m) : EReal) = ((∑ x : Fin 4096, (∑ q : Fin 128, U (i4 b x g q) * cs 128 (q.val * m.val)) * cs 4096 (s.val * x.val) : ℝ) : EReal) := by
  rw [val_main_v24_apply, val_main_v23_apply, coe_sum]
  refine Finset.sum_congr rfl fun x _ => ?_
  rw [EReal.coe_mul, v22_at, ← v19_at x0 U hU b x g m]
  refine congrArg (fun a : EReal => a * _) (congrArg (val_main_v19 (F := Ideal) x0) (funext fun a => ?_))
  match a with
  | ⟨0, _⟩ => rfl
  | ⟨1, _⟩ => rfl
  | ⟨2, _⟩ => rfl
  | ⟨3, _⟩ => rfl

theorem v27_at (b : Fin 4) (s : Fin 4096) (g : Fin 8) (m : Fin 128) :
    (val_main_v27 (F := Ideal) x0 (i4 b s g m) : EReal) = ((∑ x : Fin 4096, (∑ q : Fin 128, U (i4 b x g q) * sn 128 (q.val * m.val)) * sn 4096 (s.val * x.val) : ℝ) : EReal) := by
  rw [val_main_v27_apply, val_main_v26_apply, coe_sum]
  refine Finset.sum_congr rfl fun x _ => ?_
  rw [EReal.coe_mul, v25_at, ← v21_at x0 U hU b x g m]
  refine congrArg (fun a : EReal => a * _) (congrArg (val_main_v21 (F := Ideal) x0) (funext fun a => ?_))
  match a with
  | ⟨0, _⟩ => rfl
  | ⟨1, _⟩ => rfl
  | ⟨2, _⟩ => rfl
  | ⟨3, _⟩ => rfl

theorem v31_at (b : Fin 4) (s : Fin 4096) (g : Fin 8) (m : Fin 128) :
    (val_main_v31 (F := Ideal) x0 (i4 b s g m) : EReal) = ((R U b s g m * (Real.sqrt 524288)⁻¹ : ℝ) : EReal) := by
  rw [val_main_v31_apply, val_main_v30_apply, val_main_v28_apply]
  show Ideal.div (val_main_v24 (F := Ideal) x0 (i4 b s g m) - val_main_v27 (F := Ideal) x0 (i4 b s g m)) (Ideal.sqrt (Ideal.ofBits .f32 0x49000000#32)) = _
  rw [v24_at x0 U hU, v27_at x0 U hU, sqrt_524288]
  unfold Ideal.div
  have h : Real.sqrt 524288 ≠ 0 := (Real.sqrt_pos.mpr (by norm_num)).ne'
  rw [if_neg (by exact_mod_cast h), ← EReal.coe_sub, ← EReal.coe_inv, ← EReal.coe_mul]
  rfl

include hw

/-- The reference's result at a row and a column. -/
theorem ref_at (r : Fin 16384) (k : Fin 1024) (b : Fin 4) (s : Fin 4096) (g : Fin 8) (j : Fin 128) (hr : r.val = 4096 * b.val + s.val) (hk : k.val = 128 * g.val + j.val) :
    (val_main_v35 (F := Ideal) x0 x1 (ix2 r k) : EReal) = ((∑ m : Fin 128, w (ix3 g m j) * (R U b s g m * (Real.sqrt 524288)⁻¹) : ℝ) : EReal) := by
  have hb := b.isLt
  have hs := s.isLt
  have hg := g.isLt
  have hj := j.isLt
  show val_main_v34 (F := Ideal) x0 x1 (ix2 r k) = _
  have e : idx_main_v34 (ix2 r k) = i4 b s g j := funext fun a => Fin.ext (match a with
    | ⟨0, _⟩ => by show (r.val * 1024 + k.val) / 4194304 = b.val; omega
    | ⟨1, _⟩ => by show (r.val * 1024 + k.val) / 1024 % 4096 = s.val; omega
    | ⟨2, _⟩ => by show (r.val * 1024 + k.val) / 128 % 8 = g.val; omega
    | ⟨3, _⟩ => by show (r.val * 1024 + k.val) % 128 = j.val; omega)
  rw [val_main_v34_apply, e, val_main_v33_apply, val_main_v32_apply, coe_sum]
  refine Finset.sum_congr rfl fun m _ => ?_
  rw [EReal.coe_mul, ← v31_at x0 U hU b s g m, hw]
  refine congrArg₂ (fun a b : EReal => a * b) (congrArg (fun i => ((w i : ℝ) : EReal)) (funext fun a => ?_)) (congrArg (val_main_v31 (F := Ideal) x0) (funext fun a => ?_))
  · match a with
    | ⟨0, _⟩ => rfl
    | ⟨1, _⟩ => rfl
    | ⟨2, _⟩ => rfl
  · match a with
    | ⟨0, _⟩ => rfl
    | ⟨1, _⟩ => rfl
    | ⟨2, _⟩ => rfl
    | ⟨3, _⟩ => rfl

end Cert.FourRef

end
-- ==== Proof.FourTables.lean ====
/-
  The tables the mixer's host code builds, entry by entry: the cosines and sines of whole multiples of a turn's part.
-/
module

public import proofs.«01_k».proof.Proof.Ang
public import proofs.«01_k».proof.Proof.FourPay

@[expose] public section

set_option maxRecDepth 16384

noncomputable section

namespace Cert.KernelIdeal.Four

open Cert.KernelIdeal Cert.KernelIdeal.Gen Idealize.ShloMosaic Idealize.ShloMosaic.TcCoe Idealize.SL.Sem
open Cert.Ang

variable (m : (ℓ : Loc nD τ sig) → Buf (Elt Ideal) ℓ)

/-- An angle as the host builds it: a whole number times `π` times a part. -/
def ang (x : BitVec 32) (w : BitVec 32) : EReal := ((x.toInt : ℝ) : EReal) * (Ideal.acos (Ideal.ofBits .f32 0xBF800000#32) * Ideal.ofBits .f32 w)

/-- The four tables of angles, and the twiddles'. -/
def angA : FVec Ideal S16x128 .f32 := fun i => ang (rem1 (BitVec.ofNat 32 (i 0).val * BitVec.ofNat 32 (i 1).val * 8#32) 128#32) 0x3C800000#32
def angB : FVec Ideal S8x128 .f32 := fun i => ang (rem1 (BitVec.ofNat 32 (i 0).val * BitVec.ofNat 32 (i 1).val) 128#32) 0x3C800000#32
def angC : FVec Ideal S32x1024 .f32 := fun i => ang (rem1 (BitVec.ofNat 32 (i 0).val * BitVec.ofNat 32 (i 1).val * 32#32) 1024#32) 0x3B000000#32
def angD : FVec Ideal S32x1024 .f32 := fun i => ang (rem1 (BitVec.ofNat 32 (i 0).val * BitVec.ofNat 32 (i 1).val) 1024#32) 0x3B000000#32
def angE : FVec Ideal S3x1024 .f32 := fun i => ang ((1#32 + BitVec.ofNat 32 (i 0).val) * BitVec.ofNat 32 (i 1).val) 0x3A000000#32

theorem V_wmix (c : Dev nD) : (V m c main_v124 : S8x128x128.Idx → EReal) = m ((c : Thread nD τ).loc main_arg1) := by
  show StableHlo.after (List.flatten [hostOps0, hostOps0_1, hostOps0_2, hostOps0_3, hostOps0_4, hostOps0_5, hostOps0_6, hostOps0_7, hostOps0_8]) (fun b => m (c, b)) main_v124 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  rfl

/-- A reshape's value, cast. -/
theorem read_cast {s t : Shape} {e : EltTy} (he : EltTy.f32 = e) (f : s.Idx → Elt Ideal .f32) (hs : s.ShapeCasts t) : (fun i : t.Idx => he ▸ shapeCast t f hs i : t.Idx → Elt Ideal e) = (he ▸ shapeCast t f hs : t.Idx → Elt Ideal e) := by
  subst he
  rfl

/-- The cosine and the sine of a sum, from two tables of angles. -/
def cosAB {K L N : ℕ} (A : FVec Ideal ⟨2, ![K, N]⟩ .f32) (B : FVec Ideal ⟨2, ![L, N]⟩ .f32) : FVec Ideal ⟨3, ![K, L, N]⟩ .f32 := fun i =>
  Ideal.cos (A (ix2 (i 0) (i 2))) * Ideal.cos (B (ix2 (i 1) (i 2))) - Ideal.sin (A (ix2 (i 0) (i 2))) * Ideal.sin (B (ix2 (i 1) (i 2)))
def sinAB {K L N : ℕ} (A : FVec Ideal ⟨2, ![K, N]⟩ .f32) (B : FVec Ideal ⟨2, ![L, N]⟩ .f32) : FVec Ideal ⟨3, ![K, L, N]⟩ .f32 := fun i =>
  Ideal.sin (A (ix2 (i 0) (i 2))) * Ideal.cos (B (ix2 (i 1) (i 2))) + Ideal.cos (A (ix2 (i 0) (i 2))) * Ideal.sin (B (ix2 (i 1) (i 2)))

theorem V_cosC (c : Dev nD) : (V m c main_v122 : S128x128.Idx → EReal) = shapeCast S128x128 (cosAB angA angB : FVec Ideal S16x8x128 .f32) shapeCasts_S16x8x128_S128x128 := by
  show StableHlo.after (List.flatten [hostOps0, hostOps0_1, hostOps0_2, hostOps0_3, hostOps0_4, hostOps0_5, hostOps0_6, hostOps0_7, hostOps0_8]) (fun b => m (c, b)) main_v122 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  refine (congrArg (fun f : FVec Ideal S128x128 .f32 => (truncf (F := Ideal) .bf16 f bitsLt_bf16_f32)) ((read_cast rfl _ shapeCasts_S16x8x128_S128x128).trans (congrArg (fun f : FVec Ideal S16x8x128 .f32 => shapeCast S128x128 f shapeCasts_S16x8x128_S128x128) (?_ : _ = cosAB angA angB)))).trans rfl
  rfl

theorem V_sinC (c : Dev nD) : (V m c main_v123 : S128x128.Idx → EReal) = shapeCast S128x128 (sinAB angA angB : FVec Ideal S16x8x128 .f32) shapeCasts_S16x8x128_S128x128 := by
  show StableHlo.after (List.flatten [hostOps0, hostOps0_1, hostOps0_2, hostOps0_3, hostOps0_4, hostOps0_5, hostOps0_6, hostOps0_7, hostOps0_8]) (fun b => m (c, b)) main_v123 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  refine (congrArg (fun f : FVec Ideal S128x128 .f32 => (truncf (F := Ideal) .bf16 f bitsLt_bf16_f32)) ((read_cast rfl _ shapeCasts_S16x8x128_S128x128).trans (congrArg (fun f : FVec Ideal S16x8x128 .f32 => shapeCast S128x128 f shapeCasts_S16x8x128_S128x128) (?_ : _ = sinAB angA angB)))).trans rfl
  rfl

set_option maxHeartbeats 4000000 in
theorem V_long (c : Dev nD) : (V m c main_v101 : S1024x2048.Idx → EReal) = concatenate S1024x2048 1 [⟨S1024x1024, shapeCast S1024x1024 (cosAB angC angD : FVec Ideal S32x32x1024 .f32) shapeCasts_S32x32x1024_S1024x1024⟩, ⟨S1024x1024, shapeCast S1024x1024 (sinAB angC angD : FVec Ideal S32x32x1024 .f32) shapeCasts_S32x32x1024_S1024x1024⟩] concatenates_S1024x1024_S1024x1024_S1024x2048_d1 := by
  show StableHlo.after (List.flatten [hostOps0, hostOps0_1, hostOps0_2, hostOps0_3, hostOps0_4, hostOps0_5, hostOps0_6, hostOps0_7, hostOps0_8]) (fun b => m (c, b)) main_v101 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  refine (congrArg (fun f : FVec Ideal S1024x2048 .f32 => (truncf (F := Ideal) .bf16 f bitsLt_bf16_f32))
    (congrArg₂ (fun a b : FVec Ideal S1024x1024 .f32 => (concatenate S1024x2048 1 [⟨S1024x1024, a⟩, ⟨S1024x1024, b⟩] concatenates_S1024x1024_S1024x1024_S1024x2048_d1 : FVec Ideal S1024x2048 .f32))
      ((read_cast rfl _ shapeCasts_S32x32x1024_S1024x1024).trans (congrArg (fun f : FVec Ideal S32x32x1024 .f32 => shapeCast S1024x1024 f shapeCasts_S32x32x1024_S1024x1024) (?_ : _ = cosAB angC angD)))
      ((read_cast rfl _ shapeCasts_S32x32x1024_S1024x1024).trans (congrArg (fun f : FVec Ideal S32x32x1024 .f32 => shapeCast S1024x1024 f shapeCasts_S32x32x1024_S1024x1024) (?_ : _ = sinAB angC angD))))).trans rfl
  · rfl
  · rfl

theorem V_twc (c : Dev nD) : (V m c main_v118 : S3x1024x128.Idx → EReal) = fun i => Ideal.cos (angE (ix2 (i 0) (i 1))) := by
  show StableHlo.after (List.flatten [hostOps0, hostOps0_1, hostOps0_2, hostOps0_3, hostOps0_4, hostOps0_5, hostOps0_6, hostOps0_7, hostOps0_8]) (fun b => m (c, b)) main_v118 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  rfl

theorem V_tws (c : Dev nD) : (V m c main_v121 : S3x1024x128.Idx → EReal) = fun i => Ideal.sin (angE (ix2 (i 0) (i 1))) := by
  show StableHlo.after (List.flatten [hostOps0, hostOps0_1, hostOps0_2, hostOps0_3, hostOps0_4, hostOps0_5, hostOps0_6, hostOps0_7, hostOps0_8]) (fun b => m (c, b)) main_v121 = _
  simp only [hostOps0, hostOps0_1, hostOps0_2, hostOps0_3, hostOps0_4, hostOps0_5, hostOps0_6, hostOps0_7, hostOps0_8, List.flatten_cons, List.flatten_nil, List.append_nil,
    List.cons_append, List.nil_append]
  after_results
  rfl

/-! ## Entries -/

theorem cosAB_at {K L N n : ℕ} (hn : 0 < n) (A : FVec Ideal ⟨2, ![K, N]⟩ .f32) (B : FVec Ideal ⟨2, ![L, N]⟩ .f32) (k : Fin K) (l : Fin L) (q : Fin N) (a b : ℕ)
    (hA : (A (ix2 k q) : EReal) = ((((a % n : ℕ) : ℝ) * (Real.pi * (2 / (n : ℝ))) : ℝ) : EReal)) (hB : (B (ix2 l q) : EReal) = ((((b % n : ℕ) : ℝ) * (Real.pi * (2 / (n : ℝ))) : ℝ) : EReal)) :
    (cosAB A B (ix3 k l q) : EReal) = ((cs n (a + b) : ℝ) : EReal) ∧ (sinAB A B (ix3 k l q) : EReal) = ((sn n (a + b) : ℝ) : EReal) := by
  constructor
  · show Ideal.cos (A (ix2 k q)) * Ideal.cos (B (ix2 l q)) - Ideal.sin (A (ix2 k q)) * Ideal.sin (B (ix2 l q)) = _
    rw [hA, hB, cs_add, ← cs_mod hn a, ← cs_mod hn b, ← sn_mod hn a, ← sn_mod hn b, EReal.coe_sub, EReal.coe_mul, EReal.coe_mul]
    rfl
  · show Ideal.sin (A (ix2 k q)) * Ideal.cos (B (ix2 l q)) + Ideal.cos (A (ix2 k q)) * Ideal.sin (B (ix2 l q)) = _
    rw [hA, hB, sn_add, ← cs_mod hn a, ← cs_mod hn b, ← sn_mod hn a, ← sn_mod hn b, EReal.coe_add, EReal.coe_mul, EReal.coe_mul]
    rfl

/-- An angle with a remainder taken first. -/
theorem ang_rem {a n : ℕ} (ha : a < 2 ^ 31) (hn : 0 < n) (hn' : n < 2 ^ 31) (w : BitVec 32) (hw : Ideal.ofBits .f32 w = ((2 / (n : ℝ) : ℝ) : EReal)) :
    ang (rem1 (BitVec.ofNat 32 a) (BitVec.ofNat 32 n)) w = ((((a % n : ℕ) : ℝ) * (Real.pi * (2 / (n : ℝ))) : ℝ) : EReal) := by
  unfold ang
  rw [rem1_eq ha hn hn']
  exact ang_val (by have := Nat.mod_lt a hn; omega) _ hw

theorem angA_at (k : Fin 16) (q : Fin 128) : (angA (ix2 k q) : EReal) = ((((k.val * q.val * 8 % 128 : ℕ) : ℝ) * (Real.pi * (2 / ((128 : ℕ) : ℝ))) : ℝ) : EReal) := by
  have hk := k.isLt; have hq := q.isLt
  have h : k.val * q.val ≤ 16 * 128 := Nat.mul_le_mul hk.le hq.le
  show ang (rem1 (BitVec.ofNat 32 k.val * BitVec.ofNat 32 q.val * BitVec.ofNat 32 8) (BitVec.ofNat 32 128)) _ = _
  rw [mul_words, mul_words, ang_rem (by omega) (by decide) (by decide) _ bits_64]
theorem angB_at (k : Fin 8) (q : Fin 128) : (angB (ix2 k q) : EReal) = ((((k.val * q.val % 128 : ℕ) : ℝ) * (Real.pi * (2 / ((128 : ℕ) : ℝ))) : ℝ) : EReal) := by
  have hk := k.isLt; have hq := q.isLt
  have h : k.val * q.val ≤ 8 * 128 := Nat.mul_le_mul hk.le hq.le
  show ang (rem1 (BitVec.ofNat 32 k.val * BitVec.ofNat 32 q.val) (BitVec.ofNat 32 128)) _ = _
  rw [mul_words, ang_rem (by omega) (by decide) (by decide) _ bits_64]
theorem angC_at (k : Fin 32) (q : Fin 1024) : (angC (ix2 k q) : EReal) = ((((k.val * q.val * 32 % 1024 : ℕ) : ℝ) * (Real.pi * (2 / ((1024 : ℕ) : ℝ))) : ℝ) : EReal) := by
  have hk := k.isLt; have hq := q.isLt
  have h : k.val * q.val ≤ 32 * 1024 := Nat.mul_le_mul hk.le hq.le
  show ang (rem1 (BitVec.ofNat 32 k.val * BitVec.ofNat 32 q.val * BitVec.ofNat 32 32) (BitVec.ofNat 32 1024)) _ = _
  rw [mul_words, mul_words, ang_rem (by omega) (by decide) (by decide) _ bits_512]
theorem angD_at (k : Fin 32) (q : Fin 1024) : (angD (ix2 k q) : EReal) = ((((k.val * q.val % 1024 : ℕ) : ℝ) * (Real.pi * (2 / ((1024 : ℕ) : ℝ))) : ℝ) : EReal) := by
  have hk := k.isLt; have hq := q.isLt
  have h : k.val * q.val ≤ 32 * 1024 := Nat.mul_le_mul hk.le hq.le
  show ang (rem1 (BitVec.ofNat 32 k.val * BitVec.ofNat 32 q.val) (BitVec.ofNat 32 1024)) _ = _
  rw [mul_words, ang_rem (by omega) (by decide) (by decide) _ bits_512]
theorem angE_at (k : Fin 3) (q : Fin 1024) : (angE (ix2 k q) : EReal) = (((((1 + k.val) * q.val : ℕ) : ℝ) * (Real.pi * (2 / ((4096 : ℕ) : ℝ))) : ℝ) : EReal) := by
  have hk := k.isLt; have hq := q.isLt
  have h : (1 + k.val) * q.val ≤ 4 * 1024 := Nat.mul_le_mul (by omega) hq.le
  show ang ((BitVec.ofNat 32 1 + BitVec.ofNat 32 k.val) * BitVec.ofNat 32 q.val) _ = _
  rw [← BitVec.ofNat_add, mul_words]
  exact ang_val (by omega) _ bits_2048

/-- The columns' table. -/
theorem col_at (c : Dev nD) (k q : Fin 128) : ((V m c main_v122 : S128x128.Idx → EReal) (ix2 k q) = ((cs 128 (k.val * q.val) : ℝ) : EReal))
    ∧ ((V m c main_v123 : S128x128.Idx → EReal) (ix2 k q) = ((sn 128 (k.val * q.val) : ℝ) : EReal)) := by
  have hk := k.isLt
  have h := cosAB_at (n := 128) (by decide) angA angB (⟨k.val / 8, by omega⟩ : Fin 16) (⟨k.val % 8, by omega⟩ : Fin 8) q _ _ (angA_at _ _) (angB_at _ _)
  have e : k.val / 8 * q.val * 8 + k.val % 8 * q.val = k.val * q.val := by
    rw [Nat.mul_right_comm, ← Nat.add_mul, Nat.div_add_mod' k.val 8]
  have hr : (S16x8x128.rowMajor (ix3 (⟨k.val / 8, by omega⟩ : Fin 16) (⟨k.val % 8, by omega⟩ : Fin 8) q)).val = (S128x128.rowMajor (ix2 k q)).val := by
    rewrite [Shape.rowMajor_val_three, Shape.rowMajor_val_two]
    show (k.val / 8 * 8 + k.val % 8) * 128 + q.val = k.val * 128 + q.val
    omega
  rw [V_cosC, V_sinC]
  exact ⟨(shapeCast_apply _ _ _ _ hr).trans (h.1.trans (by rw [e])), (shapeCast_apply _ _ _ _ hr).trans (h.2.trans (by rw [e]))⟩

theorem long_at' (k q : Fin 1024) : ((shapeCast S1024x1024 (cosAB angC angD : FVec Ideal S32x32x1024 .f32) shapeCasts_S32x32x1024_S1024x1024 (ix2 k q) : EReal) = ((cs 1024 (k.val * q.val) : ℝ) : EReal))
    ∧ ((shapeCast S1024x1024 (sinAB angC angD : FVec Ideal S32x32x1024 .f32) shapeCasts_S32x32x1024_S1024x1024 (ix2 k q) : EReal) = ((sn 1024 (k.val * q.val) : ℝ) : EReal)) := by
  have hk := k.isLt
  have h := cosAB_at (n := 1024) (by decide) angC angD (⟨k.val / 32, by omega⟩ : Fin 32) (⟨k.val % 32, by omega⟩ : Fin 32) q _ _ (angC_at _ _) (angD_at _ _)
  have e : k.val / 32 * q.val * 32 + k.val % 32 * q.val = k.val * q.val := by
    rw [Nat.mul_right_comm, ← Nat.add_mul, Nat.div_add_mod' k.val 32]
  have hr : (S32x32x1024.rowMajor (ix3 (⟨k.val / 32, by omega⟩ : Fin 32) (⟨k.val % 32, by omega⟩ : Fin 32) q)).val = (S1024x1024.rowMajor (ix2 k q)).val := by
    rewrite [Shape.rowMajor_val_three, Shape.rowMajor_val_two]
    show (k.val / 32 * 32 + k.val % 32) * 1024 + q.val = k.val * 1024 + q.val
    omega
  exact ⟨(shapeCast_apply _ _ _ _ hr).trans (h.1.trans (by rw [e])), (shapeCast_apply _ _ _ _ hr).trans (h.2.trans (by rw [e]))⟩

/-- The long table, its cosines left and its sines right. -/
theorem long_cos (c : Dev nD) (k q : Fin 1024) : (V m c main_v101 : S1024x2048.Idx → EReal) (ix2 k ⟨q.val, by have := q.isLt; omega⟩) = ((cs 1024 (k.val * q.val) : ℝ) : EReal) := by
  rw [V_long]
  refine (concatenate_pair_apply_left (t := S1024x2048) 1 _ _ concatenates_S1024x1024_S1024x1024_S1024x2048_d1 (ix2 k ⟨q.val, by have := q.isLt; omega⟩) rfl (ix2 k q) ?_).trans (long_at' k q).1
  intro b
  match b with
  | ⟨0, _⟩ => rfl
  | ⟨1, _⟩ => rfl
theorem long_sin (c : Dev nD) (k q : Fin 1024) : (V m c main_v101 : S1024x2048.Idx → EReal) (ix2 k ⟨1024 + q.val, by have := q.isLt; omega⟩) = ((sn 1024 (k.val * q.val) : ℝ) : EReal) := by
  rw [V_long]
  refine (concatenate_pair_apply_right (t := S1024x2048) 1 _ _ concatenates_S1024x1024_S1024x1024_S1024x2048_d1 (ix2 k ⟨1024 + q.val, by have := q.isLt; omega⟩) rfl rfl (ix2 k q) ?_ ?_).trans (long_at' k q).2
  · intro b hb
    match b with
    | ⟨0, _⟩ => rfl
    | ⟨1, _⟩ => exact absurd rfl hb
  · show q.val + 1024 = 1024 + q.val
    omega

/-- The twiddles. -/
theorem twiddle_at (c : Dev nD) (k : Fin 3) (q : Fin 1024) (d : Fin 128) : ((V m c main_v118 : S3x1024x128.Idx → EReal) (ix3 k q d) = ((cs 4096 ((1 + k.val) * q.val) : ℝ) : EReal))
    ∧ ((V m c main_v121 : S3x1024x128.Idx → EReal) (ix3 k q d) = ((sn 4096 ((1 + k.val) * q.val) : ℝ) : EReal)) := by
  rw [V_twc, V_tws]
  exact ⟨congrArg Ideal.cos (angE_at k q), congrArg Ideal.sin (angE_at k q)⟩

end Cert.KernelIdeal.Four

end
-- ==== Proof.FourValue.lean ====
/-
  The mixer: what its result array holds after the run, over finite arguments, and that it is the reference's transform of them.
-/
module

public import proofs.«01_k».proof.Proof.FourReal
public import proofs.«01_k».proof.Proof.FourRef
public import proofs.«01_k».proof.Proof.FourTables
public import proofs.«01_k».proof.Proof.Gen.ReferenceIdeal.Run

@[expose] public section

set_option maxRecDepth 16384

noncomputable section

namespace Cert.KernelIdeal.Four

open Cert.KernelIdeal Cert.KernelIdeal.Gen Idealize.ShloMosaic Idealize.ShloMosaic.TcCoe Idealize.SL.Sem
open Cert.Ang
open Cert.FourRef (i4)
open Idealize.ShloMosaic.Pipeline (Dat)

variable (m : (ℓ : Loc nD τ sig) → Buf (Elt Ideal) ℓ) (ρ : Dev nD → PrngReg)

/-- The projection. -/
abbrev A0 (c : Dev nD) : S16384x9216.Idx → EReal := m ((c : Thread nD τ).loc main_arg0)
/-- The heads' mixing weights. -/
abbrev A1 (c : Dev nD) : S8x128x128.Idx → EReal := m ((c : Thread nD τ).loc main_arg1)

/-- The reference's result of core `c`'s two arguments. -/
abbrev G (c : Dev nD) : Buf (Elt Ideal) ((c : Thread nD τ).loc main_v125) :=
  Cert.ReferenceIdeal.Read.val_main_v35 (F := Ideal) (A0 m c) (A1 m c)

theorem lt_N (t : Fin cfg0.N) : t.val < 16 := lt_of_lt_of_eq t.isLt N_0

theorem idx0 (t : Fin cfg0.N) : win0_0.index t 0 = t.val / 4 ∧ win0_0.index t 1 = 32 + t.val % 4 :=
  (by decide +kernel : ∀ t : Fin grid0.N, win0_0.index t 0 = t.val / 4 ∧ win0_0.index t 1 = 32 + t.val % 4) t
theorem idx1 (t : Fin cfg0.N) : win0_1.index t 0 = 0 ∧ win0_1.index t 1 = 0 :=
  (by decide +kernel : ∀ t : Fin grid0.N, win0_1.index t 0 = 0 ∧ win0_1.index t 1 = 0) t
theorem idx2 (t : Fin cfg0.N) : win0_2.index t 0 = 0 ∧ win0_2.index t 1 = 0 :=
  (by decide +kernel : ∀ t : Fin grid0.N, win0_2.index t 0 = 0 ∧ win0_2.index t 1 = 0) t
theorem idx3 (t : Fin cfg0.N) : win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0) t
theorem idx4 (t : Fin cfg0.N) : win0_4.index t 0 = 0 ∧ win0_4.index t 1 = 0 :=
  (by decide +kernel : ∀ t : Fin grid0.N, win0_4.index t 0 = 0 ∧ win0_4.index t 1 = 0) t
theorem idx5 (t : Fin cfg0.N) : win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0) t
theorem idx6 (t : Fin cfg0.N) : win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0) t
theorem idx7 (t : Fin cfg0.N) : win0_7.index t 0 = t.val / 4 ∧ win0_7.index t 1 = t.val % 4 :=
  (by decide +kernel : ∀ t : Fin grid0.N, win0_7.index t 0 = t.val / 4 ∧ win0_7.index t 1 = t.val % 4) t
theorem coord1 (t : Fin cfg0.N) : ((grid0.coords t) 1).val = t.val % 4 :=
  (by decide +kernel : ∀ t : Fin grid0.N, ((grid0.coords t) 1).val = t.val % 4) t

theorem iblk0 (c : Dev nD) (t : Fin cfg0.N) (r : Fin 4096) (k : Fin 256) :
    ((iblk m c 0 t : Vec Ideal S4096x256 .bf16) (ix2 r k) : EReal)
      = A0 m c (ix2 ⟨t.val / 4 * 4096 + r.val, by have := lt_N t; have := r.isLt; omega⟩ ⟨8192 + t.val % 4 * 256 + k.val, by have := k.isLt; omega⟩) := by
  have e := idx0 t
  unfold iblk
  rw [View.read_apply]
  show V m c main_arg0 _ = _
  rw [V_main_arg0]
  congr 1; funext a; apply Fin.ext
  match a with
  | ⟨0, _⟩ => show win0_0.index t 0 * 4096 + 1 * r.val = t.val / 4 * 4096 + r.val; rw [e.1]; omega
  | ⟨1, _⟩ => show win0_0.index t 1 * 256 + 1 * k.val = 8192 + t.val % 4 * 256 + k.val; rw [e.2]; omega

theorem iblk1 (c : Dev nD) (t : Fin cfg0.N) (r k : Fin 128) :
    ((iblk m c 1 t : Vec Ideal S128x128 .bf16) (ix2 r k) : EReal) = ((cs 128 (r.val * k.val) : ℝ) : EReal) := by
  have e := idx1 t
  unfold iblk
  rw [View.read_apply]
  refine Eq.trans ?_ (col_at m c r k).1
  show (V m c main_v122 : S128x128.Idx → EReal) _ = _
  congr 1; funext a; apply Fin.ext
  match a with
  | ⟨0, _⟩ => show win0_1.index t 0 * 128 + 1 * r.val = r.val; rw [e.1]; omega
  | ⟨1, _⟩ => show win0_1.index t 1 * 128 + 1 * k.val = k.val; rw [e.2]; omega

theorem iblk2 (c : Dev nD) (t : Fin cfg0.N) (r k : Fin 128) :
    ((iblk m c 2 t : Vec Ideal S128x128 .bf16) (ix2 r k) : EReal) = ((sn 128 (r.val * k.val) : ℝ) : EReal) := by
  have e := idx2 t
  unfold iblk
  rw [View.read_apply]
  refine Eq.trans ?_ (col_at m c r k).2
  show (V m c main_v123 : S128x128.Idx → EReal) _ = _
  congr 1; funext a; apply Fin.ext
  match a with
  | ⟨0, _⟩ => show win0_2.index t 0 * 128 + 1 * r.val = r.val; rw [e.1]; omega
  | ⟨1, _⟩ => show win0_2.index t 1 * 128 + 1 * k.val = k.val; rw [e.2]; omega

theorem iblk3 (c : Dev nD) (t : Fin cfg0.N) (g : Fin 8) (p d : Fin 128) :
    ((iblk m c 3 t : Vec Ideal S8x128x128 .bf16) (ix3 g p d) : EReal) = A1 m c (ix3 g p d) := by
  have e := idx3 t
  unfold iblk
  rw [View.read_apply]
  show (V m c main_v124 : S8x128x128.Idx → EReal) _ = _
  rw [V_wmix]
  show A1 m c _ = _
  congr 1; funext a; apply Fin.ext
  match a with
  | ⟨0, _⟩ => show win0_3.index t 0 * 8 + 1 * g.val = g.val; rw [e.1]; omega
  | ⟨1, _⟩ => show win0_3.index t 1 * 128 + 1 * p.val = p.val; rw [e.2.1]; omega
  | ⟨2, _⟩ => show win0_3.index t 2 * 128 + 1 * d.val = d.val; rw [e.2.2]; omega

theorem iblk4 (c : Dev nD) (t : Fin cfg0.N) (r : Fin 1024) (k : Fin 2048) :
    ((iblk m c 4 t : Vec Ideal S1024x2048 .bf16) (ix2 r k) : EReal) = (V m c main_v101 : S1024x2048.Idx → EReal) (ix2 r k) := by
  have e := idx4 t
  unfold iblk
  rw [View.read_apply]
  show (V m c main_v101 : S1024x2048.Idx → EReal) _ = _
  congr 1; funext a; apply Fin.ext
  match a with
  | ⟨0, _⟩ => show win0_4.index t 0 * 1024 + 1 * r.val = r.val; rw [e.1]; omega
  | ⟨1, _⟩ => show win0_4.index t 1 * 2048 + 1 * k.val = k.val; rw [e.2]; omega

theorem iblk5 (c : Dev nD) (t : Fin cfg0.N) (g : Fin 3) (p : Fin 1024) (d : Fin 128) :
    ((iblk m c 5 t : Vec Ideal S3x1024x128 .f32) (ix3 g p d) : EReal) = ((cs 4096 ((1 + g.val) * p.val) : ℝ) : EReal) := by
  have e := idx5 t
  unfold iblk
  rw [View.read_apply]
  refine Eq.trans ?_ (twiddle_at m c g p d).1
  show (V m c main_v118 : S3x1024x128.Idx → EReal) _ = _
  congr 1; funext a; apply Fin.ext
  match a with
  | ⟨0, _⟩ => show win0_5.index t 0 * 3 + 1 * g.val = g.val; rw [e.1]; omega
  | ⟨1, _⟩ => show win0_5.index t 1 * 1024 + 1 * p.val = p.val; rw [e.2.1]; omega
  | ⟨2, _⟩ => show win0_5.index t 2 * 128 + 1 * d.val = d.val; rw [e.2.2]; omega

theorem iblk6 (c : Dev nD) (t : Fin cfg0.N) (g : Fin 3) (p : Fin 1024) (d : Fin 128) :
    ((iblk m c 6 t : Vec Ideal S3x1024x128 .f32) (ix3 g p d) : EReal) = ((sn 4096 ((1 + g.val) * p.val) : ℝ) : EReal) := by
  have e := idx6 t
  unfold iblk
  rw [View.read_apply]
  refine Eq.trans ?_ (twiddle_at m c g p d).2
  show (V m c main_v121 : S3x1024x128.Idx → EReal) _ = _
  congr 1; funext a; apply Fin.ext
  match a with
  | ⟨0, _⟩ => show win0_6.index t 0 * 3 + 1 * g.val = g.val; rw [e.1]; omega
  | ⟨1, _⟩ => show win0_6.index t 1 * 1024 + 1 * p.val = p.val; rw [e.2.1]; omega
  | ⟨2, _⟩ => show win0_6.index t 2 * 128 + 1 * d.val = d.val; rw [e.2.2]; omega

/-- A place of the projection's part, read from the whole projection. -/
theorem v2_at (x0 : S16384x9216.Idx → EReal) (b : Fin 4) (x : Fin 4096) (g : Fin 8) (q : Fin 128) (r : Fin 16384) (k : Fin 9216)
    (hr : r.val = b.val * 4096 + x.val) (hk : k.val = 8192 + g.val * 128 + q.val) :
    (Cert.ReferenceIdeal.Read.val_main_v2 (F := Ideal) x0 (i4 b x g q) : EReal) = x0 (ix2 r k) := by
  have hb := b.isLt
  have hx := x.isLt
  have hg := g.isLt
  have hq := q.isLt
  rw [Cert.ReferenceIdeal.Read.val_main_v2_apply]
  show Cert.ReferenceIdeal.Read.val_main_v0 (F := Ideal) x0 _ = _
  rw [Cert.ReferenceIdeal.Read.val_main_v0_apply]
  congr 1; funext a; apply Fin.ext
  match a with
  | ⟨0, _⟩ => show (((b.val * 4096 + x.val) * 8 + g.val) * 128 + q.val) / 1024 = r.val; omega
  | ⟨1, _⟩ => show 8192 + (((b.val * 4096 + x.val) * 8 + g.val) * 128 + q.val) % 1024 = k.val; omega

variable (U : Dev nD → Cert.ReferenceIdeal.S4x4096x8x128.Idx → ℝ) (w : Dev nD → S8x128x128.Idx → ℝ)
  (hU : ∀ c i, (Cert.ReferenceIdeal.Read.val_main_v2 (F := Ideal) (A0 m c) i : EReal) = ((U c i : ℝ) : EReal)) (hw : ∀ c i, A1 m c i = ((w c i : ℝ) : EReal))

include hU hw

/-- What a point writes back is its block of the reference's result. -/
theorem flushed (c : Dev nD) (t : Fin cfg0.N) : (dats m 0 c).flushed 7 t = ((cfg0.win 7).blk t).view.read (Elt Ideal) (G m c) := by
  have e := idx7 t
  have ht := lt_N t
  have e1 := coord1 t
  rw [Value.flushed7_A]
  funext j
  obtain ⟨r, k, rfl⟩ : ∃ (r : Fin 4096) (k : Fin 256), j = ix2 r k := ⟨j 0, j 1, by
    funext a; match a with
    | ⟨0, _⟩ => rfl
    | ⟨1, _⟩ => rfl⟩
  have hr := r.isLt
  have hk := k.isLt
  rw [View.read_apply]
  have hG : G m c (((cfg0.win 7).blk t).view.emb (ix2 r k)) = G m c (ix2 ⟨t.val / 4 * 4096 + r.val, by omega⟩ ⟨t.val % 4 * 256 + k.val, by omega⟩) := by
    congr 1; funext a; apply Fin.ext
    match a with
    | ⟨0, _⟩ => show win0_7.index t 0 * 4096 + 1 * r.val = t.val / 4 * 4096 + r.val; rw [e.1]; omega
    | ⟨1, _⟩ => show win0_7.index t 1 * 256 + 1 * k.val = t.val % 4 * 256 + k.val; rw [e.2]; omega
  refine Eq.trans ?_ hG.symm
  have hgi : (gi (grid0.coords t) (⟨k.val / 128, by omega⟩ : Fin 2)).val = 2 * (t.val % 4) + k.val / 128 := by
    show 2 * ((grid0.coords t) 1).val + k.val / 128 = _
    rw [e1]
  refine Eq.trans ?_ (Cert.FourRef.ref_at (A0 m c) (A1 m c) (U c) (w c) (hU c) (hw c) _ _ (⟨t.val / 4, by omega⟩ : Fin 4) r
    (gi (grid0.coords t) (⟨k.val / 128, by omega⟩ : Fin 2)) (⟨k.val % 128, by omega⟩ : Fin 128) (by show t.val / 4 * 4096 + r.val = 4096 * (t.val / 4) + r.val; omega)
    (by rw [hgi]; show t.val % 4 * 256 + k.val = 128 * (2 * (t.val % 4) + k.val / 128) + k.val % 128; omega)).symm
  refine (out_apply c (grid0.coords t) _ _ _ _ _ _ _ _ _ _ _ _ _ _ _ _ _ _ _ _ _ _ _ _ _ _ _ r k).trans ?_
  refine O_real (grid0.coords t) _ _ _ _ _ _ _ r k (⟨k.val / 128, by omega⟩ : Fin 2) (⟨k.val % 128, by omega⟩ : Fin 128) (by show k.val = 128 * (k.val / 128) + k.val % 128; omega)
    (fun x q => U c (i4 (⟨t.val / 4, by omega⟩ : Fin 4) x (gi (grid0.coords t) (⟨k.val / 128, by omega⟩ : Fin 2)) q))
    (fun p => w c (ix3 (gi (grid0.coords t) (⟨k.val / 128, by omega⟩ : Fin 2)) p (⟨k.val % 128, by omega⟩ : Fin 128)))
    (fun x q => ?_) (iblk1 m c t) (iblk2 m c t) (fun p => (iblk3 m c t _ p _).trans (hw c _)) (fun a b => (iblk4 m c t _ _).trans (long_cos m c a b))
    (fun a b => (iblk4 m c t _ _).trans (long_sin m c a b)) (iblk5 m c t) (iblk6 m c t)
  have hq := q.isLt
  refine (iblk0 m c t x _).trans (Eq.trans ?_ (hU c _))
  refine (v2_at (A0 m c) _ x _ q _ _ rfl ?_).symm
  rw [hgi]
  show 8192 + t.val % 4 * 256 + (128 * (k.val / 128) + q.val) = 8192 + (2 * (t.val % 4) + k.val / 128) * 128 + q.val
  omega

omit hU hw in
/-- The blocks cover the result. -/
theorem cover (i : S16384x1024.Idx) : ∃ t : Fin cfg0.N, (cfg0.win 7).flush t = true ∧ i ∈ ((cfg0.win 7).blk t).view.set := by
  have h0 : (i 0 : Nat) < 16384 := (i 0).isLt
  have h1 : (i 1 : Nat) < 1024 := (i 1).isLt
  have hN : cfg0.N = 16 := N_0
  let t : Fin cfg0.N := ⟨(i 0 : Nat) / 4096 * 4 + (i 1 : Nat) / 256, by omega⟩
  have e := idx7 t
  have ht : t.val = (i 0 : Nat) / 4096 * 4 + (i 1 : Nat) / 256 := rfl
  refine ⟨t, flush0_7 _, ?_⟩
  show i ∈ ((View.whole main_v125).slice (win0_7.rect t)).set
  rw [View.set_slice_whole, Rect.mem_set_unit]
  intro a
  match a with
  | ⟨0, _⟩ => show win0_7.index t 0 * 4096 ≤ (i 0 : Nat) ∧ (i 0 : Nat) < win0_7.index t 0 * 4096 + 4096
              rw [e.1, ht]; omega
  | ⟨1, _⟩ => show win0_7.index t 1 * 256 ≤ (i 1 : Nat) ∧ (i 1 : Nat) < win0_7.index t 1 * 256 + 256
              rw [e.2, ht]; omega

/-- The run of the kernel, read: over finite arguments its result is the reference's function of them, and they are unchanged. -/
theorem run : θ_run defs (onTc (τ := τ) (main (F := Ideal))) ⟨m, fun _ => 0, ρ⟩ fun r => ∀ c : Dev nD,
      r.2.mem ((c : Thread nD τ).loc main_v125) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans ((dats m 0 c).arrAt_eq_of_cover 7 (G m c) (fun t _ => flushed m U w hU hw c t) cover), (h c).2⟩) (Value.run_blocks m ρ)

end Cert.KernelIdeal.Four

end
-- ==== Proof.FourFinite.lean ====
/-
  What the precondition says of the mixer's arguments, entry by entry: each is a real number.
-/
module

public import proofs.«01_k».proof.Proof.Gen.Pre_finite
public import proofs.«01_k».proof.Proof.Gen.ReferenceIdeal.Read
public import Idealize.ShloMosaic.Lib.ReduceAll
public import Idealize.ShloMosaic.Lib.Pointwise

@[expose] public section

noncomputable section

namespace Cert.FourFinite

open Cert.Pre_finite Cert.Pre_finite.Facts Idealize.ShloMosaic

/-- The largest pattern is the infinity. -/
theorem bits_inf : Ideal.ofBits .f32 0x7F800000#32 = ⊤ := by
  simp [Ideal.ofBits, Ideal.ieee]

/-- An entry whose size is below infinity is a real number. -/
theorem real_of_lt (x : EReal) (h : Ideal.cmp .olt (max x (-x)) ⊤ = 1#1) : x = ((x.toReal : ℝ) : EReal) := by
  have h' : max x (-x) < ⊤ := by
    by_contra hn
    simp [Ideal.cmp, hn] at h
  refine (EReal.coe_toReal ?_ ?_).symm
  · rintro rfl
    simp at h'
  · rintro rfl
    simp at h'

variable [Cert.Pre_finite.Facts]

theorem both (x0 : FVec Ideal S16384x9216 .bf16) (x1 : FVec Ideal S8x128x128 .f32) (h : fn (F := Ideal) x0 x1 = fun _ => 1#1) :
    (∀ i : S16384x1024.Idx, ((extractStridedSlice S16384x1024 ![0, 8192] x0 slices_S16384x9216_S16384x1024_0_8192) i : EReal)
        = (((((extractStridedSlice S16384x1024 ![0, 8192] x0 slices_S16384x9216_S16384x1024_0_8192) i : EReal)).toReal : ℝ) : EReal))
    ∧ ∀ i : S8x128x128.Idx, (x1 i : EReal) = (((x1 i : EReal).toReal : ℝ) : EReal) := by
  have e := congrFun h (fun a => a.elim0)
  unfold fn at e
  dsimp only at e
  obtain ⟨e0, e1⟩ := IntOp.andi_eq_one.1 e
  haveI : Subsingleton S_.Idx := ⟨fun a b => funext fun k => k.elim0⟩
  refine ⟨fun i => real_of_lt _ ?_, fun i => real_of_lt _ ?_⟩
  · rw [← bits_inf]
    exact Host.reduce_andi_all _ _ _ _ _ e0 i
  · rw [← bits_inf]
    exact Host.reduce_andi_all _ _ _ _ _ e1 i

end Cert.FourFinite

end
-- ==== Proof.Claims1.lean ====
/- The value claim of the mixer: over finite arguments both programs run, and end with the reference's transform of arguments
   that agree. -/
module

public import proofs.«01_k».proof.Defs
public import proofs.«01_k».proof.Proof.FourValue
public import proofs.«01_k».proof.Proof.FourFinite

@[expose] public section

noncomputable section

namespace Cert.Claims1

open Idealize.ShloMosaic Idealize.SL.Sem

/-- The mixer. -/
theorem algebraic1 : Cert.algebraic_KernelIdeal_ReferenceIdeal_pre_finite := by
  intro m ρ m' ρ' hpre hagree
  refine ⟨fun c => Cert.KernelIdeal.Four.G m c, Cert.KernelIdeal.Four.run m ρ
    (fun c i => (Cert.ReferenceIdeal.Read.val_main_v2 (F := Ideal) (Cert.KernelIdeal.Four.A0 m c) i : EReal).toReal)
    (fun c i => (Cert.KernelIdeal.Four.A1 m c i).toReal) (fun c i => ?_) (fun c i => (Cert.FourFinite.both _ _ (hpre c)).2 i), ?_⟩
  · rw [Cert.ReferenceIdeal.Read.val_main_v2_apply]
    exact (Cert.FourFinite.both _ _ (hpre c)).1 (Cert.ReferenceIdeal.Read.idx_main_v2 i)
  refine (θ_run Cert.ReferenceIdeal.defs _ _).mono (fun _ h c => ⟨(h c).1.trans ?_, (h c).2⟩)
    (Cert.ReferenceIdeal.Value.run (F := Ideal) m' ρ')
  obtain ⟨h0, h1⟩ := hagree c
  refine (Cert.ReferenceIdeal.Read.val_main_v35_eq ..).trans ?_
  rw [h0, h1]

end Cert.Claims1

end
-- ==== Proof.UpRun.lean ====
/- The feed-forward's first half: its body run once per case of its condition, at a row's first point (the norm of the
   row's block and of the 16 rows either side of it, then the two products, their convolutions and the gate) and at the
   others (all but the norm). -/
module

public import proofs.«01_k».proof.Proof.Gen.Kernel2Ideal.Frame
public import proofs.«01_k».proof.Proof.Gen.Kernel2Ideal.Loops
public import Idealize.ShloMosaic.Lib.Pipeline.Value
public import Idealize.ShloMosaic.Lib.Pipeline.ValueKit
public import Idealize.ShloMosaic.Lib.ValueIdxCore
public import Idealize.ShloMosaic.Lib.ValueLayoutCasts

@[expose] public section

set_option maxRecDepth 16384

noncomputable section

namespace Cert.Kernel2Ideal.Up

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The grid's row, as the body sees it. -/
abbrev rowOf (i : grid0.Coords) : BitVec 32 := BitVec.ofNat 32 (i 0).val

/-- Whether a row is the last of its sequence, as the body decides it. -/
def lastBit (a : BitVec 32) : BitVec 1 :=
  let v69 : BitVec 1 := Scalar.cmpi .eq 4#32 0#32
  let v70 : BitVec 32 := Scalar.select v69 1#32 4#32
  let v71 : BitVec 32 := Scalar.remsi a v70
  let v72 : BitVec 1 := Scalar.cmpi .ne v71 0#32
  let v73 : BitVec 1 := Scalar.cmpi .slt v71 0#32
  let v74 : BitVec 1 := Scalar.cmpi .slt v70 0#32
  let v75 : BitVec 1 := Scalar.xori v73 v74
  let v76 : BitVec 1 := Scalar.andi v75 v72
  let v77 : BitVec 32 := Scalar.addi v71 v70
  let v78 : BitVec 32 := Scalar.select v76 v77 v71
  Scalar.cmpi .eq v78 3#32

/-- Rows `128 b …` of a block of 1024 rows. -/
def rowBlk (x : Vec F S1024x2048 .f32) (b : Nat) (hb : b < 8) : Vec F S128x2048 .f32 :=
  fun j => x (Idealize.ShloMosaic.ValueIdx.ix2 ⟨128 * b + (j 0).val, by have := (j 0).isLt; change (j 0).val < 128 at this; omega⟩ (j 1))

/-- The block's own rows, normed 128 at a time. -/
def hmid (x0 : Vec F S1024x2048 .f32) (g : Vec F S1x2048 .f32) (r : Nat) (hr : r < 1024) (k : Fin 2048) : Elt F .bf16 :=
  k0_pay5 (rowBlk x0 (r / 128) (by omega)) g (Idealize.ShloMosaic.ValueIdx.ix2 ⟨r % 128, Nat.mod_lt _ (by decide)⟩ k)

/-- The scratch after a row's first point: 16 rows of the block before, the block's own, 16 of the block after. -/
def hrows (i : grid0.Coords) (x0 : Vec F S1024x2048 .f32) (xp xn : Vec F S16x2048 .f32) (g : Vec F S1x2048 .f32) : Vec F S1056x2048 .bf16 :=
  fun j => if h : (j 0).val < 16 then k0_pay3 (k0_pay2 (rowOf i) xp g) (Idealize.ShloMosaic.ValueIdx.ix2 ⟨(j 0).val, h⟩ (j 1))
    else if h' : (j 0).val < 1040 then hmid x0 g ((j 0).val - 16) (by omega) (j 1)
    else k0_pay4 (lastBit (rowOf i)) xn g (Idealize.ShloMosaic.ValueIdx.ix2 ⟨(j 0).val - 1040, by have := (j 0).isLt; change (j 0).val < 1056 at this; omega⟩ (j 1))

/-- A row of a tap table. -/
abbrev tap0 (w : Vec F S3x512 .f32) : Vec F S1x512 .f32 := View.ld w (Rect.unit (s := S3x512) ![0, 0] S1x512.size inb_S3x512_S1x512_0_0)
abbrev tap1 (w : Vec F S3x512 .f32) : Vec F S1x512 .f32 := View.ld w (Rect.unit (s := S3x512) ![1, 0] S1x512.size inb_S3x512_S1x512_1_0)
abbrev tap2 (w : Vec F S3x512 .f32) : Vec F S1x512 .f32 := View.ld w (Rect.unit (s := S3x512) ![2, 0] S1x512.size inb_S3x512_S1x512_2_0)

/-- What a point stores: the gate's branch times the value's. -/
def outval (s : Vec F S1056x2048 .bf16) (w6 w7 : Vec F S2048x512 .f32) (w8 w9 : Vec F S3x512 .f32) (w10 w11 : Vec F S1x512 .f32) : Vec F S1024x512 .bf16 :=
  k0_pay1 (k0_pay6 s w6 (tap1 w8) w10 (tap0 w8) (tap2 w8)) (k0_pay7 s w7) (k0_pay8 s w7) (k0_pay9 (tap1 w9)) w11 (tap0 w9) (tap2 w9)

theorem trips_eq : k0_t1_loop.trips = 8 := by decide +kernel

theorem rowBlk_ld (k : Fin k0_t1_loop.trips) (inb) (x : Vec F S1024x2048 .f32) (hk : k.val < 8) :
    View.ld x (Rect.unit (s := S1024x2048) (k0_off1 k) S128x2048.size inb) = rowBlk x k.val hk := by
  funext j
  unfold rowBlk
  refine View.ld_unit_apply_of x _ _ _ j _ fun a => ?_
  have e := congrFun (k0_off1_eq k) a
  refine Eq.trans ?_ (congrArg (· + (j a).val) e.symm)
  match a with
  | ⟨0, _⟩ => rfl
  | ⟨1, _⟩ => exact (Nat.zero_add _).symm

theorem rows_eq (i : grid0.Coords) (x0 : Vec F S1024x2048 .f32) (xp xn : Vec F S16x2048 .f32) (g : Vec F S1x2048 .f32) (k : Fin k0_t1_loop.trips) (hk : k.val < 8) (inb)
    (x : (Rect.unit (s := S1056x2048) (k0_off2 k) S128x2048.size inb).shape.Idx) :
    k0_pay5 (rowBlk x0 k.val hk) g x = hrows i x0 xp xn g ((Rect.unit (s := S1056x2048) (k0_off2 k) S128x2048.size inb).emb x) := by
  have hx : (x 0).val < 128 := (x 0).isLt
  have e0 : ((Rect.unit (s := S1056x2048) (k0_off2 k) S128x2048.size inb).emb x 0).val = 128 * k.val + 16 + (x 0).val := by
    rw [Rect.emb_apply]; simp only [Rect.off_unit, Rect.stride_unit, Nat.one_mul, k0_off2_eq]; rfl
  have e1 : ((Rect.unit (s := S1056x2048) (k0_off2 k) S128x2048.size inb).emb x 1).val = (x 1).val := by
    rw [Rect.emb_apply]; simp only [Rect.off_unit, Rect.stride_unit, Nat.one_mul, k0_off2_eq]; exact Nat.zero_add _
  unfold hrows
  rw [dif_neg (by rw [e0]; omega), dif_pos (by rw [e0]; omega)]
  unfold hmid
  have hd : (((Rect.unit (s := S1056x2048) (k0_off2 k) S128x2048.size inb).emb x 0).val - 16) / 128 = k.val := by rw [e0]; omega
  have hm : (((Rect.unit (s := S1056x2048) (k0_off2 k) S128x2048.size inb).emb x 0).val - 16) % 128 = (x 0).val := by rw [e0]; omega
  have hb : ∀ (b : Nat) (hb : b < 8), b = k.val → rowBlk x0 b hb = rowBlk x0 k.val hk := fun b hb e => by subst e; rfl
  rw [hb _ _ hd]
  congr 1
  funext a
  apply Fin.ext
  match a with
  | ⟨0, _⟩ => exact hm.symm
  | ⟨1, _⟩ => exact e1.symm

/-- What trip `k` of the loop writes: 128 of the normed rows. -/
theorem tripL_eq (𝒱 : Variants) (c : Dev nD) (bd : Option 𝒱.V) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (k0_h1 : k0_cond1 i = 1#1)
    (x0 : Vec F S1024x2048 .f32) (g : Vec F S1x2048 .f32) (k : Fin k0_t1_loop.trips) (hk : k.val < 8) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) k
      = [⟨Rect.unit (s := S1056x2048) (k0_off2 k) S128x2048.size (k0_off2_inb i k k0_h1), k0_pay5 (rowBlk x0 k.val hk) g⟩] := by
  unfold tripL_k0_t1 trip_k0_t1
  dsimp only
  simp only [View.readAt_eq_ld, harg2.read_unread, harg5.read_unread, View.ld_unit_zero (S := S1x2048) hz2]
  rw [rowBlk_ld k _ x0 hk]

theorem pieces (𝒱 : Variants) (c : Dev nD) (bd : Option 𝒱.V) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (k0_h1 : k0_cond1 i = 1#1)
    (x0 : Vec F S1024x2048 .f32) (g : Vec F S1x2048 .f32) (xp xn : Vec F S16x2048 .f32) (n : Nat) (hn : n ≤ k0_t1_loop.trips) :
    (∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) n, ∀ x : p.1.shape.Idx, p.2 x = hrows i x0 xp xn g (p.1.emb x))
      ∧ ∀ y : S1056x2048.Idx, 16 ≤ (y 0).val → (y 0).val < 128 * n + 16 → ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) n, y ∈ p.1.set := by
  induction n with
  | zero => exact ⟨fun p hp => by rw [pb_k0_t1.eq_1] at hp; simp at hp, fun y hy hy' => by omega⟩
  | succ n ih =>
    have hk : n < 8 := Nat.lt_of_lt_of_le hn k0_t1_abs.2.1
    obtain ⟨h1, h2⟩ := ih (by omega)
    rw [pb_k0_t1_succ (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) ⟨n, hn⟩, tripL_eq (F := F) 𝒱 c bd i arg2 harg2 arg3 harg3 arg4 harg4 arg5 harg5 arg6 harg6 arg7 harg7 arg8 harg8 arg9 harg9 arg10 harg10 arg11 harg11 arg12 harg12 arg13 harg13 k0_h1 x0 g ⟨n, hn⟩ hk]
    refine ⟨fun p hp => ?_, fun y hlo hy => ?_⟩
    · rcases List.mem_cons.mp hp with rfl | hp
      · intro x
        exact rows_eq i x0 xp xn g ⟨n, hn⟩ hk (k0_off2_inb i ⟨n, hn⟩ k0_h1) x
      · exact h1 p hp
    · by_cases hlt : (y 0).val < 128 * n + 16
      · obtain ⟨p, hp, hy'⟩ := h2 y hlo hlt
        exact ⟨p, List.mem_cons_of_mem _ hp, hy'⟩
      · refine ⟨_, List.mem_cons_self, ?_⟩
        rw [Rect.mem_set_unit, k0_off2_eq]
        intro a
        match a with
        | ⟨0, _⟩ =>
          show 128 * n + 16 ≤ (y 0).val ∧ (y 0).val < 128 * n + 16 + 128
          omega
        | ⟨1, _⟩ =>
          have := (y 1).isLt
          exact ⟨Nat.zero_le _, by change (y 1).val < 0 + 2048; change (y 1).val < 2048 at this; omega⟩

/-- The body's decision, as its run leaves it. -/
theorem lastBit_eq (i : grid0.Coords) :
    Scalar.cmpi CmpIPredicate.eq (Scalar.select (Scalar.andi (Scalar.xori (Scalar.cmpi CmpIPredicate.slt (Scalar.remsi (BitVec.ofNat 32 (i 0).val) 4#32) 0#32) 0#1)
      (Scalar.cmpi CmpIPredicate.ne (Scalar.remsi (BitVec.ofNat 32 (i 0).val) 4#32) 0#32)) (Scalar.addi (Scalar.remsi (BitVec.ofNat 32 (i 0).val) 4#32) 4#32)
      (Scalar.remsi (BitVec.ofNat 32 (i 0).val) 4#32)) 3#32 = lastBit (rowOf i) := rfl

/-- The two stores made before the loop. -/
abbrev ends (i : grid0.Coords) (xp xn : Vec F S16x2048 .f32) (g : Vec F S1x2048 .f32) : List (View.Piece (Elt F) S1056x2048 .bf16) :=
  [⟨Rect.unit (s := S1056x2048) ![1040, 0] S16x2048.size inb_S1056x2048_S16x2048_1040_0, k0_pay4 (lastBit (rowOf i)) xn g⟩,
   ⟨Rect.unit (s := S1056x2048) ![0, 0] S16x2048.size inb_S1056x2048_S16x2048_0_0, k0_pay3 (k0_pay2 (rowOf i) xp g)⟩]

theorem ends_agree (i : grid0.Coords) (x0 : Vec F S1024x2048 .f32) (xp xn : Vec F S16x2048 .f32) (g : Vec F S1x2048 .f32) :
    ∀ p ∈ ends i xp xn g, ∀ x : p.1.shape.Idx, p.2 x = hrows i x0 xp xn g (p.1.emb x) := by
  simp only [List.forall_mem_cons]
  refine ⟨fun x => ?_, fun x => ?_, fun p hp => absurd hp List.not_mem_nil⟩
  · have hx : (x 0).val < 16 := (x 0).isLt
    have e0 : ((Rect.unit (s := S1056x2048) ![1040, 0] S16x2048.size inb_S1056x2048_S16x2048_1040_0).emb x 0).val = 1040 + (x 0).val := by
      rw [Rect.emb_apply]; simp only [Rect.off_unit, Rect.stride_unit, Nat.one_mul]; rfl
    unfold hrows
    rw [dif_neg (by rw [e0]; omega), dif_neg (by rw [e0]; omega)]
    congr 1
    funext a
    apply Fin.ext
    match a with
    | ⟨0, _⟩ => show (x 0).val = _ - 1040; rw [e0]; omega
    | ⟨1, _⟩ => show (x 1).val = ((Rect.unit (s := S1056x2048) ![1040, 0] S16x2048.size inb_S1056x2048_S16x2048_1040_0).emb x 1).val; rw [Rect.emb_apply]; show _ = 0 + 1 * (x 1).val; omega
  · have hx : (x 0).val < 16 := (x 0).isLt
    have e0 : ((Rect.unit (s := S1056x2048) ![0, 0] S16x2048.size inb_S1056x2048_S16x2048_0_0).emb x 0).val = (x 0).val := by
      rw [Rect.emb_apply]; show 0 + 1 * (x 0).val = _; omega
    unfold hrows
    rw [dif_pos (by rw [e0]; omega)]
    congr 1
    funext a
    apply Fin.ext
    match a with
    | ⟨0, _⟩ => exact e0.symm
    | ⟨1, _⟩ => show (x 1).val = ((Rect.unit (s := S1056x2048) ![0, 0] S16x2048.size inb_S1056x2048_S16x2048_0_0).emb x 1).val; rw [Rect.emb_apply]; show _ = 0 + 1 * (x 1).val; omega

theorem ends_cover (i : grid0.Coords) (xp xn : Vec F S16x2048 .f32) (g : Vec F S1x2048 .f32) (y : S1056x2048.Idx) (hy : (y 0).val < 16 ∨ 1040 ≤ (y 0).val) :
    ∃ p ∈ ends i xp xn g, y ∈ p.1.set := by
  have h0 : (y 0).val < 1056 := (y 0).isLt
  have h1 : (y 1).val < 2048 := (y 1).isLt
  rcases hy with hy | hy
  · refine ⟨_, List.mem_cons_of_mem _ List.mem_cons_self, ?_⟩
    rw [Rect.mem_set_unit]
    intro a
    match a with
    | ⟨0, _⟩ => exact ⟨Nat.zero_le _, by change (y 0).val < 0 + 16; omega⟩
    | ⟨1, _⟩ => exact ⟨Nat.zero_le _, by change (y 1).val < 0 + 2048; omega⟩
  · refine ⟨_, List.mem_cons_self, ?_⟩
    rw [Rect.mem_set_unit]
    intro a
    match a with
    | ⟨0, _⟩ => exact ⟨hy, by change (y 0).val < 1040 + 16; omega⟩
    | ⟨1, _⟩ => exact ⟨Nat.zero_le _, by change (y 1).val < 0 + 2048; omega⟩

/-- The scratch read back after the loop. -/
theorem read_pieces (𝒱 : Variants) (c : Dev nD) (bd : Option 𝒱.V) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole) (k0_h1 : k0_cond1 i = 1#1)
    (x0 : Vec F S1024x2048 .f32) (g : Vec F S1x2048 .f32) (xp xn : Vec F S16x2048 .f32) (f : BufTy.Contents (Elt F) arg13.view.ty) :
    arg13.view.read (Elt F) (arg13.view.writes (Elt F) f (pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) (Scf.trips (0#32) (Scalar.addi 0#32 8#32) 1#32) ++ ends i xp xn g)) = hrows i x0 xp xn g := by
  obtain ⟨h1, h2⟩ := pieces (F := F) 𝒱 c bd i arg2 harg2 arg3 harg3 arg4 harg4 arg5 harg5 arg6 harg6 arg7 harg7 arg8 harg8 arg9 harg9 arg10 harg10 arg11 harg11 arg12 harg12 arg13 harg13 k0_h1 x0 g xp xn k0_t1_loop.trips le_rfl
  have h1' : ∀ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) k0_t1_loop.trips ++ ends i xp xn g, ∀ x : p.1.shape.Idx, p.2 x = hrows i x0 xp xn g (p.1.emb x) := fun p hp =>
    (List.mem_append.mp hp).elim (h1 p) (ends_agree i x0 xp xn g p)
  have hc : ∀ y, ∃ p ∈ pb_k0_t1 (F := F) 𝒱 c bd i arg2 harg2 arg3 harg3 arg4 harg4 arg5 harg5 arg6 harg6 arg7 harg7 arg8 harg8 arg9 harg9 arg10 harg10 arg11 harg11 arg12 harg12 arg13 harg13 k0_h1 (harg2.unread x0) (harg5.unread g) k0_t1_loop.trips ++ ends i xp xn g, y ∈ p.1.set := fun y => by
    by_cases hlo : (y 0).val < 16
    · obtain ⟨p, hp, hy⟩ := ends_cover i xp xn g y (Or.inl hlo); exact ⟨p, List.mem_append_right _ hp, hy⟩
    by_cases hhi : 1040 ≤ (y 0).val
    · obtain ⟨p, hp, hy⟩ := ends_cover i xp xn g y (Or.inr hhi); exact ⟨p, List.mem_append_right _ hp, hy⟩
    obtain ⟨p, hp, hy⟩ := h2 y (by omega) (by rw [trips_eq]; omega)
    exact ⟨p, List.mem_append_left _ hp, hy⟩
  refine (View.read_writes_eq_canon _ _ _ hc).trans ?_
  funext y
  exact View.canon_apply_of_pieces (hrows i x0 xp xn g) _ h1' y (hc y)

set_option maxHeartbeats 1000000 in
/-- A point past a row's first: the scratch is as it was. -/
theorem runB (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole)
    (hc : ¬ k0_cond1 i = 1#1) (w6 w7 : Vec F S2048x512 .f32) (w8 w9 : Vec F S3x512 .f32) (w10 w11 : Vec F S1x512 .f32) (s : Vec F S1056x2048 .bf16) (E : Set ℕ) (K : PUnit → sProp 𝕄) :
        iprop(owns (c : Thread nD τ) arg6 fullShare w6 ∗ owns (c : Thread nD τ) arg7 fullShare w7 ∗ owns (c : Thread nD τ) arg8 fullShare w8 ∗ owns (c : Thread nD τ) arg9 fullShare w9 ∗ owns (c : Thread nD τ) arg10 fullShare w10 ∗ owns (c : Thread nD τ) arg11 fullShare w11 ∗ (∃ d, owns (c : Thread nD τ) arg12 fullShare d) ∗ owns (c : Thread nD τ) arg13 fullShare s
            ∗ (iprop(owns (c : Thread nD τ) arg6 fullShare w6 ∗ owns (c : Thread nD τ) arg7 fullShare w7 ∗ owns (c : Thread nD τ) arg8 fullShare w8 ∗ owns (c : Thread nD τ) arg9 fullShare w9 ∗ owns (c : Thread nD τ) arg10 fullShare w10 ∗ owns (c : Thread nD τ) arg11 fullShare w11 ∗ owns (c : Thread nD τ) arg12 fullShare (outval s w6 w7 w8 w9 w10 w11) ∗ owns (c : Thread nD τ) arg13 fullShare s) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K := by
  simp only [cc0_ffn_up_eq_skeleton]; unfold cc0_ffn_up_skel
  simp only [k0_part2_eq_skeleton]; unfold k0_part2_skel
  simp only [k0_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%fs, %hfs, HS⟩, Hk⟩
  obtain rfl := harg6.eq_unread hf6; obtain rfl := harg7.eq_unread hf7; obtain rfl := harg8.eq_unread hf8; obtain rfl := harg9.eq_unread hf9; obtain rfl := harg10.eq_unread hf10; obtain rfl := harg11.eq_unread hf11
  obtain rfl := harg13.eq_unread hfs
  sl_exec
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_words
    rw [View.read_writes_eq_canon _ _ _ (fun y => ⟨_, List.mem_singleton_self _, View.mem_set_unit_zero hz2 inb_S1024x512_S1024x512_0_0 y⟩), View.canon_unit_zero hz2]
    simp only [View.readAt_eq_ld, harg6.read_unread, harg7.read_unread, harg8.read_unread, harg9.read_unread, harg10.read_unread, harg11.read_unread, harg13.read_unread, View.ld_unit_zero (S := S1056x2048) hz2, View.ld_unit_zero (S := S2048x512) hz2, View.ld_unit_zero (S := S1x512) hz2, View.ld_unit_zero (S := S16x2048) hz2, View.ld_unit_zero (S := S1x2048) hz2]
    rfl
  iexists _; isplitr; · ipureintro; exact harg13.read_unread _
  iexact HS

set_option maxHeartbeats 4000000 in
/-- A row's first point: the scratch is filled, then as at the others. -/
theorem runA (c : Dev nD) (i : grid0.Coords) (arg2 : Memref sig .tc .vmem S1024x2048 .f32) (harg2 : arg2.IsWhole) (arg3 : Memref sig .tc .vmem S16x2048 .f32) (harg3 : arg3.IsWhole) (arg4 : Memref sig .tc .vmem S16x2048 .f32) (harg4 : arg4.IsWhole) (arg5 : Memref sig .tc .vmem S1x2048 .f32) (harg5 : arg5.IsWhole) (arg6 : Memref sig .tc .vmem S2048x512 .f32) (harg6 : arg6.IsWhole) (arg7 : Memref sig .tc .vmem S2048x512 .f32) (harg7 : arg7.IsWhole) (arg8 : Memref sig .tc .vmem S3x512 .f32) (harg8 : arg8.IsWhole) (arg9 : Memref sig .tc .vmem S3x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1024x512 .bf16) (harg12 : arg12.IsWhole) (arg13 : Memref sig .tc .vmem S1056x2048 .bf16) (harg13 : arg13.IsWhole)
    (hc : k0_cond1 i = 1#1) (x0 : Vec F S1024x2048 .f32) (xp xn : Vec F S16x2048 .f32) (g : Vec F S1x2048 .f32) (w6 w7 : Vec F S2048x512 .f32) (w8 w9 : Vec F S3x512 .f32) (w10 w11 : Vec F S1x512 .f32) (E : Set ℕ) (K : PUnit → sProp 𝕄) :
        iprop(owns (c : Thread nD τ) arg2 fullShare x0 ∗ owns (c : Thread nD τ) arg3 fullShare xp ∗ owns (c : Thread nD τ) arg4 fullShare xn ∗ owns (c : Thread nD τ) arg5 fullShare g ∗ owns (c : Thread nD τ) arg6 fullShare w6 ∗ owns (c : Thread nD τ) arg7 fullShare w7 ∗ owns (c : Thread nD τ) arg8 fullShare w8 ∗ owns (c : Thread nD τ) arg9 fullShare w9 ∗ owns (c : Thread nD τ) arg10 fullShare w10 ∗ owns (c : Thread nD τ) arg11 fullShare w11 ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare xp ∗ owns (c : Thread nD τ) arg4 fullShare xn ∗ owns (c : Thread nD τ) arg5 fullShare g ∗ owns (c : Thread nD τ) arg6 fullShare w6 ∗ owns (c : Thread nD τ) arg7 fullShare w7 ∗ owns (c : Thread nD τ) arg8 fullShare w8 ∗ owns (c : Thread nD τ) arg9 fullShare w9 ∗ owns (c : Thread nD τ) arg10 fullShare w10 ∗ owns (c : Thread nD τ) arg11 fullShare w11 ∗ owns (c : Thread nD τ) arg12 fullShare (outval (hrows i x0 xp xn g) w6 w7 w8 w9 w10 w11) ∗ owns (c : Thread nD τ) arg13 fullShare (hrows i x0 xp xn g)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9 arg10 harg10 arg11 harg11 arg12 harg12 arg13 harg13) K := by
  simp only [cc0_ffn_up_eq_skeleton]; unfold cc0_ffn_up_skel
  simp only [k0_part2_eq_skeleton]; unfold k0_part2_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%ds, %fs, -, HS⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11
  sl_exec
  simp only [bind_assoc]
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; · ipureintro; exact harg11.read_unread _
    iexact H11
  isplitl [H12]
  · iexists _; isplitr; swap; · iexact H12
    ipureintro
    sl_unfold_words
    rw [View.read_writes_eq_canon _ _ _ (fun y => ⟨_, List.mem_singleton_self _, View.mem_set_unit_zero hz2 inb_S1024x512_S1024x512_0_0 y⟩), View.canon_unit_zero hz2]
    simp only [View.readAt_eq_ld, harg2.read_unread, harg3.read_unread, harg4.read_unread, harg5.read_unread, harg6.read_unread, harg7.read_unread, harg8.read_unread, harg9.read_unread, harg10.read_unread, harg11.read_unread, lastBit_eq, View.ld_unit_zero (S := S1056x2048) hz2, View.ld_unit_zero (S := S2048x512) hz2, View.ld_unit_zero (S := S1x512) hz2, View.ld_unit_zero (S := S16x2048) hz2, View.ld_unit_zero (S := S1x2048) hz2]
    exact congrArg (fun s => outval s w6 w7 w8 w9 w10 w11) (read_pieces Variants.none c none i arg2 harg2 arg3 harg3 arg4 harg4 arg5 harg5 arg6 harg6 arg7 harg7 arg8 harg8 arg9 harg9 arg10 harg10 arg11 harg11 arg12 harg12 arg13 harg13 hc x0 g xp xn fs)
  iexists _; isplitr; swap; · iexact HS
  ipureintro
  sl_unfold_words
  simp only [View.readAt_eq_ld, harg3.read_unread, harg4.read_unread, harg5.read_unread, View.ld_unit_zero (S := S16x2048) hz2, View.ld_unit_zero (S := S1x2048) hz2]
  exact read_pieces _ _ _ _ _ _ _ _ _ _ _ _ _ _ _ _ _ _ _ _ _ _ _ _ _ _ _ _ _ _ _ _ _ _

end Cert.Kernel2Ideal.Up

end
-- ==== Proof.UpFrame.lean ====
/- The frame of the feed-forward's first half: what the scratch holds between points, the body obligation by the two
   runs, the launch. -/
module

public import proofs.«01_k».proof.Proof.UpRun

@[expose] public section

set_option maxRecDepth 16384

noncomputable section

namespace Cert.Kernel2Ideal.Up

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row of points that point `n` is in. -/
def rowPt (n : Nat) : Fin cfg0.N := ⟨11 * (n / 11) % 176, Nat.lt_of_lt_of_eq (Nat.mod_lt _ (by decide)) N_0.symm⟩

theorem rowPt_self (t : Fin cfg0.N) (h : t.val % 11 = 0) : rowPt t.val = t := by
  have := Nat.lt_of_lt_of_eq t.isLt N_0
  apply Fin.ext
  show 11 * (t.val / 11) % 176 = t.val
  omega

theorem rowPt_congr {n k : Nat} (h : n / 11 = k / 11) : rowPt n = rowPt k := by unfold rowPt; simp only [h]

/-- What the scratch holds after the first point of point `n`'s row. -/
def hrow (c : Dev nD) (n : Nat) : Vec F S1056x2048 .bf16 :=
  hrows (grid0.coords (rowPt n)) (iblk m c 0 (rowPt n)) (iblk m c 1 (rowPt n)) (iblk m c 2 (rowPt n)) (iblk m c 3 (rowPt n))

/-- What point `t` stores. -/
def outAt (c : Dev nD) (t : Fin cfg0.N) : Vec F S1024x512 .bf16 :=
  outval (hrow m c t.val) (iblk m c 4 t) (iblk m c 5 t) (iblk m c 6 t) (iblk m c 7 t) (iblk m c 8 t) (iblk m c 9 t)

/-- The scratch, as the body is handed it. -/
abbrev scM : Memref sig .tc .vmem S1056x2048 .bf16 := Memref.whole cc0_scratch0

/-- Between points: past a row's first point the scratch holds the row's normed rows. -/
def Phi (c : Dev nD) (n : Nat) : sProp 𝕄 :=
  iprop((∃ s, ⌜n % 11 ≠ 0 → s = hrow m c n⌝ ∗ owns (c : Thread nD τ) scM fullShare s) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => outAt m c t
  Φ t := Phi m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- The condition is that the point is a row's first. -/
theorem cond_iff : ∀ t : Fin cfg0.N, k0_cond1 (grid0.coords t) = 1#1 ↔ t.val % 11 = 0 :=
  (by decide +kernel : ∀ t : Fin grid0.N, k0_cond1 (grid0.coords t) = 1#1 ↔ t.val % 11 = 0)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

set_option maxHeartbeats 1600000 in
/-- The body at a row's first point. -/
theorem sound_A (c : Dev nD) (t : Fin cfg0.N) (h : t.val % 11 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [Phi_castSucc, Phi_succ, show (dats m 0 c).owesAt () t.succ = (dats m 0 c).owesAt () t.castSucc from rfl,
    after0_0, after0_1, after0_2, after0_3, after0_4, after0_5, after0_6, after0_7, after0_8, after0_9, after0_10]
  have hs : (t.val + 1) % 11 ≠ 0 → hrow m c t.val = hrow m c (t.val + 1) := fun _ => by
    unfold hrow; rw [rowPt_congr (show t.val / 11 = (t.val + 1) / 11 by omega)]
  have hr : hrow m c t.val = hrows (grid0.coords t) (iblk m c 0 t) (iblk m c 1 t) (iblk m c 2 t) (iblk m c 3 t) := by unfold hrow; rw [rowPt_self t h]
  unfold Phi
  iintro ⟨⟨⟨%s, -, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (runA c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) scM (Memref.isWhole_whole _) ((cond_iff t).mpr h) (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS]; · iexists _; iexact HS
  rw [← hr]
  iintro ⟨H0, H1, H2, H3, H4, H5, H6, H7, H8, H9, H10, HS⟩
  isplitl [HS Hg]
  · isplitl [HS]
    · iexists _; isplitr
      swap; · iexact HS
      ipureintro; exact hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 1600000 in
/-- The body past a row's first point. -/
theorem sound_B (c : Dev nD) (t : Fin cfg0.N) (h : t.val % 11 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [Phi_castSucc, Phi_succ, show (dats m 0 c).owesAt () t.succ = (dats m 0 c).owesAt () t.castSucc from rfl,
    after0_0, after0_1, after0_2, after0_3, after0_4, after0_5, after0_6, after0_7, after0_8, after0_9, after0_10]
  have hs : (t.val + 1) % 11 ≠ 0 → hrow m c t.val = hrow m c (t.val + 1) := fun _ => by
    unfold hrow; rw [rowPt_congr (show t.val / 11 = (t.val + 1) / 11 by omega)]
  unfold Phi
  iintro ⟨⟨⟨%s, %hs0, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain rfl := hs0 h
  iapply (runB c (grid0.coords t) (st0_0 t) (hstage0_0 _) (st0_1 t) (hstage0_1 _) (st0_2 t) (hstage0_2 _) (st0_3 t) (hstage0_3 _) (st0_4 t) (hstage0_4 _) (st0_5 t) (hstage0_5 _) (st0_6 t) (hstage0_6 _) (st0_7 t) (hstage0_7 _) (st0_8 t) (hstage0_8 _) (st0_9 t) (hstage0_9 _) (st0_10 t) (hstage0_10 _) scM (Memref.isWhole_whole _) (fun e => h ((cond_iff t).mp e)) (iblk m c 4 t) (iblk m c 5 t) (iblk m c 6 t) (iblk m c 7 t) (iblk m c 8 t) (iblk m c 9 t) (hrow m c t.val) Set.univ _)
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [HS]; · iexact HS
  iintro ⟨H4, H5, H6, H7, H8, H9, H10, HS⟩
  isplitl [HS Hg]
  · isplitl [HS]
    · iexists _; isplitr
      swap; · iexact HS
      ipureintro; exact hs
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have hb : bodyPre m c t ⊢ wp frame (wpE (defs₀ (F := F)) Variants.none c none) Set.univ (bodyAt0 t) (fun _ => bodyPost m c t) := by
    by_cases h : t.val % 11 = 0
    · exact sound_A m c t h
    · exact sound_B m c t h
  exact triple_restated hb rfl .rfl fun _ => .rfl

theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

theorem Phi_in (c : Dev nD) : (Pipeline.ΦA spec0 c : sProp 𝕄) ⊢ Phi m c 0 := by
  rw [PhiA0_eq]; unfold Phi
  iintro ⟨⟨%d, HS⟩, Hg⟩
  isplitl [HS]
  · iexists d; isplitr
    · ipureintro; exact fun h => absurd rfl h
    iexact HS
  iexact Hg

theorem Phi_out (c : Dev nD) (n : Nat) : Phi m c n ⊢ (Pipeline.ΦA spec0 c : sProp 𝕄) := by
  rw [PhiA0_eq]; unfold Phi
  iintro ⟨⟨%d, -, HS⟩, Hg⟩
  isplitl [HS]
  · iexists d; iexact HS
  iexact Hg

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun c w _ => rfl)
    (howed := fun _ _ => rfl) (V := V m) (hmain := hmain m Variants.none) (hA := A_eq m)
    (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame2 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel2Ideal.Up

end
-- ==== Proof.UpValue.lean ====
/-
  The feed-forward's first half: what its result array holds after the run, and that it is the reference's
  convolved, gated product of the same arguments.
-/
module

public import proofs.«01_k».proof.Proof.Mats
public import proofs.«01_k».proof.Proof.UpFrame
public import Idealize.ShloMosaic.Lib.KernelVsHost
public import Idealize.ShloMosaic.Lib.IdealHost
public import proofs.«01_k».proof.Proof.Gen.Reference2Ideal.Run
public import proofs.«01_k».proof.Proof.Gen.Reference2Ideal.Read

@[expose] public section

set_option maxRecDepth 16384

noncomputable section

namespace Cert.Kernel2Ideal.Up

open Cert.Kernel2Ideal Cert.Kernel2Ideal.Gen Idealize.ShloMosaic Idealize.ShloMosaic.TcCoe Idealize.SL.Sem
open Cert.Mats (rms rms_apply mm_apply)
open Idealize.ShloMosaic.Pipeline (Dat)

variable (m : (ℓ : Loc nD τ sig) → Buf (Elt Ideal) ℓ) (ρ : Dev nD → PrngReg)

/-- The rows to be normed. -/
abbrev A0 (c : Dev nD) : S16384x2048.Idx → EReal := m ((c : Thread nD τ).loc main_arg0)
/-- The gain. -/
abbrev A1 (c : Dev nD) : S1x2048.Idx → EReal := m ((c : Thread nD τ).loc main_arg1)
/-- The weights. -/
abbrev A2 (c : Dev nD) : S2048x11264.Idx → EReal := m ((c : Thread nD τ).loc main_arg2)
/-- The convolution's taps. -/
abbrev A3 (c : Dev nD) : S3x11264.Idx → EReal := m ((c : Thread nD τ).loc main_arg3)
/-- The convolution's bias. -/
abbrev A4 (c : Dev nD) : S1x11264.Idx → EReal := m ((c : Thread nD τ).loc main_arg4)

/-- The reference's result of core `c`'s five arguments. -/
abbrev G (c : Dev nD) : Buf (Elt Ideal) ((c : Thread nD τ).loc main_v0) :=
  Cert.Reference2Ideal.Read.val_main_v44 (F := Ideal) (A0 m c) (A1 m c) (A2 m c) (A3 m c) (A4 m c)

/-- One place of the normed rows. -/
def nrm (c : Dev nD) (r : Fin 16384) (k : Fin 2048) : EReal := rms (fun j => A0 m c (ix2 r j)) k * A1 m c (ix2 0 k)

/-- One place of the product. -/
def up (c : Dev nD) (r : Fin 16384) (q : Fin 11264) : EReal := ∑ k : Fin 2048, nrm m c r k * A2 m c (ix2 k q)

/-- The product a row before, in the same sequence; zero at a sequence's start. -/
def prev (c : Dev nD) (r : Fin 16384) (q : Fin 11264) : EReal :=
  if r.val % 4096 = 0 then 0 else up m c ⟨r.val - 1, by have := r.isLt; omega⟩ q

/-- The product a row after, in the same sequence; zero at a sequence's end. -/
def next (c : Dev nD) (r : Fin 16384) (q : Fin 11264) : EReal :=
  if h : r.val % 4096 = 4095 then 0 else up m c ⟨r.val + 1, by have := r.isLt; omega⟩ q

/-- The convolution along the sequence. -/
def cv (c : Dev nD) (r : Fin 16384) (q : Fin 11264) : EReal :=
  prev m c r q * A3 m c (ix2 0 q) + up m c r q * A3 m c (ix2 1 q) + next m c r q * A3 m c (ix2 2 q) + A4 m c (ix2 0 q)

/-- The gate's function. -/
def silu (x : EReal) : EReal := x * Ideal.div 1 (1 + Ideal.exp (-x))

theorem lt_N (t : Fin cfg0.N) : t.val < 176 := lt_of_lt_of_eq t.isLt N_0

theorem idx0 (t : Fin cfg0.N) : win0_0.index t 0 = t.val / 11 ∧ win0_0.index t 1 = 0 :=
  (by decide +kernel : ∀ t : Fin grid0.N, win0_0.index t 0 = t.val / 11 ∧ win0_0.index t 1 = 0) t
theorem idx1 (t : Fin cfg0.N) : win0_1.index t 0 = t.val / 11 * 64 - 1 ∧ win0_1.index t 1 = 0 :=
  (by decide +kernel : ∀ t : Fin grid0.N, win0_1.index t 0 = t.val / 11 * 64 - 1 ∧ win0_1.index t 1 = 0) t
theorem idx2 (t : Fin cfg0.N) : win0_2.index t 0 = min ((t.val / 11 + 1) * 64) 1023 ∧ win0_2.index t 1 = 0 :=
  (by decide +kernel : ∀ t : Fin grid0.N, win0_2.index t 0 = min ((t.val / 11 + 1) * 64) 1023 ∧ win0_2.index t 1 = 0) t
theorem idx3 (t : Fin cfg0.N) : win0_3.index t 0 = 0 ∧ win0_3.index t 1 = 0 :=
  (by decide +kernel : ∀ t : Fin grid0.N, win0_3.index t 0 = 0 ∧ win0_3.index t 1 = 0) t
theorem idx4 (t : Fin cfg0.N) : win0_4.index t 0 = 0 ∧ win0_4.index t 1 = t.val % 11 :=
  (by decide +kernel : ∀ t : Fin grid0.N, win0_4.index t 0 = 0 ∧ win0_4.index t 1 = t.val % 11) t
theorem idx5 (t : Fin cfg0.N) : win0_5.index t 0 = 0 ∧ win0_5.index t 1 = t.val % 11 + 11 :=
  (by decide +kernel : ∀ t : Fin grid0.N, win0_5.index t 0 = 0 ∧ win0_5.index t 1 = t.val % 11 + 11) t
theorem idx6 (t : Fin cfg0.N) : win0_6.index t 0 = 0 ∧ win0_6.index t 1 = t.val % 11 :=
  (by decide +kernel : ∀ t : Fin grid0.N, win0_6.index t 0 = 0 ∧ win0_6.index t 1 = t.val % 11) t
theorem idx7 (t : Fin cfg0.N) : win0_7.index t 0 = 0 ∧ win0_7.index t 1 = t.val % 11 + 11 :=
  (by decide +kernel : ∀ t : Fin grid0.N, win0_7.index t 0 = 0 ∧ win0_7.index t 1 = t.val % 11 + 11) t
theorem idx8 (t : Fin cfg0.N) : win0_8.index t 0 = 0 ∧ win0_8.index t 1 = t.val % 11 :=
  (by decide +kernel : ∀ t : Fin grid0.N, win0_8.index t 0 = 0 ∧ win0_8.index t 1 = t.val % 11) t
theorem idx9 (t : Fin cfg0.N) : win0_9.index t 0 = 0 ∧ win0_9.index t 1 = t.val % 11 + 11 :=
  (by decide +kernel : ∀ t : Fin grid0.N, win0_9.index t 0 = 0 ∧ win0_9.index t 1 = t.val % 11 + 11) t
theorem idx10 (t : Fin cfg0.N) : win0_10.index t 0 = t.val / 11 ∧ win0_10.index t 1 = t.val % 11 :=
  (by decide +kernel : ∀ t : Fin grid0.N, win0_10.index t 0 = t.val / 11 ∧ win0_10.index t 1 = t.val % 11) t

/-- Row `r` of the block of rows of point `t`, as a row of the whole array. -/
def row (t : Fin cfg0.N) (r : Fin 1024) : Fin 16384 := ⟨t.val / 11 * 1024 + r.val, by have := lt_N t; have := r.isLt; omega⟩

/-- The gate's and the value's columns of point `t`. -/
def colg (t : Fin cfg0.N) (k : Fin 512) : Fin 11264 := ⟨t.val % 11 * 512 + k.val, by have := k.isLt; omega⟩
def colv (t : Fin cfg0.N) (k : Fin 512) : Fin 11264 := ⟨(t.val % 11 + 11) * 512 + k.val, by have := k.isLt; omega⟩

theorem iblk0 (c : Dev nD) (t : Fin cfg0.N) (r : Fin 1024) (k : Fin 2048) :
    (iblk m c 0 t : Vec Ideal S1024x2048 .f32) (ix2 r k) = A0 m c (ix2 (row t r) k) := by
  have e := idx0 t
  have ht := lt_N t
  have hr := r.isLt
  unfold iblk
  rw [View.read_apply]
  show V m c main_arg0 _ = _
  rw [V_main_arg0]
  congr 1; funext a; apply Fin.ext
  match a with
  | ⟨0, _⟩ => show win0_0.index t 0 * 1024 + 1 * r.val = t.val / 11 * 1024 + r.val; rw [e.1]; omega
  | ⟨1, _⟩ => show win0_0.index t 1 * 2048 + 1 * k.val = k.val; rw [e.2]; omega

theorem iblk1 (c : Dev nD) (t : Fin cfg0.N) (r : Fin 16) (k : Fin 2048) :
    (iblk m c 1 t : Vec Ideal S16x2048 .f32) (ix2 r k) = A0 m c (ix2 ⟨(t.val / 11 * 64 - 1) * 16 + r.val, by have := lt_N t; have := r.isLt; omega⟩ k) := by
  have e := idx1 t
  have ht := lt_N t
  have hr := r.isLt
  unfold iblk
  rw [View.read_apply]
  show V m c main_arg0 _ = _
  rw [V_main_arg0]
  congr 1; funext a; apply Fin.ext
  match a with
  | ⟨0, _⟩ => show win0_1.index t 0 * 16 + 1 * r.val = (t.val / 11 * 64 - 1) * 16 + r.val; rw [e.1]; omega
  | ⟨1, _⟩ => show win0_1.index t 1 * 2048 + 1 * k.val = k.val; rw [e.2]; omega

theorem iblk2 (c : Dev nD) (t : Fin cfg0.N) (r : Fin 16) (k : Fin 2048) :
    (iblk m c 2 t : Vec Ideal S16x2048 .f32) (ix2 r k) = A0 m c (ix2 ⟨min ((t.val / 11 + 1) * 64) 1023 * 16 + r.val, by have := lt_N t; have := r.isLt; omega⟩ k) := by
  have e := idx2 t
  have ht := lt_N t
  have hr := r.isLt
  unfold iblk
  rw [View.read_apply]
  show V m c main_arg0 _ = _
  rw [V_main_arg0]
  congr 1; funext a; apply Fin.ext
  match a with
  | ⟨0, _⟩ => show win0_2.index t 0 * 16 + 1 * r.val = min ((t.val / 11 + 1) * 64) 1023 * 16 + r.val; rw [e.1]; omega
  | ⟨1, _⟩ => show win0_2.index t 1 * 2048 + 1 * k.val = k.val; rw [e.2]; omega

theorem iblk3 (c : Dev nD) (t : Fin cfg0.N) (r : Fin 1) (k : Fin 2048) :
    (iblk m c 3 t : Vec Ideal S1x2048 .f32) (ix2 r k) = A1 m c (ix2 r k) := by
  have e := idx3 t
  have ht := lt_N t
  have hr := r.isLt
  unfold iblk
  rw [View.read_apply]
  show V m c main_arg1 _ = _
  rw [V_main_arg1]
  congr 1; funext a; apply Fin.ext
  match a with
  | ⟨0, _⟩ => show win0_3.index t 0 * 1 + 1 * r.val = r.val; rw [e.1]; omega
  | ⟨1, _⟩ => show win0_3.index t 1 * 2048 + 1 * k.val = k.val; rw [e.2]; omega

theorem iblk4 (c : Dev nD) (t : Fin cfg0.N) (r : Fin 2048) (k : Fin 512) :
    (iblk m c 4 t : Vec Ideal S2048x512 .f32) (ix2 r k) = A2 m c (ix2 r (colg t k)) := by
  have e := idx4 t
  have ht := lt_N t
  have hr := r.isLt
  unfold iblk
  rw [View.read_apply]
  show V m c main_arg2 _ = _
  rw [V_main_arg2]
  congr 1; funext a; apply Fin.ext
  match a with
  | ⟨0, _⟩ => show win0_4.index t 0 * 2048 + 1 * r.val = r.val; rw [e.1]; omega
  | ⟨1, _⟩ => show win0_4.index t 1 * 512 + 1 * k.val = t.val % 11 * 512 + k.val; rw [e.2]; omega

theorem iblk5 (c : Dev nD) (t : Fin cfg0.N) (r : Fin 2048) (k : Fin 512) :
    (iblk m c 5 t : Vec Ideal S2048x512 .f32) (ix2 r k) = A2 m c (ix2 r (colv t k)) := by
  have e := idx5 t
  have ht := lt_N t
  have hr := r.isLt
  unfold iblk
  rw [View.read_apply]
  show V m c main_arg2 _ = _
  rw [V_main_arg2]
  congr 1; funext a; apply Fin.ext
  match a with
  | ⟨0, _⟩ => show win0_5.index t 0 * 2048 + 1 * r.val = r.val; rw [e.1]; omega
  | ⟨1, _⟩ => show win0_5.index t 1 * 512 + 1 * k.val = (t.val % 11 + 11) * 512 + k.val; rw [e.2]; omega

theorem iblk6 (c : Dev nD) (t : Fin cfg0.N) (r : Fin 3) (k : Fin 512) :
    (iblk m c 6 t : Vec Ideal S3x512 .f32) (ix2 r k) = A3 m c (ix2 r (colg t k)) := by
  have e := idx6 t
  have ht := lt_N t
  have hr := r.isLt
  unfold iblk
  rw [View.read_apply]
  show V m c main_arg3 _ = _
  rw [V_main_arg3]
  congr 1; funext a; apply Fin.ext
  match a with
  | ⟨0, _⟩ => show win0_6.index t 0 * 3 + 1 * r.val = r.val; rw [e.1]; omega
  | ⟨1, _⟩ => show win0_6.index t 1 * 512 + 1 * k.val = t.val % 11 * 512 + k.val; rw [e.2]; omega

theorem iblk7 (c : Dev nD) (t : Fin cfg0.N) (r : Fin 3) (k : Fin 512) :
    (iblk m c 7 t : Vec Ideal S3x512 .f32) (ix2 r k) = A3 m c (ix2 r (colv t k)) := by
  have e := idx7 t
  have ht := lt_N t
  have hr := r.isLt
  unfold iblk
  rw [View.read_apply]
  show V m c main_arg3 _ = _
  rw [V_main_arg3]
  congr 1; funext a; apply Fin.ext
  match a with
  | ⟨0, _⟩ => show win0_7.index t 0 * 3 + 1 * r.val = r.val; rw [e.1]; omega
  | ⟨1, _⟩ => show win0_7.index t 1 * 512 + 1 * k.val = (t.val % 11 + 11) * 512 + k.val; rw [e.2]; omega

theorem iblk8 (c : Dev nD) (t : Fin cfg0.N) (r : Fin 1) (k : Fin 512) :
    (iblk m c 8 t : Vec Ideal S1x512 .f32) (ix2 r k) = A4 m c (ix2 r (colg t k)) := by
  have e := idx8 t
  have ht := lt_N t
  have hr := r.isLt
  unfold iblk
  rw [View.read_apply]
  show V m c main_arg4 _ = _
  rw [V_main_arg4]
  congr 1; funext a; apply Fin.ext
  match a with
  | ⟨0, _⟩ => show win0_8.index t 0 * 1 + 1 * r.val = r.val; rw [e.1]; omega
  | ⟨1, _⟩ => show win0_8.index t 1 * 512 + 1 * k.val = t.val % 11 * 512 + k.val; rw [e.2]; omega

theorem iblk9 (c : Dev nD) (t : Fin cfg0.N) (r : Fin 1) (k : Fin 512) :
    (iblk m c 9 t : Vec Ideal S1x512 .f32) (ix2 r k) = A4 m c (ix2 r (colv t k)) := by
  have e := idx9 t
  have ht := lt_N t
  have hr := r.isLt
  unfold iblk
  rw [View.read_apply]
  show V m c main_arg4 _ = _
  rw [V_main_arg4]
  congr 1; funext a; apply Fin.ext
  match a with
  | ⟨0, _⟩ => show win0_9.index t 0 * 1 + 1 * r.val = r.val; rw [e.1]; omega
  | ⟨1, _⟩ => show win0_9.index t 1 * 512 + 1 * k.val = (t.val % 11 + 11) * 512 + k.val; rw [e.2]; omega

theorem pay5_apply (x : Vec Ideal S128x2048 .f32) (g : Vec Ideal S1x2048 .f32) (r : Fin 128) (k : Fin 2048) :
    (k0_pay5 x g (ix2 r k) : EReal) = rms (fun j => x (ix2 r j)) k * g (ix2 0 k) := by
  unfold k0_pay5
  simp only [shapeCast_self]
  refine congrArg₂ (fun a b : EReal => a * b) (rms_apply _ _ _ _ r k) ?_
  pointwise

/-- Whether a row is the first of its sequence, as the body decides it. -/
def firstBit (a : BitVec 32) : BitVec 1 :=
  Scalar.cmpi CmpIPredicate.eq (Scalar.select (Scalar.andi (Scalar.xori (Scalar.cmpi CmpIPredicate.slt (Scalar.remsi a 4#32) 0#32) 0#1)
    (Scalar.cmpi CmpIPredicate.ne (Scalar.remsi a 4#32) 0#32)) (Scalar.addi (Scalar.remsi a 4#32) 4#32)
    (Scalar.remsi a 4#32)) 0#32

theorem firstBit_eq (t : Fin cfg0.N) : firstBit (rowOf (grid0.coords t)) = if t.val / 11 % 4 = 0 then 1#1 else 0#1 :=
  (by decide +kernel : ∀ t : Fin grid0.N, firstBit (rowOf (grid0.coords t)) = if t.val / 11 % 4 = 0 then 1#1 else 0#1) t

theorem lastBit_eq' (t : Fin cfg0.N) : lastBit (rowOf (grid0.coords t)) = if t.val / 11 % 4 = 3 then 1#1 else 0#1 :=
  (by decide +kernel : ∀ t : Fin grid0.N, lastBit (rowOf (grid0.coords t)) = if t.val / 11 % 4 = 3 then 1#1 else 0#1) t

/-- The 16 rows normed, before the choice. -/
theorem halo_apply (x : Vec Ideal S16x2048 .f32) (g : Vec Ideal S1x2048 .f32) (r : Fin 16) (k : Fin 2048) :
    (mulf (F := Ideal) (mulf x (broadcastTo S16x2048 (rsqrt (addf (divf (shapeCast S16x1
      (multiReduction .add [1] S16 (mulf x x) 0x00000000#32 reduces_S16x2048_S16 (.inl rfl) rfl) shapeCasts_S16_S16x1)
      (broadcast S16x1 (Scalar.ofBits .f32 0x45000000#32))) (broadcast S16x1 (Scalar.ofBits .f32 0x3727C5AC#32)))) broadcasts_S16x1_S16x2048))
      (broadcastTo S16x2048 g broadcasts_S1x2048_S16x2048) (ix2 r k) : EReal) = rms (fun j => x (ix2 r j)) k * g (ix2 0 k) := by
  refine congrArg₂ (fun a b : EReal => a * b) (rms_apply _ _ _ _ r k) ?_
  pointwise

theorem pay23_apply (a : BitVec 32) (x : Vec Ideal S16x2048 .f32) (g : Vec Ideal S1x2048 .f32) (r : Fin 16) (k : Fin 2048) :
    (k0_pay3 (k0_pay2 a x g) (ix2 r k) : EReal) = if firstBit a = 1#1 then 0 else rms (fun j => x (ix2 r j)) k * g (ix2 0 k) := by
  unfold k0_pay3 k0_pay2
  simp only [shapeCast_self]
  by_cases h : firstBit a = 1#1
  · exact ((congrFun (if_pos h) (ix2 r k)).trans Ideal.ofBits_zero_f32).trans (if_pos h).symm
  · exact ((congrFun (if_neg h) (ix2 r k)).trans (halo_apply x g r k)).trans (if_neg h).symm

theorem pay4_apply (b : BitVec 1) (x : Vec Ideal S16x2048 .f32) (g : Vec Ideal S1x2048 .f32) (r : Fin 16) (k : Fin 2048) :
    (k0_pay4 b x g (ix2 r k) : EReal) = if b = 1#1 then 0 else rms (fun j => x (ix2 r j)) k * g (ix2 0 k) := by
  unfold k0_pay4
  simp only [shapeCast_self]
  by_cases h : b = 1#1
  · exact ((congrFun (if_pos h) (ix2 r k)).trans Ideal.ofBits_zero_f32).trans (if_pos h).symm
  · exact ((congrFun (if_neg h) (ix2 r k)).trans (halo_apply x g r k)).trans (if_neg h).symm

theorem hmid_apply (x0 : Vec Ideal S1024x2048 .f32) (g : Vec Ideal S1x2048 .f32) (r : Nat) (hr : r < 1024) (k : Fin 2048) :
    (hmid x0 g r hr k : EReal) = rms (fun j => x0 (ix2 ⟨r, hr⟩ j)) k * g (ix2 0 k) := by
  unfold hmid
  refine (pay5_apply _ _ _ _).trans ?_
  refine congrArg₂ (fun a b : EReal => a * b) (congrArg (fun f => rms f k) ?_) rfl
  funext j
  unfold rowBlk
  congr 1
  funext a; apply Fin.ext
  match a with
  | ⟨0, _⟩ => show 128 * (r / 128) + r % 128 = r; omega
  | ⟨1, _⟩ => rfl

theorem rowPt_div (t : Fin cfg0.N) : (rowPt t.val).val / 11 = t.val / 11 := by
  have := lt_N t
  show 11 * (t.val / 11) % 176 / 11 = t.val / 11
  omega

/-- The scratch's middle rows are the block's own. -/
theorem hrow_mid (c : Dev nD) (t : Fin cfg0.N) (p : Fin 1056) (r : Fin 1024) (hp : p.val = 16 + r.val) (k : Fin 2048) :
    (hrow m c t.val (ix2 p k) : EReal) = nrm m c (row t r) k := by
  have hr := r.isLt
  have e : row (rowPt t.val) r = row t r := Fin.ext (by show (rowPt t.val).val / 11 * 1024 + r.val = _; rw [rowPt_div]; rfl)
  unfold hrow hrows nrm
  rw [dif_neg (by show ¬ p.val < 16; omega), dif_pos (by show p.val < 1040; omega)]
  refine (hmid_apply _ _ _ _ _).trans ?_
  have er : (⟨p.val - 16, by omega⟩ : Fin 1024) = r := Fin.ext (by show p.val - 16 = r.val; omega)
  have hx : ∀ j, (iblk m c 0 (rowPt t.val) : Vec Ideal S1024x2048 .f32) (ix2 ⟨p.val - 16, by omega⟩ j) = A0 m c (ix2 (row t r) j) := fun j => by
    rw [er, iblk0, e]
  refine congrArg₂ (fun a b : EReal => a * b) (congrArg (fun f => rms f k) (funext hx)) ?_
  exact iblk3 m c _ 0 k

/-- The scratch's row before them is the row before the block, or zero. -/
theorem hrow_prev (c : Dev nD) (t : Fin cfg0.N) (p : Fin 1056) (hp : p.val = 15) (k : Fin 2048) :
    (hrow m c t.val (ix2 p k) : EReal) = if t.val / 11 % 4 = 0 then 0 else nrm m c ⟨t.val / 11 * 1024 - 1, by have := lt_N t; omega⟩ k := by
  have ht := lt_N t
  unfold hrow hrows
  rw [dif_pos (by show p.val < 16; omega)]
  refine (pay23_apply _ _ _ _ _).trans ?_
  rw [firstBit_eq, rowPt_div]
  by_cases h : t.val / 11 % 4 = 0
  · simp only [if_pos h, if_true]
  · have hb : ¬ ((0#1 : BitVec 1) = 1#1) := by decide
    simp only [if_neg h, if_neg hb]
    unfold nrm
    refine congrArg₂ (fun a b : EReal => a * b) (congrArg (fun f => rms f k) (funext fun j => ?_)) (iblk3 m c _ 0 k)
    refine (iblk1 m c (rowPt t.val) _ j).trans (congrArg (A0 m c) ?_)
    funext a; apply Fin.ext
    match a with
    | ⟨0, _⟩ => show ((rowPt t.val).val / 11 * 64 - 1) * 16 + p.val = t.val / 11 * 1024 - 1; rw [rowPt_div]; omega
    | ⟨1, _⟩ => rfl

/-- The scratch's row after them is the row after the block, or zero. -/
theorem hrow_next (c : Dev nD) (t : Fin cfg0.N) (p : Fin 1056) (hp : p.val = 1040) (k : Fin 2048) :
    (hrow m c t.val (ix2 p k) : EReal) = if h : t.val / 11 % 4 = 3 then 0 else nrm m c ⟨(t.val / 11 + 1) * 1024, by have := lt_N t; omega⟩ k := by
  have ht := lt_N t
  unfold hrow hrows
  rw [dif_neg (by show ¬ p.val < 16; omega), dif_neg (by show ¬ p.val < 1040; omega)]
  refine (pay4_apply _ _ _ _ _).trans ?_
  rw [lastBit_eq', rowPt_div]
  by_cases h : t.val / 11 % 4 = 3
  · simp only [dif_pos h, if_pos h, if_true]
  · have hb : ¬ ((0#1 : BitVec 1) = 1#1) := by decide
    simp only [dif_neg h, if_neg h, if_neg hb]
    unfold nrm
    refine congrArg₂ (fun a b : EReal => a * b) (congrArg (fun f => rms f k) (funext fun j => ?_)) (iblk3 m c _ 0 k)
    refine (iblk2 m c (rowPt t.val) _ j).trans (congrArg (A0 m c) ?_)
    funext a; apply Fin.ext
    match a with
    | ⟨0, _⟩ => show min (((rowPt t.val).val / 11 + 1) * 64) 1023 * 16 + (p.val - 1040) = (t.val / 11 + 1) * 1024; rw [rowPt_div]; omega
    | ⟨1, _⟩ => rfl

/-- The product of the scratch with a block of columns. -/
def prod (s : Vec Ideal S1056x2048 .bf16) (w : Vec Ideal S2048x512 .f32) (p : Fin 1056) (q : Fin 512) : EReal :=
  ∑ k : Fin 2048, (s (ix2 p k) : EReal) * (w (ix2 k q) : EReal)

theorem pay7_apply (s : Vec Ideal S1056x2048 .bf16) (w : Vec Ideal S2048x512 .f32) (p : Fin 1056) (q : Fin 512) :
    (k0_pay7 s w (ix2 p q) : EReal) = prod s w p q := by
  unfold k0_pay7 prod
  exact mm_apply (φ₁ := .bf16) (φ₂ := .bf16) dot_S1056x2048_S2048x512_S1056x512_1_0_0_1_n_n rfl none s (truncf .bf16 w bitsLt_bf16_f32) p q

theorem bc_apply (a : Vec Ideal S1x512 .f32) (r : Fin 1024) (q : Fin 512) :
    (broadcastTo S1024x512 a broadcasts_S1x512_S1024x512 (ix2 r q) : EReal) = a (ix2 0 q) := by
  pointwise

theorem sl_apply (U : FVec Ideal S1056x512 .f32) (r : Fin 1024) (q : Fin 512) :
    (extractStridedSlice S1024x512 ![16, 0] U slices_S1056x512_o16_0_S1024x512 (ix2 r q) : EReal) = U (ix2 ⟨16 + r.val, by have := r.isLt; omega⟩ q) :=
  extractStridedSlice_apply _ _ _ _ _ (fun a => match a with
    | ⟨0, _⟩ => rfl
    | ⟨1, _⟩ => (Nat.zero_add _).symm)

theorem rot_prev (U : FVec Ideal S1056x512 .f32) (r : Fin 1024) (q : Fin 512) :
    (dynamicRotate 0 1#32 none U rotates_S1056x512_d0 (ix2 ⟨16 + r.val, by have := r.isLt; omega⟩ q) : EReal) = U (ix2 ⟨15 + r.val, by have := r.isLt; omega⟩ q) :=
  dynamicRotate_apply (s := S1056x512) 0 1#32 U _ _ _ (fun b => match b with
    | ⟨0, _⟩ => by
      have := r.isLt
      show 15 + r.val = if (0 : Fin 2) = 0 then (16 + r.val + 1056 - 1 % 1056) % 1056 else _
      rw [if_pos rfl]; omega
    | ⟨1, _⟩ => by show q.val = if (1 : Fin 2) = 0 then _ else q.val; rw [if_neg (by decide)])

theorem rot_next (U : FVec Ideal S1056x512 .f32) (r : Fin 1024) (q : Fin 512) :
    (dynamicRotate 0 1055#32 none U rotates_S1056x512_d0 (ix2 ⟨16 + r.val, by have := r.isLt; omega⟩ q) : EReal) = U (ix2 ⟨17 + r.val, by have := r.isLt; omega⟩ q) :=
  dynamicRotate_apply (s := S1056x512) 0 1055#32 U _ _ _ (fun b => match b with
    | ⟨0, _⟩ => by
      have := r.isLt
      show 17 + r.val = if (0 : Fin 2) = 0 then (16 + r.val + 1056 - 1055 % 1056) % 1056 else _
      rw [if_pos rfl]; omega
    | ⟨1, _⟩ => by show q.val = if (1 : Fin 2) = 0 then _ else q.val; rw [if_neg (by decide)])

/-- The convolution as the body spells it: a product's row, and the rows either side of it by rotation. -/
def convk (U : FVec Ideal S1056x512 .f32) (b0 b1 b2 bb : Vec Ideal S1x512 .f32) : FVec Ideal S1024x512 .f32 :=
  addf (addf (addf (mulf (extractStridedSlice S1024x512 ![16, 0] U slices_S1056x512_o16_0_S1024x512) (broadcastTo S1024x512 b1 broadcasts_S1x512_S1024x512))
    (broadcastTo S1024x512 bb broadcasts_S1x512_S1024x512))
    (mulf (extractStridedSlice S1024x512 ![16, 0] (dynamicRotate 0 1#32 none U rotates_S1056x512_d0) slices_S1056x512_o16_0_S1024x512) (broadcastTo S1024x512 b0 broadcasts_S1x512_S1024x512)))
    (mulf (extractStridedSlice S1024x512 ![16, 0] (dynamicRotate 0 1055#32 none U rotates_S1056x512_d0) slices_S1056x512_o16_0_S1024x512) (broadcastTo S1024x512 b2 broadcasts_S1x512_S1024x512))

theorem convk_apply (U : FVec Ideal S1056x512 .f32) (b0 b1 b2 bb : Vec Ideal S1x512 .f32) (r : Fin 1024) (q : Fin 512) (P N M : EReal)
    (hP : (U (ix2 ⟨15 + r.val, by have := r.isLt; omega⟩ q) : EReal) = P) (hM : (U (ix2 ⟨16 + r.val, by have := r.isLt; omega⟩ q) : EReal) = M)
    (hN : (U (ix2 ⟨17 + r.val, by have := r.isLt; omega⟩ q) : EReal) = N) :
    (convk U b0 b1 b2 bb (ix2 r q) : EReal)
      = P * b0 (ix2 0 q) + M * b1 (ix2 0 q) + N * b2 (ix2 0 q) + bb (ix2 0 q) := by
  subst hP hM hN
  unfold convk
  have h1 := sl_apply U r q
  have h2 := (sl_apply (dynamicRotate 0 1#32 none U rotates_S1056x512_d0) r q).trans (rot_prev U r q)
  have h3 := (sl_apply (dynamicRotate 0 1055#32 none U rotates_S1056x512_d0) r q).trans (rot_next U r q)
  simp only [addf, mulf, Ideal.addf_def, Ideal.mulf_def, h1, h2, h3, bc_apply]
  generalize (_ : EReal) * b0 (ix2 0 q) = x
  generalize (_ : EReal) * b1 (ix2 0 q) = y
  generalize (_ : EReal) * b2 (ix2 0 q) = z
  generalize (bb (ix2 0 q) : EReal) = w
  rw [add_right_comm y w x, add_comm y x, add_right_comm (x + y) w z]

theorem tap0_apply (w : Vec Ideal S3x512 .f32) (q : Fin 512) : tap0 w (ix2 0 q) = w (ix2 0 q) :=
  View.ld_unit_apply_of w _ _ _ _ _ (fun a => match a with
    | ⟨0, _⟩ => rfl
    | ⟨1, _⟩ => (Nat.zero_add _).symm)
theorem tap1_apply (w : Vec Ideal S3x512 .f32) (q : Fin 512) : tap1 w (ix2 0 q) = w (ix2 1 q) :=
  View.ld_unit_apply_of w _ _ _ _ _ (fun a => match a with
    | ⟨0, _⟩ => rfl
    | ⟨1, _⟩ => (Nat.zero_add _).symm)
theorem tap2_apply (w : Vec Ideal S3x512 .f32) (q : Fin 512) : tap2 w (ix2 0 q) = w (ix2 2 q) :=
  View.ld_unit_apply_of w _ _ _ _ _ (fun a => match a with
    | ⟨0, _⟩ => rfl
    | ⟨1, _⟩ => (Nat.zero_add _).symm)

theorem one_add_exp_ne (x : EReal) : (1 : EReal) + Ideal.exp x ≠ 0 := by
  have h : (0 : EReal) ≤ Ideal.exp x := by
    induction x using EReal.rec with
    | bot => exact le_refl _
    | coe r => exact EReal.coe_nonneg.mpr (Real.exp_pos r).le
    | top => exact le_top
  have h1 : (0 : EReal) < 1 := zero_lt_one
  exact (lt_of_lt_of_le h1 (le_add_of_nonneg_right h)).ne'

theorem silu_eq (x : EReal) : Ideal.div x (1 + Ideal.exp (0 - x)) = silu x := by
  have h := one_add_exp_ne (-x)
  have hx : (0 : EReal) - x = -x := by rw [sub_eq_add_neg, zero_add]
  unfold silu Ideal.div
  rw [hx, if_neg h, if_neg h, one_mul]

/-- What a point stores, at one place, from its two convolutions. -/
theorem outval_apply (s : Vec Ideal S1056x2048 .bf16) (w6 w7 : Vec Ideal S2048x512 .f32) (w8 w9 : Vec Ideal S3x512 .f32) (w10 w11 : Vec Ideal S1x512 .f32)
    (r : Fin 1024) (q : Fin 512) :
    (outval s w6 w7 w8 w9 w10 w11 (ix2 r q) : EReal)
      = silu (convk (k0_pay7 s w6) (tap0 w8) (tap1 w8) (tap2 w8) w10 (ix2 r q)) * convk (k0_pay7 s w7) (tap0 w9) (tap1 w9) (tap2 w9) w11 (ix2 r q) := by
  refine Eq.trans ?_ (congrArg₂ (fun a b : EReal => a * b) (silu_eq _) rfl)
  have e1 : Ideal.ofBits .f32 0x3F800000#32 = 1 := Ideal.ofBits_one_f32
  rw [← e1, ← Ideal.ofBits_zero_f32]
  rfl

/-- The product of the scratch is the product of the rows. -/
theorem prod_mid (c : Dev nD) (t : Fin cfg0.N) (w : Vec Ideal S2048x512 .f32) (q : Fin 512) (q' : Fin 11264) (hw : ∀ k, w (ix2 k q) = A2 m c (ix2 k q'))
    (p : Fin 1056) (r : Fin 1024) (hp : p.val = 16 + r.val) : prod (hrow m c t.val) w p q = up m c (row t r) q' := by
  unfold prod up
  refine Finset.sum_congr rfl fun k _ => ?_
  rw [hrow_mid m c t p r hp, hw]

theorem prod_prev (c : Dev nD) (t : Fin cfg0.N) (w : Vec Ideal S2048x512 .f32) (q : Fin 512) (q' : Fin 11264) (hw : ∀ k, w (ix2 k q) = A2 m c (ix2 k q'))
    (p : Fin 1056) (r : Fin 1024) (hp : p.val = 15 + r.val) : prod (hrow m c t.val) w p q = prev m c (row t r) q' := by
  have ht := lt_N t
  have hr := r.isLt
  unfold prev
  by_cases h0 : r.val = 0
  · have e : (row t r).val = t.val / 11 * 1024 := by show t.val / 11 * 1024 + r.val = _; omega
    by_cases h : t.val / 11 % 4 = 0
    · rw [if_pos (by rw [e]; omega)]
      unfold prod
      refine Finset.sum_eq_zero fun k _ => ?_
      rw [hrow_prev m c t p (by omega), if_pos h, zero_mul]
    · rw [if_neg (by rw [e]; omega)]
      unfold prod up
      refine Finset.sum_congr rfl fun k _ => ?_
      rw [hrow_prev m c t p (by omega), if_neg h, hw]
      refine congrArg (fun z => nrm m c z k * _) (Fin.ext ?_)
      show _ = (row t r).val - 1
      rw [e]
  · have e : (row t r).val = t.val / 11 * 1024 + r.val := rfl
    rw [if_neg (by rw [e]; omega), prod_mid m c t w q q' hw p ⟨r.val - 1, by omega⟩ (by show p.val = 16 + (r.val - 1); omega)]
    refine congrArg (fun z => up m c z q') (Fin.ext ?_)
    show t.val / 11 * 1024 + (r.val - 1) = (row t r).val - 1
    rw [e]; omega

theorem prod_next (c : Dev nD) (t : Fin cfg0.N) (w : Vec Ideal S2048x512 .f32) (q : Fin 512) (q' : Fin 11264) (hw : ∀ k, w (ix2 k q) = A2 m c (ix2 k q'))
    (p : Fin 1056) (r : Fin 1024) (hp : p.val = 17 + r.val) : prod (hrow m c t.val) w p q = next m c (row t r) q' := by
  have ht := lt_N t
  have hr := r.isLt
  have e : (row t r).val = t.val / 11 * 1024 + r.val := rfl
  unfold next
  by_cases h0 : r.val = 1023
  · by_cases h : t.val / 11 % 4 = 3
    · rw [dif_pos (by rw [e]; omega)]
      unfold prod
      refine Finset.sum_eq_zero fun k _ => ?_
      rw [hrow_next m c t p (by omega), dif_pos h, zero_mul]
    · rw [dif_neg (by rw [e]; omega)]
      unfold prod up
      refine Finset.sum_congr rfl fun k _ => ?_
      rw [hrow_next m c t p (by omega), dif_neg h, hw]
      refine congrArg (fun z => nrm m c z k * _) (Fin.ext ?_)
      show (t.val / 11 + 1) * 1024 = (row t r).val + 1
      rw [e]; omega
  · rw [dif_neg (by rw [e]; omega), prod_mid m c t w q q' hw p ⟨r.val + 1, by omega⟩ (by show p.val = 16 + (r.val + 1); omega)]
    refine congrArg (fun z => up m c z q') (Fin.ext ?_)
    show t.val / 11 * 1024 + (r.val + 1) = (row t r).val + 1
    rw [e]; omega

/-- A point's convolution is the reference's. -/
theorem conv_eq (c : Dev nD) (t : Fin cfg0.N) (w : Vec Ideal S2048x512 .f32) (w8 : Vec Ideal S3x512 .f32) (wb : Vec Ideal S1x512 .f32) (q : Fin 512) (q' : Fin 11264)
    (hw : ∀ k, w (ix2 k q) = A2 m c (ix2 k q')) (h8 : ∀ k, w8 (ix2 k q) = A3 m c (ix2 k q')) (hb : wb (ix2 0 q) = A4 m c (ix2 0 q')) (r : Fin 1024) :
    (convk (k0_pay7 (hrow m c t.val) w) (tap0 w8) (tap1 w8) (tap2 w8) wb (ix2 r q) : EReal) = cv m c (row t r) q' := by
  unfold cv
  refine (convk_apply _ _ _ _ _ r q _ _ _ ((pay7_apply _ _ _ _).trans (prod_prev m c t w q q' hw _ r rfl))
    ((pay7_apply _ _ _ _).trans (prod_mid m c t w q q' hw _ r rfl)) ((pay7_apply _ _ _ _).trans (prod_next m c t w q q' hw _ r rfl))).trans ?_
  rw [tap0_apply, tap1_apply, tap2_apply, h8, h8, h8, hb]

open Cert.Reference2Ideal.Read in
/-- The reference's normed rows, at one place. -/
theorem v13_apply (c : Dev nD) (i : Cert.Reference2Ideal.S4x4096x2048.Idx) (r : Fin 16384) (hr : (i 0).val * 4096 + (i 1).val = r.val) (k : Fin 2048) (hk : (i 2).val = k.val) :
    (val_main_v13 (F := Ideal) (A0 m c) (A1 m c) i : EReal) = nrm m c r k := by
  have h1 : (i 1).val < 4096 := (i 1).isLt
  have h2 : (i 2).val < 2048 := (i 2).isLt
  rw [val_main_v13_apply, val_main_v10_apply, val_main_v12_apply, val_main_v11_apply, val_main_v9_apply, val_main_v8_apply, val_main_v7_apply, val_main_v6_apply,
    val_main_v5_apply, val_main_v4_apply, val_main_v3_apply, val_main_v2_apply]
  simp only [val_main_v1_apply, val_main_v0_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold nrm rms
  refine congrArg₂ (fun a b : EReal => a * b) (congrArg₂ (fun a b : EReal => a * b) (congrArg (A0 m c) ?_) ?_) (congrArg (A1 m c) ?_)
  · funext a; apply Fin.ext
    match a with
    | ⟨0, _⟩ => show (((i 0).val * 4096 + (i 1).val) * 2048 + (i 2).val) / 2048 = r.val; omega
    | ⟨1, _⟩ => show (((i 0).val * 4096 + (i 1).val) * 2048 + (i 2).val) % 2048 = k.val; omega
  · refine congrArg Ideal.rsqrt (congrArg (fun z : EReal => Ideal.div z _ + _) (Finset.sum_congr rfl fun j _ => ?_))
    have hj := j.isLt
    refine congrArg₂ (fun a b : EReal => a * b) (congrArg (A0 m c) ?_) (congrArg (A0 m c) ?_) <;>
    · funext a; apply Fin.ext
      match a with
      | ⟨0, _⟩ => show (((i 0).val * 4096 + (i 1).val) * 2048 + j.val) / 2048 = r.val; omega
      | ⟨1, _⟩ => show (((i 0).val * 4096 + (i 1).val) * 2048 + j.val) % 2048 = j.val; omega
  · funext a; apply Fin.ext
    match a with
    | ⟨0, _⟩ => rfl
    | ⟨1, _⟩ => exact hk

open Cert.Reference2Ideal.Read in
/-- The reference's product, at one place. -/
theorem v14_apply (c : Dev nD) (i : Cert.Reference2Ideal.S4x4096x11264.Idx) (r : Fin 16384) (hr : (i 0).val * 4096 + (i 1).val = r.val)
    (q : Fin 11264) (hq : (i 2).val = q.val) :
    (val_main_v14 (F := Ideal) (A0 m c) (A1 m c) (A2 m c) i : EReal) = up m c r q := by
  refine (val_main_v14_apply (A0 m c) (A1 m c) (A2 m c) i).trans ?_
  unfold up
  refine Finset.sum_congr rfl fun k _ => congrArg₂ (fun a b : EReal => a * b) (v13_apply m c (lidx_main_v14 i k) r hr k rfl) (congrArg (A2 m c) ?_)
  funext a; apply Fin.ext
  match a with
  | ⟨0, _⟩ => rfl
  | ⟨1, _⟩ => exact hq

theorem zero_word (i : Cert.Reference2Ideal.S_.Idx) : (Cert.Reference2Ideal.Read.val_main_call0_v0 (F := Ideal) i : EReal) = 0 := by
  show (((0#32 : BitVec 32).toInt : ℝ) : EReal) = 0
  simp

open Cert.Reference2Ideal.Read in
/-- The padded product inside, -/
theorem v15_inside (c : Dev nD) (i : Cert.Reference2Ideal.S4x4098x11264.Idx) (r : Fin 16384) (hlo : 1 ≤ (i 1).val) (hhi : (i 1).val ≤ 4096)
    (hr : (i 0).val * 4096 + (i 1).val = r.val + 1) (q : Fin 11264) (hq : (i 2).val = q.val) :
    (val_main_v15 (F := Ideal) (A0 m c) (A1 m c) (A2 m c) i : EReal) = up m c r q := by
  unfold val_main_v15
  have h0 : (i 0).val < 4 := (i 0).isLt
  rw [pad_apply_of_inside _ _ _ _ _ _ _ _ (Idealize.ShloMosaic.ValueIdx.ix3 ⟨(i 0).val, h0⟩ ⟨(i 1).val - 1, by omega⟩ q : Cert.Reference2Ideal.S4x4096x11264.Idx) (fun a => match a with
    | ⟨0, _⟩ => by show (i 0).val = 0 + (i 0).val * (0 + 1); omega
    | ⟨1, _⟩ => by show (i 1).val = 1 + ((i 1).val - 1) * (0 + 1); omega
    | ⟨2, _⟩ => by show (i 2).val = 0 + q.val * (0 + 1); omega)]
  exact v14_apply m c _ r (by show (i 0).val * 4096 + ((i 1).val - 1) = r.val; omega) q rfl

open Cert.Reference2Ideal.Read in
/-- and outside. -/
theorem v15_outside (c : Dev nD) (i : Cert.Reference2Ideal.S4x4098x11264.Idx) (h : (i 1).val = 0 ∨ (i 1).val = 4097) :
    (val_main_v15 (F := Ideal) (A0 m c) (A1 m c) (A2 m c) i : EReal) = 0 := by
  unfold val_main_v15
  rw [pad_apply_of_not_inside _ _ _ _ _ _ _ _ (1 : Fin 3) (fun hin => by
    have h1 := hin.1
    have h2 := hin.2.2
    change 1 ≤ (i 1).val at h1
    change ((i 1).val - 1) / (0 + 1) < 4096 at h2
    omega)]
  exact zero_word _

open Cert.Reference2Ideal.Read in
/-- The reference's convolution, at one place. -/
theorem v38_apply (c : Dev nD) (i : Cert.Reference2Ideal.S4x4096x11264.Idx) (r : Fin 16384) (hr : (i 0).val * 4096 + (i 1).val = r.val)
    (q : Fin 11264) (hq : (i 2).val = q.val) :
    (val_main_v38 (F := Ideal) (A0 m c) (A1 m c) (A2 m c) (A3 m c) (A4 m c) i : EReal) = cv m c r q := by
  have h0 : (i 0).val < 4 := (i 0).isLt
  have h1 : (i 1).val < 4096 := (i 1).isLt
  have hq' := q.isLt
  have hp : (val_main_v16 (F := Ideal) (A0 m c) (A1 m c) (A2 m c) i : EReal) = prev m c r q := by
    rw [val_main_v16_apply]
    unfold prev
    by_cases h : (i 1).val = 0
    · rw [if_pos (by omega)]; exact v15_outside m c _ (Or.inl h)
    · rw [if_neg (by omega)]
      exact v15_inside m c _ _ (by show 1 ≤ (i 1).val; omega) (by show (i 1).val ≤ 4096; omega)
        (by show (i 0).val * 4096 + (i 1).val = r.val - 1 + 1; omega) q hq
  have hm : (val_main_v22 (F := Ideal) (A0 m c) (A1 m c) (A2 m c) i : EReal) = up m c r q := by
    rw [val_main_v22_apply]
    exact v15_inside m c _ _ (by show 1 ≤ 1 + (i 1).val; omega) (by show 1 + (i 1).val ≤ 4096; omega)
        (by show (i 0).val * 4096 + (1 + (i 1).val) = r.val + 1; omega) q hq
  have hn : (val_main_v29 (F := Ideal) (A0 m c) (A1 m c) (A2 m c) i : EReal) = next m c r q := by
    rw [val_main_v29_apply]
    unfold next
    by_cases h : (i 1).val = 4095
    · rw [dif_pos (by omega)]; exact v15_outside m c _ (Or.inr (by show 2 + (i 1).val = 4097; omega))
    · rw [dif_neg (by omega)]
      exact v15_inside m c _ _ (by show 1 ≤ 2 + (i 1).val; omega) (by show 2 + (i 1).val ≤ 4096; omega)
        (by show (i 0).val * 4096 + (2 + (i 1).val) = r.val + 1 + 1; omega) q hq
  have t0 : (val_main_v20 (F := Ideal) (A3 m c) i : EReal) = A3 m c (ix2 0 q) := by
    rw [val_main_v20_apply, val_main_v19_apply, val_main_v18_apply, val_main_v17_apply]
    refine congrArg (A3 m c) ?_
    funext a; apply Fin.ext
    match a with
    | ⟨0, _⟩ => first | rfl | omega
    | ⟨1, _⟩ => first | exact hq | (show (i 2).val % 11264 = q.val; omega)
  have t1 : (val_main_v26 (F := Ideal) (A3 m c) i : EReal) = A3 m c (ix2 1 q) := by
    rw [val_main_v26_apply, val_main_v25_apply, val_main_v24_apply, val_main_v23_apply]
    refine congrArg (A3 m c) ?_
    funext a; apply Fin.ext
    match a with
    | ⟨0, _⟩ => first | rfl | omega
    | ⟨1, _⟩ => first | exact hq | (show (i 2).val % 11264 = q.val; omega)
  have t2 : (val_main_v33 (F := Ideal) (A3 m c) i : EReal) = A3 m c (ix2 2 q) := by
    rw [val_main_v33_apply, val_main_v32_apply, val_main_v31_apply, val_main_v30_apply]
    refine congrArg (A3 m c) ?_
    funext a; apply Fin.ext
    match a with
    | ⟨0, _⟩ => first | rfl | omega
    | ⟨1, _⟩ => first | exact hq | (show (i 2).val % 11264 = q.val; omega)
  have tb : (val_main_v37 (F := Ideal) (A4 m c) i : EReal) = A4 m c (ix2 0 q) := by
    rw [val_main_v37_apply, val_main_v36_apply]
    refine congrArg (A4 m c) ?_
    funext a; apply Fin.ext
    match a with
    | ⟨0, _⟩ => rfl
    | ⟨1, _⟩ => exact hq
  rw [val_main_v38_apply, val_main_v35_apply, val_main_v34_apply, val_main_v28_apply, val_main_v27_apply, val_main_v21_apply]
  simp only [Ideal.addf_def, Ideal.mulf_def, hp, hm, hn, t0, t1, t2, tb]
  rfl

open Cert.Reference2Ideal.Read in
/-- The reference's result, at one place. -/
theorem G_apply (c : Dev nD) (r : Fin 16384) (k : Fin 5632) (qg qv : Fin 11264) (hg : qg.val = k.val) (hv : qv.val = 5632 + k.val) :
    (G m c (ix2 r k) : EReal) = silu (cv m c r qg) * cv m c r qv := by
  have hkl := k.isLt
  have hr := r.isLt
  unfold G
  rw [val_main_v44_apply, val_main_v43_apply, val_main_v42_apply, val_main_v41_apply, val_main_call1_v5_apply, val_main_call1_v4_apply,
    val_main_call1_v3_apply, val_main_call1_v2_apply, val_main_call1_v1_apply, val_main_call1_v0_apply, val_main_v39_apply, val_main_v40_apply]
  have eg := v38_apply m c (idx_main_v39 (idx_main_v43 (ix2 r k))) r (by
    show (r.val * 5632 + k.val) / 23068672 * 4096 + (r.val * 5632 + k.val) / 5632 % 4096 = r.val; omega) qg (by
    show (r.val * 5632 + k.val) % 5632 = qg.val; omega)
  have ev := v38_apply m c (idx_main_v40 (idx_main_v43 (ix2 r k))) r (by
    show (r.val * 5632 + k.val) / 23068672 * 4096 + (r.val * 5632 + k.val) / 5632 % 4096 = r.val; omega) qv (by
    show 5632 + (r.val * 5632 + k.val) % 5632 = qv.val; omega)
  refine congrArg₂ (fun a b : EReal => a * b) ?_ ev
  unfold silu
  refine congrArg₂ (fun a b : EReal => a * b) eg ?_
  have e1 : Ideal.ofBits .f32 0x3F800000#32 = 1 := Ideal.ofBits_one_f32
  rw [← eg, ← e1]
  rfl

/-- What point `t` writes back is its block of the reference's result. -/
theorem flushed (c : Dev nD) (t : Fin cfg0.N) :
    (dats m 0 c).flushed 10 t = ((cfg0.win 10).blk t).view.read (Elt Ideal) (G m c) := by
  have e := idx10 t
  have ht := lt_N t
  show (cfg0.win 10).cut (grid0.coords t) ((dats m 0 c).after 10 t) = _
  rw [after0_10]
  funext j
  obtain ⟨r, k, rfl⟩ : ∃ (r : Fin 1024) (k : Fin 512), j = ix2 r k := ⟨j 0, j 1, by
    funext a; match a with
    | ⟨0, _⟩ => rfl
    | ⟨1, _⟩ => rfl⟩
  have hk := k.isLt
  rw [View.read_apply]
  have hG : G m c (((cfg0.win 10).blk t).view.emb (ix2 r k)) = G m c (ix2 (row t r) ⟨t.val % 11 * 512 + k.val, by omega⟩) := by
    congr 1; funext a; apply Fin.ext
    match a with
    | ⟨0, _⟩ => show win0_10.index t 0 * 1024 + 1 * r.val = t.val / 11 * 1024 + r.val; rw [e.1]; omega
    | ⟨1, _⟩ => show win0_10.index t 1 * 512 + 1 * k.val = t.val % 11 * 512 + k.val; rw [e.2]; omega
  refine Eq.trans ?_ hG.symm
  show outAt m c t (ix2 r k) = _
  unfold outAt
  refine (outval_apply _ _ _ _ _ _ _ r k).trans ?_
  refine Eq.trans ?_ (G_apply m c (row t r) _ (colg t k) (colv t k) rfl (by
    show (t.val % 11 + 11) * 512 + k.val = 5632 + (t.val % 11 * 512 + k.val); omega)).symm
  rw [conv_eq m c t (iblk m c 4 t) (iblk m c 6 t) (iblk m c 8 t) k (colg t k) (fun q => iblk4 m c t q k) (fun q => iblk6 m c t q k) (iblk8 m c t 0 k) r,
    conv_eq m c t (iblk m c 5 t) (iblk m c 7 t) (iblk m c 9 t) k (colv t k) (fun q => iblk5 m c t q k) (fun q => iblk7 m c t q k) (iblk9 m c t 0 k) r]

/-- The blocks cover the result. -/
theorem cover (i : S16384x5632.Idx) :
    ∃ t : Fin cfg0.N, (cfg0.win 10).flush t = true ∧ i ∈ ((cfg0.win 10).blk t).view.set := by
  have h0 : (i 0 : Nat) < 16384 := (i 0).isLt
  have h1 : (i 1 : Nat) < 5632 := (i 1).isLt
  have hN : cfg0.N = 176 := N_0
  let t : Fin cfg0.N := ⟨(i 0 : Nat) / 1024 * 11 + (i 1 : Nat) / 512, by omega⟩
  have e := idx10 t
  have ht : t.val = (i 0 : Nat) / 1024 * 11 + (i 1 : Nat) / 512 := rfl
  refine ⟨t, flush0_10 _, ?_⟩
  show i ∈ ((View.whole main_v0).slice (win0_10.rect t)).set
  rw [View.set_slice_whole, Rect.mem_set_unit]
  intro a
  match a with
  | ⟨0, _⟩ => show win0_10.index t 0 * 1024 ≤ (i 0 : Nat) ∧ (i 0 : Nat) < win0_10.index t 0 * 1024 + 1024
              rw [e.1, ht]; omega
  | ⟨1, _⟩ => show win0_10.index t 1 * 512 ≤ (i 1 : Nat) ∧ (i 1 : Nat) < win0_10.index t 1 * 512 + 512
              rw [e.2, ht]; omega

/-- The run of the kernel, read: its result is the reference's function of its arguments, which are unchanged. -/
theorem run : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨((h.1 c).1 10).trans ((dats m 0 c).arrAt_eq_of_cover 10 (G m c) (fun t _ => flushed m c t) cover), h.2 c⟩)
    (θ_run_and (run_main m ρ) (frame_of m ρ (dats m) (A_eq m) (run_main m ρ)))

end Cert.Kernel2Ideal.Up

end
-- ==== Proof.Claims2.lean ====
/- The value claim of the feed-forward's first half: both programs run, and end with the reference's function of arguments
   that agree. -/
module

public import proofs.«01_k».proof.Defs
public import proofs.«01_k».proof.Proof.UpValue

@[expose] public section

noncomputable section

namespace Cert.Claims2

open Idealize.ShloMosaic Idealize.SL.Sem

/-- The feed-forward's first half. -/
theorem algebraic2 : Cert.algebraic_Kernel2Ideal_Reference2Ideal := by
  intro m ρ m' ρ' _ hagree
  refine ⟨fun c => Cert.Kernel2Ideal.Up.G m c, Cert.Kernel2Ideal.Up.run m ρ, ?_⟩
  refine (θ_run Cert.Reference2Ideal.defs _ _).mono (fun _ h c => ⟨(h c).1.trans ?_, (h c).2⟩)
    (Cert.Reference2Ideal.Value.run (F := Ideal) m' ρ')
  obtain ⟨h0, h1, h2, h3, h4⟩ := hagree c
  refine (Cert.Reference2Ideal.Read.val_main_v44_eq ..).trans ?_
  rw [h0, h1, h2, h3, h4]

end Cert.Claims2

end
-- ==== Proof.OutProj.lean ====
/-
  The output projection: what its result array holds after the run, and that it is the reference's
  `x2 + [a | b] · w` of the same arguments.
-/
module

public import proofs.«01_k».proof.Proof.Mats
public import proofs.«01_k».proof.Proof.Gen.Kernel4Ideal.Value
public import proofs.«01_k».proof.Proof.Gen.Reference4Ideal.Run
public import proofs.«01_k».proof.Proof.Gen.Reference4Ideal.Read

@[expose] public section

set_option maxRecDepth 16384

noncomputable section

namespace Cert.Kernel4Ideal.OutProj

open Cert.Kernel4Ideal Cert.Kernel4Ideal.Gen Cert.Mats Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Core `c`'s four arguments, as arrays of extended reals. -/
abbrev A0 (c : Dev nD) : S16384x2048.Idx → EReal := m ((c : Thread nD τ).loc main_arg0)
/-- The first operand of the projection. -/
abbrev A1 (c : Dev nD) : S16384x1024.Idx → EReal := m ((c : Thread nD τ).loc main_arg1)
/-- The second operand of the projection. -/
abbrev A2 (c : Dev nD) : S16384x3072.Idx → EReal := m ((c : Thread nD τ).loc main_arg2)
/-- The weights. -/
abbrev A3 (c : Dev nD) : S4096x2048.Idx → EReal := m ((c : Thread nD τ).loc main_arg3)

/-- The reference's result of core `c`'s four arguments. -/
abbrev G (c : Dev nD) : Buf (Elt Ideal) ((c : Thread nD τ).loc main_v1) :=
  Cert.Reference4Ideal.Read.val_main_v3 (F := Ideal) (m ((c : Thread nD τ).loc main_arg0)) (m ((c : Thread nD τ).loc main_arg1))
    (m ((c : Thread nD τ).loc main_arg2)) (m ((c : Thread nD τ).loc main_arg3))

/-- The weight array the pipeline stages is the argument, cast: at the ideal values the argument itself. -/
theorem V_w (c : Dev nD) : (V m c main_v0 : S4096x2048.Idx → EReal) = A3 m c := by
  show StableHlo.after hostOps0 (fun b => m (c, b)) main_v0 = _
  after_results
  rfl

/-- Every window but the weights moves down by one block of rows a point; the weights stay. -/
theorem idx_eq (t : Fin cfg0.N) :
    win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0 :=
  (by decide +kernel : ∀ t : Fin grid0.N,
    win0_0.index t 0 = t.val ∧ win0_0.index t 1 = 0 ∧ win0_1.index t 0 = t.val ∧ win0_1.index t 1 = 0
    ∧ win0_2.index t 0 = t.val ∧ win0_2.index t 1 = 0 ∧ win0_3.index t 0 = 0 ∧ win0_3.index t 1 = 0
    ∧ win0_4.index t 0 = t.val ∧ win0_4.index t 1 = 0) t

theorem lt_N (t : Fin cfg0.N) : t.val < 32 := lt_of_lt_of_eq t.isLt N_0

/-- Row `r` of block `t`, as a row of the whole array. -/
def row (t : Fin cfg0.N) (r : Fin 512) : Fin 16384 := ⟨t.val * 512 + r.val, by have := lt_N t; have := r.isLt; omega⟩

theorem iblk0 (c : Dev nD) (t : Fin cfg0.N) (r : Fin 512) (k : Fin 2048) :
    (iblk m c 0 t : Vec Ideal S512x2048 .f32) (ix2 r k) = A0 m c (ix2 (row t r) k) := by
  have e := idx_eq t
  unfold iblk
  rw [View.read_apply]
  show V m c main_arg0 _ = _
  rw [V_main_arg0]
  congr 1; funext a; apply Fin.ext
  match a with
  | ⟨0, _⟩ => show win0_0.index t 0 * 512 + 1 * r.val = t.val * 512 + r.val; rw [e.1]; omega
  | ⟨1, _⟩ => show win0_0.index t 1 * 2048 + 1 * k.val = k.val; rw [e.2.1]; omega

theorem iblk1 (c : Dev nD) (t : Fin cfg0.N) (r : Fin 512) (k : Fin 1024) :
    (iblk m c 1 t : Vec Ideal S512x1024 .bf16) (ix2 r k) = A1 m c (ix2 (row t r) k) := by
  have e := idx_eq t
  unfold iblk
  rw [View.read_apply]
  show V m c main_arg1 _ = _
  rw [V_main_arg1]
  congr 1; funext a; apply Fin.ext
  match a with
  | ⟨0, _⟩ => show win0_1.index t 0 * 512 + 1 * r.val = t.val * 512 + r.val; rw [e.2.2.1]; omega
  | ⟨1, _⟩ => show win0_1.index t 1 * 1024 + 1 * k.val = k.val; rw [e.2.2.2.1]; omega

theorem iblk2 (c : Dev nD) (t : Fin cfg0.N) (r : Fin 512) (k : Fin 3072) :
    (iblk m c 2 t : Vec Ideal S512x3072 .bf16) (ix2 r k) = A2 m c (ix2 (row t r) k) := by
  have e := idx_eq t
  unfold iblk
  rw [View.read_apply]
  show V m c main_arg2 _ = _
  rw [V_main_arg2]
  congr 1; funext a; apply Fin.ext
  match a with
  | ⟨0, _⟩ => show win0_2.index t 0 * 512 + 1 * r.val = t.val * 512 + r.val; rw [e.2.2.2.2.1]; omega
  | ⟨1, _⟩ => show win0_2.index t 1 * 3072 + 1 * k.val = k.val; rw [e.2.2.2.2.2.1]; omega

theorem iblk3 (c : Dev nD) (t : Fin cfg0.N) (r : Fin 4096) (k : Fin 2048) :
    ((iblk m c 3 t : Vec Ideal S4096x2048 .bf16) (ix2 r k) : EReal) = A3 m c (ix2 r k) := by
  have e := idx_eq t
  unfold iblk
  rw [View.read_apply]
  show (V m c main_v0 : S4096x2048.Idx → EReal) _ = _
  rw [V_w]
  congr 1; funext a; apply Fin.ext
  match a with
  | ⟨0, _⟩ => show win0_3.index t 0 * 4096 + 1 * r.val = r.val; rw [e.2.2.2.2.2.2.1]; omega
  | ⟨1, _⟩ => show win0_3.index t 1 * 2048 + 1 * k.val = k.val; rw [e.2.2.2.2.2.2.2.1]; omega

/-- What the body leaves at one place of the result's block, in the four input blocks. -/
theorem out_apply (x0 : Vec Ideal S512x2048 .f32) (x1 : Vec Ideal S512x1024 .bf16) (x2 : Vec Ideal S512x3072 .bf16)
    (x3 : Vec Ideal S4096x2048 .bf16) (r : Fin 512) (k : Fin 2048) :
    (out0_4 x0 x1 x2 x3 (ix2 r k) : EReal) = x0 (ix2 r k) +
      ((∑ q : Fin 1024, (x1 (ix2 r q) : EReal) * x3 (ix2 ⟨q.val, by have := q.isLt; omega⟩ k))
        + ∑ q : Fin 3072, (x2 (ix2 r q) : EReal) * x3 (ix2 ⟨1024 + q.val, by have := q.isLt; omega⟩ k)) := by
  unfold out0_4
  rw [View.canon_unit_zero hz2]
  unfold k0_pay1
  simp only [View.ld_unit_zero (S := S512x1024) hz2, View.ld_unit_zero (S := S512x3072) hz2, View.ld_unit_zero (S := S512x2048) hz2, shapeCast_self]
  have e1 := mm_apply (φ₁ := .bf16) (φ₂ := .bf16) dot_S512x1024_S1024x2048_S512x2048_1_0_0_1_n_n rfl none x1 (View.ld x3 r0_1) r k
  have e2 := mm_apply (φ₁ := .bf16) (φ₂ := .bf16) dot_S512x3072_S3072x2048_S512x2048_1_0_0_1_n_n rfl none x2 (View.ld x3 r0_3) r k
  refine congrArg (fun z : EReal => x0 (ix2 r k) + z) (congrArg₂ (fun a b : EReal => a + b) (e1.trans ?_) (e2.trans ?_))
  · refine Finset.sum_congr rfl fun q _ => congrArg (fun z : EReal => x1 (ix2 r q) * z) (congrArg x3 ?_)
    funext a; apply Fin.ext
    match a with
    | ⟨0, _⟩ => show 0 + 1 * q.val = q.val; omega
    | ⟨1, _⟩ => show 0 + 1 * k.val = k.val; omega
  · refine Finset.sum_congr rfl fun q _ => congrArg (fun z : EReal => x2 (ix2 r q) * z) (congrArg x3 ?_)
    funext a; apply Fin.ext
    match a with
    | ⟨0, _⟩ => show 1024 + 1 * q.val = 1024 + q.val; omega
    | ⟨1, _⟩ => show 0 + 1 * k.val = k.val; omega

/-- The reference's joined operand in its first 1024 columns. -/
theorem cat_left (c : Dev nD) (r : Fin 16384) (k : Fin 2048) (q : Fin 1024) (h : q.val < 4096) :
    (Cert.Reference4Ideal.Read.val_main_v1 (F := Ideal) (A1 m c) (A2 m c) (Cert.Reference4Ideal.Read.lidx_main_v2 (ix2 r k) ⟨q.val, h⟩) : EReal)
      = A1 m c (ix2 r q) :=
  concatenate_pair_apply_left (t := Cert.Reference4Ideal.S16384x4096) (s₁ := Cert.Reference4Ideal.S16384x1024) (s₂ := Cert.Reference4Ideal.S16384x3072) 1 (A1 m c) (A2 m c) Cert.Reference4Ideal.Facts₀.concatenates_S16384x1024_S16384x3072_S16384x4096_d1 _ rfl (ix2 r q) fun b => by
    match b with
    | ⟨0, _⟩ => rfl
    | ⟨1, _⟩ => rfl

/-- The reference's joined operand in its last 3072 columns. -/
theorem cat_right (c : Dev nD) (r : Fin 16384) (k : Fin 2048) (q : Fin 3072) (h : 1024 + q.val < 4096) :
    (Cert.Reference4Ideal.Read.val_main_v1 (F := Ideal) (A1 m c) (A2 m c) (Cert.Reference4Ideal.Read.lidx_main_v2 (ix2 r k) ⟨1024 + q.val, h⟩) : EReal)
      = A2 m c (ix2 r q) :=
  concatenate_pair_apply_right (t := Cert.Reference4Ideal.S16384x4096) (s₁ := Cert.Reference4Ideal.S16384x1024) (s₂ := Cert.Reference4Ideal.S16384x3072) 1 (A1 m c) (A2 m c) Cert.Reference4Ideal.Facts₀.concatenates_S16384x1024_S16384x3072_S16384x4096_d1 _ rfl rfl (ix2 r q) (fun b hb => by
    match b with
    | ⟨0, _⟩ => rfl
    | ⟨1, _⟩ => exact absurd rfl hb) (Nat.add_comm q.val 1024)

/-- The reference at one place, its contraction cut where the two arguments meet. -/
theorem G_apply (c : Dev nD) (r : Fin 16384) (k : Fin 2048) :
    (G m c (ix2 r k) : EReal) = A0 m c (ix2 r k) +
      ((∑ q : Fin 1024, A1 m c (ix2 r q) * A3 m c (ix2 ⟨q.val, by have := q.isLt; omega⟩ k))
        + ∑ q : Fin 3072, A2 m c (ix2 r q) * A3 m c (ix2 ⟨1024 + q.val, by have := q.isLt; omega⟩ k)) := by
  have h := (Cert.Reference4Ideal.Read.val_main_v2_apply (A1 m c) (A2 m c) (A3 m c) (ix2 r k)).trans (sum_split 1024 3072 4096 rfl _)
  refine congrArg (fun z : EReal => A0 m c (ix2 r k) + z) (h.trans ?_)
  refine congrArg₂ (fun a b : EReal => a + b) (Finset.sum_congr rfl fun q _ => ?_) (Finset.sum_congr rfl fun q _ => ?_)
  · refine congrArg₂ (fun a b : EReal => a * b) (cat_left m c r k q _) (congrArg (A3 m c) ?_)
    funext a; match a with
    | ⟨0, _⟩ => rfl
    | ⟨1, _⟩ => rfl
  · refine congrArg₂ (fun a b : EReal => a * b) (cat_right m c r k q _) (congrArg (A3 m c) ?_)
    funext a; match a with
    | ⟨0, _⟩ => rfl
    | ⟨1, _⟩ => rfl

/-- What point `t` writes back is block `t` of the reference's result. -/
theorem flushed_eq (c : Dev nD) (t : Fin cfg0.N) :
    (dats m 0 c).flushed 4 t = ((cfg0.win 4).blk t).view.read (Elt Ideal) (G m c) := by
  have e := idx_eq t
  rw [Value.flushed4]
  funext j
  obtain ⟨r, k, rfl⟩ : ∃ (r : Fin 512) (k : Fin 2048), j = ix2 r k := ⟨j 0, j 1, by
    funext a; match a with
    | ⟨0, _⟩ => rfl
    | ⟨1, _⟩ => rfl⟩
  rw [View.read_apply]
  have hG : G m c (((cfg0.win 4).blk t).view.emb (ix2 r k)) = G m c (ix2 (row t r) k) := by
    congr 1; funext a; apply Fin.ext
    match a with
    | ⟨0, _⟩ => show win0_4.index t 0 * 512 + 1 * r.val = t.val * 512 + r.val; rw [e.2.2.2.2.2.2.2.2.1]; omega
    | ⟨1, _⟩ => show win0_4.index t 1 * 2048 + 1 * k.val = k.val; rw [e.2.2.2.2.2.2.2.2.2]; omega
  refine Eq.trans ?_ hG.symm
  show out0_4 (iblk m c 0 t) (iblk m c 1 t) (iblk m c 2 t) (iblk m c 3 t) (ix2 r k) = _
  refine (out_apply _ _ _ _ r k).trans ?_
  refine Eq.trans ?_ (G_apply m c (row t r) k).symm
  simp only [iblk0, iblk1, iblk2, iblk3]

/-- The blocks of rows cover the result. -/
theorem cover (i : S16384x2048.Idx) :
    ∃ t : Fin cfg0.N, (cfg0.win 4).flush t = true ∧ i ∈ ((cfg0.win 4).blk t).view.set := by
  have h0 : (i 0 : Nat) < 16384 := (i 0).isLt
  have h1 : (i 1 : Nat) < 2048 := (i 1).isLt
  have hN : cfg0.N = 32 := N_0
  let t : Fin cfg0.N := ⟨(i 0 : Nat) / 512, by omega⟩
  have e := idx_eq t
  have ht : t.val = (i 0 : Nat) / 512 := rfl
  refine ⟨t, flush0_4 _, ?_⟩
  show i ∈ ((View.whole main_v1).slice (win0_4.rect t)).set
  rw [View.set_slice_whole, Rect.mem_set_unit]
  intro a
  match a with
  | ⟨0, _⟩ => show win0_4.index t 0 * 512 ≤ (i 0 : Nat) ∧ (i 0 : Nat) < win0_4.index t 0 * 512 + 512
              rw [e.2.2.2.2.2.2.2.2.1, ht]; omega
  | ⟨1, _⟩ => show win0_4.index t 1 * 2048 ≤ (i 1 : Nat) ∧ (i 1 : Nat) < win0_4.index t 1 * 2048 + 2048
              rw [e.2.2.2.2.2.2.2.2.2]; omega

/-- The run of the kernel, read: its result is the reference's function of its arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 (G m c) (fun t _ => flushed_eq m c t) cover), (h c).2⟩)
    (Value.run_blocks m ρ)

end Cert.Kernel4Ideal.OutProj

end
-- ==== Proof.FfnDown.lean ====
/-
  The second half of the feed-forward block: what its result array holds after the run, and that it is the reference's
  `rms_norm(x1 + act · w, gain)` of the same arguments.
-/
module

public import proofs.«01_k».proof.Proof.Mats
public import proofs.«01_k».proof.Proof.Gen.Kernel3Ideal.Value
public import proofs.«01_k».proof.Proof.Gen.Reference3Ideal.Run
public import proofs.«01_k».proof.Proof.Gen.Reference3Ideal.Read

@[expose] public section

set_option maxRecDepth 16384

noncomputable section

namespace Cert.Kernel3Ideal.FfnDown

open Cert.Kernel3Ideal Cert.Kernel3Ideal.Gen Cert.Mats Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The residual stream. -/
abbrev A0 (c : Dev nD) : S16384x2048.Idx → EReal := m ((c : Thread nD τ).loc main_arg0)
/-- The activations. -/
abbrev A1 (c : Dev nD) : S16384x5632.Idx → EReal := m ((c : Thread nD τ).loc main_arg1)
/-- The weights. -/
abbrev A2 (c : Dev nD) : S5632x2048.Idx → EReal := m ((c : Thread nD τ).loc main_arg2)
/-- The gain. -/
abbrev A3 (c : Dev nD) : S1x2048.Idx → EReal := m ((c : Thread nD τ).loc main_arg3)

/-- The reference's result of core `c`'s four arguments. -/
abbrev G (c : Dev nD) : Buf (Elt Ideal) ((c : Thread nD τ).loc main_v1) :=
  Cert.Reference3Ideal.Read.val_main_v14 (F := Ideal) (A0 m c) (A1 m c) (A2 m c) (A3 m c)

/-- The weight array the pipeline stages is the argument, cast: at the ideal values the argument itself. -/
theorem V_w (c : Dev nD) : (V m c main_v0 : S5632x2048.Idx → EReal) = A2 m c := by
  show StableHlo.after hostOps0 (fun b => m (c, b)) main_v0 = _
  after_results
  rfl

/-- The row windows move down by one block a point; the weights and the gain stay. -/
theorem idx_eq (t : Fin cfg0.N) :
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0)) t

theorem lt_N (t : Fin cfg0.N) : t.val < 64 := lt_of_lt_of_eq t.isLt N_0

/-- Row `r` of block `t`, as a row of the whole array. -/
def row (t : Fin cfg0.N) (r : Fin 256) : Fin 16384 := ⟨t.val * 256 + r.val, by have := lt_N t; have := r.isLt; omega⟩

theorem iblk0 (c : Dev nD) (t : Fin cfg0.N) (r : Fin 256) (k : Fin 2048) :
    (iblk m c 0 t : Vec Ideal S256x2048 .f32) (ix2 r k) = A0 m c (ix2 (row t r) k) := by
  have e := (idx_eq t).1
  unfold iblk
  rw [View.read_apply]
  show V m c main_arg0 _ = _
  rw [V_main_arg0]
  congr 1; funext a; apply Fin.ext
  match a with
  | ⟨0, _⟩ => show win0_0.index t 0 * 256 + 1 * r.val = t.val * 256 + r.val; rw [e.1]; omega
  | ⟨1, _⟩ => show win0_0.index t 1 * 2048 + 1 * k.val = k.val; rw [e.2]; omega

theorem iblk1 (c : Dev nD) (t : Fin cfg0.N) (r : Fin 256) (k : Fin 5632) :
    (iblk m c 1 t : Vec Ideal S256x5632 .bf16) (ix2 r k) = A1 m c (ix2 (row t r) k) := by
  have e := (idx_eq t).2.1
  unfold iblk
  rw [View.read_apply]
  show V m c main_arg1 _ = _
  rw [V_main_arg1]
  congr 1; funext a; apply Fin.ext
  match a with
  | ⟨0, _⟩ => show win0_1.index t 0 * 256 + 1 * r.val = t.val * 256 + r.val; rw [e.1]; omega
  | ⟨1, _⟩ => show win0_1.index t 1 * 5632 + 1 * k.val = k.val; rw [e.2]; omega

theorem iblk2 (c : Dev nD) (t : Fin cfg0.N) (r : Fin 5632) (k : Fin 2048) :
    ((iblk m c 2 t : Vec Ideal S5632x2048 .bf16) (ix2 r k) : EReal) = A2 m c (ix2 r k) := by
  have e := (idx_eq t).2.2.1
  unfold iblk
  rw [View.read_apply]
  show (V m c main_v0 : S5632x2048.Idx → EReal) _ = _
  rw [V_w]
  congr 1; funext a; apply Fin.ext
  match a with
  | ⟨0, _⟩ => show win0_2.index t 0 * 5632 + 1 * r.val = r.val; rw [e.1]; omega
  | ⟨1, _⟩ => show win0_2.index t 1 * 2048 + 1 * k.val = k.val; rw [e.2]; omega

theorem iblk3 (c : Dev nD) (t : Fin cfg0.N) (r : Fin 1) (k : Fin 2048) :
    (iblk m c 3 t : Vec Ideal S1x2048 .f32) (ix2 r k) = A3 m c (ix2 r k) := by
  have e := (idx_eq t).2.2.2.1
  unfold iblk
  rw [View.read_apply]
  show V m c main_arg3 _ = _
  rw [V_main_arg3]
  congr 1; funext a; apply Fin.ext
  match a with
  | ⟨0, _⟩ => show win0_3.index t 0 * 1 + 1 * r.val = r.val; rw [e.1]; omega
  | ⟨1, _⟩ => show win0_3.index t 1 * 2048 + 1 * k.val = k.val; rw [e.2]; omega

/-- What the body leaves at one place of the result's block, in the four input blocks. -/
theorem out_apply (x0 : Vec Ideal S256x2048 .f32) (x1 : Vec Ideal S256x5632 .bf16) (x2 : Vec Ideal S5632x2048 .bf16)
    (x3 : Vec Ideal S1x2048 .f32) (r : Fin 256) (k : Fin 2048) :
    (out0_4 x0 x1 x2 x3 (ix2 r k) : EReal)
      = rms (fun j => x0 (ix2 r j) + ∑ q : Fin 5632, (x1 (ix2 r q) : EReal) * x2 (ix2 q j)) k * x3 (ix2 0 k) := by
  unfold out0_4
  rw [View.canon_unit_zero hz2]
  unfold k0_pay1
  simp only [View.ld_unit_zero (S := S256x2048) hz2, View.ld_unit_zero (S := S256x5632) hz2, View.ld_unit_zero (S := S5632x2048) hz2,
    View.ld_unit_zero (S := S1x2048) hz2, shapeCast_self]
  refine congrArg₂ (fun a b : EReal => a * b) ((rms_apply _ _ _ _ r k).trans ?_) ?_
  · congr 1
    funext j
    exact congrArg (fun z : EReal => x0 (ix2 r j) + z)
      (mm_apply (φ₁ := .bf16) (φ₂ := .bf16) dot_S256x5632_S5632x2048_S256x2048_1_0_0_1_n_n rfl none x1 x2 r j)
  · pointwise

open Cert.Reference3Ideal.Read in
/-- The reference's sum of the residual stream and the product, at one place. -/
theorem v2_apply (c : Dev nD) (r : Fin 16384) (k : Fin 2048) :
    (val_main_v2 (F := Ideal) (A0 m c) (A1 m c) (A2 m c) (ix2 r k) : EReal)
      = A0 m c (ix2 r k) + ∑ q : Fin 5632, A1 m c (ix2 r q) * A2 m c (ix2 q k) := by
  refine congrArg (fun z : EReal => A0 m c (ix2 r k) + z) ((val_main_v1_apply (A1 m c) (A2 m c) (ix2 r k)).trans ?_)
  refine Finset.sum_congr rfl fun q _ => congrArg₂ (fun a b : EReal => a * b) (congrArg (A1 m c) ?_) (congrArg (A2 m c) ?_)
  · funext a; match a with
    | ⟨0, _⟩ => rfl
    | ⟨1, _⟩ => rfl
  · funext a; match a with
    | ⟨0, _⟩ => rfl
    | ⟨1, _⟩ => rfl

open Cert.Reference3Ideal.Read in
/-- The reference at one place. -/
theorem G_apply (c : Dev nD) (r : Fin 16384) (k : Fin 2048) :
    (G m c (ix2 r k) : EReal)
      = rms (fun j => A0 m c (ix2 r j) + ∑ q : Fin 5632, A1 m c (ix2 r q) * A2 m c (ix2 q j)) k * A3 m c (ix2 0 k) := by
  unfold G
  rw [val_main_v14_apply, val_main_v12_apply, val_main_v13_apply, val_main_v11_apply, val_main_v10_apply, val_main_v9_apply,
    val_main_v8_apply, val_main_v7_apply, val_main_v6_apply, val_main_v5_apply, val_main_v4_apply]
  simp only [val_main_v3_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold rms
  have e : ∀ (i : S16384x2048.Idx) (r' : Fin 16384) (j : Fin 2048), i = ix2 r' j →
      (val_main_v2 (F := Ideal) (A0 m c) (A1 m c) (A2 m c) i : EReal)
        = A0 m c (ix2 r' j) + ∑ q : Fin 5632, A1 m c (ix2 r' q) * A2 m c (ix2 q j) := fun i r' j h => by
    rw [h]; exact v2_apply m c r' j
  refine congrArg₂ (fun a b : EReal => a * b) (congrArg₂ (fun a b : EReal => a * b) (e _ _ _ rfl) ?_) (congrArg (A3 m c) ?_)
  · refine congrArg Ideal.rsqrt (congrArg (fun z : EReal => Ideal.div z _ + _) (Finset.sum_congr rfl fun j _ => ?_))
    refine congrArg₂ (fun a b : EReal => a * b) (e _ _ _ ?_) (e _ _ _ ?_) <;>
    · funext a; match a with
      | ⟨0, _⟩ => rfl
      | ⟨1, _⟩ => rfl
  · funext a; match a with
    | ⟨0, _⟩ => rfl
    | ⟨1, _⟩ => rfl

/-- What point `t` writes back is block `t` of the reference's result. -/
theorem flushed_eq (c : Dev nD) (t : Fin cfg0.N) :
    (dats m 0 c).flushed 4 t = ((cfg0.win 4).blk t).view.read (Elt Ideal) (G m c) := by
  have e := (idx_eq t).2.2.2.2
  rw [Value.flushed4]
  funext j
  obtain ⟨r, k, rfl⟩ : ∃ (r : Fin 256) (k : Fin 2048), j = ix2 r k := ⟨j 0, j 1, by
    funext a; match a with
    | ⟨0, _⟩ => rfl
    | ⟨1, _⟩ => rfl⟩
  rw [View.read_apply]
  have hG : G m c (((cfg0.win 4).blk t).view.emb (ix2 r k)) = G m c (ix2 (row t r) k) := by
    congr 1; funext a; apply Fin.ext
    match a with
    | ⟨0, _⟩ => show win0_4.index t 0 * 256 + 1 * r.val = t.val * 256 + r.val; rw [e.1]; omega
    | ⟨1, _⟩ => show win0_4.index t 1 * 2048 + 1 * k.val = k.val; rw [e.2]; omega
  refine Eq.trans ?_ hG.symm
  show out0_4 (iblk m c 0 t) (iblk m c 1 t) (iblk m c 2 t) (iblk m c 3 t) (ix2 r k) = _
  refine (out_apply _ _ _ _ r k).trans ?_
  refine Eq.trans ?_ (G_apply m c (row t r) k).symm
  simp only [iblk0, iblk1, iblk2, iblk3]

/-- The blocks of rows cover the result. -/
theorem cover (i : S16384x2048.Idx) :
    ∃ t : Fin cfg0.N, (cfg0.win 4).flush t = true ∧ i ∈ ((cfg0.win 4).blk t).view.set := by
  have h0 : (i 0 : Nat) < 16384 := (i 0).isLt
  have h1 : (i 1 : Nat) < 2048 := (i 1).isLt
  have hN : cfg0.N = 64 := N_0
  let t : Fin cfg0.N := ⟨(i 0 : Nat) / 256, by omega⟩
  have e := (idx_eq t).2.2.2.2
  have ht : t.val = (i 0 : Nat) / 256 := rfl
  refine ⟨t, flush0_4 _, ?_⟩
  show i ∈ ((View.whole main_v1).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256
              rw [e.1, ht]; omega
  | ⟨1, _⟩ => show win0_4.index t 1 * 2048 ≤ (i 1 : Nat) ∧ (i 1 : Nat) < win0_4.index t 1 * 2048 + 2048
              rw [e.2]; omega

/-- The run of the kernel, read: its result is the reference's function of its arguments, which are unchanged. -/
theorem run : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans ((dats m 0 c).arrAt_eq_of_cover 4 (G m c) (fun t _ => flushed_eq m c t) cover), (h c).2⟩)
    (Value.run_blocks m ρ)

end Cert.Kernel3Ideal.FfnDown

end
-- ==== Proof.Claims34.lean ====
/- The value claims of the output projection and of the feed-forward's second half: both programs run, and end with
   the reference's function of arguments that agree. -/
module

public import proofs.«01_k».proof.Defs
public import proofs.«01_k».proof.Proof.OutProj
public import proofs.«01_k».proof.Proof.FfnDown
public import proofs.«01_k».proof.Proof.Gen.Reference3Ideal.Run
public import proofs.«01_k».proof.Proof.Gen.Reference4Ideal.Run

@[expose] public section

noncomputable section

namespace Cert.Claims34

open Idealize.ShloMosaic Idealize.SL.Sem

/-- The feed-forward's second half. -/
theorem algebraic3 : Cert.algebraic_Kernel3Ideal_Reference3Ideal := by
  intro m ρ m' ρ' _ hagree
  refine ⟨fun c => Cert.Kernel3Ideal.FfnDown.G m c, Cert.Kernel3Ideal.FfnDown.run m ρ, ?_⟩
  refine (θ_run Cert.Reference3Ideal.defs _ _).mono (fun _ h c => ⟨(h c).1.trans ?_, (h c).2⟩)
    (Cert.Reference3Ideal.Value.run (F := Ideal) m' ρ')
  obtain ⟨h0, h1, h2, h3⟩ := hagree c
  rw [h0, h1, h2, h3]
  exact (Cert.Reference3Ideal.Read.val_main_v14_eq ..).symm

/-- The output projection. -/
theorem algebraic4 : Cert.algebraic_Kernel4Ideal_Reference4Ideal := by
  intro m ρ m' ρ' _ hagree
  refine ⟨fun c => Cert.Kernel4Ideal.OutProj.G m c, Cert.Kernel4Ideal.OutProj.run m ρ, ?_⟩
  refine (θ_run Cert.Reference4Ideal.defs _ _).mono (fun _ h c => ⟨(h c).1.trans ?_, (h c).2⟩)
    (Cert.Reference4Ideal.Value.run (F := Ideal) m' ρ')
  obtain ⟨h0, h1, h2, h3⟩ := hagree c
  rw [h0, h1, h2, h3]
  exact (Cert.Reference4Ideal.Read.val_main_v3_eq ..).symm

end Cert.Claims34

end
-- ==== Proof.InRun.lean ====
/- The input projection's body run once per case of its condition: at a row's first point (the norm, the dt block, the
   product) and at the others (the product alone). -/
module

public import proofs.«01_k».proof.Proof.Gen.Kernel5Ideal.Frame
public import proofs.«01_k».proof.Proof.Gen.Kernel5Ideal.Loops
public import Idealize.ShloMosaic.Lib.Pipeline.Value
public import Idealize.ShloMosaic.Lib.Pipeline.ValueKit
public import Idealize.ShloMosaic.Lib.ValueIdxCore
public import Idealize.ShloMosaic.Lib.ValueLayoutCasts

@[expose] public section

set_option maxRecDepth 16384

noncomputable section

namespace Cert.Kernel5Ideal.InProj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- Rows `128 b …` of a block of 1024 rows. -/
def rowBlk (x : Vec F S1024x2048 .f32) (b : Nat) (hb : b < 8) : Vec F S128x2048 .f32 :=
  fun j => x (Idealize.ShloMosaic.ValueIdx.ix2 ⟨128 * b + (j 0).val, by have := (j 0).isLt; change (j 0).val < 128 at this; omega⟩ (j 1))

/-- The scratch after a row's first point: the normed rows, 128 at a time. -/
def hval (x0 : Vec F S1024x2048 .f32) (x1 : Vec F S1x2048 .f32) : Vec F S1024x2048 .bf16 :=
  fun j => k0_pay3 (rowBlk x0 ((j 0).val / 128) (by have := (j 0).isLt; change (j 0).val < 1024 at this; omega)) x1
    (Idealize.ShloMosaic.ValueIdx.ix2 ⟨(j 0).val % 128, Nat.mod_lt _ (by decide)⟩ (j 1))

/-- The dt block: the product with the dt columns, transposed, its first 64 rows. -/
def dtval (h : Vec F S1024x2048 .bf16) (x3 : Vec F S2048x128 .bf16) : Vec F S64x1024 .f32 :=
  fun j => k0_pay4 h x3 (Idealize.ShloMosaic.ValueIdx.ix2 (j 1) ⟨(j 0).val, by have := (j 0).isLt; change (j 0).val < 64 at this; omega⟩)

theorem trips_eq : k0_t1_loop.trips = 8 := by decide +kernel

theorem rowBlk_ld (k : Fin k0_t1_loop.trips) (inb) (x : Vec F S1024x2048 .f32) (hk : k.val < 8) :
    View.ld x (Rect.unit (s := S1024x2048) (k0_off1 k) S128x2048.size inb) = rowBlk x k.val hk := by
  funext j
  unfold rowBlk
  refine View.ld_unit_apply_of x _ _ _ j _ fun a => ?_
  have e := congrFun (k0_off1_eq k) a
  refine Eq.trans ?_ (congrArg (· + (j a).val) e.symm)
  match a with
  | ⟨0, _⟩ => rfl
  | ⟨1, _⟩ => exact (Nat.zero_add _).symm

theorem rows_eq (x0 : Vec F S1024x2048 .f32) (x1 : Vec F S1x2048 .f32) (k : Fin k0_t1_loop.trips) (hk : k.val < 8) (inb)
    (x : (Rect.unit (s := S1024x2048) (k0_off1 k) S128x2048.size inb).shape.Idx) :
    k0_pay3 (rowBlk x0 k.val hk) x1 x = hval x0 x1 ((Rect.unit (s := S1024x2048) (k0_off1 k) S128x2048.size inb).emb x) := by
  have hx : (x 0).val < 128 := (x 0).isLt
  have e0 : ((Rect.unit (s := S1024x2048) (k0_off1 k) S128x2048.size inb).emb x 0).val = 128 * k.val + (x 0).val := by
    rw [Rect.emb_apply]; simp only [Rect.off_unit, Rect.stride_unit, Nat.one_mul, k0_off1_eq]; rfl
  have e1 : ((Rect.unit (s := S1024x2048) (k0_off1 k) S128x2048.size inb).emb x 1).val = (x 1).val := by
    rw [Rect.emb_apply]; simp only [Rect.off_unit, Rect.stride_unit, Nat.one_mul, k0_off1_eq]; exact Nat.zero_add _
  unfold hval
  have hd : ((Rect.unit (s := S1024x2048) (k0_off1 k) S128x2048.size inb).emb x 0).val / 128 = k.val := by rw [e0]; omega
  have hm : ((Rect.unit (s := S1024x2048) (k0_off1 k) S128x2048.size inb).emb x 0).val % 128 = (x 0).val := by rw [e0]; omega
  have hb : ∀ (b : Nat) (hb : b < 8), b = k.val → rowBlk x0 b hb = rowBlk x0 k.val hk := fun b hb e => by subst e; rfl
  rw [hb _ _ hd]
  congr 1
  funext a
  apply Fin.ext
  match a with
  | ⟨0, _⟩ => exact hm.symm
  | ⟨1, _⟩ => exact e1.symm

/-- What trip `k` of the loop writes: 128 of the normed rows. -/
theorem tripL_eq (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S64x1024 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) (k : Fin k0_t1_loop.trips) (hk : k.val < 8) :
    tripL_k0_t1 (F := F) 𝒱 c bd i arg2 harg2 arg3 harg3 arg4 harg4 arg5 harg5 arg6 harg6 arg7 harg7 arg8 harg8 k0_h1 (harg2.unread x0) (harg3.unread x1) k
      = [⟨Rect.unit (s := S1024x2048) (k0_off1 k) S128x2048.size (k0_off1_inb i k k0_h1), k0_pay3 (rowBlk x0 k.val hk) x1⟩] := by
  unfold tripL_k0_t1 trip_k0_t1
  dsimp only
  simp only [View.readAt_eq_ld, harg2.read_unread, harg3.read_unread, View.ld_unit_zero (S := S1x2048) hz2]
  rw [rowBlk_ld k _ x0 hk]

theorem pieces (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S64x1024 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) (n : Nat) (hn : n ≤ k0_t1_loop.trips) :
    (∀ p ∈ pb_k0_t1 (F := F) 𝒱 c bd i arg2 harg2 arg3 harg3 arg4 harg4 arg5 harg5 arg6 harg6 arg7 harg7 arg8 harg8 k0_h1 (harg2.unread x0) (harg3.unread x1) n, ∀ x : p.1.shape.Idx, p.2 x = hval x0 x1 (p.1.emb x))
      ∧ ∀ y : S1024x2048.Idx, (y 0).val < 128 * n → ∃ p ∈ pb_k0_t1 (F := F) 𝒱 c bd i arg2 harg2 arg3 harg3 arg4 harg4 arg5 harg5 arg6 harg6 arg7 harg7 arg8 harg8 k0_h1 (harg2.unread x0) (harg3.unread x1) n, y ∈ p.1.set := by
  induction n with
  | zero => exact ⟨fun p hp => by rw [pb_k0_t1.eq_1] at hp; simp at hp, fun y hy => by omega⟩
  | succ n ih =>
    have hk : n < 8 := Nat.lt_of_lt_of_le hn k0_t1_abs.2.1
    obtain ⟨h1, h2⟩ := ih (by omega)
    rw [pb_k0_t1_succ (F := F) 𝒱 c bd i arg2 harg2 arg3 harg3 arg4 harg4 arg5 harg5 arg6 harg6 arg7 harg7 arg8 harg8 k0_h1 (harg2.unread x0) (harg3.unread x1) ⟨n, hn⟩, tripL_eq (F := F) 𝒱 c bd i arg2 harg2 arg3 harg3 arg4 harg4 arg5 harg5 arg6 harg6 arg7 harg7 arg8 harg8 k0_h1 x0 x1 ⟨n, hn⟩ hk]
    refine ⟨fun p hp => ?_, fun y hy => ?_⟩
    · rcases List.mem_cons.mp hp with rfl | hp
      · intro x
        exact rows_eq x0 x1 ⟨n, hn⟩ hk (k0_off1_inb i ⟨n, hn⟩ k0_h1) x
      · exact h1 p hp
    · by_cases hlt : (y 0).val < 128 * n
      · obtain ⟨p, hp, hy'⟩ := h2 y hlt
        exact ⟨p, List.mem_cons_of_mem _ hp, hy'⟩
      · refine ⟨_, List.mem_cons_self, ?_⟩
        rw [Rect.mem_set_unit, k0_off1_eq]
        intro a
        match a with
        | ⟨0, _⟩ =>
          show 128 * n ≤ (y 0).val ∧ (y 0).val < 128 * n + 128
          omega
        | ⟨1, _⟩ =>
          have := (y 1).isLt
          exact ⟨Nat.zero_le _, by change (y 1).val < 0 + 2048; change (y 1).val < 2048 at this; omega⟩

set_option maxHeartbeats 1000000 in
/-- A point past a row's first: the product's block is stored, all else is as it was. -/
theorem runB (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S64x1024 .f32) (harg7 : arg7.IsWhole) (arg8 : Memref sig .tc .vmem S1024x2048 .bf16) (harg8 : arg8.IsWhole)
    (hc : ¬ k0_cond1 i = 1#1) (x2 : Vec F S2048x1024 .bf16) (s : Vec F S1024x2048 .bf16) (E : Set ℕ) (K : PUnit → sProp 𝕄) :
        iprop(owns (c : Thread nD τ) arg4 fullShare x2 ∗ (∃ d, owns (c : Thread nD τ) arg6 fullShare d) ∗ owns (c : Thread nD τ) arg8 fullShare s
            ∗ (iprop(owns (c : Thread nD τ) arg4 fullShare x2 ∗ owns (c : Thread nD τ) arg6 fullShare (k0_pay2 s x2) ∗ owns (c : Thread nD τ) arg8 fullShare s) -∗ K ⟨⟩))
          ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  unfold owns
  iintro ⟨⟨%f2, %hf2, H2⟩, ⟨%d6, %f6, -, H6⟩, ⟨%fs, %hfs, HS⟩, Hk⟩
  obtain rfl := harg4.eq_unread hf2; obtain rfl := harg8.eq_unread hfs
  sl_exec
  sl_step
  iapply Hk
  isplitl [H2]
  · iexists _; isplitr; · ipureintro; exact harg4.read_unread _
    iexact H2
  isplitl [H6]
  · iexists _; isplitr; swap; · iexact H6
    ipureintro
    rw [View.read_writes_eq_canon _ _ _ (fun y => ⟨_, List.mem_singleton_self _, View.mem_set_unit_zero hz2 inb_S1024x1024_S1024x1024_0_0 y⟩), View.canon_unit_zero hz2]
    simp only [View.readAt_eq_ld, harg4.read_unread, harg8.read_unread, View.ld_unit_zero (S := S2048x1024) hz2, View.ld_unit_zero (S := S1024x2048) hz2]
  iexists _; isplitr; · ipureintro; exact harg8.read_unread _
  iexact HS

/-- The scratch read back after the loop. -/
theorem read_pieces (𝒱 : Variants) (c : Dev nD) (bd : Option 𝒱.V) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S64x1024 .f32) (harg7 : arg7.IsWhole) (arg8 : Memref sig .tc .vmem S1024x2048 .bf16) (harg8 : arg8.IsWhole) (k0_h1 : k0_cond1 i = 1#1)
    (x0 : Vec F S1024x2048 .f32) (x1 : Vec F S1x2048 .f32) (f : BufTy.Contents (Elt F) arg8.view.ty) :
    arg8.view.read (Elt F) (arg8.view.writes (Elt F) f (pb_k0_t1 (F := F) 𝒱 c bd i arg2 harg2 arg3 harg3 arg4 harg4 arg5 harg5 arg6 harg6 arg7 harg7 arg8 harg8 k0_h1 (harg2.unread x0) (harg3.unread x1) (Scf.trips (0#32) (Scalar.addi 0#32 8#32) 1#32))) = hval x0 x1 := by
  obtain ⟨h1, h2⟩ := pieces (F := F) 𝒱 c bd i arg2 harg2 arg3 harg3 arg4 harg4 arg5 harg5 arg6 harg6 arg7 harg7 arg8 harg8 k0_h1 x0 x1 k0_t1_loop.trips le_rfl
  have hc : ∀ y, ∃ p ∈ pb_k0_t1 (F := F) 𝒱 c bd i arg2 harg2 arg3 harg3 arg4 harg4 arg5 harg5 arg6 harg6 arg7 harg7 arg8 harg8 k0_h1 (harg2.unread x0) (harg3.unread x1) k0_t1_loop.trips, y ∈ p.1.set := fun y => h2 y (by
    rw [trips_eq]; exact (y 0).isLt)
  refine (View.read_writes_eq_canon _ _ _ hc).trans ?_
  funext y
  exact View.canon_apply_of_pieces (hval x0 x1) _ h1 y (hc y)

/-- A block of 128 rows of the dt product, transposed and cut to its first 64 rows, is that part of `dtval`. -/
theorem dt_piece (h : Vec F S1024x2048 .bf16) (x3 : Vec F S2048x128 .bf16) (o : Nat) (inb) (sl : S1024x128.Slices ![o, 0] S128x128)
    (tr : S128x128.Transposes [1, 0] S128x128) (sl' : S128x128.Slices ![0, 0] S64x128)
    (x : (Rect.unit (s := S64x1024) ![0, o] S64x128.size inb).shape.Idx) :
    extractStridedSlice S64x128 ![0, 0] (transpose S128x128 [1, 0] (extractStridedSlice S128x128 ![o, 0] (k0_pay4 h x3) sl) tr) sl' x
      = dtval h x3 ((Rect.unit (s := S64x1024) ![0, o] S64x128.size inb).emb x) := by
  unfold extractStridedSlice transpose dtval
  dsimp only
  refine congrArg (k0_pay4 h x3) (funext fun a => Fin.ext ?_)
  match a with
  | ⟨0, _⟩ =>
    rw [show ((ValueIdx.ix2 ((Rect.unit (s := S64x1024) ![0, o] S64x128.size inb).emb x 1) (⟨((Rect.unit (s := S64x1024) ![0, o] S64x128.size inb).emb x 0).val, by have := ((Rect.unit (s := S64x1024) ![0, o] S64x128.size inb).emb x 0).isLt; change _ < 64 at this; omega⟩ : Fin 128) : S1024x128.Idx) ⟨0, by decide⟩).val = ((Rect.unit (s := S64x1024) ![0, o] S64x128.size inb).emb x 1).val from rfl, Rect.emb_apply]
    show o + (0 + (x 1).val) = o + 1 * (x 1).val
    omega
  | ⟨1, _⟩ =>
    show 0 + (0 + (x 0).val) = 0 + 1 * (x 0).val
    omega

/-- The eight pieces the dt block is stored by. -/
def dtPieces (h : Vec F S1024x2048 .bf16) (x3 : Vec F S2048x128 .bf16) : List (View.Piece (Elt F) S64x1024 .f32) :=
  [⟨Rect.unit (s := S64x1024) ![0, 896] S64x128.size inb_S64x1024_S64x128_0_896, k0_pay1 (k0_pay4 h x3)⟩, ⟨Rect.unit (s := S64x1024) ![0, 768] S64x128.size inb_S64x1024_S64x128_0_768, k0_pay11 h x3⟩, ⟨Rect.unit (s := S64x1024) ![0, 640] S64x128.size inb_S64x1024_S64x128_0_640, k0_pay10 h x3⟩, ⟨Rect.unit (s := S64x1024) ![0, 512] S64x128.size inb_S64x1024_S64x128_0_512, k0_pay9 h x3⟩, ⟨Rect.unit (s := S64x1024) ![0, 384] S64x128.size inb_S64x1024_S64x128_0_384, k0_pay8 h x3⟩, ⟨Rect.unit (s := S64x1024) ![0, 256] S64x128.size inb_S64x1024_S64x128_0_256, k0_pay7 h x3⟩, ⟨Rect.unit (s := S64x1024) ![0, 128] S64x128.size inb_S64x1024_S64x128_0_128, k0_pay6 h x3⟩, ⟨Rect.unit (s := S64x1024) ![0, 0] S64x128.size inb_S64x1024_S64x128_0_0, k0_pay5 h x3⟩]

theorem dt_agree (h : Vec F S1024x2048 .bf16) (x3 : Vec F S2048x128 .bf16) :
    ∀ p ∈ dtPieces h x3, ∀ x : p.1.shape.Idx, p.2 x = dtval h x3 (p.1.emb x) := by
  unfold dtPieces
  simp only [List.forall_mem_cons]
  refine ⟨fun x => ?_, fun x => ?_, fun x => ?_, fun x => ?_, fun x => ?_, fun x => ?_, fun x => ?_, fun x => ?_, fun p hp => absurd hp List.not_mem_nil⟩
  · exact dt_piece h x3 896 inb_S64x1024_S64x128_0_896 slices_S1024x128_o896_0_S128x128 transposes_S128x128_p1_0_S128x128 slices_S128x128_o0_0_S64x128 x
  · exact dt_piece h x3 768 inb_S64x1024_S64x128_0_768 slices_S1024x128_o768_0_S128x128 transposes_S128x128_p1_0_S128x128 slices_S128x128_o0_0_S64x128 x
  · exact dt_piece h x3 640 inb_S64x1024_S64x128_0_640 slices_S1024x128_o640_0_S128x128 transposes_S128x128_p1_0_S128x128 slices_S128x128_o0_0_S64x128 x
  · exact dt_piece h x3 512 inb_S64x1024_S64x128_0_512 slices_S1024x128_o512_0_S128x128 transposes_S128x128_p1_0_S128x128 slices_S128x128_o0_0_S64x128 x
  · exact dt_piece h x3 384 inb_S64x1024_S64x128_0_384 slices_S1024x128_o384_0_S128x128 transposes_S128x128_p1_0_S128x128 slices_S128x128_o0_0_S64x128 x
  · exact dt_piece h x3 256 inb_S64x1024_S64x128_0_256 slices_S1024x128_o256_0_S128x128 transposes_S128x128_p1_0_S128x128 slices_S128x128_o0_0_S64x128 x
  · exact dt_piece h x3 128 inb_S64x1024_S64x128_0_128 slices_S1024x128_o128_0_S128x128 transposes_S128x128_p1_0_S128x128 slices_S128x128_o0_0_S64x128 x
  · exact dt_piece h x3 0 inb_S64x1024_S64x128_0_0 slices_S1024x128_o0_0_S128x128 transposes_S128x128_p1_0_S128x128 slices_S128x128_o0_0_S64x128 x

theorem dt_cover (h : Vec F S1024x2048 .bf16) (x3 : Vec F S2048x128 .bf16) (y : S64x1024.Idx) :
    ∃ p ∈ dtPieces h x3, y ∈ p.1.set := by
  have h0 : (y 0).val < 64 := (y 0).isLt
  have h1 : (y 1).val < 1024 := (y 1).isLt
  have key : ∀ (o : Nat) (inb), o ≤ (y 1).val → (y 1).val < o + 128 → y ∈ (Rect.unit (s := S64x1024) ![0, o] S64x128.size inb).set := by
    intro o inb hlo hhi
    rw [Rect.mem_set_unit]
    intro a
    match a with
    | ⟨0, _⟩ => exact ⟨Nat.zero_le _, by change (y 0).val < 0 + 64; omega⟩
    | ⟨1, _⟩ => exact ⟨hlo, hhi⟩
  rcases (by omega : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0) with e | e | e | e | e | e | e | e
  · exact ⟨(dtPieces h x3)[0]'(by change 0 < 8; decide), List.getElem_mem _, key 896 inb_S64x1024_S64x128_0_896 (by omega) (by omega)⟩
  · exact ⟨(dtPieces h x3)[1]'(by change 1 < 8; decide), List.getElem_mem _, key 768 inb_S64x1024_S64x128_0_768 (by omega) (by omega)⟩
  · exact ⟨(dtPieces h x3)[2]'(by change 2 < 8; decide), List.getElem_mem _, key 640 inb_S64x1024_S64x128_0_640 (by omega) (by omega)⟩
  · exact ⟨(dtPieces h x3)[3]'(by change 3 < 8; decide), List.getElem_mem _, key 512 inb_S64x1024_S64x128_0_512 (by omega) (by omega)⟩
  · exact ⟨(dtPieces h x3)[4]'(by change 4 < 8; decide), List.getElem_mem _, key 384 inb_S64x1024_S64x128_0_384 (by omega) (by omega)⟩
  · exact ⟨(dtPieces h x3)[5]'(by change 5 < 8; decide), List.getElem_mem _, key 256 inb_S64x1024_S64x128_0_256 (by omega) (by omega)⟩
  · exact ⟨(dtPieces h x3)[6]'(by change 6 < 8; decide), List.getElem_mem _, key 128 inb_S64x1024_S64x128_0_128 (by omega) (by omega)⟩
  · exact ⟨(dtPieces h x3)[7]'(by change 7 < 8; decide), List.getElem_mem _, key 0 inb_S64x1024_S64x128_0_0 (by omega) (by omega)⟩

/-- The dt block read back. -/
theorem read_dt (arg7 : Memref sig .tc .vmem S64x1024 .f32) (f : BufTy.Contents (Elt F) arg7.view.ty) (h : Vec F S1024x2048 .bf16) (x3 : Vec F S2048x128 .bf16) :
    arg7.view.read (Elt F) (arg7.view.writes (Elt F) f (dtPieces h x3)) = dtval h x3 := by
  rw [View.read_writes_eq_canon _ _ _ (dt_cover h x3)]
  funext y
  exact View.canon_apply_of_pieces (dtval h x3) _ (dt_agree h x3) y (dt_cover h x3 y)

set_option maxHeartbeats 4000000 in
/-- A row's first point: the norm's rows into the scratch, the dt block, the product's block. -/
theorem runA (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S2048x128 .bf16) (harg5 : arg5.IsWhole) (arg6 : Memref sig .tc .vmem S1024x1024 .bf16) (harg6 : arg6.IsWhole) (arg7 : Memref sig .tc .vmem S64x1024 .f32) (harg7 : arg7.IsWhole) (arg8 : Memref sig .tc .vmem S1024x2048 .bf16) (harg8 : arg8.IsWhole)
    (hc : k0_cond1 i = 1#1) (x0 : Vec F S1024x2048 .f32) (x1 : Vec F S1x2048 .f32) (x2 : Vec F S2048x1024 .bf16) (x3 : Vec F S2048x128 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3
              ∗ owns (c : Thread nD τ) arg6 fullShare (k0_pay2 (hval x0 x1) x2)
              ∗ owns (c : Thread nD τ) arg7 fullShare (dtval (hval x0 x1) x3)
              ∗ owns (c : Thread nD τ) arg8 fullShare (hval x0 x1)) -∗ K ⟨⟩))
          ⊢ wp frame (wpE (defs₀ (F := F)) Variants.none c none) E (cc0_in_proj i arg2 harg2 arg3 harg3 arg4 harg4 arg5 harg5 arg6 harg6 arg7 harg7 arg8 harg8) K := by
  simp only [cc0_in_proj_eq_skeleton]; unfold cc0_in_proj_skel
  simp only [k0_part1_eq_skeleton]
  unfold owns
  iintro ⟨⟨%f0, %hf0, H0⟩, ⟨%f1, %hf1, H1⟩, ⟨%f2, %hf2, H2⟩, ⟨%f3, %hf3, H3⟩, ⟨%d6, %f6, -, H6⟩, ⟨%d7, %f7, -, H7⟩, ⟨%ds, %fs, -, HS⟩, Hk⟩
  obtain rfl := harg2.eq_unread hf0; obtain rfl := harg3.eq_unread hf1; obtain rfl := harg4.eq_unread hf2; obtain rfl := harg5.eq_unread hf3
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H6]
  · iexists _; isplitr; swap; · iexact H6
    ipureintro
    sl_unfold_words
    rw [View.read_writes_eq_canon _ _ _ (fun y => ⟨_, List.mem_singleton_self _, View.mem_set_unit_zero hz2 inb_S1024x1024_S1024x1024_0_0 y⟩), View.canon_unit_zero hz2]
    simp only [View.readAt_eq_ld, harg4.read_unread, read_pieces, View.ld_unit_zero (S := S2048x1024) hz2, View.ld_unit_zero (S := S1024x2048) hz2]
  isplitl [H7]
  · iexists _; isplitr; swap; · iexact H7
    ipureintro
    sl_unfold_words
    simp only [View.readAt_eq_ld, harg5.read_unread, read_pieces, View.ld_unit_zero (S := S2048x128) hz2, View.ld_unit_zero (S := S1024x2048) hz2]
    exact read_dt arg7 f7 (hval x0 x1) x3
  iexists _; isplitr; swap; · iexact HS
  ipureintro
  exact read_pieces _ _ _ _ _ _ _ _ _ _ _ _ _ _ _ _ _ _ _ _ _ _

end Cert.Kernel5Ideal.InProj

end
-- ==== Proof.InFrame.lean ====
/- The input projection's frame: what the scratch and the dt block hold between points, the body obligation by the two
   runs, the launch. -/
module

public import proofs.«01_k».proof.Proof.InRun

@[expose] public section

set_option maxRecDepth 16384

noncomputable section

namespace Cert.Kernel5Ideal.InProj

open Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the row of points that point `n` is in. -/
def rowPt (n : Nat) : Fin cfg0.N := ⟨9 * (n / 9) % 144, Nat.lt_of_lt_of_eq (Nat.mod_lt _ (by decide)) N_0.symm⟩

theorem rowPt_self (t : Fin cfg0.N) (h : t.val % 9 = 0) : rowPt t.val = t := by
  have := Nat.lt_of_lt_of_eq t.isLt N_0
  apply Fin.ext
  show 9 * (t.val / 9) % 144 = t.val
  omega

theorem rowPt_congr {n k : Nat} (h : n / 9 = k / 9) : rowPt n = rowPt k := by unfold rowPt; simp only [h]

/-- What the scratch holds after the first point of point `n`'s row. -/
def hrow (c : Dev nD) (n : Nat) : Vec F S1024x2048 .bf16 := hval (iblk m c 0 (rowPt n)) (iblk m c 1 (rowPt n))

/-- What the dt block holds through point `n`'s row. -/
def dtrow (c : Dev nD) (n : Nat) : Vec F S64x1024 .f32 := dtval (hrow m c n) (iblk m c 3 (rowPt n))

/-- The scratch, as the body is handed it. -/
abbrev scM : Memref sig .tc .vmem S1024x2048 .bf16 := Memref.whole cc0_scratch0

/-- Between points: past a row's first point the scratch holds the row's normed rows. -/
def Phi (c : Dev nD) (n : Nat) : sProp 𝕄 :=
  iprop((∃ s, ⌜n % 9 ≠ 0 → s = hrow m c n⌝ ∗ owns (c : Thread nD τ) scM fullShare s) ∗ (∃ r, prngReg c r))

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => k0_pay2 (hrow m c t.val) (X0_2 m c t)
    | ⟨5, _⟩ => dtrow m c t.val
  Φ t := Phi m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = k0_pay2 (hrow m c t.val) (X0_2 m c t) := by dsimp only [dats]
theorem after0_5 (c : Dev nD) (t : Fin cfg0.N) : (dats m 0 c).after 5 t = dtrow m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The condition is that the point is a row's first. -/
theorem cond_iff : ∀ t : Fin cfg0.N, k0_cond1 (grid0.coords t) = 1#1 ↔ t.val % 9 = 0 :=
  (by decide +kernel : ∀ t : Fin grid0.N, k0_cond1 (grid0.coords t) = 1#1 ↔ t.val % 9 = 0)

theorem idle_of (t : Fin cfg0.N) (h : t.val % 9 ≠ 0) : cfg0.idle 5 (cfg0.grid.coords t) = true := by
  show (!(k0_cond1 (grid0.coords t) == 1#1)) = true
  have : ¬ k0_cond1 (grid0.coords t) = 1#1 := fun e => h ((cond_iff t).mp e)
  simp [this]

theorem live_of (t : Fin cfg0.N) (h : t.val % 9 = 0) : cfg0.idle 5 (cfg0.grid.coords t) = false := by
  show (!(k0_cond1 (grid0.coords t) == 1#1)) = false
  simp [(cond_iff t).mpr h]

theorem flush_false (t : Fin cfg0.N) (h : t.val % 9 ≠ 8) : (cfg0.win 5).flush t = false := by
  rw [Bool.eq_false_iff]; exact fun e => h ((flush0_5 t).mp e)

/-- Past a row's first point the dt block is as that point left it. -/
theorem before0_5 (c : Dev nD) (d) : ∀ (n : Nat) (hn : n < cfg0.N), n % 9 ≠ 0 → (dats m 0 c).before 5 ⟨n, hn⟩ d = dtrow m c n
  | 0, _, h => absurd rfl h
  | n + 1, hn, h => by
    rw [(dats m 0 c).before_of_pos 5 ⟨n + 1, hn⟩ (Nat.succ_ne_zero n) ((cfg0.win 5).fetch_out rfl _)]
    have hfl : (cfg0.win 5).flush ⟨n, Nat.lt_of_succ_lt hn⟩ = false := flush_false ⟨n, _⟩ (by show n % 9 ≠ 8; omega)
    have hfl' : (cfg0.win 5).flush (⟨(⟨n + 1, hn⟩ : Fin cfg0.N).val - 1, Nat.lt_of_le_of_lt (Nat.sub_le _ _) hn⟩ : Fin cfg0.N) = false := hfl
    rw [hfl', if_neg Bool.false_ne_true]
    show (dats m 0 c).left 5 ⟨n, Nat.lt_of_succ_lt hn⟩ d = _
    have hr : dtrow m c (n + 1) = dtrow m c n := by
      unfold dtrow hrow; rw [rowPt_congr (show (n + 1) / 9 = n / 9 by omega)]
    rw [hr]
    unfold Dat.left
    by_cases h0 : n % 9 = 0
    · rw [live_of ⟨n, Nat.lt_of_succ_lt hn⟩ h0]
      show (dats m 0 c).kept 5 ⟨n, _⟩ d = _
      unfold Dat.kept
      rw [Pipeline.fill_of_clip_none (cfg := cfg0) 5 _ (fun _ => rfl) d ((dats m 0 c).after 5 _), Pipeline.Window.fill_cut, after0_5]
    · rw [idle_of ⟨n, Nat.lt_of_succ_lt hn⟩ h0]
      exact before0_5 c d n (Nat.lt_of_succ_lt hn) h0

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (dats m 0 c).leavesExact 5 t)

theorem Phi_castSucc (c : Dev nD) (t : Fin cfg0.N) : (dats m 0 c).Φ t.castSucc = Phi m c t.val := by dsimp only [dats]; rfl
theorem Phi_succ (c : Dev nD) (t : Fin cfg0.N) : (dats m 0 c).Φ t.succ = Phi m c (t.val + 1) := by dsimp only [dats]; rfl

theorem leaves_live (c : Dev nD) (t : Fin cfg0.N) (h : t.val % 9 = 0) :
    (dats m 0 c).leavesExact 5 t = owns (c : Thread nD τ) (st0_5 t) fullShare (dtrow m c t.val) := by
  unfold Dat.leavesExact; rw [live_of t h]; show owns _ _ _ ((dats m 0 c).after 5 t) = _; rw [after0_5]

theorem leaves_flush (c : Dev nD) (t : Fin cfg0.N) (h : t.val % 9 = 8) :
    (dats m 0 c).leavesExact 5 t = owns (c : Thread nD τ) (st0_5 t) fullShare (dtrow m c t.val) := by
  unfold Dat.leavesExact; rw [idle_of t (by omega), (flush0_5 t).mpr h]; show owns _ _ _ ((dats m 0 c).after 5 t) = _; rw [after0_5]

set_option maxHeartbeats 1600000 in
/-- The body at a row's first point. -/
theorem sound_A (c : Dev nD) (t : Fin cfg0.N) (h : t.val % 9 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_castSucc, Phi_succ, show (dats m 0 c).owesAt () t.succ = (dats m 0 c).owesAt () t.castSucc from rfl,
    after0_0, after0_1, after0_2, after0_3, after0_4, leaves_live m c t h]
  have hr : hrow m c t.val = hval (iblk m c 0 t) (iblk m c 1 t) := by unfold hrow; rw [rowPt_self t h]
  have hd : dtrow m c t.val = dtval (hrow m c t.val) (iblk m c 3 t) := by unfold dtrow; rw [rowPt_self t h]
  have hs : (t.val + 1) % 9 ≠ 0 → hrow m c t.val = hrow m c (t.val + 1) := fun _ => by
    unfold hrow; rw [rowPt_congr (show t.val / 9 = (t.val + 1) / 9 by omega)]
  rw [hd]
  unfold Phi
  iintro ⟨⟨⟨%s, -, HS⟩, Hg⟩, Ho, ⟨%d0, H0⟩, ⟨%d1, H1⟩, ⟨%d2, H2⟩, ⟨%d3, H3⟩, ⟨%d4, H4⟩, ⟨%d5, H5⟩⟩
  iapply (runA c (grid0.coords t) _ _ _ _ _ _ _ _ _ _ _ _ scM (Memref.isWhole_whole _) ((cond_iff t).mpr h) (iblk m c 0 t) (iblk m c 1 t) (X0_2 m c t) (iblk m c 3 t) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexists _; iexact HS
  rw [← hr]
  iintro ⟨H0, H1, H2, H3, H4, H5, HS⟩
  isplitl [HS Hg]
  · isplitl [HS]
    · iexists _; isplitr
      swap; · iexact HS
      ipureintro; exact hs
    iexact Hg
  isplitl [Ho]; · iexact Ho
  isplitl [H0]; · iexact H0
  isplitl [H1]; · iexact H1
  isplitl [H2]; · iexact H2
  isplitl [H3]; · iexact H3
  isplitl [H4]; · iexact H4
  iexact H5

set_option maxHeartbeats 1600000 in
/-- The body past a row's first point. -/
theorem sound_B (c : Dev nD) (t : Fin cfg0.N) (h : t.val % 9 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [Phi_castSucc, Phi_succ, show (dats m 0 c).owesAt () t.succ = (dats m 0 c).owesAt () t.castSucc from rfl,
    after0_0, after0_1, after0_2, after0_3, after0_4]
  have hs : (t.val + 1) % 9 ≠ 0 → hrow m c t.val = hrow m c (t.val + 1) := fun _ => by
    unfold hrow; rw [rowPt_congr (show t.val / 9 = (t.val + 1) / 9 by omega)]
  unfold Phi
  iintro ⟨⟨⟨%s, %hs0, HS⟩, Hg⟩, Ho, ⟨%d0, H0⟩, ⟨%d1, H1⟩, ⟨%d2, H2⟩, ⟨%d3, H3⟩, ⟨%d4, H4⟩, ⟨%d5, H5⟩⟩
  obtain rfl := hs0 h
  iapply (runB c (grid0.coords t) _ (hstage0_0 _) _ (hstage0_1 _) _ _ _ (hstage0_3 _) _ _ _ (hstage0_5 _) scM (Memref.isWhole_whole _) (fun e => h ((cond_iff t).mp e)) (X0_2 m c t) (hrow m c t.val) Set.univ _)
  isplitl [H2]; · iexact H2
  isplitl [H4]; · iexists _; iexact H4
  isplitl [HS]; · iexact HS
  iintro ⟨H2, H4, HS⟩
  isplitl [HS Hg]
  · isplitl [HS]
    · iexists _; isplitr
      swap; · iexact HS
      ipureintro; exact hs
    iexact Hg
  isplitl [Ho]; · iexact Ho
  isplitl [H0]; · iexact H0
  isplitl [H1]; · iexact H1
  isplitl [H2]; · iexact H2
  isplitl [H3]; · iexact H3
  isplitl [H4]; · iexact H4
  by_cases h8 : t.val % 9 = 8
  · rw [leaves_flush m c t h8, before0_5 m c d5 t.val t.isLt h]
    iexact H5
  · rw [(dats m 0 c).leavesExact_idle 5 t (idle_of t h) (flush_false t h8)]
    iexists d5
    iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  have hb : bodyPre m c t ⊢ wp frame (wpE (defs₀ (F := F)) Variants.none c none) Set.univ (bodyAt0 t) (fun _ => bodyPost m c t) := by
    by_cases h : t.val % 9 = 0
    · exact sound_A m c t h
    · exact sound_B m c t h
  exact triple_restated hb rfl .rfl fun _ => .rfl

theorem PhiA0_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

theorem Phi_in (c : Dev nD) : (Pipeline.ΦA spec0 c : sProp 𝕄) ⊢ Phi m c 0 := by
  rw [PhiA0_eq]; unfold Phi
  iintro ⟨⟨%d, HS⟩, Hg⟩
  isplitl [HS]
  · iexists d; isplitr
    · ipureintro; exact fun h => absurd rfl h
    iexact HS
  iexact Hg

theorem Phi_out (c : Dev nD) (n : Nat) : Phi m c n ⊢ (Pipeline.ΦA spec0 c : sProp 𝕄) := by
  rw [PhiA0_eq]; unfold Phi
  iintro ⟨⟨%d, -, HS⟩, Hg⟩
  isplitl [HS]
  · iexists d; iexact HS
  iexact Hg

set_option backward.isDefEq.respectTransparency.types false in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => Phi_in m c) (hout := fun c => Phi_out m c _)

theorem run_main : θ_run defs (onTc (τ := τ) (main (F := F))) (s₀ m ρ) (Pipeline.FramePost cfgs (dats m) 0 (V m)) :=
  (θ_run defs _ _).mono (fun _ h => h.1) (run_main_quiescent m ρ)

/-- The frame. -/
theorem frame5 : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel5Ideal.InProj

end
-- ==== Proof.InValue.lean ====
/-
  The normed input projection: what its two result arrays hold after the run, and that they are the reference's
  `rms_norm(x2, gain) @ w_in`, its columns regrouped, of the same arguments.
-/
module

public import proofs.«01_k».proof.Proof.Mats
public import proofs.«01_k».proof.Proof.InFrame
public import Idealize.ShloMosaic.Lib.KernelVsHost
public import proofs.«01_k».proof.Proof.Gen.Reference5Ideal.Run
public import proofs.«01_k».proof.Proof.Gen.Reference5Ideal.Read

@[expose] public section

set_option maxRecDepth 16384

noncomputable section

namespace Cert.Kernel5Ideal.InProj

open Cert.Kernel5Ideal Cert.Kernel5Ideal.Gen Idealize.ShloMosaic Idealize.ShloMosaic.TcCoe Idealize.SL.Sem
open Cert.Mats (rms rms_apply mm_apply)
open Idealize.ShloMosaic.Pipeline (Dat)

variable (m : (ℓ : Loc nD τ sig) → Buf (Elt Ideal) ℓ) (ρ : Dev nD → PrngReg)

/-- The rows to be normed. -/
abbrev A0 (c : Dev nD) : S16384x2048.Idx → EReal := m ((c : Thread nD τ).loc main_arg0)
/-- The gain. -/
abbrev A1 (c : Dev nD) : S1x2048.Idx → EReal := m ((c : Thread nD τ).loc main_arg1)
/-- The weights. -/
abbrev A2 (c : Dev nD) : S2048x9264.Idx → EReal := m ((c : Thread nD τ).loc main_arg2)

/-- The reference's first result of core `c`'s three arguments. -/
abbrev G (c : Dev nD) : Buf (Elt Ideal) ((c : Thread nD τ).loc main_v7_0) :=
  Cert.Reference5Ideal.Read.val_main_v16 (F := Ideal) (A0 m c) (A1 m c) (A2 m c)
/-- The reference's second result. -/
abbrev G' (c : Dev nD) : Buf (Elt Ideal) ((c : Thread nD τ).loc main_v7_1) :=
  Cert.Reference5Ideal.Read.val_main_v21 (F := Ideal) (A0 m c) (A1 m c) (A2 m c)

/-- One place of the normed rows. -/
def nrm (c : Dev nD) (r : Fin 16384) (k : Fin 2048) : EReal := rms (fun j => A0 m c (ix2 r j)) k * A1 m c (ix2 0 k)

/-- The weight array the pipeline stages is the argument, cast: at the ideal values the argument itself. -/
theorem V_w (c : Dev nD) : (V m c main_v6 : S2048x9264.Idx → EReal) = A2 m c := by
  show StableHlo.after (List.flatten [hostOps0, hostOps0_1, hostOps0_2, hostOps0_3, hostOps0_4]) (fun b => m (c, b)) main_v6 = _
  simp only [hostOps0, hostOps0_1, hostOps0_2, hostOps0_3, hostOps0_4, List.flatten_cons, List.flatten_nil, List.append_nil,
    List.cons_append, List.nil_append]
  after_results
  rfl

/-- The dt columns of the weights, six at a time with two columns of zeros, then zeros up to 128 columns. -/
def wdt (x : S2048x9264.Idx → EReal) : S2048x128.Idx → EReal :=
  pad S2048x128 ![0, 0] ![0, 64] ![0, 0]
    (shapeCast S2048x64 (pad S2048x8x8 ![0, 0, 0] ![0, 0, 2] ![0, 0, 0]
      (shapeCast S2048x8x6 (extractStridedSlice S2048x48 ![0, 9216] x slices_S2048x9264_S2048x48_0_9216) shapeCasts_S2048x48_S2048x8x6)
      (sitofp (F := Ideal) .f32 (constantI S_ 32 0#32)) pads_S2048x8x6_S2048x8x8_000_000_020 h_S_) shapeCasts_S2048x8x8_S2048x64)
    (sitofp (F := Ideal) .f32 (constantI S_ 32 0#32)) pads_S2048x64_S2048x128_000_0640 h_S_

theorem V_wdt (c : Dev nD) : (V m c main_v5 : S2048x128.Idx → EReal) = wdt (A2 m c) := by
  show StableHlo.after (List.flatten [hostOps0, hostOps0_1, hostOps0_2, hostOps0_3, hostOps0_4]) (fun b => m (c, b)) main_v5 = _
  simp only [hostOps0, hostOps0_1, hostOps0_2, hostOps0_3, hostOps0_4, List.flatten_cons, List.flatten_nil, List.append_nil,
    List.cons_append, List.nil_append]
  after_results
  rfl

theorem idx_eq (t : Fin cfg0.N) :
    (win0_0.index t 0 = t.val / 9 ∧ win0_0.index t 1 = 0) ∧ (win0_1.index t 0 = 0 ∧ win0_1.index t 1 = 0)
    ∧ (win0_2.index t 0 = 0 ∧ win0_2.index t 1 = (t.val % 9 + 1) % 9) ∧ (win0_3.index t 0 = 0 ∧ win0_3.index t 1 = 0)
    ∧ (win0_4.index t 0 = t.val / 9 ∧ win0_4.index t 1 = t.val % 9) ∧ (win0_5.index t 0 = 0 ∧ win0_5.index t 1 = t.val / 9) :=
  (by decide +kernel : ∀ t : Fin grid0.N,
    (win0_0.index t 0 = t.val / 9 ∧ win0_0.index t 1 = 0) ∧ (win0_1.index t 0 = 0 ∧ win0_1.index t 1 = 0)
    ∧ (win0_2.index t 0 = 0 ∧ win0_2.index t 1 = (t.val % 9 + 1) % 9) ∧ (win0_3.index t 0 = 0 ∧ win0_3.index t 1 = 0)
    ∧ (win0_4.index t 0 = t.val / 9 ∧ win0_4.index t 1 = t.val % 9) ∧ (win0_5.index t 0 = 0 ∧ win0_5.index t 1 = t.val / 9)) t

theorem lt_N (t : Fin cfg0.N) : t.val < 144 := lt_of_lt_of_eq t.isLt N_0

/-- Row `r` of the block of rows of point `t`, as a row of the whole array. -/
def row (t : Fin cfg0.N) (r : Fin 1024) : Fin 16384 := ⟨t.val / 9 * 1024 + r.val, by have := lt_N t; have := r.isLt; omega⟩

theorem iblk0 (c : Dev nD) (t : Fin cfg0.N) (r : Fin 1024) (k : Fin 2048) :
    (iblk m c 0 t : Vec Ideal S1024x2048 .f32) (ix2 r k) = A0 m c (ix2 (row t r) k) := by
  have e := (idx_eq t).1
  unfold iblk
  rw [View.read_apply]
  show V m c main_arg0 _ = _
  rw [V_main_arg0]
  congr 1; funext a; apply Fin.ext
  match a with
  | ⟨0, _⟩ => show win0_0.index t 0 * 1024 + 1 * r.val = t.val / 9 * 1024 + r.val; rw [e.1]; omega
  | ⟨1, _⟩ => show win0_0.index t 1 * 2048 + 1 * k.val = k.val; rw [e.2]; omega

theorem iblk1 (c : Dev nD) (t : Fin cfg0.N) (r : Fin 1) (k : Fin 2048) :
    (iblk m c 1 t : Vec Ideal S1x2048 .f32) (ix2 r k) = A1 m c (ix2 r k) := by
  have e := (idx_eq t).2.1
  unfold iblk
  rw [View.read_apply]
  show V m c main_arg1 _ = _
  rw [V_main_arg1]
  congr 1; funext a; apply Fin.ext
  match a with
  | ⟨0, _⟩ => show win0_1.index t 0 * 1 + 1 * r.val = r.val; rw [e.1]; omega
  | ⟨1, _⟩ => show win0_1.index t 1 * 2048 + 1 * k.val = k.val; rw [e.2]; omega

/-- Column `k` of point `t`'s block of the weights. -/
def col (t : Fin cfg0.N) (k : Fin 1024) : Fin 9264 := ⟨(t.val % 9 + 1) % 9 * 1024 + k.val, by have := k.isLt; omega⟩

theorem blk2 (c : Dev nD) (t : Fin cfg0.N) (q : Fin 2048) (k : Fin 1024) :
    ((X0_2 m c t : Vec Ideal S2048x1024 .bf16) (ix2 q k) : EReal) = A2 m c (ix2 q (col t k)) := by
  have e := (idx_eq t).2.2.1
  unfold X0_2 Pipeline.Window.fill
  rw [dif_pos (moved0_2 t _)]
  unfold iblk
  rw [View.read_apply]
  show (V m c main_v6 : S2048x9264.Idx → EReal) _ = _
  rw [V_w]
  congr 1; funext a; apply Fin.ext
  match a with
  | ⟨0, _⟩ => show win0_2.index t 0 * 2048 + 1 * q.val = q.val; rw [e.1]; omega
  | ⟨1, _⟩ => show win0_2.index t 1 * 1024 + 1 * k.val = (t.val % 9 + 1) % 9 * 1024 + k.val; rw [e.2]; omega

theorem iblk3 (c : Dev nD) (t : Fin cfg0.N) (q : Fin 2048) (k : Fin 128) :
    ((iblk m c 3 t : Vec Ideal S2048x128 .bf16) (ix2 q k) : EReal) = wdt (A2 m c) (ix2 q k) := by
  have e := (idx_eq t).2.2.2.1
  unfold iblk
  rw [View.read_apply]
  show (V m c main_v5 : S2048x128.Idx → EReal) _ = _
  rw [V_wdt]
  congr 1; funext a; apply Fin.ext
  match a with
  | ⟨0, _⟩ => show win0_3.index t 0 * 2048 + 1 * q.val = q.val; rw [e.1]; omega
  | ⟨1, _⟩ => show win0_3.index t 1 * 128 + 1 * k.val = k.val; rw [e.2]; omega

theorem zero_word (i : S_.Idx) : (sitofp (F := Ideal) .f32 (constantI S_ 32 0#32) i : EReal) = 0 := by
  show (((0#32 : BitVec 32).toInt : ℝ) : EReal) = 0
  simp

/-- The dt columns at one place. -/
theorem wdt_apply (x : S2048x9264.Idx → EReal) (k : Fin 2048) (q : Fin 128) (hq : q.val < 64) :
    wdt x (ix2 k q) = if h : q.val % 8 < 6 then x (ix2 k ⟨9216 + (q.val / 8 * 6 + q.val % 8), by omega⟩) else 0 := by
  have hk := k.isLt
  unfold wdt
  rw [pad_apply_of_inside _ _ _ _ _ _ _ _ (ix2 k ⟨q.val, hq⟩ : S2048x64.Idx) (fun a => match a with
    | ⟨0, _⟩ => by show k.val = 0 + k.val * (0 + 1); omega
    | ⟨1, _⟩ => by show q.val = 0 + q.val * (0 + 1); omega)]
  rw [shapeCast_apply _ _ _ (Idealize.ShloMosaic.ValueIdx.ix3 k ⟨q.val / 8, by omega⟩ ⟨q.val % 8, by omega⟩ : S2048x8x8.Idx)
    (by rewrite [Shape.rowMajor_val_three, Shape.rowMajor_val_two]; show (k.val * 8 + q.val / 8) * 8 + q.val % 8 = k.val * 64 + q.val; omega)]
  split
  · rename_i h
    rw [pad_apply_of_inside _ _ _ _ _ _ _ _ (Idealize.ShloMosaic.ValueIdx.ix3 k ⟨q.val / 8, by omega⟩ ⟨q.val % 8, h⟩ : S2048x8x6.Idx) (fun a => match a with
      | ⟨0, _⟩ => by show k.val = 0 + k.val * (0 + 1); omega
      | ⟨1, _⟩ => by show q.val / 8 = 0 + q.val / 8 * (0 + 1); omega
      | ⟨2, _⟩ => by show q.val % 8 = 0 + q.val % 8 * (0 + 1); omega)]
    rw [shapeCast_apply _ _ _ (ix2 k ⟨q.val / 8 * 6 + q.val % 8, by omega⟩ : S2048x48.Idx)
      (by rewrite [Shape.rowMajor_val_three, Shape.rowMajor_val_two]; show k.val * 48 + (q.val / 8 * 6 + q.val % 8) = (k.val * 8 + q.val / 8) * 6 + q.val % 8; omega)]
    exact extractStridedSlice_apply _ _ _ _ _ (fun a => match a with
      | ⟨0, _⟩ => by show k.val = 0 + k.val; omega
      | ⟨1, _⟩ => by show 9216 + (q.val / 8 * 6 + q.val % 8) = 9216 + (q.val / 8 * 6 + q.val % 8); rfl)
  · rename_i h
    rw [pad_apply_of_not_inside _ _ _ _ _ _ _ _ (2 : Fin 3) (fun hin => h (by
      have := hin.2.2
      change (q.val % 8 - 0) / (0 + 1) < 6 at this
      omega))]
    exact zero_word _

theorem pay3_apply (x : Vec Ideal S128x2048 .f32) (x1 : Vec Ideal S1x2048 .f32) (r : Fin 128) (k : Fin 2048) :
    (k0_pay3 x x1 (ix2 r k) : EReal) = rms (fun j => x (ix2 r j)) k * x1 (ix2 0 k) := by
  unfold k0_pay3
  simp only [shapeCast_self]
  refine congrArg₂ (fun a b : EReal => a * b) (rms_apply _ _ _ _ r k) ?_
  pointwise

theorem pay2_apply (h : Vec Ideal S1024x2048 .bf16) (w : Vec Ideal S2048x1024 .bf16) (r : Fin 1024) (k : Fin 1024) :
    (k0_pay2 h w (ix2 r k) : EReal) = ∑ q : Fin 2048, (h (ix2 r q) : EReal) * w (ix2 q k) := by
  unfold k0_pay2
  simp only [shapeCast_self]
  exact mm_apply (φ₁ := .bf16) (φ₂ := .bf16) dot_S1024x2048_S2048x1024_S1024x1024_1_0_0_1_n_n rfl none h w r k

theorem pay4_apply (h : Vec Ideal S1024x2048 .bf16) (w : Vec Ideal S2048x128 .bf16) (r : Fin 1024) (k : Fin 128) :
    (k0_pay4 h w (ix2 r k) : EReal) = ∑ q : Fin 2048, (h (ix2 r q) : EReal) * w (ix2 q k) := by
  unfold k0_pay4
  simp only [shapeCast_self]
  exact mm_apply (φ₁ := .bf16) (φ₂ := .bf16) dot_S1024x2048_S2048x128_S1024x128_1_0_0_1_n_n rfl none h w r k

theorem hval_apply (x0 : Vec Ideal S1024x2048 .f32) (x1 : Vec Ideal S1x2048 .f32) (r : Fin 1024) (k : Fin 2048) :
    (hval x0 x1 (ix2 r k) : EReal) = rms (fun j => x0 (ix2 r j)) k * x1 (ix2 0 k) := by
  unfold hval
  refine (pay3_apply _ _ _ _).trans ?_
  refine congrArg₂ (fun a b : EReal => a * b) (congrArg (fun f => rms f k) ?_) rfl
  funext j
  unfold rowBlk
  congr 1
  funext a; apply Fin.ext
  match a with
  | ⟨0, _⟩ => show 128 * (r.val / 128) + r.val % 128 = r.val; omega
  | ⟨1, _⟩ => rfl

theorem hrow_apply (c : Dev nD) (t : Fin cfg0.N) (r : Fin 1024) (k : Fin 2048) :
    (hrow m c t.val (ix2 r k) : EReal) = nrm m c (row t r) k := by
  have hr : row (rowPt t.val) r = row t r := by
    have := lt_N t
    apply Fin.ext
    show 9 * (t.val / 9) % 144 / 9 * 1024 + r.val = t.val / 9 * 1024 + r.val
    omega
  unfold hrow nrm
  rw [hval_apply]
  simp only [iblk0, iblk1, hr]

open Cert.Reference5Ideal.Read in
/-- The reference's normed rows, at one place. -/
theorem v11_apply (c : Dev nD) (r : Fin 16384) (k : Fin 2048) :
    (val_main_v11 (F := Ideal) (A0 m c) (A1 m c) (ix2 r k) : EReal) = nrm m c r k := by
  rw [val_main_v11_apply, val_main_v9_apply, val_main_v10_apply, val_main_v8_apply, val_main_v7_apply, val_main_v6_apply,
    val_main_v5_apply, val_main_v4_apply, val_main_v3_apply, val_main_v2_apply, val_main_v1_apply]
  simp only [val_main_v0_apply, val_main_cst_apply, val_main_cst_0_apply, val_main_cst_1_apply, Ideal.mulf_def, Ideal.addf_def,
    Ideal.hostDivf_def, Ideal.hostUnary_rsqrt_def, Ideal.ofBits_def, Ideal.ofBits_zero_f32, zero_add]
  unfold nrm rms
  refine congrArg₂ (fun a b : EReal => a * b) (congrArg₂ (fun a b : EReal => a * b) rfl ?_) (congrArg (A1 m c) ?_)
  · refine congrArg Ideal.rsqrt (congrArg (fun z : EReal => Ideal.div z _ + _) (Finset.sum_congr rfl fun j _ => ?_))
    refine congrArg₂ (fun a b : EReal => a * b) (congrArg (A0 m c) ?_) (congrArg (A0 m c) ?_) <;>
    · funext a; match a with
      | ⟨0, _⟩ => rfl
      | ⟨1, _⟩ => rfl
  · funext a; match a with
    | ⟨0, _⟩ => rfl
    | ⟨1, _⟩ => rfl

open Cert.Reference5Ideal.Read in
/-- The reference's projection, at one place. -/
theorem v12_apply (c : Dev nD) (i : Cert.Reference5Ideal.S16384x9264.Idx) (r : Fin 16384) (k : Fin 9264) (hi : i = ix2 r k) :
    (val_main_v12 (F := Ideal) (A0 m c) (A1 m c) (A2 m c) i : EReal) = ∑ q : Fin 2048, nrm m c r q * A2 m c (ix2 q k) := by
  subst hi
  refine (val_main_v12_apply (A0 m c) (A1 m c) (A2 m c) (ix2 r k)).trans ?_
  refine Finset.sum_congr rfl fun q _ => congrArg₂ (fun a b : EReal => a * b) ?_ (congrArg (A2 m c) ?_)
  · refine Eq.trans (congrArg (val_main_v11 (F := Ideal) (A0 m c) (A1 m c)) ?_) (v11_apply m c r q)
    funext a; match a with
    | ⟨0, _⟩ => rfl
    | ⟨1, _⟩ => rfl
  · funext a; match a with
    | ⟨0, _⟩ => rfl
    | ⟨1, _⟩ => rfl

open Cert.Reference5Ideal.Read in
/-- The reference's first result, at one place: its first 1024 columns are the projection's last of the main part. -/
theorem G_apply (c : Dev nD) (r : Fin 16384) (k : Fin 9216) (k' : Fin 9264) (hk : k'.val = (k.val + 1024) % 9216) :
    (G m c (ix2 r k) : EReal) = ∑ q : Fin 2048, nrm m c r q * A2 m c (ix2 q k') := by
  have hkl := k.isLt
  show (val_main_v15 (F := Ideal) (A0 m c) (A1 m c) (A2 m c) (ix2 r k) : EReal) = _
  by_cases h : k.val < 8192
  · refine (concatenate_pair_apply_left (t := Cert.Reference5Ideal.S16384x9216) (s₁ := Cert.Reference5Ideal.S16384x8192) (s₂ := Cert.Reference5Ideal.S16384x1024) 1 (val_main_v13 (F := Ideal) (A0 m c) (A1 m c) (A2 m c)) (val_main_v14 (F := Ideal) (A0 m c) (A1 m c) (A2 m c)) Cert.Reference5Ideal.Facts₀.concatenates_S16384x8192_S16384x1024_S16384x9216_d1 _ rfl (ix2 r ⟨k.val, h⟩) (fun b => match b with
      | ⟨0, _⟩ => rfl
      | ⟨1, _⟩ => rfl)).trans ?_
    rw [val_main_v13_apply]
    refine v12_apply m c _ r k' ?_
    funext a; apply Fin.ext
    match a with
    | ⟨0, _⟩ => rfl
    | ⟨1, _⟩ => show 1024 + k.val = k'.val; omega
  · refine (concatenate_pair_apply_right (t := Cert.Reference5Ideal.S16384x9216) (s₁ := Cert.Reference5Ideal.S16384x8192) (s₂ := Cert.Reference5Ideal.S16384x1024) 1 (val_main_v13 (F := Ideal) (A0 m c) (A1 m c) (A2 m c)) (val_main_v14 (F := Ideal) (A0 m c) (A1 m c) (A2 m c)) Cert.Reference5Ideal.Facts₀.concatenates_S16384x8192_S16384x1024_S16384x9216_d1 _ rfl rfl (ix2 r ⟨k.val - 8192, by omega⟩) (fun b hb => match b with
      | ⟨0, _⟩ => rfl
      | ⟨1, _⟩ => absurd rfl hb) (by show k.val - 8192 + 8192 = k.val; omega)).trans ?_
    rw [val_main_v14_apply]
    refine v12_apply m c _ r k' ?_
    funext a; apply Fin.ext
    match a with
    | ⟨0, _⟩ => rfl
    | ⟨1, _⟩ => show k.val - 8192 = k'.val; omega

open Cert.Reference5Ideal.Read in
/-- The reference's second result, at one place. -/
theorem G'_apply (c : Dev nD) (q : Fin 64) (r : Fin 16384) :
    (G' m c (ix2 q r) : EReal) = if h : q.val % 8 < 6 then
      ∑ k : Fin 2048, nrm m c r k * A2 m c (ix2 k ⟨9216 + (q.val / 8 * 6 + q.val % 8), by have := q.isLt; omega⟩) else 0 := by
  have hq := q.isLt
  have hr := r.isLt
  unfold G'
  rw [val_main_v21_apply, val_main_v20_apply]
  unfold val_main_v19
  split
  · rename_i h
    rw [pad_apply_of_inside _ _ _ _ _ _ _ _ (Idealize.ShloMosaic.ValueIdx.ix3 r ⟨q.val / 8, by omega⟩ ⟨q.val % 8, h⟩ : Cert.Reference5Ideal.S16384x8x6.Idx) (fun a => match a with
      | ⟨0, _⟩ => by show (r.val * 64 + q.val) / 64 = 0 + r.val * (0 + 1); omega
      | ⟨1, _⟩ => by show (r.val * 64 + q.val) / 8 % 8 = 0 + q.val / 8 * (0 + 1); omega
      | ⟨2, _⟩ => by show (r.val * 64 + q.val) % 8 = 0 + q.val % 8 * (0 + 1); omega)]
    rw [val_main_v18_apply, val_main_v17_apply]
    refine v12_apply m c _ r _ ?_
    funext a; apply Fin.ext
    match a with
    | ⟨0, _⟩ => show ((r.val * 8 + q.val / 8) * 6 + q.val % 8) / 48 = r.val; omega
    | ⟨1, _⟩ => show 9216 + ((r.val * 8 + q.val / 8) * 6 + q.val % 8) % 48 = 9216 + (q.val / 8 * 6 + q.val % 8); omega
  · rename_i h
    rw [pad_apply_of_not_inside _ _ _ _ _ _ _ _ (2 : Fin 3) (fun hin => h (by
      have := hin.2.2
      change ((r.val * 64 + q.val) % 8 - 0) / (0 + 1) < 6 at this
      omega))]
    exact zero_word _

theorem dtrow_apply (c : Dev nD) (t : Fin cfg0.N) (q : Fin 64) (r : Fin 1024) :
    (dtrow m c t.val (ix2 q r) : EReal) = G' m c (ix2 q (row t r)) := by
  rw [G'_apply]
  unfold dtrow dtval
  refine (pay4_apply _ _ r ⟨q.val, _⟩).trans ?_
  simp only [hrow_apply, iblk3]
  split
  · rename_i h
    refine Finset.sum_congr rfl fun k _ => ?_
    rw [wdt_apply _ _ _ q.isLt, dif_pos h]
  · rename_i h
    refine Finset.sum_eq_zero fun k _ => ?_
    rw [wdt_apply _ _ _ q.isLt, dif_neg h, mul_zero]

/-- What point `t` writes back of the first result is its block of the reference's. -/
theorem flushed4 (c : Dev nD) (t : Fin cfg0.N) :
    (dats m 0 c).flushed 4 t = ((cfg0.win 4).blk t).view.read (Elt Ideal) (G m c) := by
  have e := (idx_eq t).2.2.2.2.1
  have ht := lt_N t
  show (cfg0.win 4).cut (grid0.coords t) ((dats m 0 c).after 4 t) = _
  rw [after0_4]
  funext j
  obtain ⟨r, k, rfl⟩ : ∃ (r : Fin 1024) (k : Fin 1024), j = ix2 r k := ⟨j 0, j 1, by
    funext a; match a with
    | ⟨0, _⟩ => rfl
    | ⟨1, _⟩ => rfl⟩
  have hk := k.isLt
  rw [View.read_apply]
  have hG : G m c (((cfg0.win 4).blk t).view.emb (ix2 r k)) = G m c (ix2 (row t r) ⟨t.val % 9 * 1024 + k.val, by omega⟩) := by
    congr 1; funext a; apply Fin.ext
    match a with
    | ⟨0, _⟩ => show win0_4.index t 0 * 1024 + 1 * r.val = t.val / 9 * 1024 + r.val; rw [e.1]; omega
    | ⟨1, _⟩ => show win0_4.index t 1 * 1024 + 1 * k.val = t.val % 9 * 1024 + k.val; rw [e.2]; omega
  refine Eq.trans ?_ hG.symm
  show k0_pay2 (hrow m c t.val) (X0_2 m c t) (ix2 r k) = _
  refine (pay2_apply _ _ r k).trans ?_
  refine Eq.trans ?_ (G_apply m c (row t r) _ (col t k) (by
    show (t.val % 9 + 1) % 9 * 1024 + k.val = (t.val % 9 * 1024 + k.val + 1024) % 9216; omega)).symm
  simp only [hrow_apply, blk2]

/-- What a row's last point writes back of the second result is its block of the reference's. -/
theorem flushed5 (c : Dev nD) (t : Fin cfg0.N) :
    (dats m 0 c).flushed 5 t = ((cfg0.win 5).blk t).view.read (Elt Ideal) (G' m c) := by
  have e := (idx_eq t).2.2.2.2.2
  show (cfg0.win 5).cut (grid0.coords t) ((dats m 0 c).after 5 t) = _
  rw [after0_5]
  funext j
  obtain ⟨q, r, rfl⟩ : ∃ (q : Fin 64) (r : Fin 1024), j = ix2 q r := ⟨j 0, j 1, by
    funext a; match a with
    | ⟨0, _⟩ => rfl
    | ⟨1, _⟩ => rfl⟩
  rw [View.read_apply]
  have hG : G' m c (((cfg0.win 5).blk t).view.emb (ix2 q r)) = G' m c (ix2 q (row t r)) := by
    congr 1; funext a; apply Fin.ext
    match a with
    | ⟨0, _⟩ => show win0_5.index t 0 * 64 + 1 * q.val = q.val; rw [e.1]; omega
    | ⟨1, _⟩ => show win0_5.index t 1 * 1024 + 1 * r.val = t.val / 9 * 1024 + r.val; rw [e.2]; omega
  refine Eq.trans ?_ hG.symm
  exact dtrow_apply m c t q r

/-- The blocks cover the first result. -/
theorem cover4 (i : S16384x9216.Idx) :
    ∃ t : Fin cfg0.N, (cfg0.win 4).flush t = true ∧ i ∈ ((cfg0.win 4).blk t).view.set := by
  have h0 : (i 0 : Nat) < 16384 := (i 0).isLt
  have h1 : (i 1 : Nat) < 9216 := (i 1).isLt
  have hN : cfg0.N = 144 := N_0
  let t : Fin cfg0.N := ⟨(i 0 : Nat) / 1024 * 9 + (i 1 : Nat) / 1024, by omega⟩
  have e := (idx_eq t).2.2.2.2.1
  have ht : t.val = (i 0 : Nat) / 1024 * 9 + (i 1 : Nat) / 1024 := rfl
  refine ⟨t, flush0_4 _, ?_⟩
  show i ∈ ((View.whole main_v7_0).slice (win0_4.rect t)).set
  rw [View.set_slice_whole, Rect.mem_set_unit]
  intro a
  match a with
  | ⟨0, _⟩ => show win0_4.index t 0 * 1024 ≤ (i 0 : Nat) ∧ (i 0 : Nat) < win0_4.index t 0 * 1024 + 1024
              rw [e.1, ht]; omega
  | ⟨1, _⟩ => show win0_4.index t 1 * 1024 ≤ (i 1 : Nat) ∧ (i 1 : Nat) < win0_4.index t 1 * 1024 + 1024
              rw [e.2, ht]; omega

/-- The blocks cover the second result. -/
theorem cover5 (i : S64x16384.Idx) :
    ∃ t : Fin cfg0.N, (cfg0.win 5).flush t = true ∧ i ∈ ((cfg0.win 5).blk t).view.set := by
  have h0 : (i 0 : Nat) < 64 := (i 0).isLt
  have h1 : (i 1 : Nat) < 16384 := (i 1).isLt
  have hN : cfg0.N = 144 := N_0
  let t : Fin cfg0.N := ⟨(i 1 : Nat) / 1024 * 9 + 8, by omega⟩
  have e := (idx_eq t).2.2.2.2.2
  have ht : t.val = (i 1 : Nat) / 1024 * 9 + 8 := rfl
  refine ⟨t, (flush0_5 t).mpr (by rw [ht]; omega), ?_⟩
  show i ∈ ((View.whole main_v7_1).slice (win0_5.rect t)).set
  rw [View.set_slice_whole, Rect.mem_set_unit]
  intro a
  match a with
  | ⟨0, _⟩ => show win0_5.index t 0 * 64 ≤ (i 0 : Nat) ∧ (i 0 : Nat) < win0_5.index t 0 * 64 + 64
              rw [e.1]; omega
  | ⟨1, _⟩ => show win0_5.index t 1 * 1024 ≤ (i 1 : Nat) ∧ (i 1 : Nat) < win0_5.index t 1 * 1024 + 1024
              rw [e.2, ht]; omega

/-- The run of the kernel, read: its results are the reference's functions of its arguments, which are unchanged. -/
theorem run : θ_run defs (onTc (τ := τ) (main (F := Ideal))) ⟨m, fun _ => 0, ρ⟩ fun r => ∀ c : Dev nD,
      r.2.mem ((c : Thread nD τ).loc main_v7_0) = G m c
      ∧ r.2.mem ((c : Thread nD τ).loc main_v7_1) = G' m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h.1 c).1 4).trans ((dats m 0 c).arrAt_eq_of_cover 4 (G m c) (fun t _ => flushed4 m c t) cover4),
      ((h.1 c).1 5).trans ((dats m 0 c).arrAt_eq_of_cover 5 (G' m c) (fun t _ => flushed5 m c t) cover5), h.2 c⟩)
    (θ_run_and (run_main m ρ) (frame_of m ρ (dats m) (A_eq m) (run_main m ρ)))

end Cert.Kernel5Ideal.InProj

end
-- ==== Proof.Claims5.lean ====
/- The value claim of the input projection: both programs run, and end with the reference's two functions of arguments
   that agree. -/
module

public import proofs.«01_k».proof.Defs
public import proofs.«01_k».proof.Proof.InValue

@[expose] public section

noncomputable section

namespace Cert.Claims5

open Idealize.ShloMosaic Idealize.SL.Sem

/-- The input projection. -/
theorem algebraic5 : Cert.algebraic_Kernel5Ideal_Reference5Ideal := by
  intro m ρ m' ρ' _ hagree
  refine ⟨fun c => Cert.Kernel5Ideal.InProj.G m c, fun c => Cert.Kernel5Ideal.InProj.G' m c, Cert.Kernel5Ideal.InProj.run m ρ, ?_⟩
  refine (θ_run Cert.Reference5Ideal.defs _ _).mono (fun _ h c => ⟨(h c).1.trans ?_, (h c).2.1.trans ?_, (h c).2.2⟩)
    (Cert.Reference5Ideal.Value.run (F := Ideal) m' ρ')
  · obtain ⟨h0, h1, h2⟩ := hagree c
    rw [h0, h1, h2]
    exact (Cert.Reference5Ideal.Read.val_main_v16_eq ..).symm
  · obtain ⟨h0, h1, h2⟩ := hagree c
    rw [h0, h1, h2]
    exact (Cert.Reference5Ideal.Read.val_main_v21_eq ..).symm

end Cert.Claims5

end
-- ==== Proof.lean ====
module

public import proofs.«01_k».proof.Defs
public import proofs.«01_k».proof.Proof.Gen.Kernel.Frame
public import proofs.«01_k».proof.Proof.Gen.KernelIdeal.Frame
public import proofs.«01_k».proof.Proof.Gen.Kernel3.Frame
public import proofs.«01_k».proof.Proof.Gen.Kernel3Ideal.Frame
public import proofs.«01_k».proof.Proof.Gen.Kernel4.Frame
public import proofs.«01_k».proof.Proof.Gen.Kernel4Ideal.Frame
public import proofs.«01_k».proof.Proof.Refs
public import proofs.«01_k».proof.Proof.InFrameBits
public import proofs.«01_k».proof.Proof.UpFrameBits
public import proofs.«01_k».proof.Proof.ScanFrameBits
public import proofs.«01_k».proof.Proof.Claims1
public import proofs.«01_k».proof.Proof.Claims2
public import proofs.«01_k».proof.Proof.Claims34
public import proofs.«01_k».proof.Proof.Claims5
public import Idealize.ShloMosaic.Adequacy
public import Idealize.ShloMosaic.Init

@[expose] public section

noncomputable section

namespace Cert.Proof

open Idealize.ShloMosaic Idealize.SL.Sem

/-- The pass names the orthonormal scale: its exact reading is the inverse square root of 4096 · 128. -/
theorem preserves1 : Cert.preserves_Kernel_KernelIdeal :=
  IdealRules.named_const.statement Cert.KernelIdeal.κ "ortho" .f32 0x3AB504F3#32 (((Real.sqrt 524288)⁻¹ : ℝ) : EReal) rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Pre_finite.Gen.facts,
    fun m ρ _ => Cert.Kernel.Gen.frame m ρ, fun m ρ _ => Cert.KernelIdeal.Gen.frame m ρ, fun m ρ _ => Cert.KernelIdeal.Gen.frame m ρ, Cert.Refs.frame1, fun m ρ _ => Cert.Refs.frame1 m ρ trivial,
    fun m ρ _ => Cert.Kernel2.Up.frame2 m ρ, fun m ρ _ => Cert.Kernel2Ideal.Up.frame2 m ρ, Cert.Refs.frame2,
    fun m ρ _ => Cert.Kernel3.Gen.frame m ρ, fun m ρ _ => Cert.Kernel3Ideal.Gen.frame m ρ, Cert.Refs.frame3,
    fun m ρ _ => Cert.Kernel4.Gen.frame m ρ, fun m ρ _ => Cert.Kernel4Ideal.Gen.frame m ρ, Cert.Refs.frame4,
    fun m ρ _ => Cert.Kernel5.InProj.frame5 m ρ, fun m ρ _ => Cert.Kernel5Ideal.InProj.frame5 m ρ, Cert.Refs.frame5,
    fun m ρ _ => Cert.Kernel6.Scan.frame m ρ,
    preserves1, Cert.Claims1.algebraic1, trivial, Cert.Claims2.algebraic2, trivial, Cert.Claims34.algebraic3, trivial, Cert.Claims34.algebraic4, trivial, Cert.Claims5.algebraic5⟩

end Cert.Proof

end
